-- ==== Defs.lean ====
def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_KernelAIdeal_finite_a [hPre_finite_a : Cert.Pre_finite_a.Facts] (m : (ℓ : Loc Cert.KernelAIdeal.nD Cert.KernelAIdeal.τ Cert.KernelAIdeal.sig) → Buf (Elt Ideal) ℓ) : Prop :=
  ∀ c : Dev Cert.KernelAIdeal.nD,
    (Cert.Pre_finite_a.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7))) = (fun _ => 1#1)

def Pre_ReferenceAIdeal (m : (ℓ : Loc Cert.ReferenceAIdeal.nD Cert.ReferenceAIdeal.τ Cert.ReferenceAIdeal.sig) → Buf (Elt Ideal) ℓ) : Prop :=
  True

def Pre_ReferenceAIdeal_finite_a [hPre_finite_a : Cert.Pre_finite_a.Facts] (m : (ℓ : Loc Cert.ReferenceAIdeal.nD Cert.ReferenceAIdeal.τ Cert.ReferenceAIdeal.sig) → Buf (Elt Ideal) ℓ) : Prop :=
  ∀ c : Dev Cert.ReferenceAIdeal.nD,
    (Cert.Pre_finite_a.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7))) = (fun _ => 1#1)

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_finite_b [hPre_finite_b : Cert.Pre_finite_b.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_finite_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2))) = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_finite_b [hPre_finite_b : Cert.Pre_finite_b.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_finite_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2))) = (fun _ => 1#1)

def Pre_KernelM [hPre_named : Cert.Pre_named.Facts] (m : (ℓ : Loc Cert.KernelM.nD Cert.KernelM.τ Cert.KernelM.sig) → Buf (Elt Bits) ℓ) : Prop :=
  ∀ c : Dev Cert.KernelM.nD,
    (Cert.Pre_named.fn (F := Bits) (m ((c.tc : Thread Cert.KernelM.nD Cert.KernelM.τ).loc Cert.KernelM.main_arg0)) (m ((c.tc : Thread Cert.KernelM.nD Cert.KernelM.τ).loc Cert.KernelM.main_arg1)) (m ((c.tc : Thread Cert.KernelM.nD Cert.KernelM.τ).loc Cert.KernelM.main_arg2)) (m ((c.tc : Thread Cert.KernelM.nD Cert.KernelM.τ).loc Cert.KernelM.main_arg3)) (m ((c.tc : Thread Cert.KernelM.nD Cert.KernelM.τ).loc Cert.KernelM.main_arg4)) (m ((c.tc : Thread Cert.KernelM.nD Cert.KernelM.τ).loc Cert.KernelM.main_arg5)) (m ((c.tc : Thread Cert.KernelM.nD Cert.KernelM.τ).loc Cert.KernelM.main_arg6)) (m ((c.tc : Thread Cert.KernelM.nD Cert.KernelM.τ).loc Cert.KernelM.main_arg7)) (m ((c.tc : Thread Cert.KernelM.nD Cert.KernelM.τ).loc Cert.KernelM.main_arg8))) = (fun _ => 1#1)

def Pre_KernelMIdeal [hPre_named : Cert.Pre_named.Facts] (m : (ℓ : Loc Cert.KernelMIdeal.nD Cert.KernelMIdeal.τ Cert.KernelMIdeal.sig) → Buf (Elt Ideal) ℓ) : Prop :=
  ∀ c : Dev Cert.KernelMIdeal.nD,
    (Cert.Pre_named.fn (F := Ideal) (m ((c.tc : Thread Cert.KernelMIdeal.nD Cert.KernelMIdeal.τ).loc Cert.KernelMIdeal.main_arg0)) (m ((c.tc : Thread Cert.KernelMIdeal.nD Cert.KernelMIdeal.τ).loc Cert.KernelMIdeal.main_arg1)) (m ((c.tc : Thread Cert.KernelMIdeal.nD Cert.KernelMIdeal.τ).loc Cert.KernelMIdeal.main_arg2)) (m ((c.tc : Thread Cert.KernelMIdeal.nD Cert.KernelMIdeal.τ).loc Cert.KernelMIdeal.main_arg3)) (m ((c.tc : Thread Cert.KernelMIdeal.nD Cert.KernelMIdeal.τ).loc Cert.KernelMIdeal.main_arg4)) (m ((c.tc : Thread Cert.KernelMIdeal.nD Cert.KernelMIdeal.τ).loc Cert.KernelMIdeal.main_arg5)) (m ((c.tc : Thread Cert.KernelMIdeal.nD Cert.KernelMIdeal.τ).loc Cert.KernelMIdeal.main_arg6)) (m ((c.tc : Thread Cert.KernelMIdeal.nD Cert.KernelMIdeal.τ).loc Cert.KernelMIdeal.main_arg7)) (m ((c.tc : Thread Cert.KernelMIdeal.nD Cert.KernelMIdeal.τ).loc Cert.KernelMIdeal.main_arg8))) = (fun _ => 1#1)

def Pre_ReferenceMIdeal (m : (ℓ : Loc Cert.ReferenceMIdeal.nD Cert.ReferenceMIdeal.τ Cert.ReferenceMIdeal.sig) → Buf (Elt Ideal) ℓ) : Prop :=
  True

def Pre_ReferenceMIdeal_named [hPre_named : Cert.Pre_named.Facts] (m : (ℓ : Loc Cert.ReferenceMIdeal.nD Cert.ReferenceMIdeal.τ Cert.ReferenceMIdeal.sig) → Buf (Elt Ideal) ℓ) : Prop :=
  ∀ c : Dev Cert.ReferenceMIdeal.nD,
    (Cert.Pre_named.fn (F := Ideal) (m ((c.tc : Thread Cert.ReferenceMIdeal.nD Cert.ReferenceMIdeal.τ).loc Cert.ReferenceMIdeal.main_arg0)) (m ((c.tc : Thread Cert.ReferenceMIdeal.nD Cert.ReferenceMIdeal.τ).loc Cert.ReferenceMIdeal.main_arg1)) (m ((c.tc : Thread Cert.ReferenceMIdeal.nD Cert.ReferenceMIdeal.τ).loc Cert.ReferenceMIdeal.main_arg2)) (m ((c.tc : Thread Cert.ReferenceMIdeal.nD Cert.ReferenceMIdeal.τ).loc Cert.ReferenceMIdeal.main_arg3)) (m ((c.tc : Thread Cert.ReferenceMIdeal.nD Cert.ReferenceMIdeal.τ).loc Cert.ReferenceMIdeal.main_arg4)) (m ((c.tc : Thread Cert.ReferenceMIdeal.nD Cert.ReferenceMIdeal.τ).loc Cert.ReferenceMIdeal.main_arg5)) (m ((c.tc : Thread Cert.ReferenceMIdeal.nD Cert.ReferenceMIdeal.τ).loc Cert.ReferenceMIdeal.main_arg6)) (m ((c.tc : Thread Cert.ReferenceMIdeal.nD Cert.ReferenceMIdeal.τ).loc Cert.ReferenceMIdeal.main_arg7)) (m ((c.tc : Thread Cert.ReferenceMIdeal.nD Cert.ReferenceMIdeal.τ).loc Cert.ReferenceMIdeal.main_arg8))) = (fun _ => 1#1)

def Pre_KernelI (m : (ℓ : Loc Cert.KernelI.nD Cert.KernelI.τ Cert.KernelI.sig) → Buf (Elt Bits) ℓ) : Prop :=
  True

def Pre_KernelIIdeal (m : (ℓ : Loc Cert.KernelIIdeal.nD Cert.KernelIIdeal.τ Cert.KernelIIdeal.sig) → Buf (Elt Ideal) ℓ) : Prop :=
  True

def Pre_ReferenceIIdeal (m : (ℓ : Loc Cert.ReferenceIIdeal.nD Cert.ReferenceIIdeal.τ Cert.ReferenceIIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelR (m : (ℓ : Loc Cert.KernelR.nD Cert.KernelR.τ Cert.KernelR.sig) → Buf (Elt Bits) ℓ) : Prop :=
  True

def Pre_KernelRIdeal (m : (ℓ : Loc Cert.KernelRIdeal.nD Cert.KernelRIdeal.τ Cert.KernelRIdeal.sig) → Buf (Elt Ideal) ℓ) : Prop :=
  True

def Pre_KernelRIdeal_finite_r [hPre_finite_r : Cert.Pre_finite_r.Facts] (m : (ℓ : Loc Cert.KernelRIdeal.nD Cert.KernelRIdeal.τ Cert.KernelRIdeal.sig) → Buf (Elt Ideal) ℓ) : Prop :=
  ∀ c : Dev Cert.KernelRIdeal.nD,
    (Cert.Pre_finite_r.fn (F := Ideal) (m ((c.tc : Thread Cert.KernelRIdeal.nD Cert.KernelRIdeal.τ).loc Cert.KernelRIdeal.main_arg0)) (m ((c.tc : Thread Cert.KernelRIdeal.nD Cert.KernelRIdeal.τ).loc Cert.KernelRIdeal.main_arg1)) (m ((c.tc : Thread Cert.KernelRIdeal.nD Cert.KernelRIdeal.τ).loc Cert.KernelRIdeal.main_arg2)) (m ((c.tc : Thread Cert.KernelRIdeal.nD Cert.KernelRIdeal.τ).loc Cert.KernelRIdeal.main_arg3)) (m ((c.tc : Thread Cert.KernelRIdeal.nD Cert.KernelRIdeal.τ).loc Cert.KernelRIdeal.main_arg4)) (m ((c.tc : Thread Cert.KernelRIdeal.nD Cert.KernelRIdeal.τ).loc Cert.KernelRIdeal.main_arg5)) (m ((c.tc : Thread Cert.KernelRIdeal.nD Cert.KernelRIdeal.τ).loc Cert.KernelRIdeal.main_arg6))) = (fun _ => 1#1)

def Pre_ReferenceRIdeal (m : (ℓ : Loc Cert.ReferenceRIdeal.nD Cert.ReferenceRIdeal.τ Cert.ReferenceRIdeal.sig) → Buf (Elt Ideal) ℓ) : Prop :=
  True

def Pre_ReferenceRIdeal_finite_r [hPre_finite_r : Cert.Pre_finite_r.Facts] (m : (ℓ : Loc Cert.ReferenceRIdeal.nD Cert.ReferenceRIdeal.τ Cert.ReferenceRIdeal.sig) → Buf (Elt Ideal) ℓ) : Prop :=
  ∀ c : Dev Cert.ReferenceRIdeal.nD,
    (Cert.Pre_finite_r.fn (F := Ideal) (m ((c.tc : Thread Cert.ReferenceRIdeal.nD Cert.ReferenceRIdeal.τ).loc Cert.ReferenceRIdeal.main_arg0)) (m ((c.tc : Thread Cert.ReferenceRIdeal.nD Cert.ReferenceRIdeal.τ).loc Cert.ReferenceRIdeal.main_arg1)) (m ((c.tc : Thread Cert.ReferenceRIdeal.nD Cert.ReferenceRIdeal.τ).loc Cert.ReferenceRIdeal.main_arg2)) (m ((c.tc : Thread Cert.ReferenceRIdeal.nD Cert.ReferenceRIdeal.τ).loc Cert.ReferenceRIdeal.main_arg3)) (m ((c.tc : Thread Cert.ReferenceRIdeal.nD Cert.ReferenceRIdeal.τ).loc Cert.ReferenceRIdeal.main_arg4)) (m ((c.tc : Thread Cert.ReferenceRIdeal.nD Cert.ReferenceRIdeal.τ).loc Cert.ReferenceRIdeal.main_arg5)) (m ((c.tc : Thread Cert.ReferenceRIdeal.nD Cert.ReferenceRIdeal.τ).loc Cert.ReferenceRIdeal.main_arg6))) = (fun _ => 1#1)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3)
      ∧ r.2.mem ((c.tc : Thread Cert.KernelA.nD Cert.KernelA.τ).loc Cert.KernelA.main_arg4) = m ((c.tc : Thread Cert.KernelA.nD Cert.KernelA.τ).loc Cert.KernelA.main_arg4)
      ∧ r.2.mem ((c.tc : Thread Cert.KernelA.nD Cert.KernelA.τ).loc Cert.KernelA.main_arg5) = m ((c.tc : Thread Cert.KernelA.nD Cert.KernelA.τ).loc Cert.KernelA.main_arg5)
      ∧ r.2.mem ((c.tc : Thread Cert.KernelA.nD Cert.KernelA.τ).loc Cert.KernelA.main_arg6) = m ((c.tc : Thread Cert.KernelA.nD Cert.KernelA.τ).loc Cert.KernelA.main_arg6)
      ∧ r.2.mem ((c.tc : Thread Cert.KernelA.nD Cert.KernelA.τ).loc Cert.KernelA.main_arg7) = m ((c.tc : Thread Cert.KernelA.nD Cert.KernelA.τ).loc Cert.KernelA.main_arg7))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
      ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5)
      ∧ r.2.mem ((c.tc : Thread Cert.KernelAIdeal.nD Cert.KernelAIdeal.τ).loc Cert.KernelAIdeal.main_arg6) = m ((c.tc : Thread Cert.KernelAIdeal.nD Cert.KernelAIdeal.τ).loc Cert.KernelAIdeal.main_arg6)
      ∧ r.2.mem ((c.tc : Thread Cert.KernelAIdeal.nD Cert.KernelAIdeal.τ).loc Cert.KernelAIdeal.main_arg7) = m ((c.tc : Thread Cert.KernelAIdeal.nD Cert.KernelAIdeal.τ).loc Cert.KernelAIdeal.main_arg7))
      ∧ r.2.sem = fun _ => 0)

def quiescent_KernelAIdeal_pre_finite_a [hKernelAIdeal : Cert.KernelAIdeal.Facts] [hPre_finite_a : Cert.Pre_finite_a.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal_finite_a m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
      ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5)
      ∧ r.2.mem ((c.tc : Thread Cert.KernelAIdeal.nD Cert.KernelAIdeal.τ).loc Cert.KernelAIdeal.main_arg6) = m ((c.tc : Thread Cert.KernelAIdeal.nD Cert.KernelAIdeal.τ).loc Cert.KernelAIdeal.main_arg6)
      ∧ r.2.mem ((c.tc : Thread Cert.KernelAIdeal.nD Cert.KernelAIdeal.τ).loc Cert.KernelAIdeal.main_arg7) = m ((c.tc : Thread Cert.KernelAIdeal.nD Cert.KernelAIdeal.τ).loc Cert.KernelAIdeal.main_arg7))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4)
      ∧ r.2.mem ((c.tc : Thread Cert.ReferenceAIdeal.nD Cert.ReferenceAIdeal.τ).loc Cert.ReferenceAIdeal.main_arg5) = m ((c.tc : Thread Cert.ReferenceAIdeal.nD Cert.ReferenceAIdeal.τ).loc Cert.ReferenceAIdeal.main_arg5)
      ∧ r.2.mem ((c.tc : Thread Cert.ReferenceAIdeal.nD Cert.ReferenceAIdeal.τ).loc Cert.ReferenceAIdeal.main_arg6) = m ((c.tc : Thread Cert.ReferenceAIdeal.nD Cert.ReferenceAIdeal.τ).loc Cert.ReferenceAIdeal.main_arg6)
      ∧ r.2.mem ((c.tc : Thread Cert.ReferenceAIdeal.nD Cert.ReferenceAIdeal.τ).loc Cert.ReferenceAIdeal.main_arg7) = m ((c.tc : Thread Cert.ReferenceAIdeal.nD Cert.ReferenceAIdeal.τ).loc Cert.ReferenceAIdeal.main_arg7))
      ∧ r.2.sem = fun _ => 0)

def quiescent_ReferenceAIdeal_pre_finite_a [hReferenceAIdeal : Cert.ReferenceAIdeal.Facts] [hPre_finite_a : Cert.Pre_finite_a.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal_finite_a m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4)
      ∧ r.2.mem ((c.tc : Thread Cert.ReferenceAIdeal.nD Cert.ReferenceAIdeal.τ).loc Cert.ReferenceAIdeal.main_arg5) = m ((c.tc : Thread Cert.ReferenceAIdeal.nD Cert.ReferenceAIdeal.τ).loc Cert.ReferenceAIdeal.main_arg5)
      ∧ r.2.mem ((c.tc : Thread Cert.ReferenceAIdeal.nD Cert.ReferenceAIdeal.τ).loc Cert.ReferenceAIdeal.main_arg6) = m ((c.tc : Thread Cert.ReferenceAIdeal.nD Cert.ReferenceAIdeal.τ).loc Cert.ReferenceAIdeal.main_arg6)
      ∧ r.2.mem ((c.tc : Thread Cert.ReferenceAIdeal.nD Cert.ReferenceAIdeal.τ).loc Cert.ReferenceAIdeal.main_arg7) = m ((c.tc : Thread Cert.ReferenceAIdeal.nD Cert.ReferenceAIdeal.τ).loc Cert.ReferenceAIdeal.main_arg7))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ r.2.sem = fun _ => 0)

def quiescent_KernelBIdeal_pre_finite_b [hKernelBIdeal : Cert.KernelBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_finite_b m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2))
      ∧ r.2.sem = fun _ => 0)

def quiescent_ReferenceBIdeal_pre_finite_b [hReferenceBIdeal : Cert.ReferenceBIdeal.Facts] [hPre_finite_b : Cert.Pre_finite_b.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_finite_b m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2))
      ∧ r.2.sem = fun _ => 0)

def quiescent_KernelM [hKernelM : Cert.KernelM.Facts] [hPre_named : Cert.Pre_named.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1)
      ∧ r.2.mem ((c.tc : Thread Cert.KernelM.nD Cert.KernelM.τ).loc Cert.KernelM.main_arg2) = m ((c.tc : Thread Cert.KernelM.nD Cert.KernelM.τ).loc Cert.KernelM.main_arg2)
      ∧ r.2.mem ((c.tc : Thread Cert.KernelM.nD Cert.KernelM.τ).loc Cert.KernelM.main_arg3) = m ((c.tc : Thread Cert.KernelM.nD Cert.KernelM.τ).loc Cert.KernelM.main_arg3)
      ∧ r.2.mem ((c.tc : Thread Cert.KernelM.nD Cert.KernelM.τ).loc Cert.KernelM.main_arg4) = m ((c.tc : Thread Cert.KernelM.nD Cert.KernelM.τ).loc Cert.KernelM.main_arg4)
      ∧ r.2.mem ((c.tc : Thread Cert.KernelM.nD Cert.KernelM.τ).loc Cert.KernelM.main_arg5) = m ((c.tc : Thread Cert.KernelM.nD Cert.KernelM.τ).loc Cert.KernelM.main_arg5)
      ∧ r.2.mem ((c.tc : Thread Cert.KernelM.nD Cert.KernelM.τ).loc Cert.KernelM.main_arg6) = m ((c.tc : Thread Cert.KernelM.nD Cert.KernelM.τ).loc Cert.KernelM.main_arg6)
      ∧ r.2.mem ((c.tc : Thread Cert.KernelM.nD Cert.KernelM.τ).loc Cert.KernelM.main_arg7) = m ((c.tc : Thread Cert.KernelM.nD Cert.KernelM.τ).loc Cert.KernelM.main_arg7)
      ∧ r.2.mem ((c.tc : Thread Cert.KernelM.nD Cert.KernelM.τ).loc Cert.KernelM.main_arg8) = m ((c.tc : Thread Cert.KernelM.nD Cert.KernelM.τ).loc Cert.KernelM.main_arg8))
      ∧ r.2.sem = fun _ => 0)

def quiescent_KernelMIdeal [hKernelMIdeal : Cert.KernelMIdeal.Facts] [hPre_named : Cert.Pre_named.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
      ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
      ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
      ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5)
      ∧ r.2.mem ((c.tc : Thread Cert.KernelMIdeal.nD Cert.KernelMIdeal.τ).loc Cert.KernelMIdeal.main_arg6) = m ((c.tc : Thread Cert.KernelMIdeal.nD Cert.KernelMIdeal.τ).loc Cert.KernelMIdeal.main_arg6)
      ∧ r.2.mem ((c.tc : Thread Cert.KernelMIdeal.nD Cert.KernelMIdeal.τ).loc Cert.KernelMIdeal.main_arg7) = m ((c.tc : Thread Cert.KernelMIdeal.nD Cert.KernelMIdeal.τ).loc Cert.KernelMIdeal.main_arg7)
      ∧ r.2.mem ((c.tc : Thread Cert.KernelMIdeal.nD Cert.KernelMIdeal.τ).loc Cert.KernelMIdeal.main_arg8) = m ((c.tc : Thread Cert.KernelMIdeal.nD Cert.KernelMIdeal.τ).loc Cert.KernelMIdeal.main_arg8))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2)
      ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3)
      ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4)
      ∧ r.2.mem ((c.tc : Thread Cert.ReferenceMIdeal.nD Cert.ReferenceMIdeal.τ).loc Cert.ReferenceMIdeal.main_arg5) = m ((c.tc : Thread Cert.ReferenceMIdeal.nD Cert.ReferenceMIdeal.τ).loc Cert.ReferenceMIdeal.main_arg5)
      ∧ r.2.mem ((c.tc : Thread Cert.ReferenceMIdeal.nD Cert.ReferenceMIdeal.τ).loc Cert.ReferenceMIdeal.main_arg6) = m ((c.tc : Thread Cert.ReferenceMIdeal.nD Cert.ReferenceMIdeal.τ).loc Cert.ReferenceMIdeal.main_arg6)
      ∧ r.2.mem ((c.tc : Thread Cert.ReferenceMIdeal.nD Cert.ReferenceMIdeal.τ).loc Cert.ReferenceMIdeal.main_arg7) = m ((c.tc : Thread Cert.ReferenceMIdeal.nD Cert.ReferenceMIdeal.τ).loc Cert.ReferenceMIdeal.main_arg7)
      ∧ r.2.mem ((c.tc : Thread Cert.ReferenceMIdeal.nD Cert.ReferenceMIdeal.τ).loc Cert.ReferenceMIdeal.main_arg8) = m ((c.tc : Thread Cert.ReferenceMIdeal.nD Cert.ReferenceMIdeal.τ).loc Cert.ReferenceMIdeal.main_arg8))
      ∧ r.2.sem = fun _ => 0)

def quiescent_ReferenceMIdeal_pre_named [hReferenceMIdeal : Cert.ReferenceMIdeal.Facts] [hPre_named : Cert.Pre_named.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal_named m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2)
      ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3)
      ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4)
      ∧ r.2.mem ((c.tc : Thread Cert.ReferenceMIdeal.nD Cert.ReferenceMIdeal.τ).loc Cert.ReferenceMIdeal.main_arg5) = m ((c.tc : Thread Cert.ReferenceMIdeal.nD Cert.ReferenceMIdeal.τ).loc Cert.ReferenceMIdeal.main_arg5)
      ∧ r.2.mem ((c.tc : Thread Cert.ReferenceMIdeal.nD Cert.ReferenceMIdeal.τ).loc Cert.ReferenceMIdeal.main_arg6) = m ((c.tc : Thread Cert.ReferenceMIdeal.nD Cert.ReferenceMIdeal.τ).loc Cert.ReferenceMIdeal.main_arg6)
      ∧ r.2.mem ((c.tc : Thread Cert.ReferenceMIdeal.nD Cert.ReferenceMIdeal.τ).loc Cert.ReferenceMIdeal.main_arg7) = m ((c.tc : Thread Cert.ReferenceMIdeal.nD Cert.ReferenceMIdeal.τ).loc Cert.ReferenceMIdeal.main_arg7)
      ∧ r.2.mem ((c.tc : Thread Cert.ReferenceMIdeal.nD Cert.ReferenceMIdeal.τ).loc Cert.ReferenceMIdeal.main_arg8) = m ((c.tc : Thread Cert.ReferenceMIdeal.nD Cert.ReferenceMIdeal.τ).loc Cert.ReferenceMIdeal.main_arg8))
      ∧ r.2.sem = fun _ => 0)

def quiescent_KernelI [hKernelI : Cert.KernelI.Facts] : Prop :=
  ∀ (m : (ℓ : Loc Cert.KernelI.nD Cert.KernelI.τ Cert.KernelI.sig) → Buf (Elt Bits) ℓ) (g : Dev Cert.KernelI.nD → PrngReg), Pre_KernelI m →
    θ_run (Cert.KernelI.defs (F := Bits)) (onTc (τ := Cert.KernelI.τ) (Cert.KernelI.main (F := Bits))) ⟨m, fun _ => 0, g⟩ (fun r => (∀ c : Dev Cert.KernelI.nD,
      r.2.mem ((c.tc : Thread Cert.KernelI.nD Cert.KernelI.τ).loc Cert.KernelI.main_arg0) = m ((c.tc : Thread Cert.KernelI.nD Cert.KernelI.τ).loc Cert.KernelI.main_arg0)
      ∧ r.2.mem ((c.tc : Thread Cert.KernelI.nD Cert.KernelI.τ).loc Cert.KernelI.main_arg1) = m ((c.tc : Thread Cert.KernelI.nD Cert.KernelI.τ).loc Cert.KernelI.main_arg1)
      ∧ r.2.mem ((c.tc : Thread Cert.KernelI.nD Cert.KernelI.τ).loc Cert.KernelI.main_arg2) = m ((c.tc : Thread Cert.KernelI.nD Cert.KernelI.τ).loc Cert.KernelI.main_arg2)
      ∧ r.2.mem ((c.tc : Thread Cert.KernelI.nD Cert.KernelI.τ).loc Cert.KernelI.main_arg3) = m ((c.tc : Thread Cert.KernelI.nD Cert.KernelI.τ).loc Cert.KernelI.main_arg3)
      ∧ r.2.mem ((c.tc : Thread Cert.KernelI.nD Cert.KernelI.τ).loc Cert.KernelI.main_arg4) = m ((c.tc : Thread Cert.KernelI.nD Cert.KernelI.τ).loc Cert.KernelI.main_arg4)
      ∧ r.2.mem ((c.tc : Thread Cert.KernelI.nD Cert.KernelI.τ).loc Cert.KernelI.main_arg5) = m ((c.tc : Thread Cert.KernelI.nD Cert.KernelI.τ).loc Cert.KernelI.main_arg5)
      ∧ r.2.mem ((c.tc : Thread Cert.KernelI.nD Cert.KernelI.τ).loc Cert.KernelI.main_arg6) = m ((c.tc : Thread Cert.KernelI.nD Cert.KernelI.τ).loc Cert.KernelI.main_arg6))
      ∧ r.2.sem = fun _ => 0)

def quiescent_KernelIIdeal [hKernelIIdeal : Cert.KernelIIdeal.Facts] : Prop :=
  ∀ (m : (ℓ : Loc Cert.KernelIIdeal.nD Cert.KernelIIdeal.τ Cert.KernelIIdeal.sig) → Buf (Elt Ideal) ℓ) (g : Dev Cert.KernelIIdeal.nD → PrngReg), Pre_KernelIIdeal m →
    θ_run (Cert.KernelIIdeal.defs (F := Ideal)) (onTc (τ := Cert.KernelIIdeal.τ) (Cert.KernelIIdeal.main (F := Ideal))) ⟨m, fun _ => 0, g⟩ (fun r => (∀ c : Dev Cert.KernelIIdeal.nD,
      r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
      ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1)
      ∧ r.2.mem ((c.tc : Thread Cert.KernelIIdeal.nD Cert.KernelIIdeal.τ).loc Cert.KernelIIdeal.main_arg2) = m ((c.tc : Thread Cert.KernelIIdeal.nD Cert.KernelIIdeal.τ).loc Cert.KernelIIdeal.main_arg2)
      ∧ r.2.mem ((c.tc : Thread Cert.KernelIIdeal.nD Cert.KernelIIdeal.τ).loc Cert.KernelIIdeal.main_arg3) = m ((c.tc : Thread Cert.KernelIIdeal.nD Cert.KernelIIdeal.τ).loc Cert.KernelIIdeal.main_arg3)
      ∧ r.2.mem ((c.tc : Thread Cert.KernelIIdeal.nD Cert.KernelIIdeal.τ).loc Cert.KernelIIdeal.main_arg4) = m ((c.tc : Thread Cert.KernelIIdeal.nD Cert.KernelIIdeal.τ).loc Cert.KernelIIdeal.main_arg4)
      ∧ r.2.mem ((c.tc : Thread Cert.KernelIIdeal.nD Cert.KernelIIdeal.τ).loc Cert.KernelIIdeal.main_arg5) = m ((c.tc : Thread Cert.KernelIIdeal.nD Cert.KernelIIdeal.τ).loc Cert.KernelIIdeal.main_arg5)
      ∧ r.2.mem ((c.tc : Thread Cert.KernelIIdeal.nD Cert.KernelIIdeal.τ).loc Cert.KernelIIdeal.main_arg6) = m ((c.tc : Thread Cert.KernelIIdeal.nD Cert.KernelIIdeal.τ).loc Cert.KernelIIdeal.main_arg6))
      ∧ r.2.sem = fun _ => 0)

def quiescent_ReferenceIIdeal [hReferenceIIdeal : Cert.ReferenceIIdeal.Facts] : Prop :=
  ∀ (m : (ℓ : Loc Cert.ReferenceIIdeal.nD Cert.ReferenceIIdeal.τ Cert.ReferenceIIdeal.sig) → Buf (Elt Ideal) ℓ) (g : Dev Cert.ReferenceIIdeal.nD → PrngReg), Pre_ReferenceIIdeal m →
    θ_run (Cert.ReferenceIIdeal.defs (F := Ideal)) (onTc (τ := Cert.ReferenceIIdeal.τ) (Cert.ReferenceIIdeal.main (F := Ideal))) ⟨m, fun _ => 0, g⟩ (fun r => (∀ c : Dev Cert.ReferenceIIdeal.nD,
      r.2.mem ((c.tc : Thread Cert.ReferenceIIdeal.nD Cert.ReferenceIIdeal.τ).loc Cert.ReferenceIIdeal.main_arg0) = m ((c.tc : Thread Cert.ReferenceIIdeal.nD Cert.ReferenceIIdeal.τ).loc Cert.ReferenceIIdeal.main_arg0)
      ∧ r.2.mem ((c.tc : Thread Cert.ReferenceIIdeal.nD Cert.ReferenceIIdeal.τ).loc Cert.ReferenceIIdeal.main_arg1) = m ((c.tc : Thread Cert.ReferenceIIdeal.nD Cert.ReferenceIIdeal.τ).loc Cert.ReferenceIIdeal.main_arg1)
      ∧ r.2.mem ((c.tc : Thread Cert.ReferenceIIdeal.nD Cert.ReferenceIIdeal.τ).loc Cert.ReferenceIIdeal.main_arg2) = m ((c.tc : Thread Cert.ReferenceIIdeal.nD Cert.ReferenceIIdeal.τ).loc Cert.ReferenceIIdeal.main_arg2)
      ∧ r.2.mem ((c.tc : Thread Cert.ReferenceIIdeal.nD Cert.ReferenceIIdeal.τ).loc Cert.ReferenceIIdeal.main_arg3) = m ((c.tc : Thread Cert.ReferenceIIdeal.nD Cert.ReferenceIIdeal.τ).loc Cert.ReferenceIIdeal.main_arg3)
      ∧ r.2.mem ((c.tc : Thread Cert.ReferenceIIdeal.nD Cert.ReferenceIIdeal.τ).loc Cert.ReferenceIIdeal.main_arg4) = m ((c.tc : Thread Cert.ReferenceIIdeal.nD Cert.ReferenceIIdeal.τ).loc Cert.ReferenceIIdeal.main_arg4)
      ∧ r.2.mem ((c.tc : Thread Cert.ReferenceIIdeal.nD Cert.ReferenceIIdeal.τ).loc Cert.ReferenceIIdeal.main_arg5) = m ((c.tc : Thread Cert.ReferenceIIdeal.nD Cert.ReferenceIIdeal.τ).loc Cert.ReferenceIIdeal.main_arg5)
      ∧ r.2.mem ((c.tc : Thread Cert.ReferenceIIdeal.nD Cert.ReferenceIIdeal.τ).loc Cert.ReferenceIIdeal.main_arg6) = m ((c.tc : Thread Cert.ReferenceIIdeal.nD Cert.ReferenceIIdeal.τ).loc Cert.ReferenceIIdeal.main_arg6))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3)
      ∧ r.2.mem ((c.tc : Thread Cert.KernelO.nD Cert.KernelO.τ).loc Cert.KernelO.main_arg4) = m ((c.tc : Thread Cert.KernelO.nD Cert.KernelO.τ).loc Cert.KernelO.main_arg4)
      ∧ r.2.mem ((c.tc : Thread Cert.KernelO.nD Cert.KernelO.τ).loc Cert.KernelO.main_arg5) = m ((c.tc : Thread Cert.KernelO.nD Cert.KernelO.τ).loc Cert.KernelO.main_arg5)
      ∧ r.2.mem ((c.tc : Thread Cert.KernelO.nD Cert.KernelO.τ).loc Cert.KernelO.main_arg6) = m ((c.tc : Thread Cert.KernelO.nD Cert.KernelO.τ).loc Cert.KernelO.main_arg6))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
      ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5)
      ∧ r.2.mem ((c.tc : Thread Cert.KernelOIdeal.nD Cert.KernelOIdeal.τ).loc Cert.KernelOIdeal.main_arg6) = m ((c.tc : Thread Cert.KernelOIdeal.nD Cert.KernelOIdeal.τ).loc Cert.KernelOIdeal.main_arg6))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3)
      ∧ r.2.mem ((c.tc : Thread Cert.ReferenceOIdeal.nD Cert.ReferenceOIdeal.τ).loc Cert.ReferenceOIdeal.main_arg4) = m ((c.tc : Thread Cert.ReferenceOIdeal.nD Cert.ReferenceOIdeal.τ).loc Cert.ReferenceOIdeal.main_arg4)
      ∧ r.2.mem ((c.tc : Thread Cert.ReferenceOIdeal.nD Cert.ReferenceOIdeal.τ).loc Cert.ReferenceOIdeal.main_arg5) = m ((c.tc : Thread Cert.ReferenceOIdeal.nD Cert.ReferenceOIdeal.τ).loc Cert.ReferenceOIdeal.main_arg5)
      ∧ r.2.mem ((c.tc : Thread Cert.ReferenceOIdeal.nD Cert.ReferenceOIdeal.τ).loc Cert.ReferenceOIdeal.main_arg6) = m ((c.tc : Thread Cert.ReferenceOIdeal.nD Cert.ReferenceOIdeal.τ).loc Cert.ReferenceOIdeal.main_arg6))
      ∧ r.2.sem = fun _ => 0)

def quiescent_KernelR [hKernelR : Cert.KernelR.Facts] : Prop :=
  ∀ (m : (ℓ : Loc Cert.KernelR.nD Cert.KernelR.τ Cert.KernelR.sig) → Buf (Elt Bits) ℓ) (g : Dev Cert.KernelR.nD → PrngReg), Pre_KernelR m →
    θ_run (Cert.KernelR.defs (F := Bits)) (onTc (τ := Cert.KernelR.τ) (Cert.KernelR.main (F := Bits))) ⟨m, fun _ => 0, g⟩ (fun r => (∀ c : Dev Cert.KernelR.nD,
      r.2.mem ((c.tc : Thread Cert.KernelR.nD Cert.KernelR.τ).loc Cert.KernelR.main_arg0) = m ((c.tc : Thread Cert.KernelR.nD Cert.KernelR.τ).loc Cert.KernelR.main_arg0)
      ∧ r.2.mem ((c.tc : Thread Cert.KernelR.nD Cert.KernelR.τ).loc Cert.KernelR.main_arg1) = m ((c.tc : Thread Cert.KernelR.nD Cert.KernelR.τ).loc Cert.KernelR.main_arg1)
      ∧ r.2.mem ((c.tc : Thread Cert.KernelR.nD Cert.KernelR.τ).loc Cert.KernelR.main_arg2) = m ((c.tc : Thread Cert.KernelR.nD Cert.KernelR.τ).loc Cert.KernelR.main_arg2)
      ∧ r.2.mem ((c.tc : Thread Cert.KernelR.nD Cert.KernelR.τ).loc Cert.KernelR.main_arg3) = m ((c.tc : Thread Cert.KernelR.nD Cert.KernelR.τ).loc Cert.KernelR.main_arg3)
      ∧ r.2.mem ((c.tc : Thread Cert.KernelR.nD Cert.KernelR.τ).loc Cert.KernelR.main_arg4) = m ((c.tc : Thread Cert.KernelR.nD Cert.KernelR.τ).loc Cert.KernelR.main_arg4)
      ∧ r.2.mem ((c.tc : Thread Cert.KernelR.nD Cert.KernelR.τ).loc Cert.KernelR.main_arg5) = m ((c.tc : Thread Cert.KernelR.nD Cert.KernelR.τ).loc Cert.KernelR.main_arg5)
      ∧ r.2.mem ((c.tc : Thread Cert.KernelR.nD Cert.KernelR.τ).loc Cert.KernelR.main_arg6) = m ((c.tc : Thread Cert.KernelR.nD Cert.KernelR.τ).loc Cert.KernelR.main_arg6))
      ∧ r.2.sem = fun _ => 0)

def quiescent_KernelRIdeal [hKernelRIdeal : Cert.KernelRIdeal.Facts] : Prop :=
  ∀ (m : (ℓ : Loc Cert.KernelRIdeal.nD Cert.KernelRIdeal.τ Cert.KernelRIdeal.sig) → Buf (Elt Ideal) ℓ) (g : Dev Cert.KernelRIdeal.nD → PrngReg), Pre_KernelRIdeal m →
    θ_run (Cert.KernelRIdeal.defs (F := Ideal)) (onTc (τ := Cert.KernelRIdeal.τ) (Cert.KernelRIdeal.main (F := Ideal))) ⟨m, fun _ => 0, g⟩ (fun r => (∀ c : Dev Cert.KernelRIdeal.nD,
      r.2.mem ((c.tc : Thread Cert.KernelRIdeal.nD Cert.KernelRIdeal.τ).loc Cert.KernelRIdeal.main_arg0) = m ((c.tc : Thread Cert.KernelRIdeal.nD Cert.KernelRIdeal.τ).loc Cert.KernelRIdeal.main_arg0)
      ∧ r.2.mem ((c.tc : Thread Cert.KernelRIdeal.nD Cert.KernelRIdeal.τ).loc Cert.KernelRIdeal.main_arg1) = m ((c.tc : Thread Cert.KernelRIdeal.nD Cert.KernelRIdeal.τ).loc Cert.KernelRIdeal.main_arg1)
      ∧ r.2.mem ((c.tc : Thread Cert.KernelRIdeal.nD Cert.KernelRIdeal.τ).loc Cert.KernelRIdeal.main_arg2) = m ((c.tc : Thread Cert.KernelRIdeal.nD Cert.KernelRIdeal.τ).loc Cert.KernelRIdeal.main_arg2)
      ∧ r.2.mem ((c.tc : Thread Cert.KernelRIdeal.nD Cert.KernelRIdeal.τ).loc Cert.KernelRIdeal.main_arg3) = m ((c.tc : Thread Cert.KernelRIdeal.nD Cert.KernelRIdeal.τ).loc Cert.KernelRIdeal.main_arg3)
      ∧ r.2.mem ((c.tc : Thread Cert.KernelRIdeal.nD Cert.KernelRIdeal.τ).loc Cert.KernelRIdeal.main_arg4) = m ((c.tc : Thread Cert.KernelRIdeal.nD Cert.KernelRIdeal.τ).loc Cert.KernelRIdeal.main_arg4)
      ∧ r.2.mem ((c.tc : Thread Cert.KernelRIdeal.nD Cert.KernelRIdeal.τ).loc Cert.KernelRIdeal.main_arg5) = m ((c.tc : Thread Cert.KernelRIdeal.nD Cert.KernelRIdeal.τ).loc Cert.KernelRIdeal.main_arg5)
      ∧ r.2.mem ((c.tc : Thread Cert.KernelRIdeal.nD Cert.KernelRIdeal.τ).loc Cert.KernelRIdeal.main_arg6) = m ((c.tc : Thread Cert.KernelRIdeal.nD Cert.KernelRIdeal.τ).loc Cert.KernelRIdeal.main_arg6))
      ∧ r.2.sem = fun _ => 0)

def quiescent_KernelRIdeal_pre_finite_r [hKernelRIdeal : Cert.KernelRIdeal.Facts] [hPre_finite_r : Cert.Pre_finite_r.Facts] : Prop :=
  ∀ (m : (ℓ : Loc Cert.KernelRIdeal.nD Cert.KernelRIdeal.τ Cert.KernelRIdeal.sig) → Buf (Elt Ideal) ℓ) (g : Dev Cert.KernelRIdeal.nD → PrngReg), Pre_KernelRIdeal_finite_r m →
    θ_run (Cert.KernelRIdeal.defs (F := Ideal)) (onTc (τ := Cert.KernelRIdeal.τ) (Cert.KernelRIdeal.main (F := Ideal))) ⟨m, fun _ => 0, g⟩ (fun r => (∀ c : Dev Cert.KernelRIdeal.nD,
      r.2.mem ((c.tc : Thread Cert.KernelRIdeal.nD Cert.KernelRIdeal.τ).loc Cert.KernelRIdeal.main_arg0) = m ((c.tc : Thread Cert.KernelRIdeal.nD Cert.KernelRIdeal.τ).loc Cert.KernelRIdeal.main_arg0)
      ∧ r.2.mem ((c.tc : Thread Cert.KernelRIdeal.nD Cert.KernelRIdeal.τ).loc Cert.KernelRIdeal.main_arg1) = m ((c.tc : Thread Cert.KernelRIdeal.nD Cert.KernelRIdeal.τ).loc Cert.KernelRIdeal.main_arg1)
      ∧ r.2.mem ((c.tc : Thread Cert.KernelRIdeal.nD Cert.KernelRIdeal.τ).loc Cert.KernelRIdeal.main_arg2) = m ((c.tc : Thread Cert.KernelRIdeal.nD Cert.KernelRIdeal.τ).loc Cert.KernelRIdeal.main_arg2)
      ∧ r.2.mem ((c.tc : Thread Cert.KernelRIdeal.nD Cert.KernelRIdeal.τ).loc Cert.KernelRIdeal.main_arg3) = m ((c.tc : Thread Cert.KernelRIdeal.nD Cert.KernelRIdeal.τ).loc Cert.KernelRIdeal.main_arg3)
      ∧ r.2.mem ((c.tc : Thread Cert.KernelRIdeal.nD Cert.KernelRIdeal.τ).loc Cert.KernelRIdeal.main_arg4) = m ((c.tc : Thread Cert.KernelRIdeal.nD Cert.KernelRIdeal.τ).loc Cert.KernelRIdeal.main_arg4)
      ∧ r.2.mem ((c.tc : Thread Cert.KernelRIdeal.nD Cert.KernelRIdeal.τ).loc Cert.KernelRIdeal.main_arg5) = m ((c.tc : Thread Cert.KernelRIdeal.nD Cert.KernelRIdeal.τ).loc Cert.KernelRIdeal.main_arg5)
      ∧ r.2.mem ((c.tc : Thread Cert.KernelRIdeal.nD Cert.KernelRIdeal.τ).loc Cert.KernelRIdeal.main_arg6) = m ((c.tc : Thread Cert.KernelRIdeal.nD Cert.KernelRIdeal.τ).loc Cert.KernelRIdeal.main_arg6))
      ∧ r.2.sem = fun _ => 0)

def quiescent_ReferenceRIdeal [hReferenceRIdeal : Cert.ReferenceRIdeal.Facts] : Prop :=
  ∀ (m : (ℓ : Loc Cert.ReferenceRIdeal.nD Cert.ReferenceRIdeal.τ Cert.ReferenceRIdeal.sig) → Buf (Elt Ideal) ℓ) (g : Dev Cert.ReferenceRIdeal.nD → PrngReg), Pre_ReferenceRIdeal m →
    θ_run (Cert.ReferenceRIdeal.defs (F := Ideal)) (onTc (τ := Cert.ReferenceRIdeal.τ) (Cert.ReferenceRIdeal.main (F := Ideal))) ⟨m, fun _ => 0, g⟩ (fun r => (∀ c : Dev Cert.ReferenceRIdeal.nD,
      r.2.mem ((c.tc : Thread Cert.ReferenceRIdeal.nD Cert.ReferenceRIdeal.τ).loc Cert.ReferenceRIdeal.main_arg0) = m ((c.tc : Thread Cert.ReferenceRIdeal.nD Cert.ReferenceRIdeal.τ).loc Cert.ReferenceRIdeal.main_arg0)
      ∧ r.2.mem ((c.tc : Thread Cert.ReferenceRIdeal.nD Cert.ReferenceRIdeal.τ).loc Cert.ReferenceRIdeal.main_arg1) = m ((c.tc : Thread Cert.ReferenceRIdeal.nD Cert.ReferenceRIdeal.τ).loc Cert.ReferenceRIdeal.main_arg1)
      ∧ r.2.mem ((c.tc : Thread Cert.ReferenceRIdeal.nD Cert.ReferenceRIdeal.τ).loc Cert.ReferenceRIdeal.main_arg2) = m ((c.tc : Thread Cert.ReferenceRIdeal.nD Cert.ReferenceRIdeal.τ).loc Cert.ReferenceRIdeal.main_arg2)
      ∧ r.2.mem ((c.tc : Thread Cert.ReferenceRIdeal.nD Cert.ReferenceRIdeal.τ).loc Cert.ReferenceRIdeal.main_arg3) = m ((c.tc : Thread Cert.ReferenceRIdeal.nD Cert.ReferenceRIdeal.τ).loc Cert.ReferenceRIdeal.main_arg3)
      ∧ r.2.mem ((c.tc : Thread Cert.ReferenceRIdeal.nD Cert.ReferenceRIdeal.τ).loc Cert.ReferenceRIdeal.main_arg4) = m ((c.tc : Thread Cert.ReferenceRIdeal.nD Cert.ReferenceRIdeal.τ).loc Cert.ReferenceRIdeal.main_arg4)
      ∧ r.2.mem ((c.tc : Thread Cert.ReferenceRIdeal.nD Cert.ReferenceRIdeal.τ).loc Cert.ReferenceRIdeal.main_arg5) = m ((c.tc : Thread Cert.ReferenceRIdeal.nD Cert.ReferenceRIdeal.τ).loc Cert.ReferenceRIdeal.main_arg5)
      ∧ r.2.mem ((c.tc : Thread Cert.ReferenceRIdeal.nD Cert.ReferenceRIdeal.τ).loc Cert.ReferenceRIdeal.main_arg6) = m ((c.tc : Thread Cert.ReferenceRIdeal.nD Cert.ReferenceRIdeal.τ).loc Cert.ReferenceRIdeal.main_arg6))
      ∧ r.2.sem = fun _ => 0)

def quiescent_ReferenceRIdeal_pre_finite_r [hReferenceRIdeal : Cert.ReferenceRIdeal.Facts] [hPre_finite_r : Cert.Pre_finite_r.Facts] : Prop :=
  ∀ (m : (ℓ : Loc Cert.ReferenceRIdeal.nD Cert.ReferenceRIdeal.τ Cert.ReferenceRIdeal.sig) → Buf (Elt Ideal) ℓ) (g : Dev Cert.ReferenceRIdeal.nD → PrngReg), Pre_ReferenceRIdeal_finite_r m →
    θ_run (Cert.ReferenceRIdeal.defs (F := Ideal)) (onTc (τ := Cert.ReferenceRIdeal.τ) (Cert.ReferenceRIdeal.main (F := Ideal))) ⟨m, fun _ => 0, g⟩ (fun r => (∀ c : Dev Cert.ReferenceRIdeal.nD,
      r.2.mem ((c.tc : Thread Cert.ReferenceRIdeal.nD Cert.ReferenceRIdeal.τ).loc Cert.ReferenceRIdeal.main_arg0) = m ((c.tc : Thread Cert.ReferenceRIdeal.nD Cert.ReferenceRIdeal.τ).loc Cert.ReferenceRIdeal.main_arg0)
      ∧ r.2.mem ((c.tc : Thread Cert.ReferenceRIdeal.nD Cert.ReferenceRIdeal.τ).loc Cert.ReferenceRIdeal.main_arg1) = m ((c.tc : Thread Cert.ReferenceRIdeal.nD Cert.ReferenceRIdeal.τ).loc Cert.ReferenceRIdeal.main_arg1)
      ∧ r.2.mem ((c.tc : Thread Cert.ReferenceRIdeal.nD Cert.ReferenceRIdeal.τ).loc Cert.ReferenceRIdeal.main_arg2) = m ((c.tc : Thread Cert.ReferenceRIdeal.nD Cert.ReferenceRIdeal.τ).loc Cert.ReferenceRIdeal.main_arg2)
      ∧ r.2.mem ((c.tc : Thread Cert.ReferenceRIdeal.nD Cert.ReferenceRIdeal.τ).loc Cert.ReferenceRIdeal.main_arg3) = m ((c.tc : Thread Cert.ReferenceRIdeal.nD Cert.ReferenceRIdeal.τ).loc Cert.ReferenceRIdeal.main_arg3)
      ∧ r.2.mem ((c.tc : Thread Cert.ReferenceRIdeal.nD Cert.ReferenceRIdeal.τ).loc Cert.ReferenceRIdeal.main_arg4) = m ((c.tc : Thread Cert.ReferenceRIdeal.nD Cert.ReferenceRIdeal.τ).loc Cert.ReferenceRIdeal.main_arg4)
      ∧ r.2.mem ((c.tc : Thread Cert.ReferenceRIdeal.nD Cert.ReferenceRIdeal.τ).loc Cert.ReferenceRIdeal.main_arg5) = m ((c.tc : Thread Cert.ReferenceRIdeal.nD Cert.ReferenceRIdeal.τ).loc Cert.ReferenceRIdeal.main_arg5)
      ∧ r.2.mem ((c.tc : Thread Cert.ReferenceRIdeal.nD Cert.ReferenceRIdeal.τ).loc Cert.ReferenceRIdeal.main_arg6) = m ((c.tc : Thread Cert.ReferenceRIdeal.nD Cert.ReferenceRIdeal.τ).loc Cert.ReferenceRIdeal.main_arg6))
      ∧ r.2.sem = fun _ => 0)

def preserves_KernelA_KernelAIdeal : Prop :=
  True

def algebraic_KernelAIdeal_ReferenceAIdeal_pre_finite_a [hKernelAIdeal : Cert.KernelAIdeal.Facts] [hReferenceAIdeal : Cert.ReferenceAIdeal.Facts] [hPre_finite_a : Cert.Pre_finite_a.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal_finite_a m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)
      ∧ m' ((c.tc : Thread Cert.ReferenceAIdeal.nD Cert.ReferenceAIdeal.τ).loc Cert.ReferenceAIdeal.main_arg4) = m ((c.tc : Thread Cert.KernelAIdeal.nD Cert.KernelAIdeal.τ).loc Cert.KernelAIdeal.main_arg4)
      ∧ m' ((c.tc : Thread Cert.ReferenceAIdeal.nD Cert.ReferenceAIdeal.τ).loc Cert.ReferenceAIdeal.main_arg5) = m ((c.tc : Thread Cert.KernelAIdeal.nD Cert.KernelAIdeal.τ).loc Cert.KernelAIdeal.main_arg5)
      ∧ m' ((c.tc : Thread Cert.ReferenceAIdeal.nD Cert.ReferenceAIdeal.τ).loc Cert.ReferenceAIdeal.main_arg6) = m ((c.tc : Thread Cert.KernelAIdeal.nD Cert.KernelAIdeal.τ).loc Cert.KernelAIdeal.main_arg6)
      ∧ m' ((c.tc : Thread Cert.ReferenceAIdeal.nD Cert.ReferenceAIdeal.τ).loc Cert.ReferenceAIdeal.main_arg7) = m ((c.tc : Thread Cert.KernelAIdeal.nD Cert.KernelAIdeal.τ).loc Cert.KernelAIdeal.main_arg7)) →
    ∃ (v0 : (c : Dev Cert.KernelAIdeal.nD) → Buf (Elt Ideal) ((c.tc : Thread Cert.KernelAIdeal.nD Cert.KernelAIdeal.τ).loc Cert.KernelAIdeal.main_v14)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v14) = v0 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
          ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
          ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5)
          ∧ r.2.mem ((c.tc : Thread Cert.KernelAIdeal.nD Cert.KernelAIdeal.τ).loc Cert.KernelAIdeal.main_arg6) = m ((c.tc : Thread Cert.KernelAIdeal.nD Cert.KernelAIdeal.τ).loc Cert.KernelAIdeal.main_arg6)
          ∧ r.2.mem ((c.tc : Thread Cert.KernelAIdeal.nD Cert.KernelAIdeal.τ).loc Cert.KernelAIdeal.main_arg7) = m ((c.tc : Thread Cert.KernelAIdeal.nD Cert.KernelAIdeal.τ).loc Cert.KernelAIdeal.main_arg7))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v75) = v0 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2)
          ∧ r.2.mem ((c.tc : Thread Cert.ReferenceAIdeal.nD Cert.ReferenceAIdeal.τ).loc Cert.ReferenceAIdeal.main_arg3) = m' ((c.tc : Thread Cert.ReferenceAIdeal.nD Cert.ReferenceAIdeal.τ).loc Cert.ReferenceAIdeal.main_arg3)
          ∧ r.2.mem ((c.tc : Thread Cert.ReferenceAIdeal.nD Cert.ReferenceAIdeal.τ).loc Cert.ReferenceAIdeal.main_arg4) = m' ((c.tc : Thread Cert.ReferenceAIdeal.nD Cert.ReferenceAIdeal.τ).loc Cert.ReferenceAIdeal.main_arg4)
          ∧ r.2.mem ((c.tc : Thread Cert.ReferenceAIdeal.nD Cert.ReferenceAIdeal.τ).loc Cert.ReferenceAIdeal.main_arg5) = m' ((c.tc : Thread Cert.ReferenceAIdeal.nD Cert.ReferenceAIdeal.τ).loc Cert.ReferenceAIdeal.main_arg5)
          ∧ r.2.mem ((c.tc : Thread Cert.ReferenceAIdeal.nD Cert.ReferenceAIdeal.τ).loc Cert.ReferenceAIdeal.main_arg6) = m' ((c.tc : Thread Cert.ReferenceAIdeal.nD Cert.ReferenceAIdeal.τ).loc Cert.ReferenceAIdeal.main_arg6)
          ∧ r.2.mem ((c.tc : Thread Cert.ReferenceAIdeal.nD Cert.ReferenceAIdeal.τ).loc Cert.ReferenceAIdeal.main_arg7) = m' ((c.tc : Thread Cert.ReferenceAIdeal.nD Cert.ReferenceAIdeal.τ).loc Cert.ReferenceAIdeal.main_arg7))

def preserves_KernelB_KernelBIdeal : Prop :=
  True

def algebraic_KernelBIdeal_ReferenceBIdeal_pre_finite_b [hKernelBIdeal : Cert.KernelBIdeal.Facts] [hReferenceBIdeal : Cert.ReferenceBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_finite_b m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)) →
    ∃ (v0 : (c : Dev Cert.KernelBIdeal.nD) → Buf (Elt Ideal) ((c.tc : Thread Cert.KernelBIdeal.nD Cert.KernelBIdeal.τ).loc Cert.KernelBIdeal.main_v9)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v9) = v0 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v26) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2))

def preserves_KernelM_KernelMIdeal : Prop :=
  True

def algebraic_KernelMIdeal_ReferenceMIdeal [hKernelMIdeal : Cert.KernelMIdeal.Facts] [hReferenceMIdeal : Cert.ReferenceMIdeal.Facts] [hPre_named : Cert.Pre_named.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)
      ∧ m' ((c.tc : Thread Cert.ReferenceMIdeal.nD Cert.ReferenceMIdeal.τ).loc Cert.ReferenceMIdeal.main_arg2) = m ((c.tc : Thread Cert.KernelMIdeal.nD Cert.KernelMIdeal.τ).loc Cert.KernelMIdeal.main_arg2)
      ∧ m' ((c.tc : Thread Cert.ReferenceMIdeal.nD Cert.ReferenceMIdeal.τ).loc Cert.ReferenceMIdeal.main_arg3) = m ((c.tc : Thread Cert.KernelMIdeal.nD Cert.KernelMIdeal.τ).loc Cert.KernelMIdeal.main_arg3)
      ∧ m' ((c.tc : Thread Cert.ReferenceMIdeal.nD Cert.ReferenceMIdeal.τ).loc Cert.ReferenceMIdeal.main_arg4) = m ((c.tc : Thread Cert.KernelMIdeal.nD Cert.KernelMIdeal.τ).loc Cert.KernelMIdeal.main_arg4)
      ∧ m' ((c.tc : Thread Cert.ReferenceMIdeal.nD Cert.ReferenceMIdeal.τ).loc Cert.ReferenceMIdeal.main_arg5) = m ((c.tc : Thread Cert.KernelMIdeal.nD Cert.KernelMIdeal.τ).loc Cert.KernelMIdeal.main_arg5)
      ∧ m' ((c.tc : Thread Cert.ReferenceMIdeal.nD Cert.ReferenceMIdeal.τ).loc Cert.ReferenceMIdeal.main_arg6) = m ((c.tc : Thread Cert.KernelMIdeal.nD Cert.KernelMIdeal.τ).loc Cert.KernelMIdeal.main_arg6)
      ∧ m' ((c.tc : Thread Cert.ReferenceMIdeal.nD Cert.ReferenceMIdeal.τ).loc Cert.ReferenceMIdeal.main_arg7) = m ((c.tc : Thread Cert.KernelMIdeal.nD Cert.KernelMIdeal.τ).loc Cert.KernelMIdeal.main_arg7)
      ∧ m' ((c.tc : Thread Cert.ReferenceMIdeal.nD Cert.ReferenceMIdeal.τ).loc Cert.ReferenceMIdeal.main_arg8) = m ((c.tc : Thread Cert.KernelMIdeal.nD Cert.KernelMIdeal.τ).loc Cert.KernelMIdeal.main_arg8)) →
    ∃ (v0 : (c : Dev Cert.KernelMIdeal.nD) → Buf (Elt Ideal) ((c.tc : Thread Cert.KernelMIdeal.nD Cert.KernelMIdeal.τ).loc Cert.KernelMIdeal.main_v12)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v12) = v0 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
          ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
          ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
          ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
          ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5)
          ∧ r.2.mem ((c.tc : Thread Cert.KernelMIdeal.nD Cert.KernelMIdeal.τ).loc Cert.KernelMIdeal.main_arg6) = m ((c.tc : Thread Cert.KernelMIdeal.nD Cert.KernelMIdeal.τ).loc Cert.KernelMIdeal.main_arg6)
          ∧ r.2.mem ((c.tc : Thread Cert.KernelMIdeal.nD Cert.KernelMIdeal.τ).loc Cert.KernelMIdeal.main_arg7) = m ((c.tc : Thread Cert.KernelMIdeal.nD Cert.KernelMIdeal.τ).loc Cert.KernelMIdeal.main_arg7)
          ∧ r.2.mem ((c.tc : Thread Cert.KernelMIdeal.nD Cert.KernelMIdeal.τ).loc Cert.KernelMIdeal.main_arg8) = m ((c.tc : Thread Cert.KernelMIdeal.nD Cert.KernelMIdeal.τ).loc Cert.KernelMIdeal.main_arg8))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v82) = v0 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1)
          ∧ r.2.mem ((c.tc : Thread Cert.ReferenceMIdeal.nD Cert.ReferenceMIdeal.τ).loc Cert.ReferenceMIdeal.main_arg2) = m' ((c.tc : Thread Cert.ReferenceMIdeal.nD Cert.ReferenceMIdeal.τ).loc Cert.ReferenceMIdeal.main_arg2)
          ∧ r.2.mem ((c.tc : Thread Cert.ReferenceMIdeal.nD Cert.ReferenceMIdeal.τ).loc Cert.ReferenceMIdeal.main_arg3) = m' ((c.tc : Thread Cert.ReferenceMIdeal.nD Cert.ReferenceMIdeal.τ).loc Cert.ReferenceMIdeal.main_arg3)
          ∧ r.2.mem ((c.tc : Thread Cert.ReferenceMIdeal.nD Cert.ReferenceMIdeal.τ).loc Cert.ReferenceMIdeal.main_arg4) = m' ((c.tc : Thread Cert.ReferenceMIdeal.nD Cert.ReferenceMIdeal.τ).loc Cert.ReferenceMIdeal.main_arg4)
          ∧ r.2.mem ((c.tc : Thread Cert.ReferenceMIdeal.nD Cert.ReferenceMIdeal.τ).loc Cert.ReferenceMIdeal.main_arg5) = m' ((c.tc : Thread Cert.ReferenceMIdeal.nD Cert.ReferenceMIdeal.τ).loc Cert.ReferenceMIdeal.main_arg5)
          ∧ r.2.mem ((c.tc : Thread Cert.ReferenceMIdeal.nD Cert.ReferenceMIdeal.τ).loc Cert.ReferenceMIdeal.main_arg6) = m' ((c.tc : Thread Cert.ReferenceMIdeal.nD Cert.ReferenceMIdeal.τ).loc Cert.ReferenceMIdeal.main_arg6)
          ∧ r.2.mem ((c.tc : Thread Cert.ReferenceMIdeal.nD Cert.ReferenceMIdeal.τ).loc Cert.ReferenceMIdeal.main_arg7) = m' ((c.tc : Thread Cert.ReferenceMIdeal.nD Cert.ReferenceMIdeal.τ).loc Cert.ReferenceMIdeal.main_arg7)
          ∧ r.2.mem ((c.tc : Thread Cert.ReferenceMIdeal.nD Cert.ReferenceMIdeal.τ).loc Cert.ReferenceMIdeal.main_arg8) = m' ((c.tc : Thread Cert.ReferenceMIdeal.nD Cert.ReferenceMIdeal.τ).loc Cert.ReferenceMIdeal.main_arg8))

def preserves_KernelI_KernelIIdeal : Prop :=
  True

def algebraic_KernelIIdeal_ReferenceIIdeal [hKernelIIdeal : Cert.KernelIIdeal.Facts] [hReferenceIIdeal : Cert.ReferenceIIdeal.Facts] : Prop :=
  ∀ (m : (ℓ : Loc Cert.KernelIIdeal.nD Cert.KernelIIdeal.τ Cert.KernelIIdeal.sig) → Buf (Elt Ideal) ℓ) (g : Dev Cert.KernelIIdeal.nD → PrngReg)
    (m' : (ℓ : Loc Cert.ReferenceIIdeal.nD Cert.ReferenceIIdeal.τ Cert.ReferenceIIdeal.sig) → Buf (Elt Ideal) ℓ) (g' : Dev Cert.ReferenceIIdeal.nD → PrngReg), Pre_KernelIIdeal m →
    (∀ c : Dev Cert.KernelIIdeal.nD,
      m' ((c.tc : Thread Cert.ReferenceIIdeal.nD Cert.ReferenceIIdeal.τ).loc Cert.ReferenceIIdeal.main_arg0) = m ((c.tc : Thread Cert.KernelIIdeal.nD Cert.KernelIIdeal.τ).loc Cert.KernelIIdeal.main_arg0)
      ∧ m' ((c.tc : Thread Cert.ReferenceIIdeal.nD Cert.ReferenceIIdeal.τ).loc Cert.ReferenceIIdeal.main_arg1) = m ((c.tc : Thread Cert.KernelIIdeal.nD Cert.KernelIIdeal.τ).loc Cert.KernelIIdeal.main_arg1)
      ∧ m' ((c.tc : Thread Cert.ReferenceIIdeal.nD Cert.ReferenceIIdeal.τ).loc Cert.ReferenceIIdeal.main_arg2) = m ((c.tc : Thread Cert.KernelIIdeal.nD Cert.KernelIIdeal.τ).loc Cert.KernelIIdeal.main_arg2)
      ∧ m' ((c.tc : Thread Cert.ReferenceIIdeal.nD Cert.ReferenceIIdeal.τ).loc Cert.ReferenceIIdeal.main_arg3) = m ((c.tc : Thread Cert.KernelIIdeal.nD Cert.KernelIIdeal.τ).loc Cert.KernelIIdeal.main_arg3)
      ∧ m' ((c.tc : Thread Cert.ReferenceIIdeal.nD Cert.ReferenceIIdeal.τ).loc Cert.ReferenceIIdeal.main_arg4) = m ((c.tc : Thread Cert.KernelIIdeal.nD Cert.KernelIIdeal.τ).loc Cert.KernelIIdeal.main_arg4)
      ∧ m' ((c.tc : Thread Cert.ReferenceIIdeal.nD Cert.ReferenceIIdeal.τ).loc Cert.ReferenceIIdeal.main_arg5) = m ((c.tc : Thread Cert.KernelIIdeal.nD Cert.KernelIIdeal.τ).loc Cert.KernelIIdeal.main_arg5)
      ∧ m' ((c.tc : Thread Cert.ReferenceIIdeal.nD Cert.ReferenceIIdeal.τ).loc Cert.ReferenceIIdeal.main_arg6) = m ((c.tc : Thread Cert.KernelIIdeal.nD Cert.KernelIIdeal.τ).loc Cert.KernelIIdeal.main_arg6)) →
    ∃ (v0 : (c : Dev Cert.KernelIIdeal.nD) → Buf (Elt Ideal) ((c.tc : Thread Cert.KernelIIdeal.nD Cert.KernelIIdeal.τ).loc Cert.KernelIIdeal.main_v91_0)) (v1 : (c : Dev Cert.KernelIIdeal.nD) → Buf (Elt Ideal) ((c.tc : Thread Cert.KernelIIdeal.nD Cert.KernelIIdeal.τ).loc Cert.KernelIIdeal.main_v91_1)) (v2 : (c : Dev Cert.KernelIIdeal.nD) → Buf (Elt Ideal) ((c.tc : Thread Cert.KernelIIdeal.nD Cert.KernelIIdeal.τ).loc Cert.KernelIIdeal.main_v91_2)) (v3 : (c : Dev Cert.KernelIIdeal.nD) → Buf (Elt Ideal) ((c.tc : Thread Cert.KernelIIdeal.nD Cert.KernelIIdeal.τ).loc Cert.KernelIIdeal.main_v91_3)) (v4 : (c : Dev Cert.KernelIIdeal.nD) → Buf (Elt Ideal) ((c.tc : Thread Cert.KernelIIdeal.nD Cert.KernelIIdeal.τ).loc Cert.KernelIIdeal.main_v91_4)) (v5 : (c : Dev Cert.KernelIIdeal.nD) → Buf (Elt Ideal) ((c.tc : Thread Cert.KernelIIdeal.nD Cert.KernelIIdeal.τ).loc Cert.KernelIIdeal.main_v91_5)),
      θ_run (Cert.KernelIIdeal.defs (F := Ideal)) (onTc (τ := Cert.KernelIIdeal.τ) (Cert.KernelIIdeal.main (F := Ideal))) ⟨m, fun _ => 0, g⟩ (fun r => ∀ c : Dev Cert.KernelIIdeal.nD,
          r.2.mem ((c.tc : Thread Cert.KernelIIdeal.nD Cert.KernelIIdeal.τ).loc Cert.KernelIIdeal.main_v91_0) = v0 c
          ∧ r.2.mem ((c.tc : Thread Cert.KernelIIdeal.nD Cert.KernelIIdeal.τ).loc Cert.KernelIIdeal.main_v91_1) = v1 c
          ∧ r.2.mem ((c.tc : Thread Cert.KernelIIdeal.nD Cert.KernelIIdeal.τ).loc Cert.KernelIIdeal.main_v91_2) = v2 c
          ∧ r.2.mem ((c.tc : Thread Cert.KernelIIdeal.nD Cert.KernelIIdeal.τ).loc Cert.KernelIIdeal.main_v91_3) = v3 c
          ∧ r.2.mem ((c.tc : Thread Cert.KernelIIdeal.nD Cert.KernelIIdeal.τ).loc Cert.KernelIIdeal.main_v91_4) = v4 c
          ∧ r.2.mem ((c.tc : Thread Cert.KernelIIdeal.nD Cert.KernelIIdeal.τ).loc Cert.KernelIIdeal.main_v91_5) = v5 c
          ∧ r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
          ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1)
          ∧ r.2.mem ((c.tc : Thread Cert.KernelIIdeal.nD Cert.KernelIIdeal.τ).loc Cert.KernelIIdeal.main_arg2) = m ((c.tc : Thread Cert.KernelIIdeal.nD Cert.KernelIIdeal.τ).loc Cert.KernelIIdeal.main_arg2)
          ∧ r.2.mem ((c.tc : Thread Cert.KernelIIdeal.nD Cert.KernelIIdeal.τ).loc Cert.KernelIIdeal.main_arg3) = m ((c.tc : Thread Cert.KernelIIdeal.nD Cert.KernelIIdeal.τ).loc Cert.KernelIIdeal.main_arg3)
          ∧ r.2.mem ((c.tc : Thread Cert.KernelIIdeal.nD Cert.KernelIIdeal.τ).loc Cert.KernelIIdeal.main_arg4) = m ((c.tc : Thread Cert.KernelIIdeal.nD Cert.KernelIIdeal.τ).loc Cert.KernelIIdeal.main_arg4)
          ∧ r.2.mem ((c.tc : Thread Cert.KernelIIdeal.nD Cert.KernelIIdeal.τ).loc Cert.KernelIIdeal.main_arg5) = m ((c.tc : Thread Cert.KernelIIdeal.nD Cert.KernelIIdeal.τ).loc Cert.KernelIIdeal.main_arg5)
          ∧ r.2.mem ((c.tc : Thread Cert.KernelIIdeal.nD Cert.KernelIIdeal.τ).loc Cert.KernelIIdeal.main_arg6) = m ((c.tc : Thread Cert.KernelIIdeal.nD Cert.KernelIIdeal.τ).loc Cert.KernelIIdeal.main_arg6))
      ∧ θ_run (Cert.ReferenceIIdeal.defs (F := Ideal)) (onTc (τ := Cert.ReferenceIIdeal.τ) (Cert.ReferenceIIdeal.main (F := Ideal))) ⟨m', fun _ => 0, g'⟩ (fun r => ∀ c : Dev Cert.ReferenceIIdeal.nD,
          r.2.mem ((c.tc : Thread Cert.ReferenceIIdeal.nD Cert.ReferenceIIdeal.τ).loc Cert.ReferenceIIdeal.main_v204) = v0 c
          ∧ r.2.mem ((c.tc : Thread Cert.ReferenceIIdeal.nD Cert.ReferenceIIdeal.τ).loc Cert.ReferenceIIdeal.main_v205) = v1 c
          ∧ r.2.mem ((c.tc : Thread Cert.ReferenceIIdeal.nD Cert.ReferenceIIdeal.τ).loc Cert.ReferenceIIdeal.main_v206) = v2 c
          ∧ r.2.mem ((c.tc : Thread Cert.ReferenceIIdeal.nD Cert.ReferenceIIdeal.τ).loc Cert.ReferenceIIdeal.main_v207) = v3 c
          ∧ r.2.mem ((c.tc : Thread Cert.ReferenceIIdeal.nD Cert.ReferenceIIdeal.τ).loc Cert.ReferenceIIdeal.main_v208) = v4 c
          ∧ r.2.mem ((c.tc : Thread Cert.ReferenceIIdeal.nD Cert.ReferenceIIdeal.τ).loc Cert.ReferenceIIdeal.main_v209) = v5 c
          ∧ r.2.mem ((c.tc : Thread Cert.ReferenceIIdeal.nD Cert.ReferenceIIdeal.τ).loc Cert.ReferenceIIdeal.main_arg0) = m' ((c.tc : Thread Cert.ReferenceIIdeal.nD Cert.ReferenceIIdeal.τ).loc Cert.ReferenceIIdeal.main_arg0)
          ∧ r.2.mem ((c.tc : Thread Cert.ReferenceIIdeal.nD Cert.ReferenceIIdeal.τ).loc Cert.ReferenceIIdeal.main_arg1) = m' ((c.tc : Thread Cert.ReferenceIIdeal.nD Cert.ReferenceIIdeal.τ).loc Cert.ReferenceIIdeal.main_arg1)
          ∧ r.2.mem ((c.tc : Thread Cert.ReferenceIIdeal.nD Cert.ReferenceIIdeal.τ).loc Cert.ReferenceIIdeal.main_arg2) = m' ((c.tc : Thread Cert.ReferenceIIdeal.nD Cert.ReferenceIIdeal.τ).loc Cert.ReferenceIIdeal.main_arg2)
          ∧ r.2.mem ((c.tc : Thread Cert.ReferenceIIdeal.nD Cert.ReferenceIIdeal.τ).loc Cert.ReferenceIIdeal.main_arg3) = m' ((c.tc : Thread Cert.ReferenceIIdeal.nD Cert.ReferenceIIdeal.τ).loc Cert.ReferenceIIdeal.main_arg3)
          ∧ r.2.mem ((c.tc : Thread Cert.ReferenceIIdeal.nD Cert.ReferenceIIdeal.τ).loc Cert.ReferenceIIdeal.main_arg4) = m' ((c.tc : Thread Cert.ReferenceIIdeal.nD Cert.ReferenceIIdeal.τ).loc Cert.ReferenceIIdeal.main_arg4)
          ∧ r.2.mem ((c.tc : Thread Cert.ReferenceIIdeal.nD Cert.ReferenceIIdeal.τ).loc Cert.ReferenceIIdeal.main_arg5) = m' ((c.tc : Thread Cert.ReferenceIIdeal.nD Cert.ReferenceIIdeal.τ).loc Cert.ReferenceIIdeal.main_arg5)
          ∧ r.2.mem ((c.tc : Thread Cert.ReferenceIIdeal.nD Cert.ReferenceIIdeal.τ).loc Cert.ReferenceIIdeal.main_arg6) = m' ((c.tc : Thread Cert.ReferenceIIdeal.nD Cert.ReferenceIIdeal.τ).loc Cert.ReferenceIIdeal.main_arg6))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)
      ∧ m' ((c.tc : Thread Cert.ReferenceOIdeal.nD Cert.ReferenceOIdeal.τ).loc Cert.ReferenceOIdeal.main_arg4) = m ((c.tc : Thread Cert.KernelOIdeal.nD Cert.KernelOIdeal.τ).loc Cert.KernelOIdeal.main_arg4)
      ∧ m' ((c.tc : Thread Cert.ReferenceOIdeal.nD Cert.ReferenceOIdeal.τ).loc Cert.ReferenceOIdeal.main_arg5) = m ((c.tc : Thread Cert.KernelOIdeal.nD Cert.KernelOIdeal.τ).loc Cert.KernelOIdeal.main_arg5)
      ∧ m' ((c.tc : Thread Cert.ReferenceOIdeal.nD Cert.ReferenceOIdeal.τ).loc Cert.ReferenceOIdeal.main_arg6) = m ((c.tc : Thread Cert.KernelOIdeal.nD Cert.KernelOIdeal.τ).loc Cert.KernelOIdeal.main_arg6)) →
    ∃ (v0 : (c : Dev Cert.KernelOIdeal.nD) → Buf (Elt Ideal) ((c.tc : Thread Cert.KernelOIdeal.nD Cert.KernelOIdeal.τ).loc Cert.KernelOIdeal.main_v15_0)) (v1 : (c : Dev Cert.KernelOIdeal.nD) → Buf (Elt Ideal) ((c.tc : Thread Cert.KernelOIdeal.nD Cert.KernelOIdeal.τ).loc Cert.KernelOIdeal.main_v15_1)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v15_0) = v0 c
          ∧ r.2.mem ((c.tc : Thread Cert.KernelOIdeal.nD Cert.KernelOIdeal.τ).loc Cert.KernelOIdeal.main_v15_1) = v1 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
          ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
          ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5)
          ∧ r.2.mem ((c.tc : Thread Cert.KernelOIdeal.nD Cert.KernelOIdeal.τ).loc Cert.KernelOIdeal.main_arg6) = m ((c.tc : Thread Cert.KernelOIdeal.nD Cert.KernelOIdeal.τ).loc Cert.KernelOIdeal.main_arg6))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v20) = v0 c
          ∧ r.2.mem ((c.tc : Thread Cert.ReferenceOIdeal.nD Cert.ReferenceOIdeal.τ).loc Cert.ReferenceOIdeal.main_v21) = v1 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3)
          ∧ r.2.mem ((c.tc : Thread Cert.ReferenceOIdeal.nD Cert.ReferenceOIdeal.τ).loc Cert.ReferenceOIdeal.main_arg4) = m' ((c.tc : Thread Cert.ReferenceOIdeal.nD Cert.ReferenceOIdeal.τ).loc Cert.ReferenceOIdeal.main_arg4)
          ∧ r.2.mem ((c.tc : Thread Cert.ReferenceOIdeal.nD Cert.ReferenceOIdeal.τ).loc Cert.ReferenceOIdeal.main_arg5) = m' ((c.tc : Thread Cert.ReferenceOIdeal.nD Cert.ReferenceOIdeal.τ).loc Cert.ReferenceOIdeal.main_arg5)
          ∧ r.2.mem ((c.tc : Thread Cert.ReferenceOIdeal.nD Cert.ReferenceOIdeal.τ).loc Cert.ReferenceOIdeal.main_arg6) = m' ((c.tc : Thread Cert.ReferenceOIdeal.nD Cert.ReferenceOIdeal.τ).loc Cert.ReferenceOIdeal.main_arg6))

def preserves_KernelR_KernelRIdeal : Prop :=
  True

def algebraic_KernelRIdeal_ReferenceRIdeal_pre_finite_r [hKernelRIdeal : Cert.KernelRIdeal.Facts] [hReferenceRIdeal : Cert.ReferenceRIdeal.Facts] [hPre_finite_r : Cert.Pre_finite_r.Facts] : Prop :=
  ∀ (m : (ℓ : Loc Cert.KernelRIdeal.nD Cert.KernelRIdeal.τ Cert.KernelRIdeal.sig) → Buf (Elt Ideal) ℓ) (g : Dev Cert.KernelRIdeal.nD → PrngReg)
    (m' : (ℓ : Loc Cert.ReferenceRIdeal.nD Cert.ReferenceRIdeal.τ Cert.ReferenceRIdeal.sig) → Buf (Elt Ideal) ℓ) (g' : Dev Cert.ReferenceRIdeal.nD → PrngReg), Pre_KernelRIdeal_finite_r m →
    (∀ c : Dev Cert.KernelRIdeal.nD,
      m' ((c.tc : Thread Cert.ReferenceRIdeal.nD Cert.ReferenceRIdeal.τ).loc Cert.ReferenceRIdeal.main_arg0) = m ((c.tc : Thread Cert.KernelRIdeal.nD Cert.KernelRIdeal.τ).loc Cert.KernelRIdeal.main_arg0)
      ∧ m' ((c.tc : Thread Cert.ReferenceRIdeal.nD Cert.ReferenceRIdeal.τ).loc Cert.ReferenceRIdeal.main_arg1) = m ((c.tc : Thread Cert.KernelRIdeal.nD Cert.KernelRIdeal.τ).loc Cert.KernelRIdeal.main_arg1)
      ∧ m' ((c.tc : Thread Cert.ReferenceRIdeal.nD Cert.ReferenceRIdeal.τ).loc Cert.ReferenceRIdeal.main_arg2) = m ((c.tc : Thread Cert.KernelRIdeal.nD Cert.KernelRIdeal.τ).loc Cert.KernelRIdeal.main_arg2)
      ∧ m' ((c.tc : Thread Cert.ReferenceRIdeal.nD Cert.ReferenceRIdeal.τ).loc Cert.ReferenceRIdeal.main_arg3) = m ((c.tc : Thread Cert.KernelRIdeal.nD Cert.KernelRIdeal.τ).loc Cert.KernelRIdeal.main_arg3)
      ∧ m' ((c.tc : Thread Cert.ReferenceRIdeal.nD Cert.ReferenceRIdeal.τ).loc Cert.ReferenceRIdeal.main_arg4) = m ((c.tc : Thread Cert.KernelRIdeal.nD Cert.KernelRIdeal.τ).loc Cert.KernelRIdeal.main_arg4)
      ∧ m' ((c.tc : Thread Cert.ReferenceRIdeal.nD Cert.ReferenceRIdeal.τ).loc Cert.ReferenceRIdeal.main_arg5) = m ((c.tc : Thread Cert.KernelRIdeal.nD Cert.KernelRIdeal.τ).loc Cert.KernelRIdeal.main_arg5)
      ∧ m' ((c.tc : Thread Cert.ReferenceRIdeal.nD Cert.ReferenceRIdeal.τ).loc Cert.ReferenceRIdeal.main_arg6) = m ((c.tc : Thread Cert.KernelRIdeal.nD Cert.KernelRIdeal.τ).loc Cert.KernelRIdeal.main_arg6)) →
    ∃ (v0 : (c : Dev Cert.KernelRIdeal.nD) → Buf (Elt Ideal) ((c.tc : Thread Cert.KernelRIdeal.nD Cert.KernelRIdeal.τ).loc Cert.KernelRIdeal.main_v15_2)) (v1 : (c : Dev Cert.KernelRIdeal.nD) → Buf (Elt Ideal) ((c.tc : Thread Cert.KernelRIdeal.nD Cert.KernelRIdeal.τ).loc Cert.KernelRIdeal.main_v15_3)),
      θ_run (Cert.KernelRIdeal.defs (F := Ideal)) (onTc (τ := Cert.KernelRIdeal.τ) (Cert.KernelRIdeal.main (F := Ideal))) ⟨m, fun _ => 0, g⟩ (fun r => ∀ c : Dev Cert.KernelRIdeal.nD,
          r.2.mem ((c.tc : Thread Cert.KernelRIdeal.nD Cert.KernelRIdeal.τ).loc Cert.KernelRIdeal.main_v15_2) = v0 c
          ∧ r.2.mem ((c.tc : Thread Cert.KernelRIdeal.nD Cert.KernelRIdeal.τ).loc Cert.KernelRIdeal.main_v15_3) = v1 c
          ∧ r.2.mem ((c.tc : Thread Cert.KernelRIdeal.nD Cert.KernelRIdeal.τ).loc Cert.KernelRIdeal.main_arg0) = m ((c.tc : Thread Cert.KernelRIdeal.nD Cert.KernelRIdeal.τ).loc Cert.KernelRIdeal.main_arg0)
          ∧ r.2.mem ((c.tc : Thread Cert.KernelRIdeal.nD Cert.KernelRIdeal.τ).loc Cert.KernelRIdeal.main_arg1) = m ((c.tc : Thread Cert.KernelRIdeal.nD Cert.KernelRIdeal.τ).loc Cert.KernelRIdeal.main_arg1)
          ∧ r.2.mem ((c.tc : Thread Cert.KernelRIdeal.nD Cert.KernelRIdeal.τ).loc Cert.KernelRIdeal.main_arg2) = m ((c.tc : Thread Cert.KernelRIdeal.nD Cert.KernelRIdeal.τ).loc Cert.KernelRIdeal.main_arg2)
          ∧ r.2.mem ((c.tc : Thread Cert.KernelRIdeal.nD Cert.KernelRIdeal.τ).loc Cert.KernelRIdeal.main_arg3) = m ((c.tc : Thread Cert.KernelRIdeal.nD Cert.KernelRIdeal.τ).loc Cert.KernelRIdeal.main_arg3)
          ∧ r.2.mem ((c.tc : Thread Cert.KernelRIdeal.nD Cert.KernelRIdeal.τ).loc Cert.KernelRIdeal.main_arg4) = m ((c.tc : Thread Cert.KernelRIdeal.nD Cert.KernelRIdeal.τ).loc Cert.KernelRIdeal.main_arg4)
          ∧ r.2.mem ((c.tc : Thread Cert.KernelRIdeal.nD Cert.KernelRIdeal.τ).loc Cert.KernelRIdeal.main_arg5) = m ((c.tc : Thread Cert.KernelRIdeal.nD Cert.KernelRIdeal.τ).loc Cert.KernelRIdeal.main_arg5)
          ∧ r.2.mem ((c.tc : Thread Cert.KernelRIdeal.nD Cert.KernelRIdeal.τ).loc Cert.KernelRIdeal.main_arg6) = m ((c.tc : Thread Cert.KernelRIdeal.nD Cert.KernelRIdeal.τ).loc Cert.KernelRIdeal.main_arg6))
      ∧ θ_run (Cert.ReferenceRIdeal.defs (F := Ideal)) (onTc (τ := Cert.ReferenceRIdeal.τ) (Cert.ReferenceRIdeal.main (F := Ideal))) ⟨m', fun _ => 0, g'⟩ (fun r => ∀ c : Dev Cert.ReferenceRIdeal.nD,
          r.2.mem ((c.tc : Thread Cert.ReferenceRIdeal.nD Cert.ReferenceRIdeal.τ).loc Cert.ReferenceRIdeal.main_v39) = v0 c
          ∧ r.2.mem ((c.tc : Thread Cert.ReferenceRIdeal.nD Cert.ReferenceRIdeal.τ).loc Cert.ReferenceRIdeal.main_v40) = v1 c
          ∧ r.2.mem ((c.tc : Thread Cert.ReferenceRIdeal.nD Cert.ReferenceRIdeal.τ).loc Cert.ReferenceRIdeal.main_arg0) = m' ((c.tc : Thread Cert.ReferenceRIdeal.nD Cert.ReferenceRIdeal.τ).loc Cert.ReferenceRIdeal.main_arg0)
          ∧ r.2.mem ((c.tc : Thread Cert.ReferenceRIdeal.nD Cert.ReferenceRIdeal.τ).loc Cert.ReferenceRIdeal.main_arg1) = m' ((c.tc : Thread Cert.ReferenceRIdeal.nD Cert.ReferenceRIdeal.τ).loc Cert.ReferenceRIdeal.main_arg1)
          ∧ r.2.mem ((c.tc : Thread Cert.ReferenceRIdeal.nD Cert.ReferenceRIdeal.τ).loc Cert.ReferenceRIdeal.main_arg2) = m' ((c.tc : Thread Cert.ReferenceRIdeal.nD Cert.ReferenceRIdeal.τ).loc Cert.ReferenceRIdeal.main_arg2)
          ∧ r.2.mem ((c.tc : Thread Cert.ReferenceRIdeal.nD Cert.ReferenceRIdeal.τ).loc Cert.ReferenceRIdeal.main_arg3) = m' ((c.tc : Thread Cert.ReferenceRIdeal.nD Cert.ReferenceRIdeal.τ).loc Cert.ReferenceRIdeal.main_arg3)
          ∧ r.2.mem ((c.tc : Thread Cert.ReferenceRIdeal.nD Cert.ReferenceRIdeal.τ).loc Cert.ReferenceRIdeal.main_arg4) = m' ((c.tc : Thread Cert.ReferenceRIdeal.nD Cert.ReferenceRIdeal.τ).loc Cert.ReferenceRIdeal.main_arg4)
          ∧ r.2.mem ((c.tc : Thread Cert.ReferenceRIdeal.nD Cert.ReferenceRIdeal.τ).loc Cert.ReferenceRIdeal.main_arg5) = m' ((c.tc : Thread Cert.ReferenceRIdeal.nD Cert.ReferenceRIdeal.τ).loc Cert.ReferenceRIdeal.main_arg5)
          ∧ r.2.mem ((c.tc : Thread Cert.ReferenceRIdeal.nD Cert.ReferenceRIdeal.τ).loc Cert.ReferenceRIdeal.main_arg6) = m' ((c.tc : Thread Cert.ReferenceRIdeal.nD Cert.ReferenceRIdeal.τ).loc Cert.ReferenceRIdeal.main_arg6))

def Claim : Prop :=
  ∃ (hKernelA : Cert.KernelA.Facts) (hKernelAIdeal : Cert.KernelAIdeal.Facts) (hReferenceAIdeal : Cert.ReferenceAIdeal.Facts) (hKernelB : Cert.KernelB.Facts) (hKernelBIdeal : Cert.KernelBIdeal.Facts) (hReferenceBIdeal : Cert.ReferenceBIdeal.Facts) (hKernelM : Cert.KernelM.Facts) (hKernelMIdeal : Cert.KernelMIdeal.Facts) (hReferenceMIdeal : Cert.ReferenceMIdeal.Facts) (hKernelI : Cert.KernelI.Facts) (hKernelIIdeal : Cert.KernelIIdeal.Facts) (hReferenceIIdeal : Cert.ReferenceIIdeal.Facts) (hKernelO : Cert.KernelO.Facts) (hKernelOIdeal : Cert.KernelOIdeal.Facts) (hReferenceOIdeal : Cert.ReferenceOIdeal.Facts) (hKernelR : Cert.KernelR.Facts) (hKernelRIdeal : Cert.KernelRIdeal.Facts) (hReferenceRIdeal : Cert.ReferenceRIdeal.Facts) (hPre_finite_a : Cert.Pre_finite_a.Facts) (hPre_finite_b : Cert.Pre_finite_b.Facts) (hPre_named : Cert.Pre_named.Facts) (hPre_finite_r : Cert.Pre_finite_r.Facts),
    quiescent_KernelA (hKernelA := hKernelA)
    ∧ quiescent_KernelAIdeal (hKernelAIdeal := hKernelAIdeal)
    ∧ quiescent_KernelAIdeal_pre_finite_a (hKernelAIdeal := hKernelAIdeal) (hPre_finite_a := hPre_finite_a)
    ∧ quiescent_ReferenceAIdeal (hReferenceAIdeal := hReferenceAIdeal)
    ∧ quiescent_ReferenceAIdeal_pre_finite_a (hReferenceAIdeal := hReferenceAIdeal) (hPre_finite_a := hPre_finite_a)
    ∧ quiescent_KernelB (hKernelB := hKernelB)
    ∧ quiescent_KernelBIdeal (hKernelBIdeal := hKernelBIdeal)
    ∧ quiescent_KernelBIdeal_pre_finite_b (hKernelBIdeal := hKernelBIdeal) (hPre_finite_b := hPre_finite_b)
    ∧ quiescent_ReferenceBIdeal (hReferenceBIdeal := hReferenceBIdeal)
    ∧ quiescent_ReferenceBIdeal_pre_finite_b (hReferenceBIdeal := hReferenceBIdeal) (hPre_finite_b := hPre_finite_b)
    ∧ quiescent_KernelM (hKernelM := hKernelM) (hPre_named := hPre_named)
    ∧ quiescent_KernelMIdeal (hKernelMIdeal := hKernelMIdeal) (hPre_named := hPre_named)
    ∧ quiescent_ReferenceMIdeal (hReferenceMIdeal := hReferenceMIdeal)
    ∧ quiescent_ReferenceMIdeal_pre_named (hReferenceMIdeal := hReferenceMIdeal) (hPre_named := hPre_named)
    ∧ quiescent_KernelI (hKernelI := hKernelI)
    ∧ quiescent_KernelIIdeal (hKernelIIdeal := hKernelIIdeal)
    ∧ quiescent_ReferenceIIdeal (hReferenceIIdeal := hReferenceIIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelR (hKernelR := hKernelR)
    ∧ quiescent_KernelRIdeal (hKernelRIdeal := hKernelRIdeal)
    ∧ quiescent_KernelRIdeal_pre_finite_r (hKernelRIdeal := hKernelRIdeal) (hPre_finite_r := hPre_finite_r)
    ∧ quiescent_ReferenceRIdeal (hReferenceRIdeal := hReferenceRIdeal)
    ∧ quiescent_ReferenceRIdeal_pre_finite_r (hReferenceRIdeal := hReferenceRIdeal) (hPre_finite_r := hPre_finite_r)
    ∧ preserves_KernelA_KernelAIdeal
    ∧ algebraic_KernelAIdeal_ReferenceAIdeal_pre_finite_a (hKernelAIdeal := hKernelAIdeal) (hReferenceAIdeal := hReferenceAIdeal) (hPre_finite_a := hPre_finite_a)
    ∧ preserves_KernelB_KernelBIdeal
    ∧ algebraic_KernelBIdeal_ReferenceBIdeal_pre_finite_b (hKernelBIdeal := hKernelBIdeal) (hReferenceBIdeal := hReferenceBIdeal) (hPre_finite_b := hPre_finite_b)
    ∧ preserves_KernelM_KernelMIdeal
    ∧ algebraic_KernelMIdeal_ReferenceMIdeal (hKernelMIdeal := hKernelMIdeal) (hReferenceMIdeal := hReferenceMIdeal) (hPre_named := hPre_named)
    ∧ preserves_KernelI_KernelIIdeal
    ∧ algebraic_KernelIIdeal_ReferenceIIdeal (hKernelIIdeal := hKernelIIdeal) (hReferenceIIdeal := hReferenceIIdeal)
    ∧ preserves_KernelO_KernelOIdeal
    ∧ algebraic_KernelOIdeal_ReferenceOIdeal (hKernelOIdeal := hKernelOIdeal) (hReferenceOIdeal := hReferenceOIdeal)
    ∧ preserves_KernelR_KernelRIdeal
    ∧ algebraic_KernelRIdeal_ReferenceRIdeal_pre_finite_r (hKernelRIdeal := hKernelRIdeal) (hReferenceRIdeal := hReferenceRIdeal) (hPre_finite_r := hPre_finite_r)
-- ==== Pre_finite_a.lean ====
abbrev S1x64 : Shape := ⟨2, ![1, 64]⟩
abbrev S1x128 : Shape := ⟨2, ![1, 128]⟩
abbrev S32768x512 : Shape := ⟨2, ![32768, 512]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_

variable [Facts]

def fn_part2 {F : FTy → Type} [FloatOps F] (main_v30 : IVec S_ 1) (main_v34 : IVec S32768x512 1) : IVec S_ 1 :=
  let main_c_11 : IVec S_ 1 := constantI S_ 1 1#1
  let main_v35 : IVec S_ 1 := (fun x v => Host.reduce IntOp.andi x v reducesTo_S32768x512_S_d0_1 h_S_) main_v34 main_c_11
  let main_v36 : IVec S_ 1 := andi main_v30 main_v35
  main_v36

def fn_part1 {F : FTy → Type} [FloatOps F] (main_arg5 : FVec F S32768x512 .bf16) (main_arg6 : FVec F S32768x512 .bf16) (main_arg7 : FVec F S32768x512 .bf16) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S32768x512 .f32 := (extf .f32 · bitsLt_bf16_f32) main_arg5
  let main_v20 : FVec F S32768x512 .f32 := Host.absf main_v19
  let main_cst_6 : FVec F S_ .f32 := constant S_ .f32 0x7F800000#32
  let main_v21 : FVec F S32768x512 .f32 := broadcastInDim S32768x512 ![] bcast_S_S32768x512 main_cst_6
  let main_v22 : IVec S32768x512 1 := cmpf .olt main_v20 main_v21
  let main_c_7 : IVec S_ 1 := constantI S_ 1 1#1
  let main_v23 : IVec S_ 1 := (fun x v => Host.reduce IntOp.andi x v reducesTo_S32768x512_S_d0_1 h_S_) main_v22 main_c_7
  let main_v24 : IVec S_ 1 := andi main_v18 main_v23
  let main_v25 : FVec F S32768x512 .f32 := (extf .f32 · bitsLt_bf16_f32) main_arg6
  let main_v26 : FVec F S32768x512 .f32 := Host.absf main_v25
  let main_cst_8 : FVec F S_ .f32 := constant S_ .f32 0x7F800000#32
  let main_v27 : FVec F S32768x512 .f32 := broadcastInDim S32768x512 ![] bcast_S_S32768x512 main_cst_8
  let main_v28 : IVec S32768x512 1 := cmpf .olt main_v26 main_v27
  let main_c_9 : IVec S_ 1 := constantI S_ 1 1#1
  let main_v29 : IVec S_ 1 := (fun x v => Host.reduce IntOp.andi x v reducesTo_S32768x512_S_d0_1 h_S_) main_v28 main_c_9
  let main_v30 : IVec S_ 1 := andi main_v24 main_v29
  let main_v31 : FVec F S32768x512 .f32 := (extf .f32 · bitsLt_bf16_f32) main_arg7
  let main_v32 : FVec F S32768x512 .f32 := Host.absf main_v31
  let main_cst_10 : FVec F S_ .f32 := constant S_ .f32 0x7F800000#32
  let main_v33 : FVec F S32768x512 .f32 := broadcastInDim S32768x512 ![] bcast_S_S32768x512 main_cst_10
  let main_v34 : IVec S32768x512 1 := cmpf .olt main_v32 main_v33
  fn_part2 (F := F) main_v30 main_v34

def fn {F : FTy → Type} [FloatOps F] (main_arg0 : FVec F S1x64 .f32) (main_arg1 : FVec F S1x64 .f32) (main_arg2 : FVec F S1x64 .f32) (main_arg3 : FVec F S1x64 .f32) (main_arg4 : FVec F S1x128 .f32) (main_arg5 : FVec F S32768x512 .bf16) (main_arg6 : FVec F S32768x512 .bf16) (main_arg7 : FVec F S32768x512 .bf16) : IVec S_ 1 :=
  let main_v0 : FVec F S1x64 .f32 := Host.absf main_arg0
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg5 main_arg6 main_arg7 main_v13 main_v16
-- ==== Pre_finite_b.lean ====
abbrev S32768x512 : Shape := ⟨2, ![32768, 512]⟩
abbrev S32768x128 : Shape := ⟨2, ![32768, 128]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_

variable [Facts]

def fn {F : FTy → Type} [FloatOps F] (main_arg0 : FVec F S32768x512 .bf16) (main_arg1 : FVec F S32768x128 .bf16) (main_arg2 : FVec F S32768x128 .bf16) : IVec S_ 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x128 .f32 := (extf .f32 · bitsLt_bf16_f32) main_arg1
  let main_v6 : FVec F S32768x128 .f32 := Host.absf main_v5
  let main_cst_0 : FVec F S_ .f32 := constant S_ .f32 0x7F800000#32
  let main_v7 : FVec F S32768x128 .f32 := broadcastInDim S32768x128 ![] bcast_S_S32768x128 main_cst_0
  let main_v8 : IVec S32768x128 1 := cmpf .olt main_v6 main_v7
  let main_c_1 : IVec S_ 1 := constantI S_ 1 1#1
  let main_v9 : IVec S_ 1 := (fun x v => Host.reduce IntOp.andi x v reducesTo_S32768x128_S_d0_1 h_S_) main_v8 main_c_1
  let main_v10 : IVec S_ 1 := andi main_v4 main_v9
  main_v10
-- ==== Pre_finite_r.lean ====
abbrev S8x4096x512 : Shape := ⟨3, ![8, 4096, 512]⟩
abbrev S8x4096x1024 : Shape := ⟨3, ![8, 4096, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x32 : S_.BroadcastsInDim S1x1024x32 (![] : Fin 0 → Fin S1x1024x32.rank)
  reducesTo_S1x1024x32_S_d0_1_2 : S1x1024x32.ReducesTo [0, 1, 2] S_
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S8x4096x512 .bf16) (main_arg1 : FVec F S8x4096x512 .bf16) (main_arg2 : FVec F S8x4096x1024 .f32) (main_arg3 : FVec F S1x1024x1024 .f32) (main_arg4 : FVec F S1x1024 .f32) (main_arg5 : FVec F S1x1024x32 .f32) (main_arg6 : FVec F S1x32 .f32) : IVec S_ 1 :=
  let main_v0 : FVec F S1x1024 .f32 := Host.absf main_arg4
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x32 .f32 := Host.absf main_arg5
  let main_cst_0 : FVec F S_ .f32 := constant S_ .f32 0x7F800000#32
  let main_v5 : FVec F S1x1024x32 .f32 := broadcastInDim S1x1024x32 ![] bcast_S_S1x1024x32 main_cst_0
  let main_v6 : IVec S1x1024x32 1 := cmpf .olt main_v4 main_v5
  let main_c_1 : IVec S_ 1 := constantI S_ 1 1#1
  let main_v7 : IVec S_ 1 := (fun x v => Host.reduce IntOp.andi x v reducesTo_S1x1024x32_S_d0_1_2 h_S_) main_v6 main_c_1
  let main_v8 : IVec S_ 1 := andi main_v3 main_v7
  let main_v9 : FVec F S1x32 .f32 := Host.absf main_arg6
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  main_v13
-- ==== Pre_named.lean ====
abbrev S288 : Shape := ⟨1, ![288]⟩
abbrev S1 : Shape := ⟨1, ![1]⟩
abbrev S147456x1024 : Shape := ⟨2, ![147456, 1024]⟩
abbrev S1x32x1024x1024 : Shape := ⟨4, ![1, 32, 1024, 1024]⟩
abbrev S1x32x1024 : Shape := ⟨3, ![1, 32, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : FVec F S147456x1024 .f32) (main_arg3 : FVec F S1x32x1024x1024 .f32) (main_arg4 : FVec F S1x32x1024 .f32) (main_arg5 : FVec F S1x32x1024x1024 .f32) (main_arg6 : FVec F S1x32x1024 .f32) (main_arg7 : FVec F S1x32x1024x1024 .f32) (main_arg8 : FVec F S1x32x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== KernelA.lean ====
abbrev S1x64 : Shape := ⟨2, ![1, 64]⟩
abbrev S1x128 : Shape := ⟨2, ![1, 128]⟩
abbrev S32768x512 : Shape := ⟨2, ![32768, 512]⟩
abbrev S8x4096x4x128 : Shape := ⟨4, ![8, 4096, 4, 128]⟩
abbrev S8x4x128x4096 : Shape := ⟨4, ![8, 4, 128, 4096]⟩
abbrev S64 : Shape := ⟨1, ![64]⟩
abbrev S128 : Shape := ⟨1, ![128]⟩
abbrev S8x4096x512 : Shape := ⟨3, ![8, 4096, 512]⟩
abbrev S1x256x128 : Shape := ⟨3, ![1, 256, 128]⟩
abbrev S1x1x128x4096 : Shape := ⟨4, ![1, 1, 128, 4096]⟩
abbrev S1x4096x128 : Shape := ⟨3, ![1, 4096, 128]⟩
abbrev S256x128 : Shape := ⟨2, ![256, 128]⟩
abbrev S128x4096 : Shape := ⟨2, ![128, 4096]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 23
  | .vmem => 13
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S32768x512, .bf16⟩
  | .hbm, ⟨6, _⟩ => ⟨S32768x512, .bf16⟩
  | .hbm, ⟨7, _⟩ => ⟨S32768x512, .bf16⟩
  | .hbm, ⟨8, _⟩ => ⟨S8x4096x4x128, .bf16⟩
  | .hbm, ⟨9, _⟩ => ⟨S8x4x128x4096, .bf16⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S128, .f32⟩
  | .hbm, ⟨19, _⟩ => ⟨S1x128, .f32⟩
  | .hbm, ⟨20, _⟩ => ⟨S8x4096x512, .bf16⟩
  | .hbm, ⟨21, _⟩ => ⟨S8x4096x512, .bf16⟩
  | .hbm, ⟨22, _⟩ => ⟨S8x4096x512, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S1x256x128, .bf16⟩
  | .local _ .vmem, ⟨6, _⟩ => ⟨S1x256x128, .bf16⟩
  | .local _ .vmem, ⟨7, _⟩ => ⟨S1x1x128x4096, .bf16⟩
  | .local _ .vmem, ⟨8, _⟩ => ⟨S1x1x128x4096, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x256x128, .bf16⟩
  | .local _ .vmem, ⟨12, _⟩ => ⟨S1x256x128, .bf16⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceAIdeal.lean ====
abbrev S1x64 : Shape := ⟨2, ![1, 64]⟩
abbrev S1x128 : Shape := ⟨2, ![1, 128]⟩
abbrev S32768x512 : Shape := ⟨2, ![32768, 512]⟩
abbrev S8x4096x4x2x64 : Shape := ⟨5, ![8, 4096, 4, 2, 64]⟩
abbrev S2x8x4x4096x64 : Shape := ⟨5, ![2, 8, 4, 4096, 64]⟩
abbrev S8x4096x4x128 : Shape := ⟨4, ![8, 4096, 4, 128]⟩
abbrev S8x4x4096x128 : Shape := ⟨4, ![8, 4, 4096, 128]⟩
abbrev S64 : Shape := ⟨1, ![64]⟩
abbrev S_ : Shape := ⟨0, ![]⟩
abbrev S1x8x4x4096x64 : Shape := ⟨5, ![1, 8, 4, 4096, 64]⟩
abbrev S8x4x4096x64 : Shape := ⟨4, ![8, 4, 4096, 64]⟩
abbrev S8x4x4096x4096 : Shape := ⟨4, ![8, 4, 4096, 4096]⟩
abbrev S8x4x4096 : Shape := ⟨3, ![8, 4, 4096]⟩
abbrev S8x4x4096x1 : Shape := ⟨4, ![8, 4, 4096, 1]⟩
abbrev S128 : Shape := ⟨1, ![128]⟩
abbrev S1x1x1x128 : Shape := ⟨4, ![1, 1, 1, 128]⟩
abbrev S8x4096x512 : Shape := ⟨3, ![8, 4096, 512]⟩

abbrev nBuf : Space → Nat
  | .hbm => 97
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S32768x512, .bf16⟩
  | .hbm, ⟨6, _⟩ => ⟨S32768x512, .bf16⟩
  | .hbm, ⟨7, _⟩ => ⟨S32768x512, .bf16⟩
  | .hbm, ⟨8, _⟩ => ⟨S32768x512, .f32⟩
  | .hbm, ⟨9, _⟩ => ⟨S8x4096x4x2x64, .f32⟩
  | .hbm, ⟨10, _⟩ => ⟨S2x8x4x4096x64, .f32⟩
  | .hbm, ⟨11, _⟩ => ⟨S32768x512, .f32⟩
  | .hbm, ⟨12, _⟩ => ⟨S8x4096x4x2x64, .f32⟩
  | .hbm, ⟨13, _⟩ => ⟨S2x8x4x4096x64, .f32⟩
  | .hbm, ⟨14, _⟩ => ⟨S32768x512, .f32⟩
  | .hbm, ⟨15, _⟩ => ⟨S8x4096x4x128, .f32⟩
  | .hbm, ⟨16, _⟩ => ⟨S8x4x4096x128, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x8x4x4096x64, .f32⟩
  | .hbm, ⟨33, _⟩ => ⟨S8x4x4096x64, .f32⟩
  | .hbm, ⟨34, _⟩ => ⟨S1x8x4x4096x64, .f32⟩
  | .hbm, ⟨35, _⟩ => ⟨S8x4x4096x64, .f32⟩
  | .hbm, ⟨36, _⟩ => ⟨S8x4x4096x4096, .f32⟩
  | .hbm, ⟨37, _⟩ => ⟨S1x8x4x4096x64, .f32⟩
  | .hbm, ⟨38, _⟩ => ⟨S8x4x4096x64, .f32⟩
  | .hbm, ⟨39, _⟩ => ⟨S1x8x4x4096x64, .f32⟩
  | .hbm, ⟨40, _⟩ => ⟨S8x4x4096x64, .f32⟩
  | .hbm, ⟨41, _⟩ => ⟨S8x4x4096x4096, .f32⟩
  | .hbm, ⟨42, _⟩ => ⟨S_, .f32⟩
  | .hbm, ⟨43, _⟩ => ⟨S8x4x4096, .f32⟩
  | .hbm, ⟨44, _⟩ => ⟨S_, .f32⟩
  | .hbm, ⟨45, _⟩ => ⟨S8x4x4096, .f32⟩
  | .hbm, ⟨46, _⟩ => ⟨S8x4x4096, .f32⟩
  | .hbm, ⟨47, _⟩ => ⟨S8x4x4096x1, .f32⟩
  | .hbm, ⟨48, _⟩ => ⟨S8x4x4096x4096, .f32⟩
  | .hbm, ⟨49, _⟩ => ⟨S8x4x4096x4096, .f32⟩
  | .hbm, ⟨50, _⟩ => ⟨S8x4x4096x4096, .f32⟩
  | .hbm, ⟨51, _⟩ => ⟨S_, .f32⟩
  | .hbm, ⟨52, _⟩ => ⟨S8x4x4096, .f32⟩
  | .hbm, ⟨53, _⟩ => ⟨S8x4x4096x1, .f32⟩
  | .hbm, ⟨54, _⟩ => ⟨S8x4x4096x4096, .f32⟩
  | .hbm, ⟨55, _⟩ => ⟨S8x4x4096x4096, .f32⟩
  | .hbm, ⟨56, _⟩ => ⟨S_, .f32⟩
  | .hbm, ⟨57, _⟩ => ⟨S8x4x4096, .f32⟩
  | .hbm, ⟨58, _⟩ => ⟨S_, .f32⟩
  | .hbm, ⟨59, _⟩ => ⟨S8x4x4096, .f32⟩
  | .hbm, ⟨60, _⟩ => ⟨S8x4x4096, .f32⟩
  | .hbm, ⟨61, _⟩ => ⟨S8x4x4096x1, .f32⟩
  | .hbm, ⟨62, _⟩ => ⟨S8x4x4096x4096, .f32⟩
  | .hbm, ⟨63, _⟩ => ⟨S8x4x4096x4096, .f32⟩
  | .hbm, ⟨64, _⟩ => ⟨S8x4x4096x4096, .f32⟩
  | .hbm, ⟨65, _⟩ => ⟨S_, .f32⟩
  | .hbm, ⟨66, _⟩ => ⟨S8x4x4096, .f32⟩
  | .hbm, ⟨67, _⟩ => ⟨S8x4x4096x1, .f32⟩
  | .hbm, ⟨68, _⟩ => ⟨S8x4x4096x4096, .f32⟩
  | .hbm, ⟨69, _⟩ => ⟨S8x4x4096x4096, .f32⟩
  | .hbm, ⟨70, _⟩ => ⟨S8x4x4096x4096, .f32⟩
  | .hbm, ⟨71, _⟩ => ⟨S8x4x4096x4096, .f32⟩
  | .hbm, ⟨72, _⟩ => ⟨S8x4x4096x4096, .f32⟩
  | .hbm, ⟨73, _⟩ => ⟨S8x4x4096x128, .f32⟩
  | .hbm, ⟨74, _⟩ => ⟨S128, .f32⟩
  | .hbm, ⟨75, _⟩ => ⟨S8x4x4096x128, .f32⟩
  | .hbm, ⟨76, _⟩ => ⟨S_, .f32⟩
  | .hbm, ⟨77, _⟩ => ⟨S8x4x4096, .f32⟩
  | .hbm, ⟨78, _⟩ => ⟨S8x4x4096x1, .f32⟩
  | .hbm, ⟨79, _⟩ => ⟨S_, .f32⟩
  | .hbm, ⟨80, _⟩ => ⟨S8x4x4096x1, .f32⟩
  | .hbm, ⟨81, _⟩ => ⟨S8x4x4096x1, .f32⟩
  | .hbm, ⟨82, _⟩ => ⟨S_, .f32⟩
  | .hbm, ⟨83, _⟩ => ⟨S8x4x4096x1, .f32⟩
  | .hbm, ⟨84, _⟩ => ⟨S8x4x4096x1, .f32⟩
  | .hbm, ⟨85, _⟩ => ⟨S8x4x4096x1, .f32⟩
  | .hbm, ⟨86, _⟩ => ⟨S8x4x4096x128, .f32⟩
  | .hbm, ⟨87, _⟩ => ⟨S8x4x4096x128, .f32⟩
  | .hbm, ⟨88, _⟩ => ⟨S1x1x1x128, .f32⟩
  | .hbm, ⟨89, _⟩ => ⟨S8x4x4096x128, .f32⟩
  | .hbm, ⟨90, _⟩ => ⟨S8x4x4096x128, .f32⟩
  | .hbm, ⟨91, _⟩ => ⟨S_, .f32⟩
  | .hbm, ⟨92, _⟩ => ⟨S8x4x4096x128, .f32⟩
  | .hbm, ⟨93, _⟩ => ⟨S8x4x4096x128, .f32⟩
  | .hbm, ⟨94, _⟩ => ⟨S8x4096x4x128, .f32⟩
  | .hbm, ⟨95, _⟩ => ⟨S8x4096x512, .f32⟩
  | .hbm, ⟨96, _⟩ => ⟨S8x4096x512, .bf16⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩

abbrev nD : Nat := 1
abbrev τ : Topo := Topo.v7x

variable {F : FTy → Type} [FloatOps F]
-- ==== KernelB.lean ====
abbrev S32768x512 : Shape := ⟨2, ![32768, 512]⟩
abbrev S32768x128 : Shape := ⟨2, ![32768, 128]⟩
abbrev S8x4096x2x64 : Shape := ⟨4, ![8, 4096, 2, 64]⟩
abbrev S8x2x64x4096 : Shape := ⟨4, ![8, 2, 64, 4096]⟩
abbrev S1x8x1x2x1x64x1x4096 : Shape := ⟨8, ![1, 8, 1, 2, 1, 64, 1, 4096]⟩
abbrev S1x8x1x2x4x64x1x4096 : Shape := ⟨8, ![1, 8, 1, 2, 4, 64, 1, 4096]⟩
abbrev S8x2x256x4096 : Shape := ⟨4, ![8, 2, 256, 4096]⟩
abbrev S8x2x4096x64 : Shape := ⟨4, ![8, 2, 4096, 64]⟩
abbrev S8x2x4096x128 : Shape := ⟨4, ![8, 2, 4096, 128]⟩
abbrev S8x4096x512 : Shape := ⟨3, ![8, 4096, 512]⟩
abbrev S1x256x256 : Shape := ⟨3, ![1, 256, 256]⟩
abbrev S1x1x256x4096 : Shape := ⟨4, ![1, 1, 256, 4096]⟩
abbrev S1x1x4096x128 : Shape := ⟨4, ![1, 1, 4096, 128]⟩
abbrev S256x256 : Shape := ⟨2, ![256, 256]⟩
abbrev S256x4096 : Shape := ⟨2, ![256, 4096]⟩
abbrev S4096x128 : Shape := ⟨2, ![4096, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 13
  | .vmem => 8
  | .smem => 0
  | _ => 0

abbrev bufTy : (tb : Table) → Fin (tcTables nBuf tb) → BufTy
  | .hbm, ⟨0, _⟩ => ⟨S32768x512, .bf16⟩
  | .hbm, ⟨1, _⟩ => ⟨S32768x128, .bf16⟩
  | .hbm, ⟨2, _⟩ => ⟨S32768x128, .bf16⟩
  | .hbm, ⟨3, _⟩ => ⟨S8x4096x2x64, .bf16⟩
  | .hbm, ⟨4, _⟩ => ⟨S8x2x64x4096, .bf16⟩
  | .hbm, ⟨5, _⟩ => ⟨S1x8x1x2x1x64x1x4096, .bf16⟩
  | .hbm, ⟨6, _⟩ => ⟨S1x8x1x2x4x64x1x4096, .bf16⟩
  | .hbm, ⟨7, _⟩ => ⟨S8x2x256x4096, .bf16⟩
  | .hbm, ⟨8, _⟩ => ⟨S8x4096x2x64, .bf16⟩
  | .hbm, ⟨9, _⟩ => ⟨S8x2x4096x64, .bf16⟩
  | .hbm, ⟨10, _⟩ => ⟨S8x2x4096x128, .bf16⟩
  | .hbm, ⟨11, _⟩ => ⟨S8x4096x512, .bf16⟩
  | .hbm, ⟨12, _⟩ => ⟨S8x4096x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x1x256x4096, .bf16⟩
  | .local _ .vmem, ⟨3, _⟩ => ⟨S1x1x256x4096, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x256x256, .bf16⟩
  | .local _ .vmem, ⟨7, _⟩ => ⟨S1x256x256, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceBIdeal.lean ====
abbrev S32768x512 : Shape := ⟨2, ![32768, 512]⟩
abbrev S32768x128 : Shape := ⟨2, ![32768, 128]⟩
abbrev S8x4096x8x64 : Shape := ⟨4, ![8, 4096, 8, 64]⟩
abbrev S8x8x4096x64 : Shape := ⟨4, ![8, 8, 4096, 64]⟩
abbrev S8x4096x2x64 : Shape := ⟨4, ![8, 4096, 2, 64]⟩
abbrev S8x2x4096x64 : Shape := ⟨4, ![8, 2, 4096, 64]⟩
abbrev S8x2x4x4096x64 : Shape := ⟨5, ![8, 2, 4, 4096, 64]⟩
abbrev S8x2x4x4096x4096 : Shape := ⟨5, ![8, 2, 4, 4096, 4096]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x4096x512 : Shape := ⟨3, ![8, 4096, 512]⟩

abbrev nBuf : Space → Nat
  | .hbm => 33
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x128, .bf16⟩
  | .hbm, ⟨2, _⟩ => ⟨S32768x128, .bf16⟩
  | .hbm, ⟨3, _⟩ => ⟨S32768x512, .f32⟩
  | .hbm, ⟨4, _⟩ => ⟨S8x4096x8x64, .f32⟩
  | .hbm, ⟨5, _⟩ => ⟨S8x8x4096x64, .f32⟩
  | .hbm, ⟨6, _⟩ => ⟨S32768x128, .f32⟩
  | .hbm, ⟨7, _⟩ => ⟨S8x4096x2x64, .f32⟩
  | .hbm, ⟨8, _⟩ => ⟨S8x2x4096x64, .f32⟩
  | .hbm, ⟨9, _⟩ => ⟨S32768x128, .f32⟩
  | .hbm, ⟨10, _⟩ => ⟨S8x4096x2x64, .f32⟩
  | .hbm, ⟨11, _⟩ => ⟨S8x2x4096x64, .f32⟩
  | .hbm, ⟨12, _⟩ => ⟨S8x2x4x4096x64, .f32⟩
  | .hbm, ⟨13, _⟩ => ⟨S8x2x4x4096x4096, .f32⟩
  | .hbm, ⟨14, _⟩ => ⟨S_, .f32⟩
  | .hbm, ⟨15, _⟩ => ⟨S8x2x4x4096, .f32⟩
  | .hbm, ⟨16, _⟩ => ⟨S_, .f32⟩
  | .hbm, ⟨17, _⟩ => ⟨S8x2x4x4096, .f32⟩
  | .hbm, ⟨18, _⟩ => ⟨S8x2x4x4096, .f32⟩
  | .hbm, ⟨19, _⟩ => ⟨S8x2x4x4096x1, .f32⟩
  | .hbm, ⟨20, _⟩ => ⟨S8x2x4x4096x4096, .f32⟩
  | .hbm, ⟨21, _⟩ => ⟨S8x2x4x4096x4096, .f32⟩
  | .hbm, ⟨22, _⟩ => ⟨S8x2x4x4096x4096, .f32⟩
  | .hbm, ⟨23, _⟩ => ⟨S_, .f32⟩
  | .hbm, ⟨24, _⟩ => ⟨S8x2x4x4096, .f32⟩
  | .hbm, ⟨25, _⟩ => ⟨S8x2x4x4096x1, .f32⟩
  | .hbm, ⟨26, _⟩ => ⟨S8x2x4x4096x4096, .f32⟩
  | .hbm, ⟨27, _⟩ => ⟨S8x2x4x4096x4096, .f32⟩
  | .hbm, ⟨28, _⟩ => ⟨S8x2x4x4096x64, .f32⟩
  | .hbm, ⟨29, _⟩ => ⟨S8x8x4096x64, .f32⟩
  | .hbm, ⟨30, _⟩ => ⟨S8x4096x8x64, .f32⟩
  | .hbm, ⟨31, _⟩ => ⟨S8x4096x512, .f32⟩
  | .hbm, ⟨32, _⟩ => ⟨S8x4096x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== KernelM.lean ====
abbrev S288 : Shape := ⟨1, ![288]⟩
abbrev S1 : Shape := ⟨1, ![1]⟩
abbrev S147456x1024 : Shape := ⟨2, ![147456, 1024]⟩
abbrev S1x32x1024x1024 : Shape := ⟨4, ![1, 32, 1024, 1024]⟩
abbrev S1x32x1024 : Shape := ⟨3, ![1, 32, 1024]⟩
abbrev S32x1024x1024 : Shape := ⟨3, ![32, 1024, 1024]⟩
abbrev S32x1024 : Shape := ⟨2, ![32, 1024]⟩
abbrev S32x1x1024 : Shape := ⟨3, ![32, 1, 1024]⟩
abbrev S512x1024 : Shape := ⟨2, ![512, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 20
  | .vmem => 16
  | .smem => 2
  | _ => 0

abbrev bufTy : (tb : Table) → Fin (tcTables nBuf tb) → BufTy
  | .hbm, ⟨0, _⟩ => ⟨S147456x1024, .f32⟩
  | .hbm, ⟨1, _⟩ => ⟨S1x32x1024x1024, .f32⟩
  | .hbm, ⟨2, _⟩ => ⟨S1x32x1024, .f32⟩
  | .hbm, ⟨3, _⟩ => ⟨S1x32x1024x1024, .f32⟩
  | .hbm, ⟨4, _⟩ => ⟨S1x32x1024, .f32⟩
  | .hbm, ⟨5, _⟩ => ⟨S1x32x1024x1024, .f32⟩
  | .hbm, ⟨6, _⟩ => ⟨S1x32x1024, .f32⟩
  | .hbm, ⟨7, _⟩ => ⟨S32x1024x1024, .f32⟩
  | .hbm, ⟨8, _⟩ => ⟨S32x1024x1024, .bf16⟩
  | .hbm, ⟨9, _⟩ => ⟨S32x1024, .f32⟩
  | .hbm, ⟨10, _⟩ => ⟨S32x1x1024, .f32⟩
  | .hbm, ⟨11, _⟩ => ⟨S32x1024x1024, .f32⟩
  | .hbm, ⟨12, _⟩ => ⟨S32x1024x1024, .bf16⟩
  | .hbm, ⟨13, _⟩ => ⟨S32x1024, .f32⟩
  | .hbm, ⟨14, _⟩ => ⟨S32x1x1024, .f32⟩
  | .hbm, ⟨15, _⟩ => ⟨S32x1024x1024, .f32⟩
  | .hbm, ⟨16, _⟩ => ⟨S32x1024x1024, .bf16⟩
  | .hbm, ⟨17, _⟩ => ⟨S32x1024, .f32⟩
  | .hbm, ⟨18, _⟩ => ⟨S32x1x1024, .f32⟩
  | .hbm, ⟨19, _⟩ => ⟨S147456x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .smem, ⟨0, _⟩ => ⟨S288, .i32⟩
  | .local _ .smem, ⟨1, _⟩ => ⟨S1, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceMIdeal.lean ====
abbrev S288 : Shape := ⟨1, ![288]⟩
abbrev S1 : Shape := ⟨1, ![1]⟩
abbrev S147456x1024 : Shape := ⟨2, ![147456, 1024]⟩
abbrev S1x32x1024x1024 : Shape := ⟨4, ![1, 32, 1024, 1024]⟩
abbrev S1x32x1024 : Shape := ⟨3, ![1, 32, 1024]⟩
abbrev S288x512x1024 : Shape := ⟨3, ![288, 512, 1024]⟩
abbrev S32x1024x1024 : Shape := ⟨3, ![32, 1024, 1024]⟩
abbrev S_ : Shape := ⟨0, ![]⟩
abbrev S288x1 : Shape := ⟨2, ![288, 1]⟩
abbrev S288x1024x1024 : Shape := ⟨3, ![288, 1024, 1024]⟩
abbrev S32x1024 : Shape := ⟨2, ![32, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 120
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x1024, .f32⟩
  | .hbm, ⟨3, _⟩ => ⟨S1x32x1024x1024, .f32⟩
  | .hbm, ⟨4, _⟩ => ⟨S1x32x1024, .f32⟩
  | .hbm, ⟨5, _⟩ => ⟨S1x32x1024x1024, .f32⟩
  | .hbm, ⟨6, _⟩ => ⟨S1x32x1024, .f32⟩
  | .hbm, ⟨7, _⟩ => ⟨S1x32x1024x1024, .f32⟩
  | .hbm, ⟨8, _⟩ => ⟨S1x32x1024, .f32⟩
  | .hbm, ⟨9, _⟩ => ⟨S288x512x1024, .f32⟩
  | .hbm, ⟨10, _⟩ => ⟨S32x1024x1024, .f32⟩
  | .hbm, ⟨11, _⟩ => ⟨S_, .i32⟩
  | .hbm, ⟨12, _⟩ => ⟨S288, .i32⟩
  | .hbm, ⟨13, _⟩ => ⟨S288, .i1⟩
  | .hbm, ⟨14, _⟩ => ⟨S_, .i32⟩
  | .hbm, ⟨15, _⟩ => ⟨S288, .i32⟩
  | .hbm, ⟨16, _⟩ => ⟨S288, .i32⟩
  | .hbm, ⟨17, _⟩ => ⟨S288, .i32⟩
  | .hbm, ⟨18, _⟩ => ⟨S288x1, .i32⟩
  | .hbm, ⟨19, _⟩ => ⟨S288x1024x1024, .f32⟩
  | .hbm, ⟨20, _⟩ => ⟨S288x512x1024, .f32⟩
  | .hbm, ⟨21, _⟩ => ⟨S32x1024, .f32⟩
  | .hbm, ⟨22, _⟩ => ⟨S_, .i32⟩
  | .hbm, ⟨23, _⟩ => ⟨S288, .i32⟩
  | .hbm, ⟨24, _⟩ => ⟨S288, .i1⟩
  | .hbm, ⟨25, _⟩ => ⟨S_, .i32⟩
  | .hbm, ⟨26, _⟩ => ⟨S288, .i32⟩
  | .hbm, ⟨27, _⟩ => ⟨S288, .i32⟩
  | .hbm, ⟨28, _⟩ => ⟨S288, .i32⟩
  | .hbm, ⟨29, _⟩ => ⟨S288x1, .i32⟩
  | .hbm, ⟨30, _⟩ => ⟨S288x1024, .f32⟩
  | .hbm, ⟨31, _⟩ => ⟨S288x1x1024, .f32⟩
  | .hbm, ⟨32, _⟩ => ⟨S288x512x1024, .f32⟩
  | .hbm, ⟨33, _⟩ => ⟨S288x512x1024, .f32⟩
  | .hbm, ⟨34, _⟩ => ⟨S32x1024x1024, .f32⟩
  | .hbm, ⟨35, _⟩ => ⟨S_, .i32⟩
  | .hbm, ⟨36, _⟩ => ⟨S288, .i32⟩
  | .hbm, ⟨37, _⟩ => ⟨S288, .i1⟩
  | .hbm, ⟨38, _⟩ => ⟨S_, .i32⟩
  | .hbm, ⟨39, _⟩ => ⟨S288, .i32⟩
  | .hbm, ⟨40, _⟩ => ⟨S288, .i32⟩
  | .hbm, ⟨41, _⟩ => ⟨S288, .i32⟩
  | .hbm, ⟨42, _⟩ => ⟨S288x1, .i32⟩
  | .hbm, ⟨43, _⟩ => ⟨S288x1024x1024, .f32⟩
  | .hbm, ⟨44, _⟩ => ⟨S288x512x1024, .f32⟩
  | .hbm, ⟨45, _⟩ => ⟨S32x1024, .f32⟩
  | .hbm, ⟨46, _⟩ => ⟨S_, .i32⟩
  | .hbm, ⟨47, _⟩ => ⟨S288, .i32⟩
  | .hbm, ⟨48, _⟩ => ⟨S288, .i1⟩
  | .hbm, ⟨49, _⟩ => ⟨S_, .i32⟩
  | .hbm, ⟨50, _⟩ => ⟨S288, .i32⟩
  | .hbm, ⟨51, _⟩ => ⟨S288, .i32⟩
  | .hbm, ⟨52, _⟩ => ⟨S288, .i32⟩
  | .hbm, ⟨53, _⟩ => ⟨S288x1, .i32⟩
  | .hbm, ⟨54, _⟩ => ⟨S288x1024, .f32⟩
  | .hbm, ⟨55, _⟩ => ⟨S288x1x1024, .f32⟩
  | .hbm, ⟨56, _⟩ => ⟨S288x512x1024, .f32⟩
  | .hbm, ⟨57, _⟩ => ⟨S288x512x1024, .f32⟩
  | .hbm, ⟨58, _⟩ => ⟨S_, .f32⟩
  | .hbm, ⟨59, _⟩ => ⟨S288x512x1024, .f32⟩
  | .hbm, ⟨60, _⟩ => ⟨S288x512x1024, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S288x512x1024, .f32⟩
  | .hbm, ⟨65, _⟩ => ⟨S288x512x1024, .f32⟩
  | .hbm, ⟨66, _⟩ => ⟨S_, .f32⟩
  | .hbm, ⟨67, _⟩ => ⟨S288x512x1024, .f32⟩
  | .hbm, ⟨68, _⟩ => ⟨S288x512x1024, .f32⟩
  | .hbm, ⟨69, _⟩ => ⟨S_, .f32⟩
  | .hbm, ⟨70, _⟩ => ⟨S288x512x1024, .f32⟩
  | .hbm, ⟨71, _⟩ => ⟨S288x512x1024, .f32⟩
  | .hbm, ⟨72, _⟩ => ⟨S_, .f32⟩
  | .hbm, ⟨73, _⟩ => ⟨S288x512x1024, .f32⟩
  | .hbm, ⟨74, _⟩ => ⟨S288x512x1024, .f32⟩
  | .hbm, ⟨75, _⟩ => ⟨S288x512x1024, .f32⟩
  | .hbm, ⟨76, _⟩ => ⟨S288x512x1024, .f32⟩
  | .hbm, ⟨77, _⟩ => ⟨S_, .f32⟩
  | .hbm, ⟨78, _⟩ => ⟨S288x512x1024, .f32⟩
  | .hbm, ⟨79, _⟩ => ⟨S288x512x1024, .f32⟩
  | .hbm, ⟨80, _⟩ => ⟨S_, .f32⟩
  | .hbm, ⟨81, _⟩ => ⟨S288x512x1024, .f32⟩
  | .hbm, ⟨82, _⟩ => ⟨S288x512x1024, .f32⟩
  | .hbm, ⟨83, _⟩ => ⟨S288x512x1024, .f32⟩
  | .hbm, ⟨84, _⟩ => ⟨S288x512x1024, .f32⟩
  | .hbm, ⟨85, _⟩ => ⟨S32x1024x1024, .f32⟩
  | .hbm, ⟨86, _⟩ => ⟨S_, .i32⟩
  | .hbm, ⟨87, _⟩ => ⟨S288, .i32⟩
  | .hbm, ⟨88, _⟩ => ⟨S288, .i1⟩
  | .hbm, ⟨89, _⟩ => ⟨S_, .i32⟩
  | .hbm, ⟨90, _⟩ => ⟨S288, .i32⟩
  | .hbm, ⟨91, _⟩ => ⟨S288, .i32⟩
  | .hbm, ⟨92, _⟩ => ⟨S288, .i32⟩
  | .hbm, ⟨93, _⟩ => ⟨S288x1, .i32⟩
  | .hbm, ⟨94, _⟩ => ⟨S288x1024x1024, .f32⟩
  | .hbm, ⟨95, _⟩ => ⟨S288x512x1024, .f32⟩
  | .hbm, ⟨96, _⟩ => ⟨S32x1024, .f32⟩
  | .hbm, ⟨97, _⟩ => ⟨S_, .i32⟩
  | .hbm, ⟨98, _⟩ => ⟨S288, .i32⟩
  | .hbm, ⟨99, _⟩ => ⟨S288, .i1⟩
  | .hbm, ⟨100, _⟩ => ⟨S_, .i32⟩
  | .hbm, ⟨101, _⟩ => ⟨S288, .i32⟩
  | .hbm, ⟨102, _⟩ => ⟨S288, .i32⟩
  | .hbm, ⟨103, _⟩ => ⟨S288, .i32⟩
  | .hbm, ⟨104, _⟩ => ⟨S288x1, .i32⟩
  | .hbm, ⟨105, _⟩ => ⟨S288x1024, .f32⟩
  | .hbm, ⟨106, _⟩ => ⟨S288x1x1024, .f32⟩
  | .hbm, ⟨107, _⟩ => ⟨S288x512x1024, .f32⟩
  | .hbm, ⟨108, _⟩ => ⟨S288x512x1024, .f32⟩
  | .hbm, ⟨109, _⟩ => ⟨S288, .i32⟩
  | .hbm, ⟨110, _⟩ => ⟨S_, .i32⟩
  | .hbm, ⟨111, _⟩ => ⟨S288, .i32⟩
  | .hbm, ⟨112, _⟩ => ⟨S288, .i1⟩
  | .hbm, ⟨113, _⟩ => ⟨S288x1x1, .i1⟩
  | .hbm, ⟨114, _⟩ => ⟨S_, .f32⟩
  | .hbm, ⟨115, _⟩ => ⟨S_, .f32⟩
  | .hbm, ⟨116, _⟩ => ⟨S288x512x1024, .i1⟩
  | .hbm, ⟨117, _⟩ => ⟨S288x512x1024, .f32⟩
  | .hbm, ⟨118, _⟩ => ⟨S288x512x1024, .f32⟩
  | .hbm, ⟨119, _⟩ => ⟨S147456x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_cst_8 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_17 : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_v81 : Ref sig .tc := ⟨.hbm, 118, rfl⟩
abbrev main_v82 : Ref sig .tc := ⟨.hbm, 119, rfl⟩

abbrev nD : Nat := 1
abbrev τ : Topo := Topo.v7x

variable {F : FTy → Type} [FloatOps F]
-- ==== KernelI.lean ====
abbrev S8x4096x1024 : Shape := ⟨3, ![8, 4096, 1024]⟩
abbrev S1x1024 : Shape := ⟨2, ![1, 1024]⟩
abbrev S1x1024x2304 : Shape := ⟨3, ![1, 1024, 2304]⟩
abbrev S1x64 : Shape := ⟨2, ![1, 64]⟩
abbrev S32768x1024 : Shape := ⟨2, ![32768, 1024]⟩
abbrev S4096 : Shape := ⟨1, ![4096]⟩
abbrev S4096x1 : Shape := ⟨2, ![4096, 1]⟩
abbrev S32 : Shape := ⟨1, ![32]⟩
abbrev S_ : Shape := ⟨0, ![]⟩
abbrev S1x32 : Shape := ⟨2, ![1, 32]⟩
abbrev S4096x32 : Shape := ⟨2, ![4096, 32]⟩
abbrev S64 : Shape := ⟨1, ![64]⟩
abbrev S64x64 : Shape := ⟨2, ![64, 64]⟩
abbrev S16 : Shape := ⟨1, ![16]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1024 : Shape := ⟨1, ![1024]⟩
abbrev S1024x2304 : Shape := ⟨2, ![1024, 2304]⟩
abbrev S2x64 : Shape := ⟨2, ![2, 64]⟩
abbrev S128 : Shape := ⟨1, ![128]⟩
abbrev S1x128 : Shape := ⟨2, ![1, 128]⟩
abbrev S32768x512 : Shape := ⟨2, ![32768, 512]⟩
abbrev S32768x128 : Shape := ⟨2, ![32768, 128]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S512x2304 : Shape := ⟨2, ![512, 2304]⟩
abbrev S256x256 : Shape := ⟨2, ![256, 256]⟩
abbrev S512x256 : Shape := ⟨2, ![512, 256]⟩
abbrev S1x256 : Shape := ⟨2, ![1, 256]⟩
abbrev S128x128 : Shape := ⟨2, ![128, 128]⟩

abbrev nBuf : Space → Nat
  | .hbm => 112
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2304, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S32768x1024, .f32⟩
  | .hbm, ⟨8, _⟩ => ⟨S4096, .f32⟩
  | .hbm, ⟨9, _⟩ => ⟨S4096x1, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S64, .f32⟩
  | .hbm, ⟨29, _⟩ => ⟨S64x64, .f32⟩
  | .hbm, ⟨30, _⟩ => ⟨S4096, .f32⟩
  | .hbm, ⟨31, _⟩ => ⟨S64, .f32⟩
  | .hbm, ⟨32, _⟩ => ⟨S1x64, .f32⟩
  | .hbm, ⟨33, _⟩ => ⟨S64x64, .f32⟩
  | .hbm, ⟨34, _⟩ => ⟨S4096, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S4096x1, .f32⟩
  | .hbm, ⟨50, _⟩ => ⟨S1x16, .f32⟩
  | .hbm, ⟨51, _⟩ => ⟨S4096x16, .f32⟩
  | .hbm, ⟨52, _⟩ => ⟨S4096x16, .f32⟩
  | .hbm, ⟨53, _⟩ => ⟨S4096x16, .f32⟩
  | .hbm, ⟨54, _⟩ => ⟨S4096x1, .f32⟩
  | .hbm, ⟨55, _⟩ => ⟨S1x16, .f32⟩
  | .hbm, ⟨56, _⟩ => ⟨S4096x16, .f32⟩
  | .hbm, ⟨57, _⟩ => ⟨S4096x16, .f32⟩
  | .hbm, ⟨58, _⟩ => ⟨S4096x16, .f32⟩
  | .hbm, ⟨59, _⟩ => ⟨S4096x32, .f32⟩
  | .hbm, ⟨60, _⟩ => ⟨S4096x32, .f32⟩
  | .hbm, ⟨61, _⟩ => ⟨S4096x32, .f32⟩
  | .hbm, ⟨62, _⟩ => ⟨S4096x64, .f32⟩
  | .hbm, ⟨63, _⟩ => ⟨S4096x32, .f32⟩
  | .hbm, ⟨64, _⟩ => ⟨S4096x64, .f32⟩
  | .hbm, ⟨65, _⟩ => ⟨S1x4096x1x64, .f32⟩
  | .hbm, ⟨66, _⟩ => ⟨S1x4096x2x64, .f32⟩
  | .hbm, ⟨67, _⟩ => ⟨S4096x128, .f32⟩
  | .hbm, ⟨68, _⟩ => ⟨S1x4096x1x64, .f32⟩
  | .hbm, ⟨69, _⟩ => ⟨S1x4096x2x64, .f32⟩
  | .hbm, ⟨70, _⟩ => ⟨S4096x128, .f32⟩
  | .hbm, ⟨71, _⟩ => ⟨S4096x32, .f32⟩
  | .hbm, ⟨72, _⟩ => ⟨S4096x32, .f32⟩
  | .hbm, ⟨73, _⟩ => ⟨S4096x64, .f32⟩
  | .hbm, ⟨74, _⟩ => ⟨S4096x32, .f32⟩
  | .hbm, ⟨75, _⟩ => ⟨S4096x64, .f32⟩
  | .hbm, ⟨76, _⟩ => ⟨S1x4096x1x64, .f32⟩
  | .hbm, ⟨77, _⟩ => ⟨S1x4096x2x64, .f32⟩
  | .hbm, ⟨78, _⟩ => ⟨S4096x128, .f32⟩
  | .hbm, ⟨79, _⟩ => ⟨S1x4096x1x64, .f32⟩
  | .hbm, ⟨80, _⟩ => ⟨S1x4096x2x64, .f32⟩
  | .hbm, ⟨81, _⟩ => ⟨S4096x128, .f32⟩
  | .hbm, ⟨82, _⟩ => ⟨S1024, .f32⟩
  | .hbm, ⟨83, _⟩ => ⟨S1x1024, .f32⟩
  | .hbm, ⟨84, _⟩ => ⟨S1024x2304, .f32⟩
  | .hbm, ⟨85, _⟩ => ⟨S1024x2304, .bf16⟩
  | .hbm, ⟨86, _⟩ => ⟨S64, .f32⟩
  | .hbm, ⟨87, _⟩ => ⟨S1x64, .f32⟩
  | .hbm, ⟨88, _⟩ => ⟨S2x64, .f32⟩
  | .hbm, ⟨89, _⟩ => ⟨S128, .f32⟩
  | .hbm, ⟨90, _⟩ => ⟨S1x128, .f32⟩
  | .hbm, ⟨91, _⟩ => ⟨S64, .f32⟩
  | .hbm, ⟨92, _⟩ => ⟨S1x64, .f32⟩
  | .hbm, ⟨93, _⟩ => ⟨S2x64, .f32⟩
  | .hbm, ⟨94, _⟩ => ⟨S128, .f32⟩
  | .hbm, ⟨95, _⟩ => ⟨S1x128, .f32⟩
  | .hbm, ⟨96, _⟩ => ⟨S64, .f32⟩
  | .hbm, ⟨97, _⟩ => ⟨S1x64, .f32⟩
  | .hbm, ⟨98, _⟩ => ⟨S2x64, .f32⟩
  | .hbm, ⟨99, _⟩ => ⟨S128, .f32⟩
  | .hbm, ⟨100, _⟩ => ⟨S1x128, .f32⟩
  | .hbm, ⟨101, _⟩ => ⟨S64, .f32⟩
  | .hbm, ⟨102, _⟩ => ⟨S1x64, .f32⟩
  | .hbm, ⟨103, _⟩ => ⟨S2x64, .f32⟩
  | .hbm, ⟨104, _⟩ => ⟨S128, .f32⟩
  | .hbm, ⟨105, _⟩ => ⟨S1x128, .f32⟩
  | .hbm, ⟨106, _⟩ => ⟨S32768x512, .bf16⟩
  | .hbm, ⟨107, _⟩ => ⟨S32768x512, .bf16⟩
  | .hbm, ⟨108, _⟩ => ⟨S32768x512, .bf16⟩
  | .hbm, ⟨109, _⟩ => ⟨S32768x512, .bf16⟩
  | .hbm, ⟨110, _⟩ => ⟨S32768x128, .bf16⟩
  | .hbm, ⟨111, _⟩ => ⟨S32768x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S512x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91_0 : Ref sig .tc := ⟨.hbm, 106, rfl⟩
abbrev main_v91_1 : Ref sig .tc := ⟨.hbm, 107, rfl⟩
abbrev main_v91_2 : Ref sig .tc := ⟨.hbm, 108, rfl⟩
abbrev main_v91_3 : Ref sig .tc := ⟨.hbm, 109, rfl⟩
abbrev main_v91_4 : Ref sig .tc := ⟨.hbm, 110, rfl⟩
abbrev main_v91_5 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIIdeal.lean ====
abbrev S8x4096x1024 : Shape := ⟨3, ![8, 4096, 1024]⟩
abbrev S1x1024 : Shape := ⟨2, ![1, 1024]⟩
abbrev S1x1024x2304 : Shape := ⟨3, ![1, 1024, 2304]⟩
abbrev S1x64 : Shape := ⟨2, ![1, 64]⟩
abbrev S4096 : Shape := ⟨1, ![4096]⟩
abbrev S4096x1 : Shape := ⟨2, ![4096, 1]⟩
abbrev S32 : Shape := ⟨1, ![32]⟩
abbrev S_ : Shape := ⟨0, ![]⟩
abbrev S1x32 : Shape := ⟨2, ![1, 32]⟩
abbrev S4096x32 : Shape := ⟨2, ![4096, 32]⟩
abbrev S64 : Shape := ⟨1, ![64]⟩
abbrev S64x64 : Shape := ⟨2, ![64, 64]⟩
abbrev S16 : Shape := ⟨1, ![16]⟩
abbrev S1x16 : Shape := ⟨2, ![1, 16]⟩
abbrev S4096x16 : Shape := ⟨2, ![4096, 16]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1024x2304 : Shape := ⟨2, ![1024, 2304]⟩
abbrev S8x4096x2304 : Shape := ⟨3, ![8, 4096, 2304]⟩
abbrev S8x4096x512 : Shape := ⟨3, ![8, 4096, 512]⟩
abbrev S8x4096x128 : Shape := ⟨3, ![8, 4096, 128]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x8x32 : Shape := ⟨4, ![8, 4096, 8, 32]⟩
abbrev S1x4096x1x32 : Shape := ⟨4, ![1, 4096, 1, 32]⟩
abbrev S32768x512 : Shape := ⟨2, ![32768, 512]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x32 : Shape := ⟨4, ![8, 4096, 2, 32]⟩
abbrev S32768x128 : Shape := ⟨2, ![32768, 128]⟩

abbrev nBuf : Space → Nat
  | .hbm => 242
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x2304, .f32⟩
  | 3 => ⟨S1x64, .f32⟩
  | 4 => ⟨S1x64, .f32⟩
  | 5 => ⟨S1x64, .f32⟩
  | 6 => ⟨S1x64, .f32⟩
  | 7 => ⟨S4096, .f32⟩
  | 8 => ⟨S4096x1, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S32, .f32⟩
  | 20 => ⟨S_, .f32⟩
  | 21 => ⟨S32, .f32⟩
  | 22 => ⟨S32, .f32⟩
  | 23 => ⟨S1x32, .f32⟩
  | 24 => ⟨S4096x32, .f32⟩
  | 25 => ⟨S4096x32, .f32⟩
  | 26 => ⟨S4096x32, .f32⟩
  | 27 => ⟨S64, .f32⟩
  | 28 => ⟨S64x64, .f32⟩
  | 29 => ⟨S4096, .f32⟩
  | 30 => ⟨S64, .f32⟩
  | 31 => ⟨S1x64, .f32⟩
  | 32 => ⟨S64x64, .f32⟩
  | 33 => ⟨S4096, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S_, .f32⟩
  | 42 => ⟨S16, .f32⟩
  | 43 => ⟨S16, .f32⟩
  | 44 => ⟨S16, .f32⟩
  | 45 => ⟨S_, .f32⟩
  | 46 => ⟨S16, .f32⟩
  | 47 => ⟨S16, .f32⟩
  | 48 => ⟨S4096x1, .f32⟩
  | 49 => ⟨S1x16, .f32⟩
  | 50 => ⟨S4096x16, .f32⟩
  | 51 => ⟨S4096x16, .f32⟩
  | 52 => ⟨S4096x16, .f32⟩
  | 53 => ⟨S4096x1, .f32⟩
  | 54 => ⟨S1x16, .f32⟩
  | 55 => ⟨S4096x16, .f32⟩
  | 56 => ⟨S4096x16, .f32⟩
  | 57 => ⟨S4096x16, .f32⟩
  | 58 => ⟨S4096x32, .f32⟩
  | 59 => ⟨S1024, .f32⟩
  | 60 => ⟨S8x4096x1024, .f32⟩
  | 61 => ⟨S_, .f32⟩
  | 62 => ⟨S8x4096, .f32⟩
  | 63 => ⟨S8x4096x1, .f32⟩
  | 64 => ⟨S_, .f32⟩
  | 65 => ⟨S8x4096x1, .f32⟩
  | 66 => ⟨S8x4096x1, .f32⟩
  | 67 => ⟨S_, .f32⟩
  | 68 => ⟨S8x4096x1, .f32⟩
  | 69 => ⟨S8x4096x1, .f32⟩
  | 70 => ⟨S8x4096x1, .f32⟩
  | 71 => ⟨S8x4096x1024, .f32⟩
  | 72 => ⟨S8x4096x1024, .f32⟩
  | 73 => ⟨S1x1x1024, .f32⟩
  | 74 => ⟨S8x4096x1024, .f32⟩
  | 75 => ⟨S8x4096x1024, .f32⟩
  | 76 => ⟨S1024x2304, .f32⟩
  | 77 => ⟨S8x4096x2304, .f32⟩
  | 78 => ⟨S8x4096x512, .f32⟩
  | 79 => ⟨S8x4096x512, .f32⟩
  | 80 => ⟨S8x4096x512, .f32⟩
  | 81 => ⟨S8x4096x512, .f32⟩
  | 82 => ⟨S8x4096x128, .f32⟩
  | 83 => ⟨S8x4096x128, .f32⟩
  | 84 => ⟨S64, .f32⟩
  | 85 => ⟨S8x4096x8x64, .f32⟩
  | 86 => ⟨S8x4096x8x64, .f32⟩
  | 87 => ⟨S_, .f32⟩
  | 88 => ⟨S8x4096x8, .f32⟩
  | 89 => ⟨S8x4096x8x1, .f32⟩
  | 90 => ⟨S_, .f32⟩
  | 91 => ⟨S8x4096x8x1, .f32⟩
  | 92 => ⟨S8x4096x8x1, .f32⟩
  | 93 => ⟨S_, .f32⟩
  | 94 => ⟨S8x4096x8x1, .f32⟩
  | 95 => ⟨S8x4096x8x1, .f32⟩
  | 96 => ⟨S8x4096x8x1, .f32⟩
  | 97 => ⟨S8x4096x8x64, .f32⟩
  | 98 => ⟨S8x4096x8x64, .f32⟩
  | 99 => ⟨S1x1x1x64, .f32⟩
  | 100 => ⟨S8x4096x8x64, .f32⟩
  | 101 => ⟨S8x4096x8x64, .f32⟩
  | 102 => ⟨S8x4096x8x32, .f32⟩
  | 103 => ⟨S8x4096x8x32, .f32⟩
  | 104 => ⟨S4096x32, .f32⟩
  | 105 => ⟨S1x4096x1x32, .f32⟩
  | 106 => ⟨S4096x32, .f32⟩
  | 107 => ⟨S1x4096x1x32, .f32⟩
  | 108 => ⟨S8x4096x8x32, .f32⟩
  | 109 => ⟨S8x4096x8x32, .f32⟩
  | 110 => ⟨S8x4096x8x32, .f32⟩
  | 111 => ⟨S8x4096x8x32, .f32⟩
  | 112 => ⟨S8x4096x8x32, .f32⟩
  | 113 => ⟨S8x4096x8x32, .f32⟩
  | 114 => ⟨S8x4096x8x32, .f32⟩
  | 115 => ⟨S8x4096x8x32, .f32⟩
  | 116 => ⟨S8x4096x8x32, .f32⟩
  | 117 => ⟨S8x4096x8x32, .f32⟩
  | 118 => ⟨S8x4096x8x64, .f32⟩
  | 119 => ⟨S32768x512, .f32⟩
  | 120 => ⟨S_, .f32⟩
  | 121 => ⟨S32768x512, .f32⟩
  | 122 => ⟨S32768x512, .f32⟩
  | 123 => ⟨S64, .f32⟩
  | 124 => ⟨S8x4096x8x64, .f32⟩
  | 125 => ⟨S8x4096x8x64, .f32⟩
  | 126 => ⟨S_, .f32⟩
  | 127 => ⟨S8x4096x8, .f32⟩
  | _ => ⟨S8x4096x1024, .f32⟩

abbrev hbmTy0_1 (i : Nat) : BufTy := match i % 128 with
  | 0 => ⟨S8x4096x8x1, .f32⟩
  | 1 => ⟨S_, .f32⟩
  | 2 => ⟨S8x4096x8x1, .f32⟩
  | 3 => ⟨S8x4096x8x1, .f32⟩
  | 4 => ⟨S_, .f32⟩
  | 5 => ⟨S8x4096x8x1, .f32⟩
  | 6 => ⟨S8x4096x8x1, .f32⟩
  | 7 => ⟨S8x4096x8x1, .f32⟩
  | 8 => ⟨S8x4096x8x64, .f32⟩
  | 9 => ⟨S8x4096x8x64, .f32⟩
  | 10 => ⟨S1x1x1x64, .f32⟩
  | 11 => ⟨S8x4096x8x64, .f32⟩
  | 12 => ⟨S8x4096x8x64, .f32⟩
  | 13 => ⟨S8x4096x8x32, .f32⟩
  | 14 => ⟨S8x4096x8x32, .f32⟩
  | 15 => ⟨S4096x32, .f32⟩
  | 16 => ⟨S1x4096x1x32, .f32⟩
  | 17 => ⟨S4096x32, .f32⟩
  | 18 => ⟨S1x4096x1x32, .f32⟩
  | 19 => ⟨S8x4096x8x32, .f32⟩
  | 20 => ⟨S8x4096x8x32, .f32⟩
  | 21 => ⟨S8x4096x8x32, .f32⟩
  | 22 => ⟨S8x4096x8x32, .f32⟩
  | 23 => ⟨S8x4096x8x32, .f32⟩
  | 24 => ⟨S8x4096x8x32, .f32⟩
  | 25 => ⟨S8x4096x8x32, .f32⟩
  | 26 => ⟨S8x4096x8x32, .f32⟩
  | 27 => ⟨S8x4096x8x32, .f32⟩
  | 28 => ⟨S8x4096x8x32, .f32⟩
  | 29 => ⟨S8x4096x8x64, .f32⟩
  | 30 => ⟨S32768x512, .f32⟩
  | 31 => ⟨S64, .f32⟩
  | 32 => ⟨S8x4096x8x64, .f32⟩
  | 33 => ⟨S8x4096x8x64, .f32⟩
  | 34 => ⟨S_, .f32⟩
  | 35 => ⟨S8x4096x8, .f32⟩
  | 36 => ⟨S8x4096x8x1, .f32⟩
  | 37 => ⟨S_, .f32⟩
  | 38 => ⟨S8x4096x8x1, .f32⟩
  | 39 => ⟨S8x4096x8x1, .f32⟩
  | 40 => ⟨S_, .f32⟩
  | 41 => ⟨S8x4096x8x1, .f32⟩
  | 42 => ⟨S8x4096x8x1, .f32⟩
  | 43 => ⟨S8x4096x8x1, .f32⟩
  | 44 => ⟨S8x4096x8x64, .f32⟩
  | 45 => ⟨S8x4096x8x64, .f32⟩
  | 46 => ⟨S1x1x1x64, .f32⟩
  | 47 => ⟨S8x4096x8x64, .f32⟩
  | 48 => ⟨S8x4096x8x64, .f32⟩
  | 49 => ⟨S8x4096x8x32, .f32⟩
  | 50 => ⟨S8x4096x8x32, .f32⟩
  | 51 => ⟨S4096x32, .f32⟩
  | 52 => ⟨S1x4096x1x32, .f32⟩
  | 53 => ⟨S4096x32, .f32⟩
  | 54 => ⟨S1x4096x1x32, .f32⟩
  | 55 => ⟨S8x4096x8x32, .f32⟩
  | 56 => ⟨S8x4096x8x32, .f32⟩
  | 57 => ⟨S8x4096x8x32, .f32⟩
  | 58 => ⟨S8x4096x8x32, .f32⟩
  | 59 => ⟨S8x4096x8x32, .f32⟩
  | 60 => ⟨S8x4096x8x32, .f32⟩
  | 61 => ⟨S8x4096x8x32, .f32⟩
  | 62 => ⟨S8x4096x8x32, .f32⟩
  | 63 => ⟨S8x4096x8x32, .f32⟩
  | 64 => ⟨S8x4096x8x32, .f32⟩
  | 65 => ⟨S8x4096x8x64, .f32⟩
  | 66 => ⟨S32768x512, .f32⟩
  | 67 => ⟨S_, .f32⟩
  | 68 => ⟨S32768x512, .f32⟩
  | 69 => ⟨S32768x512, .f32⟩
  | 70 => ⟨S64, .f32⟩
  | 71 => ⟨S8x4096x2x64, .f32⟩
  | 72 => ⟨S8x4096x2x64, .f32⟩
  | 73 => ⟨S_, .f32⟩
  | 74 => ⟨S8x4096x2, .f32⟩
  | 75 => ⟨S8x4096x2x1, .f32⟩
  | 76 => ⟨S_, .f32⟩
  | 77 => ⟨S8x4096x2x1, .f32⟩
  | 78 => ⟨S8x4096x2x1, .f32⟩
  | 79 => ⟨S_, .f32⟩
  | 80 => ⟨S8x4096x2x1, .f32⟩
  | 81 => ⟨S8x4096x2x1, .f32⟩
  | 82 => ⟨S8x4096x2x1, .f32⟩
  | 83 => ⟨S8x4096x2x64, .f32⟩
  | 84 => ⟨S8x4096x2x64, .f32⟩
  | 85 => ⟨S1x1x1x64, .f32⟩
  | 86 => ⟨S8x4096x2x64, .f32⟩
  | 87 => ⟨S8x4096x2x64, .f32⟩
  | 88 => ⟨S8x4096x2x32, .f32⟩
  | 89 => ⟨S8x4096x2x32, .f32⟩
  | 90 => ⟨S4096x32, .f32⟩
  | 91 => ⟨S1x4096x1x32, .f32⟩
  | 92 => ⟨S4096x32, .f32⟩
  | 93 => ⟨S1x4096x1x32, .f32⟩
  | 94 => ⟨S8x4096x2x32, .f32⟩
  | 95 => ⟨S8x4096x2x32, .f32⟩
  | 96 => ⟨S8x4096x2x32, .f32⟩
  | 97 => ⟨S8x4096x2x32, .f32⟩
  | 98 => ⟨S8x4096x2x32, .f32⟩
  | 99 => ⟨S8x4096x2x32, .f32⟩
  | 100 => ⟨S8x4096x2x32, .f32⟩
  | 101 => ⟨S8x4096x2x32, .f32⟩
  | 102 => ⟨S8x4096x2x32, .f32⟩
  | 103 => ⟨S8x4096x2x32, .f32⟩
  | 104 => ⟨S8x4096x2x64, .f32⟩
  | 105 => ⟨S32768x128, .f32⟩
  | 106 => ⟨S32768x512, .f32⟩
  | 107 => ⟨S32768x128, .f32⟩
  | 108 => ⟨S32768x512, .bf16⟩
  | 109 => ⟨S32768x512, .bf16⟩
  | 110 => ⟨S32768x512, .bf16⟩
  | 111 => ⟨S32768x512, .bf16⟩
  | 112 => ⟨S32768x128, .bf16⟩
  | 113 => ⟨S32768x128, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_10 : Ref sig .tc := ⟨.hbm, 87, rfl⟩
abbrev main_v69 : Ref sig .tc := ⟨.hbm, 88, rfl⟩
abbrev main_v70 : Ref sig .tc := ⟨.hbm, 89, rfl⟩
abbrev main_cst_11 : Ref sig .tc := ⟨.hbm, 90, rfl⟩
abbrev main_v71 : Ref sig .tc := ⟨.hbm, 91, rfl⟩
abbrev main_v72 : Ref sig .tc := ⟨.hbm, 92, rfl⟩
abbrev main_cst_12 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_13 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_14 : Ref sig .tc := ⟨.hbm, 126, rfl⟩
abbrev main_v104 : Ref sig .tc := ⟨.hbm, 127, rfl⟩
abbrev main_v105 : Ref sig .tc := ⟨.hbm, 128, rfl⟩
abbrev main_cst_15 : Ref sig .tc := ⟨.hbm, 129, rfl⟩
abbrev main_v106 : Ref sig .tc := ⟨.hbm, 130, rfl⟩
abbrev main_v107 : Ref sig .tc := ⟨.hbm, 131, rfl⟩
abbrev main_cst_16 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_17 : Ref sig .tc := ⟨.hbm, 162, rfl⟩
abbrev main_v137 : Ref sig .tc := ⟨.hbm, 163, rfl⟩
abbrev main_v138 : Ref sig .tc := ⟨.hbm, 164, rfl⟩
abbrev main_cst_18 : Ref sig .tc := ⟨.hbm, 165, rfl⟩
abbrev main_v139 : Ref sig .tc := ⟨.hbm, 166, rfl⟩
abbrev main_v140 : Ref sig .tc := ⟨.hbm, 167, rfl⟩
abbrev main_cst_19 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_cst_20 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_cst_21 : Ref sig .tc := ⟨.hbm, 201, rfl⟩
abbrev main_v172 : Ref sig .tc := ⟨.hbm, 202, rfl⟩
abbrev main_v173 : Ref sig .tc := ⟨.hbm, 203, rfl⟩
abbrev main_cst_22 : Ref sig .tc := ⟨.hbm, 204, rfl⟩
abbrev main_v174 : Ref sig .tc := ⟨.hbm, 205, rfl⟩
abbrev main_v175 : Ref sig .tc := ⟨.hbm, 206, rfl⟩
abbrev main_cst_23 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩

abbrev nD : Nat := 1
abbrev τ : Topo := Topo.v7x

variable {F : FTy → Type} [FloatOps F]
-- ==== KernelO.lean ====
abbrev S8x4096x512 : Shape := ⟨3, ![8, 4096, 512]⟩
abbrev S8x4096x1024 : Shape := ⟨3, ![8, 4096, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S32768x1024 : Shape := ⟨2, ![32768, 1024]⟩
abbrev S1024x32 : Shape := ⟨2, ![1024, 32]⟩
abbrev S32x1024 : Shape := ⟨2, ![32, 1024]⟩
abbrev S32768x512 : Shape := ⟨2, ![32768, 512]⟩
abbrev S1024x1024 : Shape := ⟨2, ![1024, 1024]⟩
abbrev S1024 : Shape := ⟨1, ![1024]⟩
abbrev S32 : Shape := ⟨1, ![32]⟩
abbrev S32x1 : Shape := ⟨2, ![32, 1]⟩
abbrev S4x32768 : Shape := ⟨2, ![4, 32768]⟩
abbrev S512x512 : Shape := ⟨2, ![512, 512]⟩
abbrev S512x1024 : Shape := ⟨2, ![512, 1024]⟩
abbrev S4x512 : Shape := ⟨2, ![4, 512]⟩
abbrev S512 : Shape := ⟨1, ![512]⟩
abbrev S512x1 : Shape := ⟨2, ![512, 1]⟩
abbrev S32x512 : Shape := ⟨2, ![32, 512]⟩
abbrev S1x512 : Shape := ⟨2, ![1, 512]⟩

abbrev nBuf : Space → Nat
  | .hbm => 28
  | .vmem => 23
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S1x1024x1024, .f32⟩
  | .hbm, ⟨4, _⟩ => ⟨S1x1024, .f32⟩
  | .hbm, ⟨5, _⟩ => ⟨S1x1024x32, .f32⟩
  | .hbm, ⟨6, _⟩ => ⟨S1x32, .f32⟩
  | .hbm, ⟨7, _⟩ => ⟨S32768x1024, .f32⟩
  | .hbm, ⟨8, _⟩ => ⟨S1024x32, .f32⟩
  | .hbm, ⟨9, _⟩ => ⟨S32x1024, .f32⟩
  | .hbm, ⟨10, _⟩ => ⟨S32x1024, .bf16⟩
  | .hbm, ⟨11, _⟩ => ⟨S32x1024, .f32⟩
  | .hbm, ⟨12, _⟩ => ⟨S32x1024, .f32⟩
  | .hbm, ⟨13, _⟩ => ⟨S32x1024, .bf16⟩
  | .hbm, ⟨14, _⟩ => ⟨S32768x512, .bf16⟩
  | .hbm, ⟨15, _⟩ => ⟨S32768x512, .bf16⟩
  | .hbm, ⟨16, _⟩ => ⟨S1024x1024, .f32⟩
  | .hbm, ⟨17, _⟩ => ⟨S1024x1024, .bf16⟩
  | .hbm, ⟨18, _⟩ => ⟨S1024, .f32⟩
  | .hbm, ⟨19, _⟩ => ⟨S1x1024, .f32⟩
  | .hbm, ⟨20, _⟩ => ⟨S32, .f32⟩
  | .hbm, ⟨21, _⟩ => ⟨S32x1, .f32⟩
  | .hbm, ⟨22, _⟩ => ⟨S32768x1024, .f32⟩
  | .hbm, ⟨23, _⟩ => ⟨S32768x1024, .f32⟩
  | .hbm, ⟨24, _⟩ => ⟨S4x32768, .i32⟩
  | .hbm, ⟨25, _⟩ => ⟨S4x32768, .f32⟩
  | .hbm, ⟨26, _⟩ => ⟨S4x32768, .i32⟩
  | .hbm, ⟨27, _⟩ => ⟨S32x1, .i32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S32x1024, .bf16⟩
  | .local _ .vmem, ⟨9, _⟩ => ⟨S32x1024, .bf16⟩
  | .local _ .vmem, ⟨10, _⟩ => ⟨S32x1, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S4x512, .i32⟩
  | .local _ .vmem, ⟨16, _⟩ => ⟨S4x512, .i32⟩
  | .local _ .vmem, ⟨17, _⟩ => ⟨S4x512, .f32⟩
  | .local _ .vmem, ⟨18, _⟩ => ⟨S4x512, .f32⟩
  | .local _ .vmem, ⟨19, _⟩ => ⟨S4x512, .i32⟩
  | .local _ .vmem, ⟨20, _⟩ => ⟨S4x512, .i32⟩
  | .local _ .vmem, ⟨21, _⟩ => ⟨S32x1, .i32⟩
  | .local _ .vmem, ⟨22, _⟩ => ⟨S32x1, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev main_v15_4 : Ref sig .tc := ⟨.hbm, 26, rfl⟩
abbrev main_v15_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S32x1 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceOIdeal.lean ====
abbrev S8x4096x512 : Shape := ⟨3, ![8, 4096, 512]⟩
abbrev S8x4096x1024 : Shape := ⟨3, ![8, 4096, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S1x1024x1024, .f32⟩
  | .hbm, ⟨4, _⟩ => ⟨S1x1024, .f32⟩
  | .hbm, ⟨5, _⟩ => ⟨S1x1024x32, .f32⟩
  | .hbm, ⟨6, _⟩ => ⟨S1x32, .f32⟩
  | .hbm, ⟨7, _⟩ => ⟨S8x4096x512, .f32⟩
  | .hbm, ⟨8, _⟩ => ⟨S8x4096x512, .f32⟩
  | .hbm, ⟨9, _⟩ => ⟨S8x4096x1024, .f32⟩
  | .hbm, ⟨10, _⟩ => ⟨S1024x1024, .f32⟩
  | .hbm, ⟨11, _⟩ => ⟨S8x4096x1024, .f32⟩
  | .hbm, ⟨12, _⟩ => ⟨S8x4096x1024, .f32⟩
  | .hbm, ⟨13, _⟩ => ⟨S1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S32768x1024, .f32⟩
  | .hbm, ⟨31, _⟩ => ⟨S32768x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== KernelR.lean ====
abbrev S8x4096x512 : Shape := ⟨3, ![8, 4096, 512]⟩
abbrev S8x4096x1024 : Shape := ⟨3, ![8, 4096, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S32768x1024 : Shape := ⟨2, ![32768, 1024]⟩
abbrev S1024x32 : Shape := ⟨2, ![1024, 32]⟩
abbrev S32x1024 : Shape := ⟨2, ![32, 1024]⟩
abbrev S32768x512 : Shape := ⟨2, ![32768, 512]⟩
abbrev S1024x1024 : Shape := ⟨2, ![1024, 1024]⟩
abbrev S1024 : Shape := ⟨1, ![1024]⟩
abbrev S32 : Shape := ⟨1, ![32]⟩
abbrev S32x1 : Shape := ⟨2, ![32, 1]⟩
abbrev S4x32768 : Shape := ⟨2, ![4, 32768]⟩
abbrev S512x512 : Shape := ⟨2, ![512, 512]⟩
abbrev S512x1024 : Shape := ⟨2, ![512, 1024]⟩
abbrev S4x512 : Shape := ⟨2, ![4, 512]⟩
abbrev S512 : Shape := ⟨1, ![512]⟩
abbrev S512x1 : Shape := ⟨2, ![512, 1]⟩
abbrev S32x512 : Shape := ⟨2, ![32, 512]⟩
abbrev S1x512 : Shape := ⟨2, ![1, 512]⟩

abbrev nBuf : Space → Nat
  | .hbm => 28
  | .vmem => 23
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S1x1024x1024, .f32⟩
  | .hbm, ⟨4, _⟩ => ⟨S1x1024, .f32⟩
  | .hbm, ⟨5, _⟩ => ⟨S1x1024x32, .f32⟩
  | .hbm, ⟨6, _⟩ => ⟨S1x32, .f32⟩
  | .hbm, ⟨7, _⟩ => ⟨S32768x1024, .f32⟩
  | .hbm, ⟨8, _⟩ => ⟨S1024x32, .f32⟩
  | .hbm, ⟨9, _⟩ => ⟨S32x1024, .f32⟩
  | .hbm, ⟨10, _⟩ => ⟨S32x1024, .bf16⟩
  | .hbm, ⟨11, _⟩ => ⟨S32x1024, .f32⟩
  | .hbm, ⟨12, _⟩ => ⟨S32x1024, .f32⟩
  | .hbm, ⟨13, _⟩ => ⟨S32x1024, .bf16⟩
  | .hbm, ⟨14, _⟩ => ⟨S32768x512, .bf16⟩
  | .hbm, ⟨15, _⟩ => ⟨S32768x512, .bf16⟩
  | .hbm, ⟨16, _⟩ => ⟨S1024x1024, .f32⟩
  | .hbm, ⟨17, _⟩ => ⟨S1024x1024, .bf16⟩
  | .hbm, ⟨18, _⟩ => ⟨S1024, .f32⟩
  | .hbm, ⟨19, _⟩ => ⟨S1x1024, .f32⟩
  | .hbm, ⟨20, _⟩ => ⟨S32, .f32⟩
  | .hbm, ⟨21, _⟩ => ⟨S32x1, .f32⟩
  | .hbm, ⟨22, _⟩ => ⟨S32768x1024, .f32⟩
  | .hbm, ⟨23, _⟩ => ⟨S32768x1024, .f32⟩
  | .hbm, ⟨24, _⟩ => ⟨S4x32768, .i32⟩
  | .hbm, ⟨25, _⟩ => ⟨S4x32768, .f32⟩
  | .hbm, ⟨26, _⟩ => ⟨S4x32768, .i32⟩
  | .hbm, ⟨27, _⟩ => ⟨S32x1, .i32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S32x1024, .bf16⟩
  | .local _ .vmem, ⟨9, _⟩ => ⟨S32x1024, .bf16⟩
  | .local _ .vmem, ⟨10, _⟩ => ⟨S32x1, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S4x512, .i32⟩
  | .local _ .vmem, ⟨16, _⟩ => ⟨S4x512, .i32⟩
  | .local _ .vmem, ⟨17, _⟩ => ⟨S4x512, .f32⟩
  | .local _ .vmem, ⟨18, _⟩ => ⟨S4x512, .f32⟩
  | .local _ .vmem, ⟨19, _⟩ => ⟨S4x512, .i32⟩
  | .local _ .vmem, ⟨20, _⟩ => ⟨S4x512, .i32⟩
  | .local _ .vmem, ⟨21, _⟩ => ⟨S32x1, .i32⟩
  | .local _ .vmem, ⟨22, _⟩ => ⟨S32x1, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev main_v15_4 : Ref sig .tc := ⟨.hbm, 26, rfl⟩
abbrev main_v15_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S32x1 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceRIdeal.lean ====
abbrev S8x4096x512 : Shape := ⟨3, ![8, 4096, 512]⟩
abbrev S8x4096x1024 : Shape := ⟨3, ![8, 4096, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩
abbrev S1024x32 : Shape := ⟨2, ![1024, 32]⟩
abbrev S32768x32 : Shape := ⟨2, ![32768, 32]⟩
abbrev S32 : Shape := ⟨1, ![32]⟩
abbrev S32768x4 : Shape := ⟨2, ![32768, 4]⟩
abbrev S32768 : Shape := ⟨1, ![32768]⟩
abbrev S32768x1 : Shape := ⟨2, ![32768, 1]⟩
abbrev S4x32768 : Shape := ⟨2, ![4, 32768]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S1x1024x1024, .f32⟩
  | .hbm, ⟨4, _⟩ => ⟨S1x1024, .f32⟩
  | .hbm, ⟨5, _⟩ => ⟨S1x1024x32, .f32⟩
  | .hbm, ⟨6, _⟩ => ⟨S1x32, .f32⟩
  | .hbm, ⟨7, _⟩ => ⟨S8x4096x512, .f32⟩
  | .hbm, ⟨8, _⟩ => ⟨S8x4096x512, .f32⟩
  | .hbm, ⟨9, _⟩ => ⟨S8x4096x1024, .f32⟩
  | .hbm, ⟨10, _⟩ => ⟨S1024x1024, .f32⟩
  | .hbm, ⟨11, _⟩ => ⟨S8x4096x1024, .f32⟩
  | .hbm, ⟨12, _⟩ => ⟨S8x4096x1024, .f32⟩
  | .hbm, ⟨13, _⟩ => ⟨S1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S32768x1024, .f32⟩
  | .hbm, ⟨31, _⟩ => ⟨S32768x1024, .f32⟩
  | .hbm, ⟨32, _⟩ => ⟨S1024x32, .f32⟩
  | .hbm, ⟨33, _⟩ => ⟨S32768x32, .f32⟩
  | .hbm, ⟨34, _⟩ => ⟨S32, .f32⟩
  | .hbm, ⟨35, _⟩ => ⟨S1x32, .f32⟩
  | .hbm, ⟨36, _⟩ => ⟨S32768x32, .f32⟩
  | .hbm, ⟨37, _⟩ => ⟨S32768x32, .f32⟩
  | .hbm, ⟨38, _⟩ => ⟨S32768x4, .f32⟩
  | .hbm, ⟨39, _⟩ => ⟨S32768x4, .i32⟩
  | .hbm, ⟨40, _⟩ => ⟨S_, .f32⟩
  | .hbm, ⟨41, _⟩ => ⟨S32768, .f32⟩
  | .hbm, ⟨42, _⟩ => ⟨S_, .f32⟩
  | .hbm, ⟨43, _⟩ => ⟨S32768, .f32⟩
  | .hbm, ⟨44, _⟩ => ⟨S32768, .f32⟩
  | .hbm, ⟨45, _⟩ => ⟨S32768x1, .f32⟩
  | .hbm, ⟨46, _⟩ => ⟨S32768x4, .f32⟩
  | .hbm, ⟨47, _⟩ => ⟨S32768x4, .f32⟩
  | .hbm, ⟨48, _⟩ => ⟨S32768x4, .f32⟩
  | .hbm, ⟨49, _⟩ => ⟨S_, .f32⟩
  | .hbm, ⟨50, _⟩ => ⟨S32768, .f32⟩
  | .hbm, ⟨51, _⟩ => ⟨S32768x1, .f32⟩
  | .hbm, ⟨52, _⟩ => ⟨S32768x4, .f32⟩
  | .hbm, ⟨53, _⟩ => ⟨S32768x4, .f32⟩
  | .hbm, ⟨54, _⟩ => ⟨S4x32768, .i32⟩
  | .hbm, ⟨55, _⟩ => ⟨S4x32768, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_values : Ref sig .tc := ⟨.hbm, 38, rfl⟩
abbrev main_indices : Ref sig .tc := ⟨.hbm, 39, rfl⟩
abbrev main_cst_2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proof.Soft.lean ====
/-
  Softmax averages over the extended reals. One row of scores `s`, its greatest element subtracted, exponentiated and
  summed; the values averaged with these weights. A row of finite scores has finite positive weights with a finite
  positive sum, so dividing each weight by the sum before averaging, or the average by the sum afterwards, is the same.
-/
module

public import Idealize.ShloMosaic.PureOps.Ideal
public import Idealize.ShloMosaic.PureOps.Ideal.Laws

@[expose] public section

noncomputable section

namespace Cert.Soft

open Idealize.ShloMosaic
open scoped BigOperators

/-- An extended real that is a real number. -/
def Fin' (x : EReal) : Prop := x ≠ ⊥ ∧ x ≠ ⊤

theorem Fin'.coe (r : ℝ) : Fin' (r : EReal) := ⟨EReal.coe_ne_bot r, EReal.coe_ne_top r⟩
theorem Fin'.lift {x : EReal} (h : Fin' x) : ∃ r : ℝ, x = (r : EReal) :=
  ⟨x.toReal, (EReal.coe_toReal h.2 h.1).symm⟩
theorem Fin'.zero : Fin' 0 := Fin'.coe 0
theorem Fin'.mul {x y : EReal} (hx : Fin' x) (hy : Fin' y) : Fin' (x * y) := by
  obtain ⟨a, rfl⟩ := hx.lift; obtain ⟨b, rfl⟩ := hy.lift
  rw [← EReal.coe_mul]; exact Fin'.coe _
theorem Fin'.add {x y : EReal} (hx : Fin' x) (hy : Fin' y) : Fin' (x + y) := by
  obtain ⟨a, rfl⟩ := hx.lift; obtain ⟨b, rfl⟩ := hy.lift
  rw [← EReal.coe_add]; exact Fin'.coe _
theorem Fin'.sub {x y : EReal} (hx : Fin' x) (hy : Fin' y) : Fin' (x - y) := by
  obtain ⟨a, rfl⟩ := hx.lift; obtain ⟨b, rfl⟩ := hy.lift
  rw [← EReal.coe_sub]; exact Fin'.coe _
theorem Fin'.exp {x : EReal} (hx : Fin' x) : Fin' (Ideal.exp x) := by
  obtain ⟨a, rfl⟩ := hx.lift; exact Fin'.coe _
theorem Fin'.sum {ι : Type} (t : Finset ι) {f : ι → EReal} (h : ∀ i, Fin' (f i)) : Fin' (∑ i ∈ t, f i) := by
  classical
  induction t using Finset.induction_on with
  | empty => simpa using Fin'.zero
  | insert a t ha ih => rw [Finset.sum_insert ha]; exact (h a).add ih

/-- An extended real whose absolute value is below `⊤` is a real number. -/
theorem Fin'.of_abs {x : EReal} (h : max x (-x) < ⊤) : Fin' x := by
  constructor
  · rintro rfl; simp at h
  · rintro rfl; simp at h

/-- A sum of reals, each coerced, is the coerced sum. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

variable {n : Nat}

/-- The greatest score of a row. -/
def top (s : Fin n → EReal) : EReal := Finset.univ.fold max ⊥ s

theorem top_fin (hn : 0 < n) {s : Fin n → EReal} (h : ∀ k, Fin' (s k)) : Fin' (top s) := by
  constructor
  · have : s ⟨0, hn⟩ ≤ top s := (Finset.le_fold_max _).2 (Or.inr ⟨_, Finset.mem_univ _, le_rfl⟩)
    intro e; rw [e] at this; exact (h _).1 (le_bot_iff.1 this)
  · apply ne_of_lt
    exact (Finset.fold_max_lt _).2 ⟨bot_lt_top, fun k _ => lt_top_iff_ne_top.2 (h k).2⟩

/-- A score's weight: the exponential of its distance from the greatest score. -/
def wt (s : Fin n → EReal) (k : Fin n) : EReal := Ideal.exp (s k - top s)

/-- The sum of a row's weights. -/
def tot (s : Fin n → EReal) : EReal := ∑ k, wt s k

/-- The weighted sum of the values, not yet divided. -/
def acc (s v : Fin n → EReal) : EReal := ∑ k, wt s k * v k

/-- The softmax average: the weighted sum divided by the sum of the weights. -/
def avg (s v : Fin n → EReal) : EReal := Ideal.div (acc s v) (tot s)

/-- The weights of a row of finite scores are positive reals. -/
theorem wt_real (hn : 0 < n) {s : Fin n → EReal} (h : ∀ k, Fin' (s k)) :
    ∃ e : Fin n → ℝ, (∀ k, 0 < e k) ∧ ∀ k, wt s k = (e k : EReal) := by
  obtain ⟨r, hr⟩ := (top_fin hn h).lift
  choose a ha using fun k => (h k).lift
  refine ⟨fun k => Real.exp (a k - r), fun k => Real.exp_pos _, fun k => ?_⟩
  unfold wt
  rw [hr, ha k, ← EReal.coe_sub]; rfl

/-- So their sum is a positive real. -/
theorem tot_real (hn : 0 < n) {s : Fin n → EReal} (h : ∀ k, Fin' (s k)) : ∃ l : ℝ, 0 < l ∧ tot s = (l : EReal) := by
  obtain ⟨e, he, hw⟩ := wt_real hn h
  refine ⟨∑ k, e k, Finset.sum_pos (fun k _ => he k) ⟨⟨0, hn⟩, Finset.mem_univ _⟩, ?_⟩
  unfold tot
  rw [← coe_sum]; exact Finset.sum_congr rfl fun k _ => hw k

/-- A nonnegative real factor comes out of a sum of extended reals. -/
theorem sum_mul_coe {ι : Type} (t : Finset ι) (f : ι → EReal) {c : ℝ} (hc : 0 ≤ c) :
    ∑ i ∈ t, f i * (c : EReal) = (∑ i ∈ t, f i) * (c : EReal) := by
  classical
  induction t using Finset.induction_on with
  | empty => simp
  | insert a t ha ih =>
    rw [Finset.sum_insert ha, Finset.sum_insert ha, ih,
      EReal.right_distrib_of_nonneg_of_ne_top (by exact_mod_cast hc) (EReal.coe_ne_top c)]

/-- Averaging with the divided weights is dividing the weighted sum, whatever the values. -/
theorem sum_div (hn : 0 < n) {s : Fin n → EReal} (h : ∀ k, Fin' (s k)) (v : Fin n → EReal) :
    ∑ k, Ideal.div (wt s k) (tot s) * v k = avg s v := by
  obtain ⟨l, hl, ht⟩ := tot_real hn h
  unfold avg acc
  rw [ht, Ideal.div_coe hl.ne']
  rw [← sum_mul_coe _ _ (by positivity)]
  refine Finset.sum_congr rfl fun k _ => ?_
  rw [Ideal.div_coe hl.ne', mul_assoc, mul_assoc, mul_comm (v k)]

/-- The difference of two softmax averages, the second scaled: the weights may be combined first. -/
theorem sum_diff (hn : 0 < n) {s₁ s₂ v : Fin n → EReal} (h₁ : ∀ k, Fin' (s₁ k)) (h₂ : ∀ k, Fin' (s₂ k))
    (hv : ∀ k, Fin' (v k)) {lam : EReal} (hl : Fin' lam) :
    ∑ k, (Ideal.div (wt s₁ k) (tot s₁) - lam * Ideal.div (wt s₂ k) (tot s₂)) * v k = avg s₁ v - lam * avg s₂ v := by
  obtain ⟨l₁, hl₁, ht₁⟩ := tot_real hn h₁
  obtain ⟨l₂, hl₂, ht₂⟩ := tot_real hn h₂
  obtain ⟨e₁, _, hw₁⟩ := wt_real hn h₁
  obtain ⟨e₂, _, hw₂⟩ := wt_real hn h₂
  choose b hb using fun k => (hv k).lift
  obtain ⟨c, rfl⟩ := hl.lift
  unfold avg acc
  rw [ht₁, ht₂, Ideal.div_coe hl₁.ne', Ideal.div_coe hl₂.ne']
  have q₁ : ∀ k, wt s₁ k * v k = ((e₁ k * b k : ℝ) : EReal) := fun k => by rw [hw₁, hb, EReal.coe_mul]
  have q₂ : ∀ k, wt s₂ k * v k = ((e₂ k * b k : ℝ) : EReal) := fun k => by rw [hw₂, hb, EReal.coe_mul]
  have q : ∀ k, (Ideal.div (wt s₁ k) (l₁ : EReal) - (c : EReal) * Ideal.div (wt s₂ k) (l₂ : EReal)) * v k
      = (((e₁ k * (1 / l₁) - c * (e₂ k * (1 / l₂))) * b k : ℝ) : EReal) := fun k => by
    rw [Ideal.div_coe hl₁.ne', Ideal.div_coe hl₂.ne', hw₁, hw₂, hb]
    simp only [← EReal.coe_mul, ← EReal.coe_sub]
  simp only [q, q₁, q₂, coe_sum, ← EReal.coe_mul, ← EReal.coe_sub]
  congr 1
  rw [Finset.sum_mul, Finset.sum_mul, Finset.mul_sum, ← Finset.sum_sub_distrib]
  exact Finset.sum_congr rfl fun k _ => by ring

end Cert.Soft
end
-- ==== Proof.AVal.lean ====
/-
  The differential attention as mathematics over the extended reals: per batch entry, head and query, two softmax averages
  of the value rows (one for each half of the head's 128 lanes), their difference with a factor, and its normalization.
-/
module

public import proofs.«01_k».proof.Proof.Soft
public import Idealize.ShloMosaic.Lib.ValueIdx

@[expose] public section

noncomputable section

namespace Cert.AVal

open Idealize.ShloMosaic Idealize.ShloMosaic.ValueIdx
open scoped BigOperators

/-- An array of all tokens (8 batch entries of 4096) by all lanes (4 heads of 128). -/
abbrev Arr := (⟨2, ![32768, 512]⟩ : Shape).Idx → EReal

/-- The array row of token `s` of batch entry `b`. -/
abbrev row (b : Fin 8) (s : Fin 4096) : Fin 32768 := ⟨b.val * 4096 + s.val, by omega⟩
/-- The array column of lane `x` of head `h`. -/
abbrev col (h : Fin 4) (x : Fin 128) : Fin 512 := ⟨h.val * 128 + x.val, by omega⟩

/-- The factor of the second average: `exp (a·b) - exp (c·d) + 0.2`. -/
def lam (a b c d : Fin 64 → EReal) : EReal :=
  Ideal.exp (∑ k, a k * b k) - Ideal.exp (∑ k, c k * d k) + Ideal.ofBits .f32 0x3E4CCCCD#32

/-- A value of a row divided by the row's root mean square (with the small constant under the root), times a gain and 0.8. -/
def norm (o : Fin 128 → EReal) (g : Fin 128 → EReal) (d : Fin 128) : EReal :=
  o d * Ideal.rsqrt (Ideal.div (∑ k, o k * o k) (Ideal.ofBits .f32 0x43000000#32) + Ideal.ofBits .f32 0x358637BD#32)
    * g d * Ideal.ofBits .f32 0x3F4CCCCD#32

variable (q k v : Arr)

/-- The score of query `s` against key `t` over the 64 lanes of head `h` from `o` on. -/
def score (o : Nat) (ho : o + 64 ≤ 128) (b : Fin 8) (h : Fin 4) (s t : Fin 4096) : EReal :=
  ∑ x : Fin 64, q (ix2 (row b s) (col h ⟨o + x.val, by omega⟩)) * k (ix2 (row b t) (col h ⟨o + x.val, by omega⟩))

/-- The difference of the two softmax averages of lane `d` of the value rows. -/
def diff (l : EReal) (b : Fin 8) (h : Fin 4) (s : Fin 4096) (d : Fin 128) : EReal :=
  Soft.avg (score q k 0 (by omega) b h s) (fun t => v (ix2 (row b t) (col h d)))
    - l * Soft.avg (score q k 64 (by omega) b h s) (fun t => v (ix2 (row b t) (col h d)))

/-- One element of the attention's result. -/
def out (l : EReal) (g : Fin 128 → EReal) (b : Fin 8) (h : Fin 4) (s : Fin 4096) (d : Fin 128) : EReal :=
  norm (diff q k v l b h s) g d

end Cert.AVal
end
-- ==== Proof.ABlock.lean ====
/-
  What one block of the differential-attention kernel computes, read element by element: the two score rows of a query
  row (its first and its last 64 lanes against the key columns), their softmax averages of the value rows, and the
  normalized difference.
-/
module

public import proofs.«01_k».proof.Proof.AVal
public import proofs.«01_k».proof.Proof.Gen.KernelAIdeal.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace Cert.ABlock

open Cert.KernelAIdeal Cert.KernelAIdeal.Gen Idealize.ShloMosaic Idealize.ShloMosaic.ValueIdx
open Cert.AVal (lam)
open scoped BigOperators

variable (P0 : Vec Ideal S1x256x128 .bf16) (P1 : Vec Ideal S1x1x128x4096 .bf16) (P2 : Vec Ideal S1x4096x128 .bf16)

/-- The score of query row `r` against key column `c` over the 64 lanes from `o` on. -/
def score (o : Nat) (ho : o + 64 ≤ 128) (r : Fin 256) (c : Fin 4096) : EReal :=
  ∑ k : Fin 64, P0 (ix3 0 r ⟨o + k.val, by omega⟩) * P1 (ix4 0 0 ⟨o + k.val, by omega⟩ c)

/-- The queries with all lanes outside the 64 from `o` on set to zero. -/
def masked (p : CmpIPredicate) : FVec Ideal S256x128 .bf16 :=
  select (cmpi p (iota .tc S256x128 32 [1] iota_S256x128_d1_w32) (broadcast S256x128 64#32)) (k0_pay2 P0) (k0_pay5 (F := Ideal))

theorem pay2_apply (r : Fin 256) (k : Fin 128) : k0_pay2 P0 (ix2 r k) = P0 (ix3 0 r k) := by
  unfold k0_pay2; exact shapeCast_1ab_ab_apply _ _ _ _

theorem pay3_apply (k : Fin 128) (c : Fin 4096) : k0_pay3 P1 (ix2 k c) = P1 (ix4 0 0 k c) := by
  unfold k0_pay3
  refine shapeCast_apply _ _ _ _ ?_
  rw [Shape.rowMajor_val_four, Shape.rowMajor_val_two]; simp [ix4, ix2]

theorem pay4_apply (c : Fin 4096) (d : Fin 128) : k0_pay4 P2 (ix2 c d) = P2 (ix3 0 c d) := by
  unfold k0_pay4; exact shapeCast_1ab_ab_apply _ _ _ _

theorem slt_lane : ∀ k : Fin 128, IntOp.cmpi .slt (BitVec.ofNat 32 k.val) 64#32 = if k.val < 64 then 1#1 else 0#1 := by
  decide +kernel
theorem sge_lane : ∀ k : Fin 128, IntOp.cmpi .sge (BitVec.ofNat 32 k.val) 64#32 = if k.val < 64 then 0#1 else 1#1 := by
  decide +kernel

theorem masked_slt (r : Fin 256) (k : Fin 128) :
    masked P0 .slt (ix2 r k) = if k.val < 64 then P0 (ix3 0 r k) else 0 := by
  unfold masked
  rw [select_apply, ← pay2_apply P0 r k]
  have e : cmpi .slt (iota .tc S256x128 32 [1] iota_S256x128_d1_w32) (broadcast S256x128 64#32) (ix2 r k)
      = IntOp.cmpi .slt (BitVec.ofNat 32 k.val) 64#32 := by
    show IntOp.cmpi .slt (iota .tc S256x128 32 [1] iota_S256x128_d1_w32 (ix2 r k)) 64#32 = _
    rw [iota_single_apply]
  rw [e, slt_lane]
  split
  · rfl
  · rw [select_zero]; show Ideal.ofBits .bf16 0x0000#16 = 0
    simp [Ideal.ofBits, Ideal.ieee]

theorem masked_sge (r : Fin 256) (k : Fin 128) :
    masked P0 .sge (ix2 r k) = if k.val < 64 then 0 else P0 (ix3 0 r k) := by
  unfold masked
  rw [select_apply, ← pay2_apply P0 r k]
  have e : cmpi .sge (iota .tc S256x128 32 [1] iota_S256x128_d1_w32) (broadcast S256x128 64#32) (ix2 r k)
      = IntOp.cmpi .sge (BitVec.ofNat 32 k.val) 64#32 := by
    show IntOp.cmpi .sge (iota .tc S256x128 32 [1] iota_S256x128_d1_w32 (ix2 r k)) 64#32 = _
    rw [iota_single_apply]
  rw [e, sge_lane]
  split
  · rw [select_zero]; show Ideal.ofBits .bf16 0x0000#16 = 0
    simp [Ideal.ofBits, Ideal.ieee]
  · rfl

/-- The masked queries times the keys: the scores over the 64 lanes that are kept. -/
def scores (p : CmpIPredicate) : FVec Ideal S256x4096 .f32 :=
  FloatOps.matmul dot_S256x128_S128x4096_S256x4096_1_0_0_1_n_n none (masked P0 p) (k0_pay3 P1) (constant S256x4096 .f32 0x00000000#32)

theorem scores_apply (p : CmpIPredicate) (r : Fin 256) (c : Fin 4096) :
    scores P0 P1 p (ix2 r c) = ∑ k : Fin 128, masked P0 p (ix2 r k) * P1 (ix4 0 0 k c) := by
  unfold scores
  refine (Ideal.matmul_plain_apply none (masked P0 p) (k0_pay3 P1) (constant S256x4096 .f32 0x00000000#32) r c).trans ?_
  rw [show constant (F := Ideal) S256x4096 .f32 0x00000000#32 (ix2 r c) = 0 from Ideal.ofBits_zero_f32, zero_add]
  exact Finset.sum_congr rfl fun k _ => by rw [pay3_apply]

theorem scores_slt (r : Fin 256) (c : Fin 4096) : scores P0 P1 .slt (ix2 r c) = score P0 P1 0 (by omega) r c := by
  rw [scores_apply]
  refine (Fin.sum_univ_add (a := 64) (b := 64) _).trans ?_
  rw [Finset.sum_congr rfl (g := fun _ => (0 : EReal)) (s₁ := (Finset.univ : Finset (Fin 64))) (s₂ := Finset.univ)
    (f := fun i : Fin 64 => masked P0 .slt (ix2 r (Fin.natAdd 64 i)) * P1 (ix4 0 0 (Fin.natAdd 64 i) c))
    (fun i _ => by rw [masked_slt, if_neg (by simp), zero_mul])]
  rw [Finset.sum_const_zero, add_zero]
  refine Finset.sum_congr rfl fun i _ => ?_
  rw [masked_slt, if_pos (by simp)]
  have : (Fin.castAdd 64 i : Fin 128) = ⟨0 + i.val, by omega⟩ := Fin.ext (by simp)
  rw [this]

theorem scores_sge (r : Fin 256) (c : Fin 4096) : scores P0 P1 .sge (ix2 r c) = score P0 P1 64 (by omega) r c := by
  rw [scores_apply]
  refine (Fin.sum_univ_add (a := 64) (b := 64) _).trans ?_
  rw [Finset.sum_congr rfl (g := fun _ => (0 : EReal)) (s₁ := (Finset.univ : Finset (Fin 64))) (s₂ := Finset.univ)
    (f := fun i : Fin 64 => masked P0 .sge (ix2 r (Fin.castAdd 64 i)) * P1 (ix4 0 0 (Fin.castAdd 64 i) c))
    (fun i _ => by rw [masked_sge, if_pos (by simp), zero_mul])]
  rw [Finset.sum_const_zero, zero_add]
  refine Finset.sum_congr rfl fun i _ => ?_
  rw [masked_sge, if_neg (by simp)]
  rfl

/-- The row maximum, the exponentials and their sums of any matrix of scores are those of its rows. -/
theorem exp_row (S : FVec Ideal S256x4096 .f32) (r : Fin 256) (c : Fin 4096) :
    exp (subf S (broadcastTo S256x4096 (shapeCast S256x1 (multiReduction .maximumf [1] S256 S 0xFF800000#32 reduces_S256x4096_S256 (.inl rfl) rfl)
      shapeCasts_S256_S256x1) broadcasts_S256x1_S256x4096)) (ix2 r c) = Soft.wt (fun k => S (ix2 r k)) c := by
  refine congrArg (fun x => Ideal.exp (S (ix2 r c) - x)) ?_
  rw [broadcastTo_apply _ _ _ (ix2 r 0) (fun a => by fin_cases a <;> rfl), shapeCast_a_a1_apply]
  refine (Ideal.multiReduction_maximumf_single S _ _ _ rfl _).trans ?_
  unfold Soft.top
  have hb : Ideal.ofBits .f32 0xFF800000#32 = (⊥ : EReal) := by simp [Ideal.ofBits, Ideal.ieee]
  refine (congrArg₂ (fun b f => Finset.fold max b f Finset.univ) hb (funext fun k => ?_))
  refine congrArg S (funext fun a => ?_)
  fin_cases a <;> rfl

theorem pay6_apply (r : Fin 256) (c : Fin 4096) :
    k0_pay6 P0 P1 (ix2 r c) = Soft.wt (score P0 P1 0 (by omega) r) c := by
  refine (exp_row (scores P0 P1 .slt) r c).trans ?_
  simp only [scores_slt]
theorem pay9_apply (r : Fin 256) (c : Fin 4096) :
    k0_pay9 P0 P1 (ix2 r c) = Soft.wt (score P0 P1 64 (by omega) r) c := by
  refine (exp_row (scores P0 P1 .sge) r c).trans ?_
  simp only [scores_sge]

/-- A row sum of a score-shaped matrix. -/
theorem row_sum (S : FVec Ideal S256x4096 .f32) (r : Fin 256) :
    multiReduction .add [1] S256 S 0x00000000#32 reduces_S256x4096_S256 (.inl rfl) rfl (ix1 r) = ∑ c : Fin 4096, S (ix2 r c) := by
  refine (Ideal.multiReduction_add_single S _ _ _ rfl _).trans ?_
  refine Finset.sum_congr rfl fun k _ => congrArg S (funext fun a => ?_)
  fin_cases a <;> rfl

theorem pay8_apply (r : Fin 256) (d : Fin 128) :
    k0_pay8 P0 P1 P2 (ix2 r d) = Soft.acc (score P0 P1 0 (by omega) r) (fun c => P2 (ix3 0 c d)) := by
  refine (Ideal.matmul_plain_apply none (k0_pay6 P0 P1 : FVec Ideal S256x4096 .bf16) (k0_pay4 P2) (constant S256x128 .f32 0x00000000#32) r d).trans ?_
  rw [show constant (F := Ideal) S256x128 .f32 0x00000000#32 (ix2 r d) = 0 from Ideal.ofBits_zero_f32, zero_add]
  exact Finset.sum_congr rfl fun k _ => by rw [pay4_apply, pay6_apply]
theorem pay11_apply (r : Fin 256) (d : Fin 128) :
    k0_pay11 P0 P1 P2 (ix2 r d) = Soft.acc (score P0 P1 64 (by omega) r) (fun c => P2 (ix3 0 c d)) := by
  refine (Ideal.matmul_plain_apply none (k0_pay9 P0 P1 : FVec Ideal S256x4096 .bf16) (k0_pay4 P2) (constant S256x128 .f32 0x00000000#32) r d).trans ?_
  rw [show constant (F := Ideal) S256x128 .f32 0x00000000#32 (ix2 r d) = 0 from Ideal.ofBits_zero_f32, zero_add]
  exact Finset.sum_congr rfl fun k _ => by rw [pay4_apply, pay9_apply]

variable (P3 P4 P5 P6 : Vec Ideal S1x64 .f32) (P7 : Vec Ideal S1x128 .f32)

/-- The difference of the two averages at query row `r`, lane `d`. -/
def diffAt (l : EReal) (r : Fin 256) (d : Fin 128) : EReal :=
  Soft.avg (score P0 P1 0 (by omega) r) (fun c => P2 (ix3 0 c d)) - l * Soft.avg (score P0 P1 64 (by omega) r) (fun c => P2 (ix3 0 c d))

/-- The sum of the products of two rows, as the kernel forms it. -/
abbrev dotV (a b : Vec Ideal S1x64 .f32) : FVec Ideal S1 .f32 :=
  multiReduction .add [1] S1 (mulf (shapeCast S1x64 a shapeCasts_S1x64_S1x64) (shapeCast S1x64 b shapeCasts_S1x64_S1x64)) 0x00000000#32 reduces_S1x64_S1 (.inl rfl) rfl

/-- The factor as the kernel forms it, a matrix of one element. -/
abbrev lamV : FVec Ideal S1x1 .f32 :=
  (addf (subf (exp (shapeCast S1x1 (dotV P3 P4) shapeCasts_S1_S1x1)) (exp (shapeCast S1x1 (dotV P5 P6) shapeCasts_S1_S1x1))) (broadcast S1x1 (Scalar.ofBits .f32 0x3E4CCCCD#32)))

/-- The difference as the kernel forms it. -/
abbrev diffV : FVec Ideal S256x128 .f32 :=
  (subf (divf (k0_pay8 P0 P1 P2) (broadcastTo S256x128 (shapeCast S256x1 (multiReduction .add [1] S256 (k0_pay6 P0 P1) 0x00000000#32 reduces_S256x4096_S256 (.inl rfl) rfl) shapeCasts_S256_S256x1) broadcasts_S256x1_S256x128)) (mulf (broadcastTo S256x128 (lamV P3 P4 P5 P6) broadcasts_S1x1_S256x128) (divf (k0_pay11 P0 P1 P2) (broadcastTo S256x128 (shapeCast S256x1 (multiReduction .add [1] S256 (k0_pay9 P0 P1) 0x00000000#32 reduces_S256x4096_S256 (.inl rfl) rfl) shapeCasts_S256_S256x1) broadcasts_S256x1_S256x128))))

theorem tot1 (r : Fin 256) : multiReduction .add [1] S256 (k0_pay6 P0 P1) 0x00000000#32 reduces_S256x4096_S256 (.inl rfl) rfl (ix1 r)
    = Soft.tot (score P0 P1 0 (by omega) r) :=
  (row_sum _ r).trans (Finset.sum_congr rfl fun c _ => pay6_apply P0 P1 r c)
theorem tot2 (r : Fin 256) : multiReduction .add [1] S256 (k0_pay9 P0 P1) 0x00000000#32 reduces_S256x4096_S256 (.inl rfl) rfl (ix1 r)
    = Soft.tot (score P0 P1 64 (by omega) r) :=
  (row_sum _ r).trans (Finset.sum_congr rfl fun c _ => pay9_apply P0 P1 r c)

theorem dot64 (a b : Vec Ideal S1x64 .f32) : dotV a b (ix1 0)
    = ∑ k : Fin 64, a (ix2 0 k) * b (ix2 0 k) := by
  unfold dotV
  rw [shapeCast_self, shapeCast_self]
  refine (Ideal.multiReduction_add_single (mulf a b : FVec Ideal S1x64 .f32) _ _ _ rfl _).trans ?_
  refine Finset.sum_congr rfl fun k _ => congrArg (mulf a b : FVec Ideal S1x64 .f32) (funext fun x => ?_)
  fin_cases x <;> rfl

/-- The factor from the rows the block holds. -/
abbrev lamP : EReal := lam (fun k => P3 (ix2 0 k)) (fun k => P4 (ix2 0 k)) (fun k => P5 (ix2 0 k)) (fun k => P6 (ix2 0 k))

theorem lamV_apply : lamV P3 P4 P5 P6 (ix2 0 0) = lamP P3 P4 P5 P6 := by
  unfold lamP lam
  rw [← dot64, ← dot64]
  refine congrArg₂ (fun x y => Ideal.exp x - Ideal.exp y + Ideal.ofBits .f32 0x3E4CCCCD#32) ?_ ?_
  · exact shapeCast_a_a1_apply _ _ _ _
  · exact shapeCast_a_a1_apply _ _ _ _

theorem diffV_apply (r : Fin 256) (d : Fin 128) :
    diffV P0 P1 P2 P3 P4 P5 P6 (ix2 r d) = diffAt P0 P1 P2 (lamP P3 P4 P5 P6) r d := by
  unfold diffAt Soft.avg
  rw [← pay8_apply, ← pay11_apply, ← tot1, ← tot2, ← lamV_apply]
  refine congrArg₂ (fun x y => Ideal.div (k0_pay8 P0 P1 P2 (ix2 r d)) x - y) ?_ (congrArg₂ (fun x y => x * Ideal.div (k0_pay11 P0 P1 P2 (ix2 r d)) y) ?_ ?_)
  · rw [broadcastTo_apply _ _ _ (ix2 r 0) (fun a => by fin_cases a <;> rfl), shapeCast_a_a1_apply]
  · rw [broadcastTo_apply _ _ _ (ix2 0 0) (fun a => by fin_cases a <;> rfl)]
  · rw [broadcastTo_apply _ _ _ (ix2 r 0) (fun a => by fin_cases a <;> rfl), shapeCast_a_a1_apply]

theorem sq_sum (S : FVec Ideal S256x128 .f32) (r : Fin 256) :
    multiReduction .add [1] S256 (mulf S S) 0x00000000#32 reduces_S256x128_S256 (.inl rfl) rfl (ix1 r) = ∑ k : Fin 128, S (ix2 r k) * S (ix2 r k) := by
  refine (Ideal.multiReduction_add_single (mulf S S) _ _ _ rfl _).trans ?_
  refine Finset.sum_congr rfl fun k _ => congrArg (mulf S S) (funext fun x => ?_)
  fin_cases x <;> rfl

/-- One element of the block the kernel leaves: the normalized difference of the two averages. -/
theorem block_apply (r : Fin 256) (d : Fin 128) :
    Value.E8 P0 P1 P2 P3 P4 P5 P6 P7 (ix3 0 r d)
      = AVal.norm (diffAt P0 P1 P2 (lamP P3 P4 P5 P6) r) (fun k => P7 (ix2 0 k)) d := by
  have i0 : Value.ix8_0 (ix3 0 r d) = ix2 r d := funext fun a => by fin_cases a <;> rfl
  have i1 : Value.ix8_1 (ix3 0 r d) = ix1 r := funext fun a => by fin_cases a; rfl
  have i2 : Value.ix8_2 (ix3 0 r d) = ix1 0 := funext fun a => by fin_cases a; rfl
  have i3 : Value.ix8_3 (ix3 0 r d) = ix1 0 := funext fun a => by fin_cases a; rfl
  have i4 : Value.ix8_4 (ix3 0 r d) = ix2 r d := funext fun a => by fin_cases a <;> rfl
  have i5 : Value.ix8_5 (ix3 0 r d) = ix1 r := funext fun a => by fin_cases a; rfl
  have i6 : Value.ix8_6 (ix3 0 r d) = ix1 r := funext fun a => by fin_cases a; rfl
  have i7 : Value.ix8_7 (ix3 0 r d) = ix2 0 d := funext fun a => by fin_cases a <;> rfl
  have hs := sq_sum (diffV P0 P1 P2 P3 P4 P5 P6) r
  unfold AVal.norm
  simp only [← diffV_apply]
  rw [← hs]
  have hd : diffV P0 P1 P2 P3 P4 P5 P6 (ix2 r d) = Ideal.div (k0_pay8 P0 P1 P2 (ix2 r d)) (multiReduction .add [1] S256 (k0_pay6 P0 P1) 0x00000000#32 reduces_S256x4096_S256 (.inl rfl) rfl (ix1 r))
      - (Ideal.exp (dotV P3 P4 (ix1 0))
          - Ideal.exp (dotV P5 P6 (ix1 0))
          + Ideal.ofBits .f32 0x3E4CCCCD#32)
        * Ideal.div (k0_pay11 P0 P1 P2 (ix2 r d)) (multiReduction .add [1] S256 (k0_pay9 P0 P1) 0x00000000#32 reduces_S256x4096_S256 (.inl rfl) rfl (ix1 r)) := by
    rw [diffV_apply]; unfold diffAt Soft.avg lamP lam
    rw [← pay8_apply, ← pay11_apply, ← tot1, ← tot2, ← dot64, ← dot64]
  rw [hd]
  show _ = _
  dsimp only [Value.E8]
  rw [i0, i1, i2, i3, i4, i5, i6, i7]
  rfl

end Cert.ABlock
end
-- ==== Proof.AArr.lean ====
/-
  The array the differential-attention kernel leaves: every element is the attention's value of the arguments.
-/
module

public import proofs.«01_k».proof.Proof.ABlock

@[expose] public section

noncomputable section

namespace Cert.AArr

open Cert.KernelAIdeal Cert.KernelAIdeal.Gen Idealize.ShloMosaic Idealize.ShloMosaic.TcCoe Idealize.ShloMosaic.ValueIdx
open Cert.AVal (row col)
open scoped BigOperators

variable (m : (ℓ : Loc nD τ sig) → Buf (Elt Ideal) ℓ) (c : Dev nD)

/-! ## The arrays the grid reads, in terms of the arguments -/

/-- Token `s` of batch entry `b` is array row `4096 b + s`. -/
theorem tok_apply (u : Vec Ideal S32768x512 .bf16) (b : Fin 8) (s : Fin 4096) (x : Fin 512) :
    shapeCast S8x4096x512 u shapeCasts_S32768x512_S8x4096x512 (ix3 b s x) = u (ix2 (row b s) x) := by
  refine shapeCast_apply _ _ _ _ ?_
  rw [Shape.rowMajor_val_two, Shape.rowMajor_val_three]; simp [ix3, ix2]
/-- The same with the columns split in heads. -/
theorem head_apply (u : Vec Ideal S32768x512 .bf16) (b : Fin 8) (s : Fin 4096) (h : Fin 4) (x : Fin 128) :
    shapeCast S8x4096x4x128 u shapeCasts_S32768x512_S8x4096x4x128 (ix4 b s h x) = u (ix2 (row b s) (col h x)) := by
  refine shapeCast_apply _ _ _ _ ?_
  rw [Shape.rowMajor_val_two, Shape.rowMajor_val_four]; simp [ix4, ix2]; omega

/-- The queries, token by token. -/
theorem V12_apply (b : Fin 8) (s : Fin 4096) (x : Fin 512) :
    V m c main_v12 (ix3 b s x) = m ((c : Thread nD τ).loc main_arg5) (ix2 (row b s) x) :=
  tok_apply (m ((c : Thread nD τ).loc main_arg5)) b s x

/-- The values, token by token. -/
theorem V13_apply (b : Fin 8) (s : Fin 4096) (x : Fin 512) :
    V m c main_v13 (ix3 b s x) = m ((c : Thread nD τ).loc main_arg7) (ix2 (row b s) x) :=
  tok_apply (m ((c : Thread nD τ).loc main_arg7)) b s x

/-- The keys, transposed per head. -/
theorem V1_apply (b : Fin 8) (h : Fin 4) (x : Fin 128) (s : Fin 4096) :
    V m c main_v1 (ix4 b h x s) = m ((c : Thread nD τ).loc main_arg6) (ix2 (row b s) (col h x)) :=
  head_apply (m ((c : Thread nD τ).loc main_arg6)) b s h x

/-- A row of 64 reshaped to a vector and broadcast back to a row is the row. -/
theorem row64 (u : Vec Ideal S1x64 .f32) (x : Fin 64) :
    broadcastInDim S1x64 ![1] bcast_S64_S1x64_1 (shapeCast S64 u shapeCasts_S1x64_S64) (ix2 0 x) = u (ix2 0 x) := by
  refine (shapeCast_apply u shapeCasts_S1x64_S64 (ix1 x) (ix2 0 x) ?_)
  rw [Shape.rowMajor_val_two, Shape.rowMajor_val_one]; simp [ix1, ix2]
theorem row128 (u : Vec Ideal S1x128 .f32) (x : Fin 128) :
    broadcastInDim S1x128 ![1] bcast_S128_S1x128_1 (shapeCast S128 u shapeCasts_S1x128_S128) (ix2 0 x) = u (ix2 0 x) := by
  refine (shapeCast_apply u shapeCasts_S1x128_S128 (ix1 x) (ix2 0 x) ?_)
  rw [Shape.rowMajor_val_two, Shape.rowMajor_val_one]; simp [ix1, ix2]

/-! ## The blocks at a grid point -/

/-- The batch entry, head and query tile of a grid point. -/
abbrev bOf (t : Fin cfg0.N) : Fin 8 := ⟨t.val / 64, by have h : t.val < 512 := t.isLt; omega⟩
abbrev hOf (t : Fin cfg0.N) : Fin 4 := ⟨t.val / 16 % 4, by omega⟩
abbrev sOf (t : Fin cfg0.N) (r : Fin 256) : Fin 4096 := ⟨t.val % 16 * 256 + r.val, by omega⟩

theorem ind5 : ∀ t : Fin cfg0.N, ((cfg0.win 5).index t 0 = t.val / 64 ∧ (cfg0.win 5).index t 1 = t.val % 16) ∧ (cfg0.win 5).index t 2 = t.val / 16 % 4 := by
  decide +kernel

theorem blk5 (t : Fin cfg0.N) (r : Fin 256) (x : Fin 128) :
    iblk m c 5 t (ix3 0 r x) = m ((c : Thread nD τ).loc main_arg5) (ix2 (row (bOf t) (sOf t r)) (col (hOf t) x)) := by
  rw [← V12_apply m c (bOf t) (sOf t r) (col (hOf t) x)]
  show V m c main_v12 _ = _
  refine congrArg (V m c main_v12) (funext fun a => Fin.ext ?_)
  have e := ind5 t
  fin_cases a
  · show (cfg0.win 5).index t 0 * 1 + 1 * 0 = t.val / 64
    omega
  · show (cfg0.win 5).index t 1 * 256 + 1 * r.val = t.val % 16 * 256 + r.val
    omega
  · show (cfg0.win 5).index t 2 * 128 + 1 * x.val = t.val / 16 % 4 * 128 + x.val
    omega

theorem ind6 : ∀ t : Fin cfg0.N, ((cfg0.win 6).index t 0 = t.val / 64 ∧ (cfg0.win 6).index t 1 = t.val / 16 % 4) ∧ (cfg0.win 6).index t 2 = 0 ∧ (cfg0.win 6).index t 3 = 0 := by
  decide +kernel

theorem blk6 (t : Fin cfg0.N) (x : Fin 128) (s : Fin 4096) :
    iblk m c 6 t (ix4 0 0 x s) = m ((c : Thread nD τ).loc main_arg6) (ix2 (row (bOf t) s) (col (hOf t) x)) := by
  rw [← V1_apply m c (bOf t) (hOf t) x s]
  show V m c main_v1 _ = _
  refine congrArg (V m c main_v1) (funext fun a => Fin.ext ?_)
  have e := ind6 t
  fin_cases a
  · show (cfg0.win 6).index t 0 * 1 + 1 * 0 = t.val / 64
    omega
  · show (cfg0.win 6).index t 1 * 1 + 1 * 0 = t.val / 16 % 4
    omega
  · show (cfg0.win 6).index t 2 * 128 + 1 * x.val = x.val
    omega
  · show (cfg0.win 6).index t 3 * 4096 + 1 * s.val = s.val
    omega

theorem ind7 : ∀ t : Fin cfg0.N, ((cfg0.win 7).index t 0 = t.val / 64 ∧ (cfg0.win 7).index t 1 = 0) ∧ (cfg0.win 7).index t 2 = t.val / 16 % 4 := by
  decide +kernel

theorem blk7 (t : Fin cfg0.N) (s : Fin 4096) (x : Fin 128) :
    iblk m c 7 t (ix3 0 s x) = m ((c : Thread nD τ).loc main_arg7) (ix2 (row (bOf t) s) (col (hOf t) x)) := by
  rw [← V13_apply m c (bOf t) s (col (hOf t) x)]
  show V m c main_v13 _ = _
  refine congrArg (V m c main_v13) (funext fun a => Fin.ext ?_)
  have e := ind7 t
  fin_cases a
  · show (cfg0.win 7).index t 0 * 1 + 1 * 0 = t.val / 64
    omega
  · show (cfg0.win 7).index t 1 * 4096 + 1 * s.val = s.val
    omega
  · show (cfg0.win 7).index t 2 * 128 + 1 * x.val = t.val / 16 % 4 * 128 + x.val
    omega

theorem blk0 (t : Fin cfg0.N) (x : Fin 64) : iblk m c 0 t (ix2 0 x) = m ((c : Thread nD τ).loc main_arg0) (ix2 0 x) := by
  rw [← row64 (m ((c : Thread nD τ).loc main_arg0)) x]
  show V m c main_v3 _ = V m c main_v3 _
  refine congrArg (V m c main_v3) (funext fun a => Fin.ext ?_)
  fin_cases a
  · rfl
  · show 0 * 64 + 1 * x.val = x.val
    omega

theorem blk1 (t : Fin cfg0.N) (x : Fin 64) : iblk m c 1 t (ix2 0 x) = m ((c : Thread nD τ).loc main_arg1) (ix2 0 x) := by
  rw [← row64 (m ((c : Thread nD τ).loc main_arg1)) x]
  show V m c main_v5 _ = V m c main_v5 _
  refine congrArg (V m c main_v5) (funext fun a => Fin.ext ?_)
  fin_cases a
  · rfl
  · show 0 * 64 + 1 * x.val = x.val
    omega

theorem blk2 (t : Fin cfg0.N) (x : Fin 64) : iblk m c 2 t (ix2 0 x) = m ((c : Thread nD τ).loc main_arg2) (ix2 0 x) := by
  rw [← row64 (m ((c : Thread nD τ).loc main_arg2)) x]
  show V m c main_v7 _ = V m c main_v7 _
  refine congrArg (V m c main_v7) (funext fun a => Fin.ext ?_)
  fin_cases a
  · rfl
  · show 0 * 64 + 1 * x.val = x.val
    omega

theorem blk3 (t : Fin cfg0.N) (x : Fin 64) : iblk m c 3 t (ix2 0 x) = m ((c : Thread nD τ).loc main_arg3) (ix2 0 x) := by
  rw [← row64 (m ((c : Thread nD τ).loc main_arg3)) x]
  show V m c main_v9 _ = V m c main_v9 _
  refine congrArg (V m c main_v9) (funext fun a => Fin.ext ?_)
  fin_cases a
  · rfl
  · show 0 * 64 + 1 * x.val = x.val
    omega

theorem blk4 (t : Fin cfg0.N) (x : Fin 128) : iblk m c 4 t (ix2 0 x) = m ((c : Thread nD τ).loc main_arg4) (ix2 0 x) := by
  rw [← row128 (m ((c : Thread nD τ).loc main_arg4)) x]
  show V m c main_v11 _ = V m c main_v11 _
  refine congrArg (V m c main_v11) (funext fun a => Fin.ext ?_)
  fin_cases a
  · rfl
  · show 0 * 128 + 1 * x.val = x.val
    omega

/-! ## The array after the run -/

/-- The factor of the second average, of the arguments. -/
abbrev lamM : EReal := AVal.lam (fun x => m ((c : Thread nD τ).loc main_arg0) (ix2 0 x)) (fun x => m ((c : Thread nD τ).loc main_arg1) (ix2 0 x))
  (fun x => m ((c : Thread nD τ).loc main_arg2) (ix2 0 x)) (fun x => m ((c : Thread nD τ).loc main_arg3) (ix2 0 x))

/-- The attention's value of the arguments at batch entry `b`, token `s`, head `h`, lane `d`. -/
abbrev outM (b : Fin 8) (h : Fin 4) (s : Fin 4096) (d : Fin 128) : EReal :=
  AVal.out (m ((c : Thread nD τ).loc main_arg5)) (m ((c : Thread nD τ).loc main_arg6)) (m ((c : Thread nD τ).loc main_arg7)) (lamM m c)
    (fun x => m ((c : Thread nD τ).loc main_arg4) (ix2 0 x)) b h s d

/-- What the result array is shown to hold. -/
def G : Buf (Elt Ideal) ((c : Thread nD τ).loc main_v14) := fun i : S8x4096x512.Idx =>
  outM m c (i 0) ⟨(i 2).val / 128, by have h : (i 2).val < 512 := (i 2).isLt; omega⟩ (i 1) ⟨(i 2).val % 128, by omega⟩

theorem ind8 : ∀ t : Fin cfg0.N, ((cfg0.win 8).index t 0 = t.val / 64 ∧ (cfg0.win 8).index t 1 = t.val % 16) ∧ (cfg0.win 8).index t 2 = t.val / 16 % 4 := by
  decide +kernel

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! The body's loads take the whole staged blocks. -/
theorem ld_q (X : Vec Ideal S1x256x128 .bf16) : View.ld X r0_0 = X := View.ld_unit_zero (S := S1x256x128) hz3 _ X
theorem ld_k (X : Vec Ideal S1x1x128x4096 .bf16) : View.ld X r0_1 = X := View.ld_unit_zero (S := S1x1x128x4096) hz4 _ X
theorem ld_v (X : Vec Ideal S1x4096x128 .bf16) : View.ld X r0_2 = X := View.ld_unit_zero (S := S1x4096x128) hz3 _ X
theorem ld_l (X : Vec Ideal S1x64 .f32) : View.ld X r0_3 = X := View.ld_unit_zero (S := S1x64) hz2 _ X
theorem ld_g (X : Vec Ideal S1x128 .f32) : View.ld X r0_4 = X := View.ld_unit_zero (S := S1x128) hz2 _ X

/-- The scores of a block are the scores of the arguments. -/
theorem score_blk (t : Fin cfg0.N) (o : Nat) (ho : o + 64 ≤ 128) (r : Fin 256) :
    ABlock.score (iblk m c 5 t) (iblk m c 6 t) o ho r
      = AVal.score (m ((c : Thread nD τ).loc main_arg5)) (m ((c : Thread nD τ).loc main_arg6)) o ho (bOf t) (hOf t) (sOf t r) := by
  funext s
  refine Finset.sum_congr rfl fun x _ => ?_
  rw [blk5, blk6]

/-- The block a grid point leaves, element by element. -/
theorem out_blk (t : Fin cfg0.N) (r : Fin 256) (d : Fin 128) :
    out0_8 (iblk m c 0 t) (iblk m c 1 t) (iblk m c 2 t) (iblk m c 3 t) (iblk m c 4 t) (iblk m c 5 t) (iblk m c 6 t) (iblk m c 7 t) (ix3 0 r d)
      = outM m c (bOf t) (hOf t) (sOf t r) d := by
  unfold out0_8
  rw [Value.canon8_eq]
  rw [ld_q, ld_k, ld_v, ld_l, ld_l, ld_l, ld_l, ld_g, ABlock.block_apply]
  unfold ABlock.lamP
  simp only [blk0, blk1, blk2, blk3, blk4]
  show AVal.norm _ _ _ = AVal.norm _ _ _
  refine congrArg (fun f => AVal.norm f _ d) (funext fun e => ?_)
  unfold ABlock.diffAt AVal.diff
  rw [score_blk, score_blk]
  simp only [blk7]

theorem flushed_eq (t : Fin cfg0.N) :
    (dats m 0 c).flushed 8 t = ((cfg0.win 8).blk t).view.read (Elt Ideal) (G m c) := by
  rw [Value.flushed8]
  suffices H : ∀ r d, out0_8 (iblk m c 0 t) (iblk m c 1 t) (iblk m c 2 t) (iblk m c 3 t) (iblk m c 4 t) (iblk m c 5 t) (iblk m c 6 t) (iblk m c 7 t) (ix3 0 r d)
      = ((cfg0.win 8).blk t).view.read (Elt Ideal) (G m c) (ix3 0 r d) by
    funext y
    have hy : y = ix3 (n0 := 1) (n1 := 256) (n2 := 128) 0 (y 1) (y 2) := (eq_ix3 y).trans (congrArg (fun z => ix3 z (y 1) (y 2)) (Subsingleton.elim (α := Fin 1) _ _))
    rw [hy]
    exact H (y 1) (y 2)
  intro r d
  refine (out_blk m c t r d).trans ?_
  have e := ind8 t
  have hi : ∀ i : S8x4096x512.Idx, (i 0).val = (bOf t).val → (i 1).val = (sOf t r).val → (i 2).val = (hOf t).val * 128 + d.val →
      outM m c (bOf t) (hOf t) (sOf t r) d = G m c i := by
    intro i h0 h1 h2
    unfold G
    have e0 : i 0 = bOf t := Fin.ext h0
    have e1 : i 1 = sOf t r := Fin.ext h1
    have e2 : (⟨(i 2).val / 128, by have h : (i 2).val < 512 := (i 2).isLt; omega⟩ : Fin 4) = hOf t := Fin.ext (by show (i 2).val / 128 = (hOf t).val; omega)
    have e3 : (⟨(i 2).val % 128, by omega⟩ : Fin 128) = d := Fin.ext (by show (i 2).val % 128 = d.val; omega)
    rw [e0, e1, e2, e3]
  refine hi _ ?_ ?_ ?_
  · show (cfg0.win 8).index t 0 * 1 + 1 * 0 = t.val / 64
    omega
  · show (cfg0.win 8).index t 1 * 256 + 1 * r.val = t.val % 16 * 256 + r.val
    omega
  · show (cfg0.win 8).index t 2 * 128 + 1 * d.val = t.val / 16 % 4 * 128 + d.val
    omega

/-- The output blocks tile the array. -/
theorem cover (i : S8x4096x512.Idx) : ∃ t : Fin cfg0.N, (cfg0.win 8).flush t = true ∧ i ∈ ((cfg0.win 8).blk t).view.set := by
  have h0 : (i 0).val < 8 := (i 0).isLt
  have h1 : (i 1).val < 4096 := (i 1).isLt
  have h2 : (i 2).val < 512 := (i 2).isLt
  refine ⟨⟨(i 0).val * 64 + (i 2).val / 128 * 16 + (i 1).val / 256, by show _ < 512; omega⟩, flush0_8 _, ?_⟩
  generalize ht : (⟨(i 0).val * 64 + (i 2).val / 128 * 16 + (i 1).val / 256, _⟩ : Fin cfg0.N) = t
  have hv : t.val = (i 0).val * 64 + (i 2).val / 128 * 16 + (i 1).val / 256 := by rw [← ht]
  have e := ind8 t
  show i ∈ ((View.whole main_v14).slice (win0_8.rect t)).set
  rw [View.set_slice_whole, Rect.mem_set_unit]
  intro a
  fin_cases a
  · show (cfg0.win 8).index t 0 * 1 ≤ (i 0).val ∧ (i 0).val < (cfg0.win 8).index t 0 * 1 + 1
    omega
  · show (cfg0.win 8).index t 1 * 256 ≤ (i 1).val ∧ (i 1).val < (cfg0.win 8).index t 1 * 256 + 256
    omega
  · show (cfg0.win 8).index t 2 * 128 ≤ (i 2).val ∧ (i 2).val < (cfg0.win 8).index t 2 * 128 + 128
    omega

/-- After the run the result array holds the attention's value of the arguments. -/
theorem final : (dats m 0 c).arrAt 8 cfg0.N = G m c :=
  (dats m 0 c).arrAt_eq_of_cover 8 (G m c) (fun t _ => flushed_eq m c t) cover

end Cert.AArr
end
-- ==== Proof.ARef.lean ====
/-
  The differential attention's reference, read element by element.
-/
module

public import proofs.«01_k».proof.Proof.AVal
public import proofs.«01_k».proof.Proof.Gen.ReferenceAIdeal.Read
public import Idealize.ShloMosaic.Lib.ValueLayout
public import Idealize.ShloMosaic.Lib.ValueLayoutCasts

@[expose] public section

noncomputable section

namespace Cert.ARef

open Cert.ReferenceAIdeal Cert.ReferenceAIdeal.Gen Cert.ReferenceAIdeal.Read Idealize.ShloMosaic Idealize.ShloMosaic.TcCoe Idealize.ShloMosaic.ValueIdx
open Cert.AVal (row col)
open scoped BigOperators

variable (x0 x1 x2 x3 : (⟨S1x64, .f32⟩ : BufTy).Contents (Elt Ideal)) (x4 : (⟨S1x128, .f32⟩ : BufTy).Contents (Elt Ideal))
  (q k v : (⟨S32768x512, .bf16⟩ : BufTy).Contents (Elt Ideal))

/-- Lane `x` of half `e` of a head's 128 lanes. -/
abbrev lane (e : Fin 2) (x : Fin 64) : Fin 128 := ⟨64 * e.val + x.val, by omega⟩

theorem q_apply (e : Fin 2) (b : Fin 8) (h : Fin 4) (s : Fin 4096) (x : Fin 64) :
    val_main_v2 (F := Ideal) q (ix5 e b h s x) = q (ix2 (row b s) (col h (lane e x))) := by
  rw [val_main_v2_apply, val_main_v1_apply, val_main_v0_apply]
  refine congrArg q (funext fun a => Fin.ext ?_)
  fin_cases a
  · show ((((b.val * 4096 + s.val) * 4 + h.val) * 2 + e.val) * 64 + x.val) / 512 = b.val * 4096 + s.val
    omega
  · show ((((b.val * 4096 + s.val) * 4 + h.val) * 2 + e.val) * 64 + x.val) % 512 = h.val * 128 + (64 * e.val + x.val)
    omega
theorem k_apply (e : Fin 2) (b : Fin 8) (h : Fin 4) (s : Fin 4096) (x : Fin 64) :
    val_main_v5 (F := Ideal) k (ix5 e b h s x) = k (ix2 (row b s) (col h (lane e x))) := q_apply k e b h s x
theorem v_apply (b : Fin 8) (h : Fin 4) (s : Fin 4096) (x : Fin 128) :
    val_main_v8 (F := Ideal) v (ix4 b h s x) = v (ix2 (row b s) (col h x)) := by
  rw [val_main_v8_apply, val_main_v7_apply, val_main_v6_apply]
  refine congrArg v (funext fun a => Fin.ext ?_)
  fin_cases a
  · show (((b.val * 4096 + s.val) * 4 + h.val) * 128 + x.val) / 512 = b.val * 4096 + s.val
    omega
  · show (((b.val * 4096 + s.val) * 4 + h.val) * 128 + x.val) % 512 = h.val * 128 + x.val
    omega

theorem half0 (b : Fin 8) (h : Fin 4) (s : Fin 4096) (x : Fin 64) : idx_main_v21 (idx_main_v22 (ix4 b h s x)) = ix5 0 b h s x := by
  funext a
  apply Fin.ext
  fin_cases a
  · rfl
  · show (((b.val * 4 + h.val) * 4096 + s.val) * 64 + x.val) / 1048576 % 8 = b.val
    omega
  · show (((b.val * 4 + h.val) * 4096 + s.val) * 64 + x.val) / 262144 % 4 = h.val
    omega
  · show (((b.val * 4 + h.val) * 4096 + s.val) * 64 + x.val) / 64 % 4096 = s.val
    omega
  · show (((b.val * 4 + h.val) * 4096 + s.val) * 64 + x.val) % 64 = x.val
    omega
theorem qh0 (b : Fin 8) (h : Fin 4) (s : Fin 4096) (x : Fin 64) :
    val_main_v22 (F := Ideal) q (ix4 b h s x) = q (ix2 (row b s) (col h (lane 0 x))) := by
  rw [val_main_v22_apply, val_main_v21_apply, half0, q_apply]
theorem kh0 (b : Fin 8) (h : Fin 4) (s : Fin 4096) (x : Fin 64) :
    val_main_v24 (F := Ideal) k (ix4 b h s x) = k (ix2 (row b s) (col h (lane 0 x))) := qh0 k b h s x

/-- The scores over the first 64 lanes of a head. -/
theorem score0 (b : Fin 8) (h : Fin 4) (s t : Fin 4096) :
    val_main_v25 (F := Ideal) q k (ix4 b h s t) = AVal.score q k 0 (by omega) b h s t := by
  rw [val_main_v25_apply]
  refine Finset.sum_congr rfl fun x _ => ?_
  have hl : lidx_main_v25 (ix4 b h s t) x = ix4 b h s x := by funext a; fin_cases a <;> rfl
  have hr : ridx_main_v25 (ix4 b h s t) x = ix4 b h t x := by funext a; fin_cases a <;> rfl
  rw [hl, hr, qh0, kh0]
  rfl

theorem half1 (b : Fin 8) (h : Fin 4) (s : Fin 4096) (x : Fin 64) : idx_main_v26 (idx_main_v27 (ix4 b h s x)) = ix5 1 b h s x := by
  funext a
  apply Fin.ext
  fin_cases a
  · rfl
  · show (((b.val * 4 + h.val) * 4096 + s.val) * 64 + x.val) / 1048576 % 8 = b.val
    omega
  · show (((b.val * 4 + h.val) * 4096 + s.val) * 64 + x.val) / 262144 % 4 = h.val
    omega
  · show (((b.val * 4 + h.val) * 4096 + s.val) * 64 + x.val) / 64 % 4096 = s.val
    omega
  · show (((b.val * 4 + h.val) * 4096 + s.val) * 64 + x.val) % 64 = x.val
    omega
theorem qh1 (b : Fin 8) (h : Fin 4) (s : Fin 4096) (x : Fin 64) :
    val_main_v27 (F := Ideal) q (ix4 b h s x) = q (ix2 (row b s) (col h (lane 1 x))) := by
  rw [val_main_v27_apply, val_main_v26_apply, half1, q_apply]
theorem kh1 (b : Fin 8) (h : Fin 4) (s : Fin 4096) (x : Fin 64) :
    val_main_v29 (F := Ideal) k (ix4 b h s x) = k (ix2 (row b s) (col h (lane 1 x))) := qh1 k b h s x

/-- The scores over the last 64 lanes of a head. -/
theorem score1 (b : Fin 8) (h : Fin 4) (s t : Fin 4096) :
    val_main_v30 (F := Ideal) q k (ix4 b h s t) = AVal.score q k 64 (by omega) b h s t := by
  rw [val_main_v30_apply]
  refine Finset.sum_congr rfl fun x _ => ?_
  have hl : lidx_main_v30 (ix4 b h s t) x = ix4 b h s x := by funext a; fin_cases a <;> rfl
  have hr : ridx_main_v30 (ix4 b h s t) x = ix4 b h t x := by funext a; fin_cases a <;> rfl
  rw [hl, hr, qh1, kh1]
  rfl

theorem neg_inf : FloatOps.ofBits (F := Ideal) .f32 0xFF800000#32 = (⊥ : EReal) := by
  show Ideal.ofBits .f32 0xFF800000#32 = ⊥
  simp [Ideal.ofBits, Ideal.ieee]

/-- A sum that starts at the zero constant is the sum. -/
theorem zero_sum (z : EReal) (hz : z = FloatOps.ofBits (F := Ideal) .f32 0x00000000#32) (x : EReal) : z + x = x := by
  rw [hz]
  show Ideal.ofBits .f32 0x00000000#32 + x = x
  rw [Ideal.ofBits_zero_f32, zero_add]

/-- The largest element of a row, started at minus infinity. -/
theorem max_row (y : (⟨S8x4x4096x4096, .f32⟩ : BufTy).Contents (Elt Ideal)) (z : (⟨S_, .f32⟩ : BufTy).Contents (Elt Ideal))
    (hz : z (Shape.Idx.first h_S_) = FloatOps.ofBits (F := Ideal) .f32 0xFF800000#32) (b : Fin 8) (h : Fin 4) (s : Fin 4096) :
    Host.reduce (FloatOps.maximumf (F := Ideal) (φ := .f32)) y z reducesTo_S8x4x4096x4096_S8x4x4096_d3 h_S_ (ix3 b h s) = Soft.top fun t => y (ix4 b h s t) := by
  refine (Host.reduce_eq_fold_single (FloatOps.maximumf (F := Ideal) (φ := .f32)) y z reducesTo_S8x4x4096x4096_S8x4x4096_d3 (by decide) h_S_ (ix3 b h s)).trans ?_
  rw [hz, neg_inf]
  refine congrArg (fun f => Finset.fold max ⊥ f Finset.univ) (funext fun t => congrArg y (funext fun a => ?_))
  fin_cases a <;> rfl

/-- The largest score of a row. -/
theorem top0 (b : Fin 8) (h : Fin 4) (s : Fin 4096) :
    val_main_v33 (F := Ideal) q k (ix3 b h s) = Soft.top (AVal.score q k 0 (by omega) b h s) := by
  rw [val_main_v33_apply]
  have e1 : val_main_v31 (F := Ideal) q k (ix3 b h s) = Soft.top (AVal.score q k 0 (by omega) b h s) := by
    refine (max_row _ _ (by rfl) b h s).trans (congrArg Soft.top (funext fun t => score0 q k b h s t))
  have e2 : val_main_v32 (F := Ideal) (ix3 b h s) = (⊥ : EReal) := by
    rw [val_main_v32_apply]; exact neg_inf
  rw [e1, e2]
  exact max_eq_right bot_le

/-- The weight of key `t`. -/
theorem wt0 (b : Fin 8) (h : Fin 4) (s t : Fin 4096) :
    val_main_v37 (F := Ideal) q k (ix4 b h s t) = Soft.wt (AVal.score q k 0 (by omega) b h s) t := by
  rw [val_main_v37_apply, val_main_v36_apply, val_main_v35_apply, val_main_v34_apply, score0]
  have hi : idx_main_v34 (idx_main_v35 (ix4 b h s t)) = ix3 b h s := by funext a; fin_cases a <;> rfl
  rw [hi, top0]
  rfl

/-- The sum of a row's weights. -/
theorem tot0 (b : Fin 8) (h : Fin 4) (s : Fin 4096) :
    val_main_v38 (F := Ideal) q k (ix3 b h s) = Soft.tot (AVal.score q k 0 (by omega) b h s) := by
  rw [val_main_v38_apply]
  refine (zero_sum _ (by rfl) _).trans ?_
  refine Finset.sum_congr rfl fun t _ => ?_
  have hi : idx_main_v38 (ix3 b h s) t = ix4 b h s t := by funext a; fin_cases a <;> rfl
  rw [hi, wt0]

/-- The softmax of a row. -/
theorem soft0 (b : Fin 8) (h : Fin 4) (s t : Fin 4096) :
    val_main_v41 (F := Ideal) q k (ix4 b h s t)
      = Ideal.div (Soft.wt (AVal.score q k 0 (by omega) b h s) t) (Soft.tot (AVal.score q k 0 (by omega) b h s)) := by
  rw [val_main_v41_apply, wt0, val_main_v40_apply, val_main_v39_apply]
  have hi : idx_main_v39 (idx_main_v40 (ix4 b h s t)) = ix3 b h s := by funext a; fin_cases a <;> rfl
  rw [hi, tot0]
  rfl

/-- The largest score of a row. -/
theorem top1 (b : Fin 8) (h : Fin 4) (s : Fin 4096) :
    val_main_v44 (F := Ideal) q k (ix3 b h s) = Soft.top (AVal.score q k 64 (by omega) b h s) := by
  rw [val_main_v44_apply]
  have e1 : val_main_v42 (F := Ideal) q k (ix3 b h s) = Soft.top (AVal.score q k 64 (by omega) b h s) := by
    refine (max_row _ _ (by rfl) b h s).trans (congrArg Soft.top (funext fun t => score1 q k b h s t))
  have e2 : val_main_v43 (F := Ideal) (ix3 b h s) = (⊥ : EReal) := by
    rw [val_main_v43_apply]; exact neg_inf
  rw [e1, e2]
  exact max_eq_right bot_le

/-- The weight of key `t`. -/
theorem wt1 (b : Fin 8) (h : Fin 4) (s t : Fin 4096) :
    val_main_v48 (F := Ideal) q k (ix4 b h s t) = Soft.wt (AVal.score q k 64 (by omega) b h s) t := by
  rw [val_main_v48_apply, val_main_v47_apply, val_main_v46_apply, val_main_v45_apply, score1]
  have hi : idx_main_v45 (idx_main_v46 (ix4 b h s t)) = ix3 b h s := by funext a; fin_cases a <;> rfl
  rw [hi, top1]
  rfl

/-- The sum of a row's weights. -/
theorem tot1 (b : Fin 8) (h : Fin 4) (s : Fin 4096) :
    val_main_v49 (F := Ideal) q k (ix3 b h s) = Soft.tot (AVal.score q k 64 (by omega) b h s) := by
  rw [val_main_v49_apply]
  refine (zero_sum _ (by rfl) _).trans ?_
  refine Finset.sum_congr rfl fun t _ => ?_
  have hi : idx_main_v49 (ix3 b h s) t = ix4 b h s t := by funext a; fin_cases a <;> rfl
  rw [hi, wt1]

/-- The softmax of a row. -/
theorem soft1 (b : Fin 8) (h : Fin 4) (s t : Fin 4096) :
    val_main_v52 (F := Ideal) q k (ix4 b h s t)
      = Ideal.div (Soft.wt (AVal.score q k 64 (by omega) b h s) t) (Soft.tot (AVal.score q k 64 (by omega) b h s)) := by
  rw [val_main_v52_apply, wt1, val_main_v51_apply, val_main_v50_apply]
  have hi : idx_main_v50 (idx_main_v51 (ix4 b h s t)) = ix3 b h s := by funext a; fin_cases a <;> rfl
  rw [hi, tot1]
  rfl

/-- A row of 64 read as a vector. -/
theorem vec64 (u : (⟨S1x64, .f32⟩ : BufTy).Contents (Elt Ideal)) (x : Fin 64) : val_main_v9 (F := Ideal) u (ix1 x) = u (ix2 0 x) := by
  rw [val_main_v9_apply]
  refine congrArg u (funext fun a => Fin.ext ?_)
  fin_cases a
  · rfl
  · show x.val % 64 = x.val
    omega

/-- The sum of the products of two rows of 64. -/
theorem dot64 (u w : (⟨S1x64, .f32⟩ : BufTy).Contents (Elt Ideal)) (i : S_.Idx) :
    val_main_v12 (F := Ideal) u w i = ∑ x : Fin 64, u (ix2 0 x) * w (ix2 0 x) := by
  rw [val_main_v12_apply]
  refine (zero_sum _ (by rfl) _).trans ?_
  refine Fintype.sum_equiv (⟨fun j => j 0, fun x => ix1 x, fun j => (eq_ix1 j).symm, fun x => rfl⟩ : S64.Idx ≃ Fin 64) _ _ (fun j => ?_)
  obtain ⟨x, rfl⟩ : ∃ x, j = ix1 x := ⟨j 0, eq_ix1 j⟩
  rw [val_main_v11_apply, vec64]
  exact congrArg (fun z => u (ix2 0 x) * z) (vec64 w x)

/-- The factor of the second average. -/
theorem lam_apply (i : S_.Idx) : val_main_v20 (F := Ideal) x0 x1 x2 x3 i
    = AVal.lam (fun x => x0 (ix2 0 x)) (fun x => x1 (ix2 0 x)) (fun x => x2 (ix2 0 x)) (fun x => x3 (ix2 0 x)) := by
  rw [val_main_v20_apply, val_main_v19_apply, val_main_v13_apply, val_main_v18_apply, dot64]
  unfold AVal.lam
  rw [← dot64 x2 x3 i]
  rfl

/-- The factor as the reference forms it. -/
abbrev lamR : EReal := AVal.lam (fun x => x0 (ix2 0 x)) (fun x => x1 (ix2 0 x)) (fun x => x2 (ix2 0 x)) (fun x => x3 (ix2 0 x))

/-- The value rows summed with the difference of the two softmaxes. -/
def mix (l : EReal) (b : Fin 8) (h : Fin 4) (s : Fin 4096) (d : Fin 128) : EReal :=
  ∑ t, (Ideal.div (Soft.wt (AVal.score q k 0 (by omega) b h s) t) (Soft.tot (AVal.score q k 0 (by omega) b h s))
      - l * Ideal.div (Soft.wt (AVal.score q k 64 (by omega) b h s) t) (Soft.tot (AVal.score q k 64 (by omega) b h s))) * v (ix2 (row b t) (col h d))

theorem mix_apply (b : Fin 8) (h : Fin 4) (s : Fin 4096) (d : Fin 128) :
    val_main_v56 (F := Ideal) x0 x1 x2 x3 q k v (ix4 b h s d) = mix q k v (lamR x0 x1 x2 x3) b h s d := by
  rw [val_main_v56_apply]
  refine Finset.sum_congr rfl fun t _ => ?_
  have hl : lidx_main_v56 (ix4 b h s d) t = ix4 b h s t := by funext a; fin_cases a <;> rfl
  have hr : ridx_main_v56 (ix4 b h s d) t = ix4 b h t d := by funext a; fin_cases a <;> rfl
  rw [hl, hr, v_apply, val_main_v55_apply, val_main_v54_apply, val_main_v53_apply, soft0, soft1, lam_apply]
  rfl

/-- The sum of the squares of a row. -/
theorem sq_apply (b : Fin 8) (h : Fin 4) (s : Fin 4096) :
    val_main_v59 (F := Ideal) x0 x1 x2 x3 q k v (ix3 b h s) = ∑ d, mix q k v (lamR x0 x1 x2 x3) b h s d * mix q k v (lamR x0 x1 x2 x3) b h s d := by
  rw [val_main_v59_apply]
  refine (zero_sum _ (by rfl) _).trans ?_
  refine Finset.sum_congr rfl fun d _ => ?_
  have hi : idx_main_v59 (ix3 b h s) d = ix4 b h s d := by funext a; fin_cases a <;> rfl
  rw [hi, val_main_v58_apply, mix_apply]
  rfl

/-- The gain of a lane. -/
theorem gain_apply (b : Fin 8) (h : Fin 4) (s : Fin 4096) (d : Fin 128) : val_main_v69 (F := Ideal) x4 (ix4 b h s d) = x4 (ix2 0 d) := by
  rw [val_main_v69_apply, val_main_v68_apply, val_main_v57_apply]
  refine congrArg x4 (funext fun a => Fin.ext ?_)
  fin_cases a
  · rfl
  · show d.val % 128 = d.val
    omega

/-- The normalized, scaled difference. -/
theorem norm_apply (b : Fin 8) (h : Fin 4) (s : Fin 4096) (d : Fin 128) :
    val_main_v72 (F := Ideal) x0 x1 x2 x3 x4 q k v (ix4 b h s d)
      = AVal.norm (mix q k v (lamR x0 x1 x2 x3) b h s) (fun d => x4 (ix2 0 d)) d := by
  rw [val_main_v72_apply, val_main_v70_apply, val_main_v67_apply, val_main_v66_apply, val_main_v65_apply, val_main_v64_apply,
    val_main_v62_apply, val_main_v60_apply, gain_apply, mix_apply]
  have hi : idx_main_v60 (idx_main_v66 (ix4 b h s d)) = ix3 b h s := by funext a; fin_cases a <;> rfl
  rw [hi, sq_apply]
  rfl

/-- One element of the reference's result. -/
theorem out_apply (i : S8x4096x512.Idx) :
    val_main_v75 (F := Ideal) x0 x1 x2 x3 x4 q k v i
      = AVal.norm (mix q k v (lamR x0 x1 x2 x3) (i 0) ⟨(i 2).val / 128, by have h : (i 2).val < 512 := (i 2).isLt; omega⟩ (i 1))
          (fun d => x4 (ix2 0 d)) ⟨(i 2).val % 128, by omega⟩ := by
  rw [val_main_v75_apply, val_main_v74_apply, val_main_v73_apply]
  refine Eq.trans ?_ (norm_apply x0 x1 x2 x3 x4 q k v (i 0) ⟨(i 2).val / 128, by have h : (i 2).val < 512 := (i 2).isLt; omega⟩ (i 1) ⟨(i 2).val % 128, by omega⟩)
  refine congrArg (val_main_v72 (F := Ideal) x0 x1 x2 x3 x4 q k v) (funext fun a => Fin.ext ?_)
  have h0 : (i 0).val < 8 := (i 0).isLt
  have h1 : (i 1).val < 4096 := (i 1).isLt
  have h2 : (i 2).val < 512 := (i 2).isLt
  fin_cases a
  · show (((i 0).val * 4096 + (i 1).val) * 512 + (i 2).val) / 2097152 = (i 0).val
    omega
  · show (((i 0).val * 4096 + (i 1).val) * 512 + (i 2).val) / 128 % 4 = (i 2).val / 128
    omega
  · show (((i 0).val * 4096 + (i 1).val) * 512 + (i 2).val) / 512 % 4096 = (i 1).val
    omega
  · show (((i 0).val * 4096 + (i 1).val) * 512 + (i 2).val) % 128 = (i 2).val % 128
    omega

end Cert.ARef
end
-- ==== Proof.Finite.lean ====
/-
  The preconditions read: a bound on the absolute values that holds everywhere says every element is finite.
-/
module

public import proofs.«01_k».proof.Proof.Soft
public import Idealize.ShloMosaic.Lib.ReduceAll
public import Idealize.ShloMosaic.Lib.ValueIdx

@[expose] public section

noncomputable section

namespace Cert.Finite

open Idealize.ShloMosaic Idealize.ShloMosaic.TcCoe Idealize.ShloMosaic.ValueIdx
open Cert.Soft (Fin')

theorem and_one : ∀ x y : BitVec 1, IntOp.andi x y = 1#1 → x = 1#1 ∧ y = 1#1 := by decide

/-- A conjunction of two truth values is true only when both are. -/
theorem andi_one {s : Shape} (x y : IVec s 1) (j : s.Idx) (h : andi x y j = 1#1) : x j = 1#1 ∧ y j = 1#1 := and_one _ _ h

/-- Every element of an array is finite when the bound on its absolute values holds everywhere. -/
theorem fin_of_all {s t u : Shape} {axes : List (Fin s.rank)} [Subsingleton t.Idx] (x z : FVec Ideal s .f32) (hz : ∀ i, z i = FloatOps.ofBits (F := Ideal) .f32 0x7F800000#32)
    (init : u.Idx → BitVec 1) (h : s.ReducesTo axes t) (hu : 0 < u.numel) (j : t.Idx)
    (e : Host.reduce IntOp.andi (cmpf .olt (Host.absf x) z) init h hu j = 1#1) (i : s.Idx) : Fin' (x i) := by
  have h1 := Host.reduce_andi_all _ init h hu j e i
  have h2 : (Ideal.cmp .olt (max (x i) (-(x i))) (z i)) = 1#1 := h1
  have hinf : z i = (⊤ : EReal) := by
    rw [hz i]
    show Ideal.ofBits .f32 0x7F800000#32 = ⊤
    simp [Ideal.ofBits, Ideal.ieee]
  rw [hinf] at h2
  refine Fin'.of_abs ?_
  by_contra hn
  simp [Ideal.cmp, hn] at h2

end Cert.Finite
end
-- ==== Proof.AEq.lean ====
/-
  The differential attention: on finite arguments the reference's sum over the difference of the two softmaxes is the
  difference of the two averages, so the two results are equal element by element.
-/
module

public import proofs.«01_k».proof.Proof.AArr
public import proofs.«01_k».proof.Proof.ARef
public import proofs.«01_k».proof.Defs
public import proofs.«01_k».proof.Proof.Finite

@[expose] public section

noncomputable section

namespace Cert.AEq

open Idealize.ShloMosaic Idealize.ShloMosaic.TcCoe Idealize.ShloMosaic.ValueIdx
open Cert.AVal (row col Arr)
open Cert.Soft (Fin')
open scoped BigOperators

/-- A score of finite arrays is finite. -/
theorem score_fin {q k : Arr} (hq : ∀ i, Fin' (q i)) (hk : ∀ i, Fin' (k i)) (o : Nat) (ho : o + 64 ≤ 128) (b : Fin 8) (h : Fin 4)
    (s t : Fin 4096) : Fin' (AVal.score q k o ho b h s t) :=
  Fin'.sum _ fun x => (hq _).mul (hk _)

/-- The factor of finite rows is finite. -/
theorem lam_fin {a b c d : Fin 64 → EReal} (ha : ∀ i, Fin' (a i)) (hb : ∀ i, Fin' (b i)) (hc : ∀ i, Fin' (c i)) (hd : ∀ i, Fin' (d i)) :
    Fin' (AVal.lam a b c d) := by
  have h2 : Fin' (Ideal.ofBits .f32 0x3E4CCCCD#32) := by
    simp [Ideal.ofBits, Ideal.ieee]
    exact Fin'.coe _
  exact (((Fin'.sum _ fun x => (ha x).mul (hb x)).exp).sub ((Fin'.sum _ fun x => (hc x).mul (hd x)).exp)).add h2

/-- Rows equal lane by lane are normalized to the same value. -/
theorem norm_congr {o o' g : Fin 128 → EReal} {d : Fin 128} (h : ∀ e, o e = o' e) : AVal.norm o g d = AVal.norm o' g d := by
  rw [funext h]

/-- The reference's sum is the difference of the two averages. -/
theorem mix_eq {q k v : Arr} {l : EReal} (hq : ∀ i, Fin' (q i)) (hk : ∀ i, Fin' (k i)) (hv : ∀ i, Fin' (v i)) (hl : Fin' l)
    (b : Fin 8) (h : Fin 4) (s : Fin 4096) (d : Fin 128) : ARef.mix q k v l b h s d = AVal.diff q k v l b h s d :=
  Soft.sum_diff (by omega) (fun t => score_fin hq hk 0 _ b h s t) (fun t => score_fin hq hk 64 _ b h s t) (fun t => hv _) hl

/-- What the precondition says of the arguments. -/
structure FinArgs (m : (ℓ : Loc Cert.KernelAIdeal.nD Cert.KernelAIdeal.τ Cert.KernelAIdeal.sig) → Buf (Elt Ideal) ℓ) (c : Dev Cert.KernelAIdeal.nD) : Prop where
  h0 : ∀ i, Fin' (m ((c : Thread Cert.KernelAIdeal.nD Cert.KernelAIdeal.τ).loc Cert.KernelAIdeal.main_arg0) i)
  h1 : ∀ i, Fin' (m ((c : Thread Cert.KernelAIdeal.nD Cert.KernelAIdeal.τ).loc Cert.KernelAIdeal.main_arg1) i)
  h2 : ∀ i, Fin' (m ((c : Thread Cert.KernelAIdeal.nD Cert.KernelAIdeal.τ).loc Cert.KernelAIdeal.main_arg2) i)
  h3 : ∀ i, Fin' (m ((c : Thread Cert.KernelAIdeal.nD Cert.KernelAIdeal.τ).loc Cert.KernelAIdeal.main_arg3) i)
  h5 : ∀ i, Fin' (m ((c : Thread Cert.KernelAIdeal.nD Cert.KernelAIdeal.τ).loc Cert.KernelAIdeal.main_arg5) i)
  h6 : ∀ i, Fin' (m ((c : Thread Cert.KernelAIdeal.nD Cert.KernelAIdeal.τ).loc Cert.KernelAIdeal.main_arg6) i)
  h7 : ∀ i, Fin' (m ((c : Thread Cert.KernelAIdeal.nD Cert.KernelAIdeal.τ).loc Cert.KernelAIdeal.main_arg7) i)

instance : Subsingleton Cert.Pre_finite_a.S_.Idx := ⟨fun a b => funext fun i => i.elim0⟩

theorem finArgs [Cert.Pre_finite_a.Facts] {m : (ℓ : Loc Cert.KernelAIdeal.nD Cert.KernelAIdeal.τ Cert.KernelAIdeal.sig) → Buf (Elt Ideal) ℓ}
    (h : Pre_KernelAIdeal_finite_a m) (c : Dev Cert.KernelAIdeal.nD) : FinArgs m c := by
  have e := congrFun (h c) ix0
  obtain ⟨e, e7⟩ := Finite.andi_one _ _ _ e
  obtain ⟨e, e6⟩ := Finite.andi_one _ _ _ e
  obtain ⟨e, e5⟩ := Finite.andi_one _ _ _ e
  obtain ⟨e, e3⟩ := Finite.andi_one _ _ _ e
  obtain ⟨e, e2⟩ := Finite.andi_one _ _ _ e
  obtain ⟨e0, e1⟩ := Finite.andi_one _ _ _ e
  exact ⟨Finite.fin_of_all _ _ (fun _ => rfl) _ _ _ _ e0, Finite.fin_of_all _ _ (fun _ => rfl) _ _ _ _ e1,
    Finite.fin_of_all _ _ (fun _ => rfl) _ _ _ _ e2, Finite.fin_of_all _ _ (fun _ => rfl) _ _ _ _ e3,
    Finite.fin_of_all _ _ (fun _ => rfl) _ _ _ _ e5, Finite.fin_of_all _ _ (fun _ => rfl) _ _ _ _ e6,
    Finite.fin_of_all _ _ (fun _ => rfl) _ _ _ _ e7⟩

/-- The kernel's result array is the reference's value of the same arguments. -/
theorem value_eq {m : (ℓ : Loc Cert.KernelAIdeal.nD Cert.KernelAIdeal.τ Cert.KernelAIdeal.sig) → Buf (Elt Ideal) ℓ} {c : Dev Cert.KernelAIdeal.nD}
    (h : FinArgs m c) :
    AArr.G m c = Cert.ReferenceAIdeal.Read.val_main_v75 (F := Ideal) (m ((c : Thread Cert.KernelAIdeal.nD Cert.KernelAIdeal.τ).loc Cert.KernelAIdeal.main_arg0)) (m ((c : Thread Cert.KernelAIdeal.nD Cert.KernelAIdeal.τ).loc Cert.KernelAIdeal.main_arg1)) (m ((c : Thread Cert.KernelAIdeal.nD Cert.KernelAIdeal.τ).loc Cert.KernelAIdeal.main_arg2)) (m ((c : Thread Cert.KernelAIdeal.nD Cert.KernelAIdeal.τ).loc Cert.KernelAIdeal.main_arg3)) (m ((c : Thread Cert.KernelAIdeal.nD Cert.KernelAIdeal.τ).loc Cert.KernelAIdeal.main_arg4)) (m ((c : Thread Cert.KernelAIdeal.nD Cert.KernelAIdeal.τ).loc Cert.KernelAIdeal.main_arg5)) (m ((c : Thread Cert.KernelAIdeal.nD Cert.KernelAIdeal.τ).loc Cert.KernelAIdeal.main_arg6)) (m ((c : Thread Cert.KernelAIdeal.nD Cert.KernelAIdeal.τ).loc Cert.KernelAIdeal.main_arg7)) := by
  funext i
  refine Eq.trans ?_ (ARef.out_apply _ _ _ _ _ _ _ _ i).symm
  unfold AArr.G AArr.outM AVal.out
  refine norm_congr fun d => ?_
  exact (mix_eq h.h5 h.h6 h.h7 (lam_fin (fun _ => h.h0 _) (fun _ => h.h1 _) (fun _ => h.h2 _) (fun _ => h.h3 _)) _ _ _ d).symm

end Cert.AEq
end
-- ==== Proof.AClaim.lean ====
/-
  The differential attention: the kernel and the reference, run from the same finite arguments, leave equal results.
-/
module

public import proofs.«01_k».proof.Proof.AEq
public import proofs.«01_k».proof.Proof.Gen.ReferenceAIdeal.Run

@[expose] public section

noncomputable section

namespace Cert.AClaim

open Idealize.ShloMosaic Idealize.ShloMosaic.TcCoe Idealize.SL.Sem

/-- The reference runs and leaves its arguments as they were, from any memory. -/
theorem reference_runs : quiescent_ReferenceAIdeal := fun m g _ =>
  (θ_run Cert.ReferenceAIdeal.defs _ _).mono
    (fun r h => ⟨fun c => (h c).2, sem_eq_zero_of_no_sems (by decide) r.2⟩) (Cert.ReferenceAIdeal.Value.run (F := Ideal) m g)

/-- From finite arguments the kernel's result is the reference's. -/
theorem algebraic [Cert.Pre_finite_a.Facts] : algebraic_KernelAIdeal_ReferenceAIdeal_pre_finite_a := by
  intro m g m' g' hp he
  refine ⟨fun c => AArr.G m c, ?_, ?_⟩
  · exact (θ_run _ _ _).mono (fun r h c => ⟨(h c).1.trans (AArr.final m c), (h c).2⟩) (Cert.KernelAIdeal.Value.run_blocks m g)
  · refine (θ_run _ _ _).mono (fun r h c => ⟨(h c).1.trans ?_, (h c).2⟩) (Cert.ReferenceAIdeal.Value.run (F := Ideal) m' g')
    obtain ⟨e0, e1, e2, e3, e4, e5, e6, e7⟩ := he c
    refine (Cert.ReferenceAIdeal.Read.val_main_v75_eq _ _).trans ?_
    refine Eq.trans ?_ (AEq.value_eq (AEq.finArgs hp c)).symm
    rw [e0, e1, e2, e3, e4, e5, e6, e7]

end Cert.AClaim
end
-- ==== Proof.BVal.lean ====
/-
  The grouped-query attention as mathematics over the extended reals: per batch entry, query head and query, the softmax
  average of the value rows of the key-value head that four query heads share.
-/
module

public import proofs.«01_k».proof.Proof.Soft
public import proofs.«01_k».proof.Proof.AVal

@[expose] public section

noncomputable section

namespace Cert.BVal

open Idealize.ShloMosaic Idealize.ShloMosaic.ValueIdx
open Cert.AVal (Arr row)
open scoped BigOperators

/-- The keys or the values of all tokens (2 key-value heads of 64 lanes). -/
abbrev KArr := (⟨2, ![32768, 128]⟩ : Shape).Idx → EReal

/-- The query column of lane `x` of head `h`. -/
abbrev qcol (h : Fin 8) (x : Fin 64) : Fin 512 := ⟨h.val * 64 + x.val, by omega⟩
/-- The key or value column of lane `x` of the key-value head that query head `h` reads. -/
abbrev kcol (h : Fin 8) (x : Fin 64) : Fin 128 := ⟨h.val / 4 * 64 + x.val, by omega⟩

variable (q : Arr) (k v : KArr)

/-- The score of query `s` of head `h` against key `t`. -/
def score (b : Fin 8) (h : Fin 8) (s t : Fin 4096) : EReal :=
  ∑ x : Fin 64, q (ix2 (row b s) (qcol h x)) * k (ix2 (row b t) (kcol h x))

/-- One element of the attention's result. -/
def out (b : Fin 8) (h : Fin 8) (s : Fin 4096) (d : Fin 64) : EReal :=
  Soft.avg (score q k b h s) (fun t => v (ix2 (row b t) (kcol h d)))

end Cert.BVal
end
-- ==== Proof.BBlock.lean ====
/-
  What one block of the grouped-query attention kernel computes, read element by element: a block holds the query rows of
  four heads side by side; each head's scores are taken over its own 64 lanes (all others set to zero), and every output
  lane is the softmax average of its value lane with its head's scores.
-/
module

public import proofs.«01_k».proof.Proof.BVal
public import proofs.«01_k».proof.Proof.ABlock
public import proofs.«01_k».proof.Proof.Gen.KernelBIdeal.Value

@[expose] public section

noncomputable section

namespace Cert.BBlock

open Cert.KernelBIdeal Cert.KernelBIdeal.Gen Idealize.ShloMosaic Idealize.ShloMosaic.ValueIdx
open scoped BigOperators

variable (P0 : Vec Ideal S1x256x256 .bf16) (P1 : Vec Ideal S1x1x256x4096 .bf16) (P2 : Vec Ideal S1x1x4096x128 .bf16)

/-- The score of query row `r` of the block's head `j` against key column `c`. -/
def score (j : Fin 4) (r : Fin 256) (c : Fin 4096) : EReal :=
  ∑ k : Fin 64, P0 (ix3 0 r ⟨j.val * 64 + k.val, by omega⟩) * P1 (ix4 0 0 ⟨j.val * 64 + k.val, by omega⟩ c)

/-- One element of the block's output: lane `x` belongs to head `x / 64`. -/
def elem (r : Fin 256) (x : Fin 256) : EReal :=
  Soft.avg (score P0 P1 ⟨x.val / 64, by omega⟩ r) (fun c => P2 (ix4 0 0 c ⟨x.val % 128, by omega⟩))

theorem pay2_apply (r : Fin 256) (k : Fin 256) : k0_pay2 P0 (ix2 r k) = P0 (ix3 0 r k) := by
  unfold k0_pay2; exact shapeCast_1ab_ab_apply _ _ _ _

theorem pay3_apply (k : Fin 256) (c : Fin 4096) : k0_pay3 P1 (ix2 k c) = P1 (ix4 0 0 k c) := by
  unfold k0_pay3
  refine shapeCast_apply _ _ _ _ ?_
  rw [Shape.rowMajor_val_four, Shape.rowMajor_val_two]; simp [ix4, ix2]

theorem pay4_apply (c : Fin 4096) (d : Fin 128) : k0_pay4 P2 (ix2 c d) = P2 (ix4 0 0 c d) := by
  unfold k0_pay4
  refine shapeCast_apply _ _ _ _ ?_
  rw [Shape.rowMajor_val_four, Shape.rowMajor_val_two]; simp [ix4, ix2]

/-- The head of every lane, a division by 64 rounded down that is put together from one rounded toward zero. -/
def headOf (l : IVec S256x256 32) : IVec S256x256 32 :=
  select (andi (cmpi .ne (subi (extui 32 (cmpi .sgt l (broadcast S256x256 0#32)) natLt_1_32) (extui 32 (cmpi .slt l (broadcast S256x256 0#32)) natLt_1_32))
        (broadcast S256x256 (Scalar.subi (Scalar.extui (Scalar.cmpi .sgt 64#32 0#32)) (Scalar.extui (Scalar.cmpi .slt 64#32 0#32)))))
      (cmpi .ne (remsi l (broadcast S256x256 64#32)) (broadcast S256x256 0#32)))
    (subi (divsi l (broadcast S256x256 64#32)) (broadcast S256x256 1#32)) (divsi l (broadcast S256x256 64#32))

/-- The same for one lane number. -/
def headWord (w : BitVec 32) : BitVec 32 :=
  Scalar.select (IntOp.andi (IntOp.cmpi .ne (IntOp.subi ((IntOp.cmpi .sgt w 0#32).setWidth 32) ((IntOp.cmpi .slt w 0#32).setWidth 32))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)

theorem head_lane : ∀ k : Fin 256, headWord (BitVec.ofNat 32 k.val) = BitVec.ofNat 32 (k.val / 64) := by
  decide +kernel

/-- The head of a lane is read off that lane alone. -/
theorem headOf_at (l : IVec S256x256 32) (i : S256x256.Idx) : headOf l i = headWord (l i) := rfl

theorem headOf_apply (r k : Fin 256) :
    headOf (iota .tc S256x256 32 [1] iota_S256x256_d1_w32) (ix2 r k) = BitVec.ofNat 32 (k.val / 64) := by
  rw [headOf_at, iota_single_apply]
  exact head_lane k

theorem same_head : ∀ j i : Fin 4, IntOp.cmpi .eq (BitVec.ofNat 32 i.val) (BitVec.ofNat 32 j.val) = if i = j then 1#1 else 0#1 := by
  decide +kernel

/-- The queries with all lanes outside head `j` set to zero. -/
def masked (j : BitVec 32) : FVec Ideal S256x256 .bf16 :=
  select (cmpi .eq (headOf (iota .tc S256x256 32 [1] iota_S256x256_d1_w32)) (broadcast S256x256 j)) (k0_pay2 P0) (k0_pay5 (F := Ideal))

theorem masked_apply (j i : Fin 4) (r : Fin 256) (k : Fin 64) :
    masked P0 (BitVec.ofNat 32 j.val) (ix2 r (finProdFinEquiv (i, k) : Fin 256))
      = if i = j then P0 (ix3 0 r ⟨i.val * 64 + k.val, by omega⟩) else 0 := by
  unfold masked
  have hk : (finProdFinEquiv (i, k) : Fin 256) = ⟨i.val * 64 + k.val, by omega⟩ :=
    Fin.ext (by simp [finProdFinEquiv]; omega)
  rw [hk, select_apply, pay2_apply P0 r]
  have e : cmpi .eq (headOf (iota .tc S256x256 32 [1] iota_S256x256_d1_w32)) (broadcast S256x256 (BitVec.ofNat 32 j.val)) (ix2 r ⟨i.val * 64 + k.val, by omega⟩)
      = if i = j then 1#1 else 0#1 := by
    show IntOp.cmpi .eq (headOf _ (ix2 r _)) (BitVec.ofNat 32 j.val) = _
    rw [headOf_apply, ← same_head]
    have hd : (i.val * 64 + k.val) / 64 = i.val := by omega
    show IntOp.cmpi .eq (BitVec.ofNat 32 ((i.val * 64 + k.val) / 64)) _ = _
    rw [hd]
  rw [e]
  split
  · rfl
  · rw [select_zero]; show Ideal.ofBits .bf16 0x0000#16 = 0
    simp [Ideal.ofBits, Ideal.ieee]

/-- The masked queries times the keys. -/
def scores (j : BitVec 32) : FVec Ideal S256x4096 .f32 :=
  FloatOps.matmul dot_S256x256_S256x4096_S256x4096_1_0_0_1_n_n none (masked P0 j) (k0_pay3 P1) (constant S256x4096 .f32 0x00000000#32)

theorem scores_apply (j : Fin 4) (r : Fin 256) (c : Fin 4096) :
    scores P0 P1 (BitVec.ofNat 32 j.val) (ix2 r c) = score P0 P1 j r c := by
  unfold scores
  refine (Ideal.matmul_plain_apply none (masked P0 _) (k0_pay3 P1) (constant S256x4096 .f32 0x00000000#32) r c).trans ?_
  rw [show constant (F := Ideal) S256x4096 .f32 0x00000000#32 (ix2 r c) = 0 from Ideal.ofBits_zero_f32, zero_add]
  refine (Equiv.sum_comp (finProdFinEquiv (m := 4) (n := 64)) (fun k : Fin 256 => masked P0 (BitVec.ofNat 32 j.val) (ix2 r k) * k0_pay3 P1 (ix2 k c))).symm.trans ?_
  rw [Fintype.sum_prod_type]
  refine (Finset.sum_eq_single j (fun i _ hi => Finset.sum_eq_zero fun k _ => ?_) (fun h => absurd (Finset.mem_univ j) h)).trans ?_
  · rw [masked_apply, if_neg hi, zero_mul]
  · refine Finset.sum_congr rfl fun k _ => ?_
    have hk : (finProdFinEquiv (j, k) : Fin 256) = ⟨j.val * 64 + k.val, by omega⟩ :=
      Fin.ext (by simp [finProdFinEquiv]; omega)
    rw [masked_apply, if_pos rfl, pay3_apply, hk]

/-- The scores of head `j` with their row's maximum taken off. -/
def shifted (j : BitVec 32) : FVec Ideal S256x4096 .f32 :=
  subf (scores P0 P1 j) (broadcastTo S256x4096 (shapeCast S256x1 (multiReduction .maximumf [1] S256 (scores P0 P1 j) 0xFF800000#32
    reduces_S256x4096_S256 (.inl rfl) rfl) shapeCasts_S256_S256x1) broadcasts_S256x1_S256x4096)

theorem exp_shifted (j : Fin 4) (r : Fin 256) (c : Fin 4096) :
    exp (shifted P0 P1 (BitVec.ofNat 32 j.val)) (ix2 r c) = Soft.wt (score P0 P1 j r) c := by
  refine (ABlock.exp_row (scores P0 P1 (BitVec.ofNat 32 j.val)) r c).trans ?_
  simp only [scores_apply]

/-- The average of the value rows with the weights of head `j`. -/
theorem average (j : Fin 4) (r : Fin 256) (d : Fin 128) :
    k0_pay13 (k0_pay4 P2) (shifted P0 P1 (BitVec.ofNat 32 j.val)) (ix2 r d)
      = Soft.avg (score P0 P1 j r) (fun c => P2 (ix4 0 0 c d)) := by
  unfold k0_pay13
  refine congrArg₂ Ideal.div ?_ ?_
  · refine (Ideal.matmul_plain_apply none (exp (shifted P0 P1 (BitVec.ofNat 32 j.val)) : FVec Ideal S256x4096 .bf16) (k0_pay4 P2) (constant S256x128 .f32 0x00000000#32) r d).trans ?_
    rw [show constant (F := Ideal) S256x128 .f32 0x00000000#32 (ix2 r d) = 0 from Ideal.ofBits_zero_f32, zero_add]
    exact Finset.sum_congr rfl fun k _ => congrArg₂ (· * ·) (exp_shifted P0 P1 j r k) (pay4_apply P2 k d)
  · rw [broadcastTo_apply _ _ _ (ix2 r 0) (fun a => by fin_cases a <;> rfl), shapeCast_a_a1_apply]
    exact (ABlock.row_sum _ r).trans (Finset.sum_congr rfl fun c _ => exp_shifted P0 P1 j r c)

theorem low_half : ∀ d : Fin 128, IntOp.cmpi .slt (BitVec.ofNat 32 d.val) 64#32 = if d.val < 64 then 1#1 else 0#1 :=
  ABlock.slt_lane

/-- Two heads side by side: the lower 64 lanes of one, the upper 64 lanes of the other. -/
theorem pair_apply (a b : Fin 4) (r : Fin 256) (d : Fin 128) :
    k0_pay1 k0_pay6 (k0_pay13 (k0_pay4 P2) (shifted P0 P1 (BitVec.ofNat 32 a.val))) (k0_pay13 (k0_pay4 P2) (shifted P0 P1 (BitVec.ofNat 32 b.val))) (ix3 0 r d)
      = Soft.avg (score P0 P1 (if d.val < 64 then a else b) r) (fun c => P2 (ix4 0 0 c d)) := by
  unfold k0_pay1
  refine (shapeCast_apply _ _ _ (ix2 r d) ?_).trans ?_
  · rw [Shape.rowMajor_val_three, Shape.rowMajor_val_two]; simp [ix3, ix2]
  refine (select_apply _ _ _ _).trans ?_
  have e : k0_pay6 (ix2 r d) = if d.val < 64 then 1#1 else 0#1 := by
    rw [← low_half]
    show IntOp.cmpi .slt (iota .tc S256x128 32 [1] iota_S256x128_d1_w32 (ix2 r d)) 64#32 = _
    rw [iota_single_apply]
  rw [e, average, average]
  split
  · rfl
  · exact select_zero _ _

/-- The pieces the body stores, as pairs of heads. -/
theorem out_pieces : out0_3 P0 P1 P2 = View.canon [
    ⟨r0_4, k0_pay1 k0_pay6 (k0_pay13 (k0_pay4 P2) (shifted P0 P1 2#32)) (k0_pay13 (k0_pay4 P2) (shifted P0 P1 3#32))⟩,
    ⟨r0_3, k0_pay1 k0_pay6 (k0_pay13 (k0_pay4 P2) (shifted P0 P1 0#32)) (k0_pay13 (k0_pay4 P2) (shifted P0 P1 1#32))⟩] := by
  have e0 : View.ld P0 r0_0 = P0 := View.ld_unit_zero (S := S1x256x256) (by funext a; fin_cases a <;> rfl) _ P0
  have e1 : View.ld P1 r0_1 = P1 := View.ld_unit_zero (S := S1x1x256x4096) (by funext a; fin_cases a <;> rfl) _ P1
  have e2 : View.ld P2 r0_2 = P2 := View.ld_unit_zero (S := S1x1x4096x128) (by funext a; fin_cases a <;> rfl) _ P2
  unfold_out out0_3
  rw [e0, e1, e2]
  rfl

/-- A pair of heads at its place among the block's lanes. -/
theorem pair_elem (a b : Fin 4) (o : Nat) (ha : o = a.val * 64) (hb : b.val = a.val + 1) (ho : a.val % 2 = 0) (x : S1x256x128.Idx) (y : S1x256x256.Idx)
    (h1 : (y 1).val = 0 + 1 * (x 1).val) (h2 : (y 2).val = o + 1 * (x 2).val) :
    k0_pay1 k0_pay6 (k0_pay13 (k0_pay4 P2) (shifted P0 P1 (BitVec.ofNat 32 a.val))) (k0_pay13 (k0_pay4 P2) (shifted P0 P1 (BitVec.ofNat 32 b.val))) x
      = elem P0 P1 P2 (y 1) (y 2) := by
  have hx : x = ix3 (n0 := 1) (n1 := 256) (n2 := 128) 0 (x 1) (x 2) :=
    (eq_ix3 x).trans (congrArg (fun z => ix3 z (x 1) (x 2)) (Subsingleton.elim (α := Fin 1) _ _))
  have h3 : (x 2).val < 128 := (x 2).isLt
  refine (congrArg _ hx).trans ((pair_apply P0 P1 P2 a b (x 1) (x 2)).trans ?_)
  unfold elem
  have er : (x 1 : Fin 256) = y 1 := Fin.ext (by omega)
  have ej : (if (x 2).val < 64 then a else b) = (⟨(y 2).val / 64, by have : (y 2).val < 256 := (y 2).isLt; omega⟩ : Fin 4) := by
    refine Fin.ext ?_
    show _ = (y 2).val / 64
    split <;> omega
  have ed : (x 2 : Fin 128) = ⟨(y 2).val % 128, by omega⟩ := Fin.ext (by show (x 2).val = (y 2).val % 128; omega)
  rw [← er, ← ej]
  exact congrArg (fun z => Soft.avg _ (fun c => P2 (ix4 0 0 c z))) ed

/-- The block's output. -/
theorem out_apply (y : S1x256x256.Idx) : out0_3 P0 P1 P2 y = elem P0 P1 P2 (y 1) (y 2) := by
  rw [out_pieces]
  refine View.canon_apply_of_pieces (Val := Elt Ideal) (fun y => elem P0 P1 P2 (y 1) (y 2)) _ ?_ y (cover0_3 _ _ y)
  intro p hp x
  rcases List.mem_cons.mp hp with rfl | hp
  · exact pair_elem P0 P1 P2 2 3 128 rfl rfl rfl x (r0_4.emb x) rfl rfl
  rcases List.mem_cons.mp hp with rfl | hp
  · exact pair_elem P0 P1 P2 0 1 0 rfl rfl rfl x (r0_3.emb x) rfl rfl
  · exact absurd hp (List.not_mem_nil)

end Cert.BBlock
end
-- ==== Proof.BArr.lean ====
/-
  The array the grouped-query attention kernel leaves: every element is the attention's value of the arguments.
-/
module

public import proofs.«01_k».proof.Proof.BBlock

@[expose] public section

noncomputable section

namespace Cert.BArr

open Cert.KernelBIdeal Cert.KernelBIdeal.Gen Idealize.ShloMosaic Idealize.ShloMosaic.TcCoe Idealize.ShloMosaic.ValueIdx
open Cert.AVal (row)
open Cert.BVal (qcol kcol)
open scoped BigOperators

variable (m : (ℓ : Loc nD τ sig) → Buf (Elt Ideal) ℓ) (c : Dev nD)

/-! ## The arrays the grid reads, in terms of the arguments -/

/-- Token `s` of batch entry `b` is array row `4096 b + s`. -/
theorem tok_apply (u : Vec Ideal S32768x512 .bf16) (b : Fin 8) (s : Fin 4096) (x : Fin 512) :
    shapeCast S8x4096x512 u shapeCasts_S32768x512_S8x4096x512 (ix3 b s x) = u (ix2 (row b s) x) := by
  refine shapeCast_apply _ _ _ _ ?_
  rw [Shape.rowMajor_val_two, Shape.rowMajor_val_three]; simp [ix3, ix2]
/-- The same with the columns split in the two key-value heads. -/
theorem head_apply (u : Vec Ideal S32768x128 .bf16) (b : Fin 8) (s : Fin 4096) (g : Fin 2) (x : Fin 64) :
    shapeCast S8x4096x2x64 u shapeCasts_S32768x128_S8x4096x2x64 (ix4 b s g x) = u (ix2 (row b s) ⟨g.val * 64 + x.val, by omega⟩) := by
  refine shapeCast_apply _ _ _ _ ?_
  rw [Shape.rowMajor_val_two, Shape.rowMajor_val_four]; simp [ix4, ix2]; omega

/-- The place of batch entry `b`, key-value head `g`, copy `j`, lane `x` and token `s` among the copied keys. -/
abbrev copyAt (b : Fin 8) (g : Fin 2) (j : Fin 4) (x : Fin 64) (s : Fin 4096) : S1x8x1x2x4x64x1x4096.Idx := fun a => match a with
  | ⟨0, _⟩ => (0 : Fin 1) | ⟨1, _⟩ => b | ⟨2, _⟩ => (0 : Fin 1) | ⟨3, _⟩ => g | ⟨4, _⟩ => j | ⟨5, _⟩ => x | ⟨6, _⟩ => (0 : Fin 1) | ⟨7, _⟩ => s
/-- The place each copy is taken from. -/
abbrev onceAt (b : Fin 8) (g : Fin 2) (x : Fin 64) (s : Fin 4096) : S1x8x1x2x1x64x1x4096.Idx := fun a => match a with
  | ⟨0, _⟩ => (0 : Fin 1) | ⟨1, _⟩ => b | ⟨2, _⟩ => (0 : Fin 1) | ⟨3, _⟩ => g | ⟨4, _⟩ => (0 : Fin 1) | ⟨5, _⟩ => x | ⟨6, _⟩ => (0 : Fin 1) | ⟨7, _⟩ => s

theorem copyAt_val (b : Fin 8) (g : Fin 2) (j : Fin 4) (x : Fin 64) (s : Fin 4096) :
    (S1x8x1x2x4x64x1x4096.rowMajor (copyAt b g j x s)).val = ((b.val * 2 + g.val) * 256 + (j.val * 64 + x.val)) * 4096 + s.val := by
  refine (Shape.rowMajor_val_succ _).trans ?_
  rw [Shape.rowMajor_val_succ, Shape.rowMajor_val_succ, Shape.rowMajor_val_five]
  simp [Shape.numel, Fin.prod_univ_succ, copyAt]
  omega

theorem onceAt_val (b : Fin 8) (g : Fin 2) (x : Fin 64) (s : Fin 4096) :
    (S1x8x1x2x1x64x1x4096.rowMajor (onceAt b g x s)).val = ((b.val * 2 + g.val) * 64 + x.val) * 4096 + s.val := by
  refine (Shape.rowMajor_val_succ _).trans ?_
  rw [Shape.rowMajor_val_succ, Shape.rowMajor_val_succ, Shape.rowMajor_val_five]
  simp [Shape.numel, Fin.prod_univ_succ, onceAt]
  omega

/-- The keys of a key-value head are laid out four times, one copy under the other. -/
theorem copies_apply (u : Vec Ideal S8x2x64x4096 .bf16) (b : Fin 8) (g : Fin 2) (j : Fin 4) (x : Fin 64) (s : Fin 4096) :
    shapeCast S8x2x256x4096 (broadcastInDim S1x8x1x2x4x64x1x4096 ![0, 1, 2, 3, 4, 5, 6, 7] bcast_S1x8x1x2x1x64x1x4096_S1x8x1x2x4x64x1x4096_0_1_2_3_4_5_6_7
      (shapeCast S1x8x1x2x1x64x1x4096 u shapeCasts_S8x2x64x4096_S1x8x1x2x1x64x1x4096)) shapeCasts_S1x8x1x2x4x64x1x4096_S8x2x256x4096
      (ix4 b g ⟨j.val * 64 + x.val, by omega⟩ s) = u (ix4 b g x s) := by
  refine (shapeCast_apply _ _ _ (copyAt b g j x s) ?_).trans ?_
  · rw [copyAt_val, Shape.rowMajor_val_four]; rfl
  refine Eq.trans (b := shapeCast S1x8x1x2x1x64x1x4096 u shapeCasts_S8x2x64x4096_S1x8x1x2x1x64x1x4096 (onceAt b g x s)) ?_ ?_
  · refine congrArg (shapeCast S1x8x1x2x1x64x1x4096 u shapeCasts_S8x2x64x4096_S1x8x1x2x1x64x1x4096) (funext fun a => ?_)
    fin_cases a <;> rfl
  refine shapeCast_apply _ _ _ _ ?_
  rw [onceAt_val, Shape.rowMajor_val_four]; rfl

/-- The queries, token by token. -/
theorem V8_apply (b : Fin 8) (s : Fin 4096) (x : Fin 512) :
    V m c main_v8 (ix3 b s x) = m ((c : Thread nD τ).loc main_arg0) (ix2 (row b s) x) :=
  tok_apply (m ((c : Thread nD τ).loc main_arg0)) b s x

/-- The keys, transposed per key-value head and laid out four times. -/
theorem V4_apply (b : Fin 8) (g : Fin 2) (j : Fin 4) (x : Fin 64) (s : Fin 4096) :
    V m c main_v4 (ix4 b g ⟨j.val * 64 + x.val, by omega⟩ s) = m ((c : Thread nD τ).loc main_arg1) (ix2 (row b s) ⟨g.val * 64 + x.val, by omega⟩) :=
  (copies_apply (transpose S8x2x64x4096 [0, 2, 3, 1] (shapeCast S8x4096x2x64 (m ((c : Thread nD τ).loc main_arg1) : Vec Ideal S32768x128 .bf16) shapeCasts_S32768x128_S8x4096x2x64)
    transposes_S8x4096x2x64_S8x2x64x4096_0_2_3_1) b g j x s).trans (head_apply (m ((c : Thread nD τ).loc main_arg1)) b s g x)

/-- Two copies of the values of a key-value head side by side. -/
theorem twice_apply (u : Vec Ideal S8x2x4096x64 .bf16) (b : Fin 8) (g : Fin 2) (s : Fin 4096) (d : Fin 128) :
    concatenate S8x2x4096x128 3 [⟨S8x2x4096x64, u⟩, ⟨S8x2x4096x64, u⟩] concatenates_S8x2x4096x64_S8x2x4096x64_S8x2x4096x128_d3 (ix4 b g s d)
      = u (ix4 b g s ⟨d.val % 64, by omega⟩) := by
  refine concatenate_replicate_apply (t := S8x2x4096x128) (s₁ := S8x2x4096x64) 3 2 u _ rfl _ _ rfl ?_
  intro a ha
  fin_cases a
  · rfl
  · rfl
  · rfl
  · exact absurd rfl ha

/-- The values, per key-value head and twice side by side. -/
theorem V7_apply (b : Fin 8) (g : Fin 2) (s : Fin 4096) (d : Fin 128) :
    V m c main_v7 (ix4 b g s d) = m ((c : Thread nD τ).loc main_arg2) (ix2 (row b s) ⟨g.val * 64 + d.val % 64, by omega⟩) :=
  (twice_apply _ b g s d).trans (head_apply (m ((c : Thread nD τ).loc main_arg2)) b s g ⟨d.val % 64, by omega⟩)

/-! ## The blocks at a grid point -/

/-- The batch entry, key-value head and query tile of a grid point. -/
abbrev bOf (t : Fin cfg0.N) : Fin 8 := ⟨t.val / 32, by have h : t.val < 256 := t.isLt; omega⟩
abbrev gOf (t : Fin cfg0.N) : Fin 2 := ⟨t.val / 16 % 2, by omega⟩
abbrev sOf (t : Fin cfg0.N) (r : Fin 256) : Fin 4096 := ⟨t.val % 16 * 256 + r.val, by omega⟩
/-- The query head at place `j` of the four of a grid point. -/
abbrev hOf (t : Fin cfg0.N) (j : Fin 4) : Fin 8 := ⟨t.val / 16 % 2 * 4 + j.val, by omega⟩

theorem ind0 : ∀ t : Fin cfg0.N, ((cfg0.win 0).index t 0 = t.val / 32 ∧ (cfg0.win 0).index t 1 = t.val % 16) ∧ (cfg0.win 0).index t 2 = t.val / 16 % 2 := by
  decide +kernel
theorem ind1 : ∀ t : Fin cfg0.N, ((cfg0.win 1).index t 0 = t.val / 32 ∧ (cfg0.win 1).index t 1 = t.val / 16 % 2) ∧ (cfg0.win 1).index t 2 = 0 ∧ (cfg0.win 1).index t 3 = 0 := by
  decide +kernel
theorem ind2 : ∀ t : Fin cfg0.N, ((cfg0.win 2).index t 0 = t.val / 32 ∧ (cfg0.win 2).index t 1 = t.val / 16 % 2) ∧ (cfg0.win 2).index t 2 = 0 ∧ (cfg0.win 2).index t 3 = 0 := by
  decide +kernel
theorem ind3 : ∀ t : Fin cfg0.N, ((cfg0.win 3).index t 0 = t.val / 32 ∧ (cfg0.win 3).index t 1 = t.val % 16) ∧ (cfg0.win 3).index t 2 = t.val / 16 % 2 := by
  decide +kernel

theorem blk0 (t : Fin cfg0.N) (r : Fin 256) (j : Fin 4) (x : Fin 64) :
    iblk m c 0 t (ix3 0 r ⟨j.val * 64 + x.val, by omega⟩) = m ((c : Thread nD τ).loc main_arg0) (ix2 (row (bOf t) (sOf t r)) (qcol (hOf t j) x)) := by
  rw [← V8_apply m c (bOf t) (sOf t r) (qcol (hOf t j) x)]
  show V m c main_v8 _ = _
  refine congrArg (V m c main_v8) (funext fun a => Fin.ext ?_)
  have e := ind0 t
  fin_cases a
  · show (cfg0.win 0).index t 0 * 1 + 1 * 0 = t.val / 32
    omega
  · show (cfg0.win 0).index t 1 * 256 + 1 * r.val = t.val % 16 * 256 + r.val
    omega
  · show (cfg0.win 0).index t 2 * 256 + 1 * (j.val * 64 + x.val) = (t.val / 16 % 2 * 4 + j.val) * 64 + x.val
    omega

theorem kcol_eq (t : Fin cfg0.N) (j : Fin 4) (x : Fin 64) : (⟨(gOf t).val * 64 + x.val, by omega⟩ : Fin 128) = kcol (hOf t j) x :=
  Fin.ext (by show t.val / 16 % 2 * 64 + x.val = (t.val / 16 % 2 * 4 + j.val) / 4 * 64 + x.val; omega)

theorem blk1 (t : Fin cfg0.N) (j : Fin 4) (x : Fin 64) (s : Fin 4096) :
    iblk m c 1 t (ix4 0 0 ⟨j.val * 64 + x.val, by omega⟩ s) = m ((c : Thread nD τ).loc main_arg1) (ix2 (row (bOf t) s) (kcol (hOf t j) x)) := by
  rw [← kcol_eq t j x, ← V4_apply m c (bOf t) (gOf t) j x s]
  show V m c main_v4 _ = _
  refine congrArg (V m c main_v4) (funext fun a => Fin.ext ?_)
  have e := ind1 t
  fin_cases a
  · show (cfg0.win 1).index t 0 * 1 + 1 * 0 = t.val / 32
    omega
  · show (cfg0.win 1).index t 1 * 1 + 1 * 0 = t.val / 16 % 2
    omega
  · show (cfg0.win 1).index t 2 * 256 + 1 * (j.val * 64 + x.val) = j.val * 64 + x.val
    omega
  · show (cfg0.win 1).index t 3 * 4096 + 1 * s.val = s.val
    omega

theorem blk2 (t : Fin cfg0.N) (j : Fin 4) (s : Fin 4096) (d : Fin 128) :
    iblk m c 2 t (ix4 0 0 s d) = m ((c : Thread nD τ).loc main_arg2) (ix2 (row (bOf t) s) (kcol (hOf t j) ⟨d.val % 64, by omega⟩)) := by
  rw [← kcol_eq t j ⟨d.val % 64, by omega⟩, ← V7_apply m c (bOf t) (gOf t) s d]
  show V m c main_v7 _ = _
  refine congrArg (V m c main_v7) (funext fun a => Fin.ext ?_)
  have e := ind2 t
  fin_cases a
  · show (cfg0.win 2).index t 0 * 1 + 1 * 0 = t.val / 32
    omega
  · show (cfg0.win 2).index t 1 * 1 + 1 * 0 = t.val / 16 % 2
    omega
  · show (cfg0.win 2).index t 2 * 4096 + 1 * s.val = s.val
    omega
  · show (cfg0.win 2).index t 3 * 128 + 1 * d.val = d.val
    omega

/-! ## The array after the run -/

/-- The attention's value of the arguments at batch entry `b`, token `s`, head `h`, lane `d`. -/
abbrev outM (b : Fin 8) (h : Fin 8) (s : Fin 4096) (d : Fin 64) : EReal :=
  BVal.out (m ((c : Thread nD τ).loc main_arg0)) (m ((c : Thread nD τ).loc main_arg1)) (m ((c : Thread nD τ).loc main_arg2)) b h s d

/-- What the result array is shown to hold. -/
def G : Buf (Elt Ideal) ((c : Thread nD τ).loc main_v9) := fun i : S8x4096x512.Idx =>
  outM m c (i 0) ⟨(i 2).val / 64, by have h : (i 2).val < 512 := (i 2).isLt; omega⟩ (i 1) ⟨(i 2).val % 64, by omega⟩

/-- The scores of a block are the scores of the arguments. -/
theorem score_blk (t : Fin cfg0.N) (j : Fin 4) (r : Fin 256) :
    BBlock.score (iblk m c 0 t) (iblk m c 1 t) j r
      = BVal.score (m ((c : Thread nD τ).loc main_arg0)) (m ((c : Thread nD τ).loc main_arg1)) (bOf t) (hOf t j) (sOf t r) := by
  funext s
  refine Finset.sum_congr rfl fun x _ => ?_
  rw [blk0, blk1]

/-- The block a grid point leaves, element by element. -/
theorem out_blk (t : Fin cfg0.N) (r x : Fin 256) :
    BBlock.elem (iblk m c 0 t) (iblk m c 1 t) (iblk m c 2 t) r x
      = outM m c (bOf t) (hOf t ⟨x.val / 64, by omega⟩) (sOf t r) ⟨x.val % 64, by omega⟩ := by
  unfold BBlock.elem outM BVal.out
  rw [score_blk]
  refine congrArg (Soft.avg _) (funext fun s => ?_)
  refine (blk2 m c t ⟨x.val / 64, by omega⟩ s ⟨x.val % 128, by omega⟩).trans ?_
  refine congrArg (fun z => m ((c : Thread nD τ).loc main_arg2) (ix2 (row (bOf t) s) (kcol (hOf t ⟨x.val / 64, by omega⟩) z))) (Fin.ext ?_)
  show x.val % 128 % 64 = x.val % 64
  omega

theorem flushed_eq (t : Fin cfg0.N) :
    (dats m 0 c).flushed 3 t = ((cfg0.win 3).blk t).view.read (Elt Ideal) (G m c) := by
  rw [Value.flushed3]
  suffices H : ∀ y : S1x256x256.Idx, out0_3 (iblk m c 0 t) (iblk m c 1 t) (iblk m c 2 t) y
      = ((cfg0.win 3).blk t).view.read (Elt Ideal) (G m c) y from funext H
  intro y
  refine (BBlock.out_apply _ _ _ y).trans ((out_blk m c t (y 1) (y 2)).trans ?_)
  have hy2 : (y 2).val < 256 := (y 2).isLt
  have hy0 : (y 0).val < 1 := (y 0).isLt
  have e := ind3 t
  have hi : ∀ i : S8x4096x512.Idx, (i 0).val = t.val / 32 → (i 1).val = t.val % 16 * 256 + (y 1).val → (i 2).val = t.val / 16 % 2 * 256 + (y 2).val →
      outM m c (bOf t) (hOf t ⟨(y 2).val / 64, by omega⟩) (sOf t (y 1)) ⟨(y 2).val % 64, by omega⟩ = G m c i := by
    intro i h0 h1 h2
    unfold G
    have e0 : i 0 = bOf t := Fin.ext h0
    have e1 : i 1 = sOf t (y 1) := Fin.ext h1
    have e2 : (⟨(i 2).val / 64, by have h : (i 2).val < 512 := (i 2).isLt; omega⟩ : Fin 8) = hOf t ⟨(y 2).val / 64, by omega⟩ :=
      Fin.ext (by show (i 2).val / 64 = t.val / 16 % 2 * 4 + (y 2).val / 64; omega)
    have e3 : (⟨(i 2).val % 64, by omega⟩ : Fin 64) = ⟨(y 2).val % 64, by omega⟩ := Fin.ext (by show (i 2).val % 64 = (y 2).val % 64; omega)
    rw [e0, e1, e2, e3]
  refine hi _ ?_ ?_ ?_
  · show (cfg0.win 3).index t 0 * 1 + 1 * (y 0).val = t.val / 32
    omega
  · show (cfg0.win 3).index t 1 * 256 + 1 * (y 1).val = t.val % 16 * 256 + (y 1).val
    omega
  · show (cfg0.win 3).index t 2 * 256 + 1 * (y 2).val = t.val / 16 % 2 * 256 + (y 2).val
    omega

/-- The output blocks tile the array. -/
theorem cover (i : S8x4096x512.Idx) : ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 512 := (i 2).isLt
  refine ⟨⟨(i 0).val * 32 + (i 2).val / 256 * 16 + (i 1).val / 256, by show _ < 256; omega⟩, flush0_3 _, ?_⟩
  generalize ht : (⟨(i 0).val * 32 + (i 2).val / 256 * 16 + (i 1).val / 256, _⟩ : Fin cfg0.N) = t
  have hv : t.val = (i 0).val * 32 + (i 2).val / 256 * 16 + (i 1).val / 256 := by rw [← ht]
  have e := ind3 t
  show i ∈ ((View.whole main_v9).slice (win0_3.rect t)).set
  rw [View.set_slice_whole, Rect.mem_set_unit]
  intro a
  fin_cases a
  · show (cfg0.win 3).index t 0 * 1 ≤ (i 0).val ∧ (i 0).val < (cfg0.win 3).index t 0 * 1 + 1
    omega
  · show (cfg0.win 3).index t 1 * 256 ≤ (i 1).val ∧ (i 1).val < (cfg0.win 3).index t 1 * 256 + 256
    omega
  · show (cfg0.win 3).index t 2 * 256 ≤ (i 2).val ∧ (i 2).val < (cfg0.win 3).index t 2 * 256 + 256
    omega

/-- After the run the result array holds the attention's value of the arguments. -/
theorem final : (dats m 0 c).arrAt 3 cfg0.N = G m c :=
  (dats m 0 c).arrAt_eq_of_cover 3 (G m c) (fun t _ => flushed_eq m c t) cover

end Cert.BArr
end
-- ==== Proof.BRef.lean ====
/-
  The grouped-query attention's reference, read element by element.
-/
module

public import proofs.«01_k».proof.Proof.BVal
public import proofs.«01_k».proof.Proof.ARef
public import proofs.«01_k».proof.Proof.Gen.ReferenceBIdeal.Read

@[expose] public section

noncomputable section

namespace Cert.BRef

open Cert.ReferenceBIdeal Cert.ReferenceBIdeal.Gen Cert.ReferenceBIdeal.Read Idealize.ShloMosaic Idealize.ShloMosaic.TcCoe Idealize.ShloMosaic.ValueIdx
open Cert.AVal (row)
open Cert.BVal (qcol kcol)
open Cert.ARef (neg_inf zero_sum)
open scoped BigOperators

variable (q : (⟨S32768x512, .bf16⟩ : BufTy).Contents (Elt Ideal)) (k v : (⟨S32768x128, .bf16⟩ : BufTy).Contents (Elt Ideal))

/-- The query head at place `j` of the four that share key-value head `g`. -/
abbrev head (g : Fin 2) (j : Fin 4) : Fin 8 := ⟨g.val * 4 + j.val, by omega⟩

theorem split (b : Fin 8) (g : Fin 2) (j : Fin 4) (s : Fin 4096) (x : Fin 64) :
    idx_main_v9 (ix5 b g j s x) = ix4 b (head g j) s x := by
  funext a
  apply Fin.ext
  fin_cases a
  · show ((((b.val * 2 + g.val) * 4 + j.val) * 4096 + s.val) * 64 + x.val) / 2097152 = b.val
    omega
  · show ((((b.val * 2 + g.val) * 4 + j.val) * 4096 + s.val) * 64 + x.val) / 262144 % 8 = g.val * 4 + j.val
    omega
  · show ((((b.val * 2 + g.val) * 4 + j.val) * 4096 + s.val) * 64 + x.val) / 64 % 4096 = s.val
    omega
  · show ((((b.val * 2 + g.val) * 4 + j.val) * 4096 + s.val) * 64 + x.val) % 64 = x.val
    omega

theorem q_apply (b : Fin 8) (g : Fin 2) (j : Fin 4) (s : Fin 4096) (x : Fin 64) :
    val_main_v9 (F := Ideal) q (ix5 b g j s x) = q (ix2 (row b s) (qcol (head g j) x)) := by
  rw [val_main_v9_apply, split, val_main_v2_apply, val_main_v1_apply, val_main_v0_apply]
  refine congrArg q (funext fun a => Fin.ext ?_)
  fin_cases a
  · show (((b.val * 4096 + s.val) * 8 + (g.val * 4 + j.val)) * 64 + x.val) / 512 = b.val * 4096 + s.val
    omega
  · show (((b.val * 4096 + s.val) * 8 + (g.val * 4 + j.val)) * 64 + x.val) % 512 = (g.val * 4 + j.val) * 64 + x.val
    omega

theorem k_apply (b : Fin 8) (g : Fin 2) (j : Fin 4) (s : Fin 4096) (x : Fin 64) :
    val_main_v5 (F := Ideal) k (ix4 b g s x) = k (ix2 (row b s) (kcol (head g j) x)) := by
  rw [val_main_v5_apply, val_main_v4_apply, val_main_v3_apply]
  refine congrArg k (funext fun a => Fin.ext ?_)
  fin_cases a
  · show (((b.val * 4096 + s.val) * 2 + g.val) * 64 + x.val) / 128 = b.val * 4096 + s.val
    omega
  · show (((b.val * 4096 + s.val) * 2 + g.val) * 64 + x.val) % 128 = (g.val * 4 + j.val) / 4 * 64 + x.val
    omega
theorem v_apply (b : Fin 8) (g : Fin 2) (j : Fin 4) (s : Fin 4096) (x : Fin 64) :
    val_main_v8 (F := Ideal) v (ix4 b g s x) = v (ix2 (row b s) (kcol (head g j) x)) := k_apply v b g j s x

/-- The scores of a query head. -/
theorem score (b : Fin 8) (g : Fin 2) (j : Fin 4) (s t : Fin 4096) :
    val_main_v10 (F := Ideal) q k (ix5 b g j s t) = BVal.score q k b (head g j) s t := by
  rw [val_main_v10_apply]
  refine Finset.sum_congr rfl fun x _ => ?_
  have hl : lidx_main_v10 (ix5 b g j s t) x = ix5 b g j s x := by funext a; fin_cases a <;> rfl
  have hr : ridx_main_v10 (ix5 b g j s t) x = ix4 b g t x := by funext a; fin_cases a <;> rfl
  rw [hl, hr, q_apply, k_apply k b g j]

/-- The largest element of a row, started at minus infinity. -/
theorem max_row (y : (⟨S8x2x4x4096x4096, .f32⟩ : BufTy).Contents (Elt Ideal)) (z : (⟨S_, .f32⟩ : BufTy).Contents (Elt Ideal))
    (hz : z (Shape.Idx.first h_S_) = FloatOps.ofBits (F := Ideal) .f32 0xFF800000#32) (b : Fin 8) (g : Fin 2) (j : Fin 4) (s : Fin 4096) :
    Host.reduce (FloatOps.maximumf (F := Ideal) (φ := .f32)) y z reducesTo_S8x2x4x4096x4096_S8x2x4x4096_d4 h_S_ (ix4 b g j s) = Soft.top fun t => y (ix5 b g j s t) := by
  refine (Host.reduce_eq_fold_single (FloatOps.maximumf (F := Ideal) (φ := .f32)) y z reducesTo_S8x2x4x4096x4096_S8x2x4x4096_d4 (by decide) h_S_ (ix4 b g j s)).trans ?_
  rw [hz, neg_inf]
  refine congrArg (fun f => Finset.fold max ⊥ f Finset.univ) (funext fun t => congrArg y (funext fun a => ?_))
  fin_cases a <;> rfl

/-- The largest score of a row. -/
theorem top (b : Fin 8) (g : Fin 2) (j : Fin 4) (s : Fin 4096) :
    val_main_v13 (F := Ideal) q k (ix4 b g j s) = Soft.top (BVal.score q k b (head g j) s) := by
  rw [val_main_v13_apply]
  have e1 : val_main_v11 (F := Ideal) q k (ix4 b g j s) = Soft.top (BVal.score q k b (head g j) s) := by
    refine (max_row _ _ (by rfl) b g j s).trans (congrArg Soft.top (funext fun t => score q k b g j s t))
  have e2 : val_main_v12 (F := Ideal) (ix4 b g j s) = (⊥ : EReal) := by
    rw [val_main_v12_apply]; exact neg_inf
  rw [e1, e2]
  exact max_eq_right bot_le

/-- The weight of key `t`. -/
theorem wt (b : Fin 8) (g : Fin 2) (j : Fin 4) (s t : Fin 4096) :
    val_main_v17 (F := Ideal) q k (ix5 b g j s t) = Soft.wt (BVal.score q k b (head g j) s) t := by
  rw [val_main_v17_apply, val_main_v16_apply, val_main_v15_apply, val_main_v14_apply, score]
  have hi : idx_main_v14 (idx_main_v15 (ix5 b g j s t)) = ix4 b g j s := by funext a; fin_cases a <;> rfl
  rw [hi, top]
  rfl

/-- The sum of a row's weights. -/
theorem tot (b : Fin 8) (g : Fin 2) (j : Fin 4) (s : Fin 4096) :
    val_main_v18 (F := Ideal) q k (ix4 b g j s) = Soft.tot (BVal.score q k b (head g j) s) := by
  rw [val_main_v18_apply]
  refine (zero_sum _ (by rfl) _).trans ?_
  refine Finset.sum_congr rfl fun t _ => ?_
  have hi : idx_main_v18 (ix4 b g j s) t = ix5 b g j s t := by funext a; fin_cases a <;> rfl
  rw [hi, wt]

/-- The softmax of a row. -/
theorem soft (b : Fin 8) (g : Fin 2) (j : Fin 4) (s t : Fin 4096) :
    val_main_v21 (F := Ideal) q k (ix5 b g j s t)
      = Ideal.div (Soft.wt (BVal.score q k b (head g j) s) t) (Soft.tot (BVal.score q k b (head g j) s)) := by
  rw [val_main_v21_apply, wt, val_main_v20_apply, val_main_v19_apply]
  have hi : idx_main_v19 (idx_main_v20 (ix5 b g j s t)) = ix4 b g j s := by funext a; fin_cases a <;> rfl
  rw [hi, tot]
  rfl

/-- The reference's value: the sum over the keys of the softmax times the value lane. -/
def mix (b : Fin 8) (h : Fin 8) (s : Fin 4096) (d : Fin 64) : EReal :=
  ∑ t, Ideal.div (Soft.wt (BVal.score q k b h s) t) (Soft.tot (BVal.score q k b h s)) * v (ix2 (row b t) (kcol h d))

theorem mixed (b : Fin 8) (g : Fin 2) (j : Fin 4) (s : Fin 4096) (d : Fin 64) :
    val_main_v22 (F := Ideal) q k v (ix5 b g j s d) = mix q k v b (head g j) s d := by
  rw [val_main_v22_apply]
  refine Finset.sum_congr rfl fun t _ => ?_
  have hl : lidx_main_v22 (ix5 b g j s d) t = ix5 b g j s t := by funext a; fin_cases a <;> rfl
  have hr : ridx_main_v22 (ix5 b g j s d) t = ix4 b g t d := by funext a; fin_cases a <;> rfl
  rw [hl, hr, soft, v_apply v b g j]

/-- The reference's result at batch entry `i 0`, token `i 1`, head `i 2 / 64`, lane `i 2 % 64`. -/
theorem out_apply (i : S8x4096x512.Idx) :
    val_main_v26 (F := Ideal) q k v i
      = mix q k v (i 0) ⟨(i 2).val / 64, by have h : (i 2).val < 512 := (i 2).isLt; omega⟩ (i 1) ⟨(i 2).val % 64, by omega⟩ := by
  have h0 : (i 0).val < 8 := (i 0).isLt
  have h1 : (i 1).val < 4096 := (i 1).isLt
  have h2 : (i 2).val < 512 := (i 2).isLt
  rw [val_main_v26_apply, val_main_v25_apply, val_main_v24_apply, val_main_v23_apply]
  have hi : idx_main_v23 (idx_main_v24 (idx_main_v25 i))
      = ix5 (i 0 : Fin 8) (⟨(i 2).val / 256, by omega⟩ : Fin 2) (⟨(i 2).val / 64 % 4, by omega⟩ : Fin 4) (i 1 : Fin 4096) (⟨(i 2).val % 64, by omega⟩ : Fin 64) := by
    have e25 : idx_main_v25 i = ix4 (i 0 : Fin 8) (i 1 : Fin 4096) (⟨(i 2).val / 64, by omega⟩ : Fin 8) (⟨(i 2).val % 64, by omega⟩ : Fin 64) := by
      funext a
      apply Fin.ext
      fin_cases a
      · show (((i 0).val * 4096 + (i 1).val) * 512 + (i 2).val) / 2097152 = (i 0).val
        omega
      · show (((i 0).val * 4096 + (i 1).val) * 512 + (i 2).val) / 512 % 4096 = (i 1).val
        omega
      · show (((i 0).val * 4096 + (i 1).val) * 512 + (i 2).val) / 64 % 8 = (i 2).val / 64
        omega
      · show (((i 0).val * 4096 + (i 1).val) * 512 + (i 2).val) % 64 = (i 2).val % 64
        omega
    rw [e25]
    funext a
    apply Fin.ext
    fin_cases a
    · show ((((i 0).val * 8 + (i 2).val / 64) * 4096 + (i 1).val) * 64 + (i 2).val % 64) / 2097152 = (i 0).val
      omega
    · show ((((i 0).val * 8 + (i 2).val / 64) * 4096 + (i 1).val) * 64 + (i 2).val % 64) / 1048576 % 2 = (i 2).val / 256
      have hg : (i 2).val / 64 = (i 2).val / 256 * 4 + (i 2).val / 64 % 4 := by omega
      have hl : (i 2).val / 64 % 4 < 4 := by omega
      have hx : (i 2).val % 64 < 64 := by omega
      have hq : (i 2).val / 256 < 2 := by omega
      clear e25
      rw [hg]
      generalize (i 2).val / 256 = g at *
      generalize (i 2).val / 64 % 4 = j at *
      generalize (i 2).val % 64 = x at *
      omega
    · show ((((i 0).val * 8 + (i 2).val / 64) * 4096 + (i 1).val) * 64 + (i 2).val % 64) / 262144 % 4 = (i 2).val / 64 % 4
      omega
    · show ((((i 0).val * 8 + (i 2).val / 64) * 4096 + (i 1).val) * 64 + (i 2).val % 64) / 64 % 4096 = (i 1).val
      omega
    · show ((((i 0).val * 8 + (i 2).val / 64) * 4096 + (i 1).val) * 64 + (i 2).val % 64) % 64 = (i 2).val % 64
      omega
  rw [hi]
  refine (mixed q k v (i 0) _ _ (i 1) _).trans ?_
  have eh : head ⟨(i 2).val / 256, by omega⟩ ⟨(i 2).val / 64 % 4, by omega⟩ = (⟨(i 2).val / 64, by omega⟩ : Fin 8) :=
    Fin.ext (by show (i 2).val / 256 * 4 + (i 2).val / 64 % 4 = (i 2).val / 64; omega)
  rw [eh]

end Cert.BRef
end
-- ==== Proof.BEq.lean ====
/-
  The grouped-query attention: on finite queries and keys the sum of the quotients times the values is the quotient of the
  sums, so the two results are equal element by element.
-/
module

public import proofs.«01_k».proof.Proof.BArr
public import proofs.«01_k».proof.Proof.BRef
public import proofs.«01_k».proof.Defs
public import proofs.«01_k».proof.Proof.Finite

@[expose] public section

noncomputable section

namespace Cert.BEq

open Idealize.ShloMosaic Idealize.ShloMosaic.TcCoe Idealize.ShloMosaic.ValueIdx
open Cert.AVal (row Arr)
open Cert.BVal (KArr kcol)
open Cert.Soft (Fin')
open scoped BigOperators

/-- A score of finite arrays is finite. -/
theorem score_fin {q : Arr} {k : KArr} (hq : ∀ i, Fin' (q i)) (hk : ∀ i, Fin' (k i)) (b : Fin 8) (h : Fin 8) (s t : Fin 4096) :
    Fin' (BVal.score q k b h s t) :=
  Fin'.sum _ fun x => (hq _).mul (hk _)

/-- The reference's sum is the average. -/
theorem mix_eq {q : Arr} {k v : KArr} (hq : ∀ i, Fin' (q i)) (hk : ∀ i, Fin' (k i)) (b : Fin 8) (h : Fin 8) (s : Fin 4096) (d : Fin 64) :
    BRef.mix q k v b h s d = BVal.out q k v b h s d :=
  Soft.sum_div (by omega) (fun t => score_fin hq hk b h s t) (fun t => v (ix2 (row b t) (kcol h d)))

/-- What the precondition says of the arguments. -/
structure FinArgs (m : (ℓ : Loc Cert.KernelBIdeal.nD Cert.KernelBIdeal.τ Cert.KernelBIdeal.sig) → Buf (Elt Ideal) ℓ) (c : Dev Cert.KernelBIdeal.nD) : Prop where
  h0 : ∀ i, Fin' (m ((c : Thread Cert.KernelBIdeal.nD Cert.KernelBIdeal.τ).loc Cert.KernelBIdeal.main_arg0) i)
  h1 : ∀ i, Fin' (m ((c : Thread Cert.KernelBIdeal.nD Cert.KernelBIdeal.τ).loc Cert.KernelBIdeal.main_arg1) i)

instance : Subsingleton Cert.Pre_finite_b.S_.Idx := ⟨fun a b => funext fun i => i.elim0⟩

theorem finArgs [Cert.Pre_finite_b.Facts] {m : (ℓ : Loc Cert.KernelBIdeal.nD Cert.KernelBIdeal.τ Cert.KernelBIdeal.sig) → Buf (Elt Ideal) ℓ}
    (h : Pre_KernelBIdeal_finite_b m) (c : Dev Cert.KernelBIdeal.nD) : FinArgs m c := by
  have e := congrFun (h c) ix0
  obtain ⟨e0, e1⟩ := Finite.andi_one _ _ _ e
  exact ⟨Finite.fin_of_all _ _ (fun _ => rfl) _ _ _ _ e0, Finite.fin_of_all _ _ (fun _ => rfl) _ _ _ _ e1⟩

/-- The kernel's result array is the reference's value of the same arguments. -/
theorem value_eq {m : (ℓ : Loc Cert.KernelBIdeal.nD Cert.KernelBIdeal.τ Cert.KernelBIdeal.sig) → Buf (Elt Ideal) ℓ} {c : Dev Cert.KernelBIdeal.nD}
    (h : FinArgs m c) :
    BArr.G m c = Cert.ReferenceBIdeal.Read.val_main_v26 (F := Ideal) (m ((c : Thread Cert.KernelBIdeal.nD Cert.KernelBIdeal.τ).loc Cert.KernelBIdeal.main_arg0)) (m ((c : Thread Cert.KernelBIdeal.nD Cert.KernelBIdeal.τ).loc Cert.KernelBIdeal.main_arg1)) (m ((c : Thread Cert.KernelBIdeal.nD Cert.KernelBIdeal.τ).loc Cert.KernelBIdeal.main_arg2)) := by
  funext i
  refine Eq.trans ?_ (BRef.out_apply _ _ _ i).symm
  unfold BArr.G
  exact (mix_eq h.h0 h.h1 _ _ _ _).symm

end Cert.BEq
end
-- ==== Proof.BClaim.lean ====
/-
  The grouped-query attention: the kernel and the reference, run from the same finite arguments, leave equal results.
-/
module

public import proofs.«01_k».proof.Proof.BEq
public import proofs.«01_k».proof.Proof.Gen.ReferenceBIdeal.Run

@[expose] public section

noncomputable section

namespace Cert.BClaim

open Idealize.ShloMosaic Idealize.ShloMosaic.TcCoe Idealize.SL.Sem

/-- The reference runs and leaves its arguments as they were, from any memory. -/
theorem reference_runs : quiescent_ReferenceBIdeal := fun m g _ =>
  (θ_run Cert.ReferenceBIdeal.defs _ _).mono
    (fun r h => ⟨fun c => (h c).2, sem_eq_zero_of_no_sems (by decide) r.2⟩) (Cert.ReferenceBIdeal.Value.run (F := Ideal) m g)

/-- From finite arguments the kernel's result is the reference's. -/
theorem algebraic [Cert.Pre_finite_b.Facts] : algebraic_KernelBIdeal_ReferenceBIdeal_pre_finite_b := by
  intro m g m' g' hp he
  refine ⟨fun c => BArr.G m c, ?_, ?_⟩
  · exact (θ_run _ _ _).mono (fun r h c => ⟨(h c).1.trans (BArr.final m c), (h c).2⟩) (Cert.KernelBIdeal.Value.run_blocks m g)
  · refine (θ_run _ _ _).mono (fun r h c => ⟨(h c).1.trans ?_, (h c).2⟩) (Cert.ReferenceBIdeal.Value.run (F := Ideal) m' g')
    obtain ⟨e0, e1, e2⟩ := he c
    refine (Cert.ReferenceBIdeal.Read.val_main_v26_eq _ _ _).trans ?_
    refine Eq.trans ?_ (BEq.value_eq (BEq.finArgs hp c)).symm
    rw [e0, e1, e2]

end Cert.BClaim
end
-- ==== Proof.MBody.lean ====
/-
  The experts' kernel body at one grid point. It reads the number of used blocks and then either computes the block
  from its seven inputs, or fills the block with zeros.
-/
module

public import proofs.«01_k».proof.Proof.Gen.KernelMIdeal.Skeleton
public import proofs.«01_k».proof.Proof.Gen.KernelMIdeal.Launch
public import Idealize.ShloMosaic.Lib.Pipeline.FrameBody
public import Idealize.ShloMosaic.Lib.Pipeline.TableIdle
public import Idealize.ShloMosaic.Lib.Ring
public import Idealize.ShloMosaic.Lib.Writes
public import Idealize.ShloMosaic.Lib.VecWindow
public import Idealize.ShloMosaic.Lib.Exec
public import Idealize.ShloMosaic.Lib.Tactic
public import Idealize.ShloMosaic.Lib.WordCmp

@[expose] public section

set_option maxRecDepth 16384

noncomputable section

namespace Cert.MBody

open Cert.KernelMIdeal Cert.KernelMIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables as the body is handed them: the experts of the blocks and the number of used blocks. -/
abbrev tabE : Memref sig .tc .smem S288 .i32 := Memref.whole main_arg0
abbrev tabN : Memref sig .tc .smem S1 .i32 := Memref.whole main_arg1

/-- A staging buffer holding the block `x`, in full. -/
abbrev has (c : Dev nD) {S : Shape} {e : EltTy} (M : Memref sig .tc .vmem S e) (x : S.Idx → Elt F e) : sProp 𝕄 :=
  M.view.loc (c : Thread nD τ) ↦[M.view.set]{fullShare} M.view.rep x

/-- A table held at half the full share: it is only read. -/
abbrev reads (c : Dev nD) {S : Shape} {e : EltTy} (M : Memref sig .tc .smem S e) (f : Buf (Elt F) (M.view.loc (c : Thread nD τ))) : sProp 𝕄 :=
  M.view.loc (c : Thread nD τ) ↦{fullShare.right} f

/-- The number of used blocks, as the body reads it from its table. -/
abbrev count (T : S1.Idx → BitVec 32) : BitVec 32 :=
  View.readAt (Elt F) tabN.view (Rect.unit (s := S1) ![0] S1.size inb_S1_S1_0).toLoadRect T (Shape.Idx.first (numel1_S1.symm ▸ Nat.one_pos))

variable (c : Dev nD) (i : grid0.Coords)
  (b0 : Memref sig .tc .vmem S512x1024 .f32) (w0 : b0.IsWhole) (b1 : Memref sig .tc .vmem S1x1024x1024 .bf16) (w1 : b1.IsWhole)
  (b2 : Memref sig .tc .vmem S1x1x1024 .f32) (w2 : b2.IsWhole) (b3 : Memref sig .tc .vmem S1x1024x1024 .bf16) (w3 : b3.IsWhole)
  (b4 : Memref sig .tc .vmem S1x1x1024 .f32) (w4 : b4.IsWhole) (b5 : Memref sig .tc .vmem S1x1024x1024 .bf16) (w5 : b5.IsWhole)
  (b6 : Memref sig .tc .vmem S1x1x1024 .f32) (w6 : b6.IsWhole) (b7 : Memref sig .tc .vmem S512x1024 .f32) (w7 : b7.IsWhole)
  (T0 : S288.Idx → BitVec 32) (T1 : S1.Idx → BitVec 32)
  (x0 : S512x1024.Idx → Elt F .f32) (x1 : S1x1024x1024.Idx → Elt F .bf16) (x2 : S1x1x1024.Idx → Elt F .f32)
  (x3 : S1x1024x1024.Idx → Elt F .bf16) (x4 : S1x1x1024.Idx → Elt F .f32) (x5 : S1x1024x1024.Idx → Elt F .bf16)
  (x6 : S1x1x1024.Idx → Elt F .f32)

/-- What the body leaves alone: the seven input blocks and the two tables. -/
abbrev ins : sProp 𝕄 :=
  iprop(has c b0 x0 ∗ has c b1 x1 ∗ has c b2 x2 ∗ has c b3 x3 ∗ has c b4 x4 ∗ has c b5 x5 ∗ has c b6 x6
    ∗ reads c tabE T0 ∗ reads c tabN T1)

set_option backward.proofsInPublic true in
set_option maxHeartbeats 4000000 in
/-- At a point past the used blocks the body fills its output block with zeros. -/
theorem run_unused (h1 : ¬ k0_cond1 i (count (F := F) T1) = 1#1) (h2 : k0_cond2 i (count (F := F) T1) = 1#1) (K : PUnit → sProp 𝕄) :
    iprop(ins c b0 b1 b2 b3 b4 b5 b6 T0 T1 x0 x1 x2 x3 x4 x5 x6 ∗ (∃ d, owns (c : Thread nD τ) b7 fullShare d)
        ∗ (iprop(ins c b0 b1 b2 b3 b4 b5 b6 T0 T1 x0 x1 x2 x3 x4 x5 x6 ∗ owns (c : Thread nD τ) b7 fullShare (k0_pay2 (F := F))) -∗ K ⟨⟩))
      ⊢ wp frame (wpE (defs₀ (F := F)) Variants.none c none) Set.univ
          (cc0_moe_experts i tabE (Memref.isWhole_whole _) tabN (Memref.isWhole_whole _) b0 w0 b1 w1 b2 w2 b3 w3 b4 w4 b5 w5 b6 w6 b7 w7) K := by
  unfold owns
  rw [cc0_moe_experts_eq_skeleton]; unfold cc0_moe_experts_skel
  iintro ⟨⟨H0, H1, H2, H3, H4, H5, H6, HT0, HT1⟩, ⟨%d7, %f7, -, HO7⟩, Hk⟩
  have hT0 : tabE.IsWhole := Memref.isWhole_whole _
  have hT1 : tabN.IsWhole := Memref.isWhole_whole _
  sl_exec! (disch := first | exact h1 | exact h2)
  sl_step
  iapply Hk
  isplitl [H0 H1 H2 H3 H4 H5 H6 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    iexact HT1
  · iexists _
    isplitr; swap
    · iexact HO7
    · ipureintro; exact View.read_writes_full _ _ _ _ _

set_option backward.proofsInPublic true in
set_option maxHeartbeats 4000000 in
/-- At a used point the body leaves in its output block the value computed from its seven input blocks. -/
theorem run_used (h1 : k0_cond1 i (count (F := F) T1) = 1#1) (h2 : ¬ k0_cond2 i (count (F := F) T1) = 1#1) (K : PUnit → sProp 𝕄) :
    iprop(ins c b0 b1 b2 b3 b4 b5 b6 T0 T1 x0 x1 x2 x3 x4 x5 x6 ∗ (∃ d, owns (c : Thread nD τ) b7 fullShare d)
        ∗ (iprop(ins c b0 b1 b2 b3 b4 b5 b6 T0 T1 x0 x1 x2 x3 x4 x5 x6
            ∗ owns (c : Thread nD τ) b7 fullShare (k0_pay1 (k0_pay3 x0 x1 x2 x3 x4) x5 x6)) -∗ K ⟨⟩))
      ⊢ wp frame (wpE (defs₀ (F := F)) Variants.none c none) Set.univ
          (cc0_moe_experts i tabE (Memref.isWhole_whole _) tabN (Memref.isWhole_whole _) b0 w0 b1 w1 b2 w2 b3 w3 b4 w4 b5 w5 b6 w6 b7 w7) K := by
  unfold owns
  rw [cc0_moe_experts_eq_skeleton]; unfold cc0_moe_experts_skel
  rw [k0_part1_eq_skeleton]; unfold k0_part1_skel
  iintro ⟨⟨H0, H1, H2, H3, H4, H5, H6, HT0, HT1⟩, ⟨%d7, %f7, -, HO7⟩, Hk⟩
  have hT0 : tabE.IsWhole := Memref.isWhole_whole _
  have hT1 : tabN.IsWhole := Memref.isWhole_whole _
  sl_exec! (disch := first | exact h1 | exact h2)
  sl_step
  iapply Hk
  isplitl [H0 H1 H2 H3 H4 H5 H6 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    iexact HT1
  · iexists _
    isplitr; swap
    · iexact HO7
    · ipureintro
      refine (View.read_writes_full _ _ _ _ _).trans ?_
      rw [View.readAt_rep_full b0.view x0 inb_S512x1024_S512x1024_0_0, View.readAt_rep_full b1.view x1 inb_S1x1024x1024_S1x1024x1024_0_0_0,
        View.readAt_rep_full b2.view x2 inb_S1x1x1024_S1x1x1024_0_0_0, View.readAt_rep_full b3.view x3 inb_S1x1024x1024_S1x1024x1024_0_0_0,
        View.readAt_rep_full b4.view x4 inb_S1x1x1024_S1x1x1024_0_0_0, View.readAt_rep_full b5.view x5 inb_S1x1024x1024_S1x1024x1024_0_0_0,
        View.readAt_rep_full b6.view x6 inb_S1x1x1024_S1x1x1024_0_0_0]

/-- The body in one statement: the output block is computed at a used point and zero elsewhere. -/
theorem run (hx : k0_cond2 i (count (F := F) T1) = 1#1 ↔ ¬ k0_cond1 i (count (F := F) T1) = 1#1) (K : PUnit → sProp 𝕄) :
    iprop(ins c b0 b1 b2 b3 b4 b5 b6 T0 T1 x0 x1 x2 x3 x4 x5 x6 ∗ (∃ d, owns (c : Thread nD τ) b7 fullShare d)
        ∗ (iprop(ins c b0 b1 b2 b3 b4 b5 b6 T0 T1 x0 x1 x2 x3 x4 x5 x6
            ∗ owns (c : Thread nD τ) b7 fullShare
                (if k0_cond1 i (count (F := F) T1) = 1#1 then k0_pay1 (k0_pay3 x0 x1 x2 x3 x4) x5 x6 else k0_pay2)) -∗ K ⟨⟩))
      ⊢ wp frame (wpE (defs₀ (F := F)) Variants.none c none) Set.univ
          (cc0_moe_experts i tabE (Memref.isWhole_whole _) tabN (Memref.isWhole_whole _) b0 w0 b1 w1 b2 w2 b3 w3 b4 w4 b5 w5 b6 w6 b7 w7) K := by
  by_cases h : k0_cond1 i (count (F := F) T1) = 1#1
  · rw [if_pos h]
    exact run_used c i b0 w0 b1 w1 b2 w2 b3 w3 b4 w4 b5 w5 b6 w6 b7 w7 T0 T1 x0 x1 x2 x3 x4 x5 x6 h (fun h2 => hx.mp h2 h) K
  · rw [if_neg h]
    exact run_unused c i b0 w0 b1 w1 b2 w2 b3 w3 b4 w4 b5 w5 b6 w6 b7 w7 T0 T1 x0 x1 x2 x3 x4 x5 x6 h (hx.mpr h) K

end Cert.MBody
end
-- ==== Proof.MFrame.lean ====
/-
  The experts' kernel run from any memory whose blocks name experts that exist: it ends, every argument is as it was,
  and the result holds block by block what the body computes. The tables are whatever the memory holds.
-/
module

public import proofs.«01_k».proof.Proof.MBody
public import Idealize.ShloMosaic.Lib.Pipeline.Frame
public import Idealize.ShloMosaic.Lib.Pipeline.Kit
public import Idealize.ShloMosaic.Lib.Pipeline.Quiescent
public import Idealize.ShloMosaic.Lib.Claim

@[expose] public section

set_option maxRecDepth 16384

noncomputable section

namespace Cert.MFrame

open Cert.KernelMIdeal Cert.KernelMIdeal.Gen Cert.MBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (g : Dev nD → PrngReg)

/-! ## The launch -/

/-- What the buffers hold when the kernel is entered. -/
abbrev V (c : Dev nD) (b : Ref sig .tc) : Buf (Elt F) ((c : Thread nD τ).loc b) := StableHlo.after hostOps0 (fun b => m (c, b)) b

/-- The buffers the host operations write. -/
abbrev made : List (Ref sig .tc) := [main_v0, main_v1, main_v2, main_v3, main_v4, main_v5, main_v6, main_v7, main_v8, main_v9, main_v10, main_v11]

/-- A buffer no host operation writes is found as launched. -/
theorem kept (c : Dev nD) (b : Ref sig .tc) (hb : ∀ x ∈ made, b ≠ x) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    refine ⟨?_, ?_, ?_, ?_, ?_, ?_, ?_, ?_, ?_, ?_, ?_, ?_⟩ <;> exact StableHlo.devRef_ne_of_ne (hb _ (by decide))))

set_option maxHeartbeats 800000 in
/-- The program is its host operations and then the kernel. -/
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub
    (by simp only [List.Forall]; repeat' constructor) main_chain

/-! ## The tables -/

/-- The tables as the kernel finds them. -/
def tbl : pre0.Contents (Elt F) := fun j => V m (0 : Dev nD) (pre0.ref j)

theorem tbl_eq (c : Dev nD) (j : Fin 2) : V m c (pre0.ref j) = tbl m j := by
  obtain rfl : c = 0 := Subsingleton.elim _ _; rfl

/-- Every block the tables name lies inside its array. -/
abbrev Ok : Prop := ok0 (F := F) (tbl m)

variable (hO : Ok m)

abbrev adm : (pcfg0 (F := F)).Adm := ⟨tbl m, hO⟩
abbrev cfgM : Pipeline.Cfg sig Λ₀ := cfg0 (adm m hO)

/-- The tables' halves lent to the body, one by one. -/
theorem tables_eq (c : Dev nD) : (Pipeline.ΦT pre0 (tbl m) c : sProp 𝕄) = iprop(reads c tabE (tbl m 0) ∗ reads c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A point is used, in the body's words. -/
abbrev Used (i : grid0.Coords) : Prop := k0_cond1 i (count (F := F) (tbl m 1)) = 1#1

/-- The two tests of the body are each other's opposite. -/
theorem tests (i : grid0.Coords) (w : BitVec 32) : k0_cond2 i w = 1#1 ↔ ¬ k0_cond1 i w = 1#1 := by
  unfold k0_cond1 k0_cond2
  simp only [Scalar.cmpi, WordCmp.cmpi_slt_eq, WordCmp.cmpi_sge_eq]
  by_cases h : (BitVec.ofNat 32 (i 0).val).toInt < w.toInt
  · rw [decide_eq_true h, decide_eq_false (not_le.mpr h)]; decide
  · rw [decide_eq_false h, decide_eq_true (not_lt.mp h)]; decide

/-- So the output block is written at every point. -/
theorem never_idle (i : grid0.Coords) : idle0 (F := F) (tbl m) 7 i = false := by
  show (!(k0_cond1 i _ == 1#1) && !(k0_cond2 i _ == 1#1)) = false
  rw [Bool.and_eq_false_iff]
  by_cases h : k0_cond1 i ((tbl m).atD 1 ![0]) = 1#1
  · left; rw [h]; rfl
  · right; rw [(tests i _).mpr h]; rfl

/-! ## The blocks -/

/-- The block of window `w` at point `t`, read from the window's array as the kernel finds it. -/
def iblk (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What the body leaves in the output block at point `t`. -/
def left (c : Dev nD) (t : Fin (cfgM m hO).N) : S512x1024.Idx → Elt F .f32 :=
  if Used m ((cfgM m hO).grid.coords t) then
    k0_pay1 (k0_pay3 (iblk m hO c 0 t) (iblk m hO c 1 t) (iblk m hO c 2 t) (iblk m hO c 3 t) (iblk m hO c 4 t)) (iblk m hO c 5 t) (iblk m hO c 6 t)
  else k0_pay2

/-- The pipeline's data: the arrays as found, each input block left as it is, the output block as `left` says. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c (0 : Fin 8) t
    | ⟨1, _⟩ => iblk m hO c (1 : Fin 8) t
    | ⟨2, _⟩ => iblk m hO c (2 : Fin 8) t
    | ⟨3, _⟩ => iblk m hO c (3 : Fin 8) t
    | ⟨4, _⟩ => iblk m hO c (4 : Fin 8) t
    | ⟨5, _⟩ => iblk m hO c (5 : Fin 8) t
    | ⟨6, _⟩ => iblk m hO c (6 : Fin 8) t
    | ⟨7, _⟩ => left m hO c t
  Φ _ := iprop(Pipeline.ΦA spec0 c ∗ Pipeline.ΦT pre0 (tbl m) c)
  q _ := fullShare
  owed _ := 0

/-- Each input's buffer holds the input's block whenever the body runs. -/
theorem before_ins (c : Dev nD) (t : Fin (cfgM m hO).N) :
    (∀ d, (dats m hO 0 c).before 0 t d = iblk m hO c (0 : Fin 8) t) ∧ (∀ d, (dats m hO 0 c).before 1 t d = iblk m hO c (1 : Fin 8) t)
    ∧ (∀ d, (dats m hO 0 c).before 2 t d = iblk m hO c (2 : Fin 8) t) ∧ (∀ d, (dats m hO 0 c).before 3 t d = iblk m hO c (3 : Fin 8) t)
    ∧ (∀ d, (dats m hO 0 c).before 4 t d = iblk m hO c (4 : Fin 8) t) ∧ (∀ d, (dats m hO 0 c).before 5 t d = iblk m hO c (5 : Fin 8) t)
    ∧ (∀ d, (dats m hO 0 c).before 6 t d = iblk m hO c (6 : Fin 8) t) := by
  refine ⟨fun d => ?_, fun d => ?_, fun d => ?_, fun d => ?_, fun d => ?_, fun d => ?_, fun d => ?_⟩ <;>
    exact ((dats m hO 0 c).before_in_eq_fetched _ rfl (fun _ => rfl) (fun _ _ _ => rfl) (fun t => rfl) t d).trans rfl

end Cert.MFrame
end
-- ==== Proof.MRun.lean ====
/-
  The experts' kernel run: the body does at every point what the pipeline's data say, so the launch ends with every
  argument as it was and the result as the data give it.
-/
module

public import proofs.«01_k».proof.Proof.MFrame

@[expose] public section

set_option maxRecDepth 16384

noncomputable section

namespace Cert.MFrame

open Cert.KernelMIdeal Cert.KernelMIdeal.Gen Cert.MBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (g : Dev nD → PrngReg) (hO : Ok m)

/-- The staging buffers of point `t`. -/
abbrev st (w : Fin 8) (t : Fin (cfgM m hO).N) := ((cfgM m hO).win w).stage ((cfgM m hO).slots t w)

/-- The body as the pipeline calls it at point `t`. -/
abbrev bodyAt (t : Fin (cfgM m hO).N) : Prog (TpuEff nD τ sig (Elt F) Λ₀ .tc) PUnit :=
  defs₀ .tc (cfgM m hO).body ((cfgM m hO).bodyArgs t ((cfgM m hO).slots t))

/-- The body run on the point's own buffers, from the blocks of the inputs. -/
theorem sound (c : Dev nD) (t : Fin (cfgM m hO).N) (K : PUnit → sProp 𝕄) :
    iprop(ins c (st m hO 0 t) (st m hO 1 t) (st m hO 2 t) (st m hO 3 t) (st m hO 4 t) (st m hO 5 t) (st m hO 6 t) (tbl m 0) (tbl m 1)
          (iblk m hO c 0 t) (iblk m hO c 1 t) (iblk m hO c 2 t) (iblk m hO c 3 t) (iblk m hO c 4 t) (iblk m hO c 5 t) (iblk m hO c 6 t)
        ∗ (∃ d, owns (c : Thread nD τ) (st m hO 7 t) fullShare d)
        ∗ (iprop(ins c (st m hO 0 t) (st m hO 1 t) (st m hO 2 t) (st m hO 3 t) (st m hO 4 t) (st m hO 5 t) (st m hO 6 t) (tbl m 0) (tbl m 1)
            (iblk m hO c 0 t) (iblk m hO c 1 t) (iblk m hO c 2 t) (iblk m hO c 3 t) (iblk m hO c 4 t) (iblk m hO c 5 t) (iblk m hO c 6 t)
            ∗ owns (c : Thread nD τ) (st m hO 7 t) fullShare (left m hO c t)) -∗ K ⟨⟩))
      ⊢ wp frame (wpE (defs₀ (F := F)) Variants.none c none) Set.univ (bodyAt m hO t) K :=
  run c ((cfgM m hO).grid.coords t) (st m hO 0 t) (stage_whole0 0 _) (st m hO 1 t) (stage_whole0 1 _) (st m hO 2 t) (stage_whole0 2 _)
    (st m hO 3 t) (stage_whole0 3 _) (st m hO 4 t) (stage_whole0 4 _) (st m hO 5 t) (stage_whole0 5 _) (st m hO 6 t) (stage_whole0 6 _)
    (st m hO 7 t) (stage_whole0 7 _) (tbl m 0) (tbl m 1) (iblk m hO c 0 t) (iblk m hO c 1 t) (iblk m hO c 2 t) (iblk m hO c 3 t)
    (iblk m hO c 4 t) (iblk m hO c 5 t) (iblk m hO c 6 t) (tests _ _) K

/-- A buffer owned at a block that equals `Y` holds `Y`. -/
theorem has_of (c : Dev nD) {S : Shape} {e : EltTy} (M : Memref sig .tc .vmem S e) {X Y : S.Idx → Elt F e} (h : X = Y) :
    (owns (c : Thread nD τ) M fullShare X : sProp 𝕄) ⊢ has c M Y := by
  subst h; exact rep_of_owns _ _ _ _

set_option maxHeartbeats 4000000 in
/-- The body at every point finds and leaves what the pipeline's data say. -/
theorem obligation (c : Dev nD) : BodyObligation (dats m hO 0 c) (defs₀ (F := F)) Variants.none () Set.univ := fun t => by
  obtain ⟨e0, e1, e2, e3, e4, e5, e6⟩ := before_ins m hO c t
  rw [bigSep_W0, bigSep_W0]
  rewrite [show (cfgM m hO).idle (7 : Fin 8) ((cfgM m hO).grid.coords t) = false from never_idle m _]
  rewrite [show (dats m hO 0 c).Φ t.succ = iprop(Pipeline.ΦA spec0 c ∗ reads c tabE (tbl m 0) ∗ reads c tabN (tbl m 1)) from congrArg (fun X => iprop(Pipeline.ΦA spec0 c ∗ X)) (tables_eq m c),
    show (dats m hO 0 c).Φ t.castSucc = iprop(Pipeline.ΦA spec0 c ∗ reads c tabE (tbl m 0) ∗ reads c tabN (tbl m 1)) from congrArg (fun X => iprop(Pipeline.ΦA spec0 c ∗ X)) (tables_eq m c),
    show (dats m hO 0 c).owesAt () t.succ = (dats m hO 0 c).owesAt () t.castSucc from rfl]
  iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound m hO c t _)
  isplitl [H0 H1 H2 H3 H4 H5 H6 HT0 HT1]
  · isplitl [H0]; · iapply (has_of c _ (e0 d0)); iexact H0
    isplitl [H1]; · iapply (has_of c _ (e1 d1)); iexact H1
    isplitl [H2]; · iapply (has_of c _ (e2 d2)); iexact H2
    isplitl [H3]; · iapply (has_of c _ (e3 d3)); iexact H3
    isplitl [H4]; · iapply (has_of c _ (e4 d4)); iexact H4
    isplitl [H5]; · iapply (has_of c _ (e5 d5)); iexact H5
    isplitl [H6]; · iapply (has_of c _ (e6 d6)); iexact H6
    isplitl [HT0]; · iexact HT0
    iexact HT1
  isplitl [H7]; · iexists _; iexact H7
  iintro ⟨⟨H0, H1, H2, H3, H4, H5, H6, HT0, HT1⟩, H7⟩
  isplitl [HA HT0 HT1]
  · isplitl [HA]; · iexact HA
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexact H7

end Cert.MFrame
end
-- ==== Proof.MLaunch.lean ====
/-
  What the experts' kernel ends with, for any memory whose tables name blocks inside the arrays.
-/
module

public import proofs.«01_k».proof.Proof.MRun

@[expose] public section

set_option maxRecDepth 16384

noncomputable section

namespace Cert.MFrame

open Cert.KernelMIdeal Cert.KernelMIdeal.Gen Cert.MBody
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (g : Dev nD → PrngReg) (hO : Ok m)

/-- A state at which every argument is as launched. -/
abbrev Kept (s : MemSt nD τ sig (Elt F)) : Prop := ∀ c : Dev nD,
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)

/-- What the launch theorem says of a final state, read at the result and at the arguments. -/
theorem read_post (s : PUnit × MemSt nD τ sig (Elt F))
    (h : Pipeline.FramePost (Pipeline.pin pcfgs fun _ => adm m hO) (dats m hO) 0 (V m) s) :
    (∀ c : Dev nD, s.2.mem ((c.tc : Thread nD τ).loc main_v12) = (dats m hO 0 c).arrAt 7 (cfgM m hO).N) ∧ Kept m s.2 := by
  have rest (c : Dev nD) (b : Ref sig .tc) (hb : b ∈ Pipeline.restRefs sig spec0) (hm : ∀ x ∈ made, b ≠ x) :
      s.2.mem ((c.tc : Thread nD τ).loc b) = m ((c.tc : Thread nD τ).loc b) := ((h c).2 b hb).trans (kept m c b hm)
  exact ⟨fun c => (h c).1 7, fun c => ⟨rest c _ (by decide) (by decide), rest c _ (by decide) (by decide),
    ((h c).1 0).trans (((dats m hO 0 c).arrAt_in 0 rfl _).trans (kept m c main_arg2 (by decide))),
    rest c _ (by decide) (by decide), rest c _ (by decide) (by decide), rest c _ (by decide) (by decide),
    rest c _ (by decide) (by decide), rest c _ (by decide) (by decide), rest c _ (by decide) (by decide)⟩⟩

set_option maxHeartbeats 4000000 in
set_option backward.isDefEq.respectTransparency.types false in
/-- The kernel ends, its result as the pipeline's data give it, its arguments as launched and no signal pending. -/
theorem ends : θ_run (defs (F := F)) (onTc (τ := τ) (main (F := F))) ⟨m, fun _ => 0, g⟩
    (fun r => ((∀ c : Dev nD, r.2.mem ((c.tc : Thread nD τ).loc main_v12) = (dats m hO 0 c).arrAt 7 (cfgM m hO).N) ∧ Kept m r.2)
      ∧ r.2.sem = fun _ => 0) :=
  Pipeline.θ_run_frameP pcfgs (fun _ => adm m hO) (dats m hO) 0 launch0 defs₀ Variants.none m g main
    (hbody := fun c => (obligation m hO c).loose)
    (hshare := fun c w => by unfold Dat.share; split <;> rfl)
    (howed := fun _ _ => rfl)
    (V := V m) (hmain := hmain m) (hA := fun _ _ => rfl) (hpf := tbl_eq m) (hΦ := fun _ _ => rfl)
    (Q' := _) (hQ' := fun r h => ⟨read_post m hO r h.1, h.2⟩)

end Cert.MFrame
end
-- ==== Proof.MTab.lean ====
/-
  The experts' tables: each block's expert, and why the blocks the tables name exist when every expert is one of the 32.
-/
module

public import proofs.«01_k».proof.Proof.MFrame
public import proofs.«01_k».proof.Pre_named
public import Idealize.ShloMosaic.Lib.ValueIdx

@[expose] public section

set_option maxRecDepth 16384

noncomputable section

namespace Cert.MFrame

open Cert.KernelMIdeal Cert.KernelMIdeal.Gen Cert.MBody
open Idealize.ShloMosaic Idealize.ShloMosaic.TcCoe Idealize.ShloMosaic.ValueIdx

variable {F : FTy → Type} [FloatOps F]
variable (m : (ℓ : Loc nD τ sig) → Buf (Elt F) ℓ)

/-- The expert of a grid point's block, as the table names it. -/
def word (pf : pre0.Contents (Elt F)) (i : grid0.Coords) : BitVec 32 := (pf 0 : S288.Idx → BitVec 32) (ix1 ⟨(i 0).val, (i 0).isLt⟩)

/-- Every array's block is chosen by the expert alone. -/
theorem map_eq (pf : pre0.Contents (Elt F)) (i : grid0.Coords) :
    cc0_transform_1 k0_off1_inb numel1_S1 pf i = ![(word pf i).toNat, 0, 0] := by
  have e : pf.at 0 (Rect.unit (s := S288) ![(Scalar.indexCast (BitVec.ofNat 32 (i 0).val)).toNat] S1.size (k0_off1_inb i)) numel1_S1 = word pf i := by
    refine congrArg (pf 0) (funext fun a => Fin.ext ?_)
    fin_cases a
    show k0_off1 i 0 + 1 * 0 = (i 0).val
    rw [k0_off1_eq]
    simp
  exact congrArg (fun w : BitVec 32 => (![w.toNat, 0, 0] : Fin 3 → ℕ)) e

/-- A weight matrix of an expert that exists lies inside the array of all of them. -/
theorem weight_inside (n : ℕ) (hn : n < 32) : ∀ a, ((![n, 0, 0] : Fin 3 → ℕ) a + 1) * S1x1024x1024.size a ≤ S32x1024x1024.size a := by
  intro a
  fin_cases a
  · show (n + 1) * 1 ≤ 32
    omega
  · show (0 + 1) * 1024 ≤ 1024
    omega
  · show (0 + 1) * 1024 ≤ 1024
    omega

/-- So does its bias. -/
theorem bias_inside (n : ℕ) (hn : n < 32) : ∀ a, ((![n, 0, 0] : Fin 3 → ℕ) a + 1) * S1x1x1024.size a ≤ S32x1x1024.size a := by
  intro a
  fin_cases a
  · show (n + 1) * 1 ≤ 32
    omega
  · show (0 + 1) * 1 ≤ 1
    omega
  · show (0 + 1) * 1024 ≤ 1024
    omega

/-- If every block's expert exists, the tables name blocks inside the arrays. -/
theorem ok_of (pf : pre0.Contents (Elt F)) (h : ∀ i, (word pf i).toNat < 32) : ok0 pf := by
  have hw (i : grid0.Coords) : ∃ h : (∀ a, (cc0_transform_1 k0_off1_inb numel1_S1 pf i a + 1) * S1x1024x1024.size a ≤ S32x1024x1024.size a),
      EltTy.bits .bf16 = 32 ∨ (Rect.block (s := S32x1024x1024) S1x1024x1024.size (cc0_transform_1 k0_off1_inb numel1_S1 pf i) h).WholeWords (EltTy.packing .bf16) := by
    rw [map_eq]
    exact ⟨weight_inside _ (h i), .inr (.inr ⟨by decide, rfl, rfl, rfl⟩)⟩
  have hb (i : grid0.Coords) : ∃ h : (∀ a, (cc0_transform_1 k0_off1_inb numel1_S1 pf i a + 1) * S1x1x1024.size a ≤ S32x1x1024.size a),
      EltTy.bits .f32 = 32 ∨ (Rect.block (s := S32x1x1024) S1x1x1024.size (cc0_transform_1 k0_off1_inb numel1_S1 pf i) h).WholeWords (EltTy.packing .f32) := by
    rw [map_eq]
    exact ⟨bias_inside _ (h i), .inl rfl⟩
  exact ⟨hw, hb, hw, hb, hw, hb⟩

/-- What the precondition says of a table of experts: each is one of the 32. -/
theorem named_lt [Cert.Pre_named.Facts] (a0 : S288.Idx → BitVec 32) (a1 : S1.Idx → BitVec 32) (a2 : S147456x1024.Idx → F .f32)
    (a3 a5 a7 : S1x32x1024x1024.Idx → F .f32) (a4 a6 a8 : S1x32x1024.Idx → F .f32)
    (h : Cert.Pre_named.fn (F := F) a0 a1 a2 a3 a4 a5 a6 a7 a8 = fun _ => 1#1) (x : S288.Idx) : (a0 x).toNat < 32 := by
  have e : IntOp.andi (IntOp.cmpi .sge (a0 x) 0#32) (IntOp.cmpi .slt (a0 x) 32#32) = 1#1 := congrFun h x
  have w : IntOp.andi (IntOp.cmpi .sge (a0 x) 0#32) (IntOp.cmpi .slt (a0 x) 32#32) = 1#1 ↔ (a0 x).toNat < 32 := by word_cmp
  exact w.mp e

/-- So a memory whose blocks name experts that exist lets the kernel run. -/
theorem ok_of_named [Cert.Pre_named.Facts] (a1 : S1.Idx → BitVec 32) (a2 : S147456x1024.Idx → F .f32)
    (a3 a5 a7 : S1x32x1024x1024.Idx → F .f32) (a4 a6 a8 : S1x32x1024.Idx → F .f32)
    (h : Cert.Pre_named.fn (F := F) (m (((0 : Dev nD).tc : Thread nD τ).loc main_arg0)) a1 a2 a3 a4 a5 a6 a7 a8 = fun _ => 1#1) : Ok m := by
  refine ok_of (tbl m) fun i => ?_
  rw [show word (tbl m) i = m (((0 : Dev nD).tc : Thread nD τ).loc main_arg0) (ix1 ⟨(i 0).val, (i 0).isLt⟩) from
    congrFun (kept m 0 main_arg0 (by decide)) _]
  exact named_lt _ a1 a2 a3 a5 a7 a4 a6 a8 h _

end Cert.MFrame
end
-- ==== Proof.MQuiet.lean ====
/-
  The experts' kernel leaves its arguments alone, as compiled and read in exact arithmetic. The two programs are the
  same text, so the one run serves both.
-/
module

public import proofs.«01_k».proof.Proof.MLaunch
public import proofs.«01_k».proof.Proof.MTab
public import proofs.«01_k».proof.Proof.Gen.KernelM.Launch
public import proofs.«01_k».proof.Defs

@[expose] public section

set_option maxRecDepth 16384

noncomputable section

namespace Cert.MFrame

open Idealize.ShloMosaic Idealize.ShloMosaic.TcCoe Idealize.SL.Sem

variable {F : FTy → Type} [FloatOps F]

/-- The two programs name the same kernel body. -/
theorem same_body : Cert.KernelM.defs₀ (F := F) = Cert.KernelMIdeal.defs₀ (F := F) := by
  unfold Cert.KernelM.defs₀ Cert.KernelMIdeal.defs₀
  refine congrArg (Defs.onTc (nD := Cert.KernelM.nD) (τ := Cert.KernelM.τ) (sig := Cert.KernelM.sig) (Val := Elt F) (Λ := Cert.KernelM.Λ₀)) ?_
  funext k a
  match k, a with
  | 0, (t, s) => rfl

set_option maxHeartbeats 2000000 in
/-- So their tables of bodies are equal. -/
theorem same_defs : Cert.KernelM.defs (F := F) = Cert.KernelMIdeal.defs (F := F) :=
  congrArg (Pipeline.defs (Cert.KernelM.pcfgs (F := F))) same_body

set_option maxHeartbeats 2000000 in
/-- And they run the same operations. -/
theorem same_main : Cert.KernelM.main (F := F) = Cert.KernelMIdeal.main (F := F) := rfl

/-- In exact arithmetic the kernel ends with its arguments as launched. -/
theorem quiet_ideal [Cert.Pre_named.Facts] : quiescent_KernelMIdeal := fun m g hp =>
  (θ_run _ _ _).mono (fun _ h => ⟨h.1.2, h.2⟩) (ends m g (ok_of_named m _ _ _ _ _ _ _ _ (hp 0)))

/-- As compiled the kernel ends with its arguments as launched. -/
theorem quiet_bits [Cert.Pre_named.Facts] : quiescent_KernelM := fun m g hp => by
  rw [same_defs, same_main]
  exact (θ_run (Cert.KernelMIdeal.defs (F := Bits)) _ _).mono (fun _ h => ⟨h.1.2, h.2⟩)
    (ends (F := Bits) m g (ok_of_named (F := Bits) m _ _ _ _ _ _ _ _ (hp 0)))

end Cert.MFrame
end
-- ==== Proof.MVal.lean ====
/-
  A mixture of experts as mathematics over the extended reals: a block's rows go through the gated layer of the block's
  expert; a block past the last used one is zero.
-/
module

public import Idealize.ShloMosaic.PureOps.Ideal.Laws
public import Idealize.ShloMosaic.Lib.ValueIdx

@[expose] public section

noncomputable section

namespace Cert.MVal

open Idealize.ShloMosaic Idealize.ShloMosaic.ValueIdx
open scoped BigOperators

/-- The gate's bound, 7, and its opposite. -/
abbrev hi : EReal := Ideal.ofBits .f32 0x40E00000#32
abbrev lo : EReal := Ideal.ofBits .f32 0xC0E00000#32
abbrev one : EReal := Ideal.ofBits .f32 0x3F800000#32
/-- The gate's slope, 1.702. -/
abbrev slope : EReal := Ideal.ofBits .f32 0x3FD9DB23#32

/-- The slope with its sign turned is the slope's opposite. -/
theorem slope_neg : Ideal.ofBits .f32 0xBFD9DB23#32 = -slope := by
  show Ideal.ieee 8 23 0xBFD9DB23#32 = -Ideal.ieee 8 23 0x3FD9DB23#32
  unfold Ideal.ieee
  simp only [show ((0xBFD9DB23#32).extractLsb' (8 + 23) 1 == 1#1) = true from by decide, show ((0x3FD9DB23#32).extractLsb' (8 + 23) 1 == 1#1) = false from by decide,
    show ((0xBFD9DB23#32).extractLsb' 23 8).toNat = 127 from by decide, show ((0x3FD9DB23#32).extractLsb' 23 8).toNat = 127 from by decide,
    show ((0xBFD9DB23#32).extractLsb' 0 23).toNat = 5888803 from by decide, show ((0x3FD9DB23#32).extractLsb' 0 23).toNat = 5888803 from by decide]
  simp only [show ¬ (127 : ℕ) = 2 ^ 8 - 1 from by decide, show ¬ (127 : ℕ) = 0 from by decide, Bool.false_eq_true, if_true, if_false]
  rw [← EReal.coe_neg]
  congr 1
  ring

/-- The gated unit of a gate `u` and a value `v`. -/
def act (u v : EReal) : EReal :=
  (min hi (max lo v) + one) * (min u hi * Ideal.div one (one + Ideal.exp (-(slope * min u hi))))

/-- One affine layer of a row. -/
def lin {n p : ℕ} (x : Fin n → EReal) (w : Fin n → Fin p → EReal) (b : Fin p → EReal) (j : Fin p) : EReal := ∑ k, x k * w k j + b j

/-- A row through one expert. -/
def expert (x : Fin 1024 → EReal) (wg : Fin 1024 → Fin 1024 → EReal) (bg : Fin 1024 → EReal) (wu : Fin 1024 → Fin 1024 → EReal)
    (bu : Fin 1024 → EReal) (wd : Fin 1024 → Fin 1024 → EReal) (bd : Fin 1024 → EReal) : Fin 1024 → EReal :=
  lin (fun j => act (lin x wg bg j) (lin x wu bu j)) wd bd

/-- Rows, weight matrices and biases of all experts, experts and count. -/
abbrev Rows := (⟨2, ![147456, 1024]⟩ : Shape).Idx → EReal
abbrev Mats := (⟨4, ![1, 32, 1024, 1024]⟩ : Shape).Idx → EReal
abbrev Vecs := (⟨3, ![1, 32, 1024]⟩ : Shape).Idx → EReal
abbrev Names := (⟨1, ![288]⟩ : Shape).Idx → BitVec 32
abbrev Count := (⟨1, ![1]⟩ : Shape).Idx → BitVec 32

/-- The expert a word names. -/
abbrev ex (w : BitVec 32) : Fin 32 := ⟨w.toNat % 32, Nat.mod_lt _ (by norm_num)⟩

/-- The array row of row `r` of block `b`. -/
abbrev row (b : Fin 288) (r : Fin 512) : Fin 147456 := ⟨b.val * 512 + r.val, by omega⟩

/-- Lane `d` of row `r` of block `b` of the result. -/
def val (be : Names) (nu : Count) (xs : Rows) (wg : Mats) (bg : Vecs) (wu : Mats) (bu : Vecs) (wd : Mats) (bd : Vecs)
    (b : Fin 288) (r : Fin 512) (d : Fin 1024) : EReal :=
  if (BitVec.ofNat 32 b.val).toInt < (nu (ix1 0)).toInt then
    expert (fun k => xs (ix2 (row b r) k))
      (fun k j => wg (ix4 0 (ex (be (ix1 b))) k j)) (fun j => bg (ix3 0 (ex (be (ix1 b))) j))
      (fun k j => wu (ix4 0 (ex (be (ix1 b))) k j)) (fun j => bu (ix3 0 (ex (be (ix1 b))) j))
      (fun k j => wd (ix4 0 (ex (be (ix1 b))) k j)) (fun j => bd (ix3 0 (ex (be (ix1 b))) j)) d
  else 0

end Cert.MVal
end
-- ==== Proof.MBlock.lean ====
/-
  What one block of the experts' kernel computes, read element by element.
-/
module

public import proofs.«01_k».proof.Proof.MVal
public import proofs.«01_k».proof.Proof.Gen.KernelMIdeal.Skeleton
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace Cert.MBlock

open Cert.KernelMIdeal Cert.KernelMIdeal.Gen Idealize.ShloMosaic Idealize.ShloMosaic.ValueIdx
open Cert.MVal
open scoped BigOperators

variable (X : FVec Ideal S512x1024 .bf16) (W : Vec Ideal S1x1024x1024 .bf16) (B : Vec Ideal S1x1x1024 .f32)

/-- The block times a weight matrix, plus a bias in every row. -/
def affine : FVec Ideal S512x1024 .f32 :=
  addf (matmul dot_S512x1024_S1024x1024_S512x1024_1_0_0_1_n_n none X (shapeCast S1024x1024 W shapeCasts_S1x1024x1024_S1024x1024 : FVec Ideal S1024x1024 .bf16)
      (constant S512x1024 .f32 0x00000000#32))
    (broadcastTo S512x1024 (shapeCast S1x1024 B shapeCasts_S1x1x1024_S1x1024 : FVec Ideal S1x1024 .f32) broadcasts_S1x1024_S512x1024)

/-- It is the affine layer of each row. -/
theorem affine_apply (r : Fin 512) (j : Fin 1024) :
    affine X W B (ix2 r j) = lin (fun k => X (ix2 r k)) (fun k j => W (ix3 0 k j)) (fun j => B (ix3 0 0 j)) j := by
  refine congrArg₂ (fun a b : EReal => a + b) ?_ ?_
  · refine (Ideal.matmul_plain_apply none X (shapeCast S1024x1024 W shapeCasts_S1x1024x1024_S1024x1024 : FVec Ideal S1024x1024 .bf16) (constant S512x1024 .f32 0x00000000#32) r j).trans ?_
    rw [show constant (F := Ideal) S512x1024 .f32 0x00000000#32 (ix2 r j) = 0 from Ideal.ofBits_zero_f32, zero_add]
    exact Finset.sum_congr rfl fun k _ => by rw [shapeCast_1ab_ab_apply]
  · rw [broadcastTo_1b_ab_apply, shapeCast_1ab_ab_apply]

variable (P0 : Vec Ideal S512x1024 .f32) (P1 : Vec Ideal S1x1024x1024 .bf16) (P2 : Vec Ideal S1x1x1024 .f32)
  (P3 : Vec Ideal S1x1024x1024 .bf16) (P4 : Vec Ideal S1x1x1024 .f32)

/-- The middle of the layer: the gated units of the block's rows. -/
theorem mid_apply (r : Fin 512) (j : Fin 1024) :
    k0_pay3 P0 P1 P2 P3 P4 (ix2 r j)
      = act (lin (fun k => P0 (ix2 r k)) (fun k j => P1 (ix3 0 k j)) (fun j => P2 (ix3 0 0 j)) j)
          (lin (fun k => P0 (ix2 r k)) (fun k j => P3 (ix3 0 k j)) (fun j => P4 (ix3 0 0 j)) j) := by
  refine Eq.trans (b := act (affine P0 P1 P2 (ix2 r j)) (affine P0 P3 P4 (ix2 r j))) ?_ ?_
  · unfold act
    rw [← neg_mul, ← slope_neg]
    rfl
  · rw [affine_apply, affine_apply]

/-- The block the body leaves at a used point. -/
theorem block_apply (P5 : Vec Ideal S1x1024x1024 .bf16) (P6 : Vec Ideal S1x1x1024 .f32) (r : Fin 512) (d : Fin 1024) :
    k0_pay1 (k0_pay3 P0 P1 P2 P3 P4) P5 P6 (ix2 r d)
      = expert (fun k => P0 (ix2 r k)) (fun k j => P1 (ix3 0 k j)) (fun j => P2 (ix3 0 0 j))
          (fun k j => P3 (ix3 0 k j)) (fun j => P4 (ix3 0 0 j)) (fun k j => P5 (ix3 0 k j)) (fun j => P6 (ix3 0 0 j)) d := by
  refine (affine_apply (k0_pay3 P0 P1 P2 P3 P4) P5 P6 r d).trans ?_
  unfold expert
  simp only [mid_apply]

/-- The block the body leaves at an unused point is zero. -/
theorem zero_apply (i : S512x1024.Idx) : k0_pay2 (F := Ideal) i = 0 := Ideal.ofBits_zero_f32

end Cert.MBlock
end
-- ==== Proof.MArr.lean ====
/-
  The array the experts' kernel leaves: every element is the experts' value of the arguments.
-/
module

public import proofs.«01_k».proof.Proof.MTab
public import proofs.«01_k».proof.Proof.MBlock
public import proofs.«01_k».proof.Proof.MLaunch

@[expose] public section

set_option maxRecDepth 16384

noncomputable section

namespace Cert.MArr

open Cert.KernelMIdeal Cert.KernelMIdeal.Gen Cert.MBody Cert.MFrame Idealize.ShloMosaic Idealize.ShloMosaic.TcCoe Idealize.ShloMosaic.ValueIdx
open Cert.MVal
open scoped BigOperators

variable (m : (ℓ : Loc nD τ sig) → Buf (Elt Ideal) ℓ) (hO : Ok m) (c : Dev nD)

/-! ## The arrays the grid reads, in terms of the arguments -/

/-- A stack of matrices without its leading axis. -/
theorem stack_apply (u : Vec Ideal S1x32x1024x1024 .f32) (e : Fin 32) (k j : Fin 1024) :
    shapeCast S32x1024x1024 u shapeCasts_S1x32x1024x1024_S32x1024x1024 (ix3 e k j) = u (ix4 0 e k j) := by
  refine shapeCast_apply _ _ _ _ ?_
  rw [Shape.rowMajor_val_four, Shape.rowMajor_val_three]; simp [ix4, ix3]

/-- The biases without their leading axis, each a matrix of one row. -/
theorem lane_apply (u : Vec Ideal S1x32x1024 .f32) (e : Fin 32) (j : Fin 1024) :
    broadcastInDim S32x1x1024 ![0, 2] bcast_S32x1024_S32x1x1024_0_2 (shapeCast S32x1024 u shapeCasts_S1x32x1024_S32x1024) (ix3 e 0 j) = u (ix3 0 e j) := by
  refine shapeCast_apply u shapeCasts_S1x32x1024_S32x1024 (ix2 e j) (ix3 0 e j) ?_
  rw [Shape.rowMajor_val_three, Shape.rowMajor_val_two]; simp [ix3, ix2]

theorem V1_apply (e : Fin 32) (k j : Fin 1024) : V m c main_v1 (ix3 e k j) = m ((c : Thread nD τ).loc main_arg3) (ix4 0 e k j) :=
  stack_apply (m ((c : Thread nD τ).loc main_arg3)) e k j
theorem V3_apply (e : Fin 32) (j : Fin 1024) : V m c main_v3 (ix3 e 0 j) = m ((c : Thread nD τ).loc main_arg4) (ix3 0 e j) :=
  lane_apply (m ((c : Thread nD τ).loc main_arg4)) e j
theorem V5_apply (e : Fin 32) (k j : Fin 1024) : V m c main_v5 (ix3 e k j) = m ((c : Thread nD τ).loc main_arg5) (ix4 0 e k j) :=
  stack_apply (m ((c : Thread nD τ).loc main_arg5)) e k j
theorem V7_apply (e : Fin 32) (j : Fin 1024) : V m c main_v7 (ix3 e 0 j) = m ((c : Thread nD τ).loc main_arg6) (ix3 0 e j) :=
  lane_apply (m ((c : Thread nD τ).loc main_arg6)) e j
theorem V9_apply (e : Fin 32) (k j : Fin 1024) : V m c main_v9 (ix3 e k j) = m ((c : Thread nD τ).loc main_arg7) (ix4 0 e k j) :=
  stack_apply (m ((c : Thread nD τ).loc main_arg7)) e k j
theorem V11_apply (e : Fin 32) (j : Fin 1024) : V m c main_v11 (ix3 e 0 j) = m ((c : Thread nD τ).loc main_arg8) (ix3 0 e j) :=
  lane_apply (m ((c : Thread nD τ).loc main_arg8)) e j

/-! ## The blocks at a grid point -/

/-- The block of rows of a grid point. -/
abbrev bOf (t : Fin (cfgM m hO).N) : Fin 288 := ⟨t.val, t.isLt⟩

/-- The grid's only coordinate is the point's number. -/
theorem coord (t : Fin grid0.N) : ((grid0.coords t) 0).val = t.val := by
  revert t
  decide +kernel

/-- The expert of a grid point, of the arguments. -/
theorem word_at (t : Fin (cfgM m hO).N) : word (tbl m) (grid0.coords t) = m ((c : Thread nD τ).loc main_arg0) (ix1 (bOf m hO t)) := by
  obtain rfl : c = 0 := Subsingleton.elim _ _
  refine (congrFun (kept m 0 main_arg0 (by decide)) _).trans (congrArg (m (((0 : Dev nD) : Thread nD τ).loc main_arg0)) (funext fun a => Fin.ext ?_))
  fin_cases a
  exact coord t

variable (hx : ∀ i : S288.Idx, (m ((c : Thread nD τ).loc main_arg0) i : BitVec 32).toNat < 32)

include hx in
/-- Every table-driven window takes the block of the point's expert. -/
theorem pick (t : Fin (cfgM m hO).N) :
    cc0_transform_1 k0_off1_inb numel1_S1 (tbl m) (grid0.coords t) = ![(ex (m ((c : Thread nD τ).loc main_arg0) (ix1 (bOf m hO t)))).val, 0, 0] := by
  rw [map_eq, word_at m hO c t]
  exact congrArg (fun n : ℕ => (![n, 0, 0] : Fin 3 → ℕ)) (Nat.mod_eq_of_lt (hx _)).symm

theorem blk0 (t : Fin (cfgM m hO).N) (r : Fin 512) (k : Fin 1024) :
    iblk m hO c 0 t (ix2 r k) = m ((c : Thread nD τ).loc main_arg2) (ix2 (row (bOf m hO t) r) k) := by
  refine (show _ = V m c main_arg2 _ from rfl).trans ((congrFun (kept m c main_arg2 (by decide)) _).trans ?_)
  refine congrArg (m ((c : Thread nD τ).loc main_arg2)) (funext fun a => Fin.ext ?_)
  fin_cases a
  · show (BitVec.ofNat 32 ((grid0.coords t) 0).val).toNat * 512 + 1 * r.val = t.val * 512 + r.val
    have h : t.val < 288 := t.isLt
    rw [coord, BitVec.toNat_ofNat]
    omega
  · show 0 * 1024 + 1 * k.val = k.val
    omega

/-- An element of the matrix that a block index with leading coordinate `e` picks from a stack. -/
theorem mat_at (u : S32x1024x1024.Idx → EReal) (e : Fin 32) (f : Fin 3 → ℕ) (hf : f = ![e.val, 0, 0]) (k j : Fin 1024) (i : S32x1024x1024.Idx)
    (hi : ∀ a, (i a).val = f a * S1x1024x1024.size a + 1 * (ix3 (n0 := 1) (n1 := 1024) (n2 := 1024) 0 k j a).val) : u i = u (ix3 e k j) := by
  subst hf
  refine congrArg u (funext fun a => Fin.ext ((hi a).trans ?_))
  fin_cases a
  · show e.val * 1 + 1 * 0 = e.val
    omega
  · show 0 * 1024 + 1 * k.val = k.val
    omega
  · show 0 * 1024 + 1 * j.val = j.val
    omega

/-- The same of the biases. -/
theorem vec_at (u : S32x1x1024.Idx → EReal) (e : Fin 32) (f : Fin 3 → ℕ) (hf : f = ![e.val, 0, 0]) (j : Fin 1024) (i : S32x1x1024.Idx)
    (hi : ∀ a, (i a).val = f a * S1x1x1024.size a + 1 * (ix3 (n0 := 1) (n1 := 1) (n2 := 1024) 0 0 j a).val) : u i = u (ix3 e 0 j) := by
  subst hf
  refine congrArg u (funext fun a => Fin.ext ((hi a).trans ?_))
  fin_cases a
  · show e.val * 1 + 1 * 0 = e.val
    omega
  · rfl
  · show 0 * 1024 + 1 * j.val = j.val
    omega

/-- The expert of a grid point, of the arguments. -/
abbrev eOf (t : Fin (cfgM m hO).N) : Fin 32 := ex (m ((c : Thread nD τ).loc main_arg0) (ix1 (bOf m hO t)))

section
include hx

/-- The six blocks the expert picks: gate, value and output matrices and their biases. -/
theorem blk1 (t : Fin (cfgM m hO).N) (k j : Fin 1024) :
    iblk m hO c 1 t (ix3 0 k j) = m ((c : Thread nD τ).loc main_arg3) (ix4 0 (eOf m hO c t) k j) :=
  (mat_at (V m c main_v1) _ _ (pick m hO c hx t) k j _ (fun _ => rfl)).trans (V1_apply m c _ k j)
theorem blk2 (t : Fin (cfgM m hO).N) (j : Fin 1024) :
    iblk m hO c 2 t (ix3 0 0 j) = m ((c : Thread nD τ).loc main_arg4) (ix3 0 (eOf m hO c t) j) :=
  (vec_at (V m c main_v3) _ _ (pick m hO c hx t) j _ (fun _ => rfl)).trans (V3_apply m c _ j)
theorem blk3 (t : Fin (cfgM m hO).N) (k j : Fin 1024) :
    iblk m hO c 3 t (ix3 0 k j) = m ((c : Thread nD τ).loc main_arg5) (ix4 0 (eOf m hO c t) k j) :=
  (mat_at (V m c main_v5) _ _ (pick m hO c hx t) k j _ (fun _ => rfl)).trans (V5_apply m c _ k j)
theorem blk4 (t : Fin (cfgM m hO).N) (j : Fin 1024) :
    iblk m hO c 4 t (ix3 0 0 j) = m ((c : Thread nD τ).loc main_arg6) (ix3 0 (eOf m hO c t) j) :=
  (vec_at (V m c main_v7) _ _ (pick m hO c hx t) j _ (fun _ => rfl)).trans (V7_apply m c _ j)
theorem blk5 (t : Fin (cfgM m hO).N) (k j : Fin 1024) :
    iblk m hO c 5 t (ix3 0 k j) = m ((c : Thread nD τ).loc main_arg7) (ix4 0 (eOf m hO c t) k j) :=
  (mat_at (V m c main_v9) _ _ (pick m hO c hx t) k j _ (fun _ => rfl)).trans (V9_apply m c _ k j)
theorem blk6 (t : Fin (cfgM m hO).N) (j : Fin 1024) :
    iblk m hO c 6 t (ix3 0 0 j) = m ((c : Thread nD τ).loc main_arg8) (ix3 0 (eOf m hO c t) j) :=
  (vec_at (V m c main_v11) _ _ (pick m hO c hx t) j _ (fun _ => rfl)).trans (V11_apply m c _ j)

end

/-! ## The array after the run -/

/-- The experts' value of the arguments. -/
abbrev outM (b : Fin 288) (r : Fin 512) (d : Fin 1024) : EReal :=
  val (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) b r d

/-- What the result array is shown to hold. -/
def G : Buf (Elt Ideal) ((c : Thread nD τ).loc main_v12) := fun i : S147456x1024.Idx =>
  outM m c ⟨(i 0).val / 512, by have h : (i 0).val < 147456 := (i 0).isLt; omega⟩ ⟨(i 0).val % 512, by omega⟩ (i 1)

/-- A point is used when its number is below the count of used blocks, both signed. -/
theorem used_iff (t : Fin (cfgM m hO).N) :
    Used m (grid0.coords t) ↔ (BitVec.ofNat 32 (bOf m hO t).val).toInt < (m ((c : Thread nD τ).loc main_arg1) (ix1 0) : BitVec 32).toInt := by
  obtain rfl : c = 0 := Subsingleton.elim _ _
  have hn : count (F := Ideal) (tbl m 1) = m (((0 : Dev nD) : Thread nD τ).loc main_arg1) (ix1 0) :=
    (congrFun (kept m 0 main_arg1 (by decide)) _).trans
      (congrArg (m (((0 : Dev nD) : Thread nD τ).loc main_arg1)) (funext fun a => Fin.ext (by fin_cases a; rfl)))
  unfold Used
  rw [hn]
  unfold k0_cond1
  simp only [Scalar.cmpi, WordCmp.cmpi_slt_eq, coord]
  generalize (m (((0 : Dev nD) : Thread nD τ).loc main_arg1) (ix1 0) : BitVec 32).toInt = n
  by_cases h : (BitVec.ofNat 32 t.val).toInt < n
  · rw [decide_eq_true h]; exact iff_of_true (by decide) h
  · rw [decide_eq_false h]; exact iff_of_false (by decide) h

include hx in
/-- The block a grid point leaves, element by element. -/
theorem left_blk (t : Fin (cfgM m hO).N) (r : Fin 512) (d : Fin 1024) :
    left m hO c t (ix2 r d) = outM m c (bOf m hO t) r d := by
  unfold left outM val
  by_cases hu : Used m (grid0.coords t)
  · rw [if_pos hu, if_pos ((used_iff m hO c t).mp hu)]
    refine (MBlock.block_apply _ _ _ _ _ _ _ r d).trans ?_
    simp only [blk0, blk1 m hO c hx, blk2 m hO c hx, blk3 m hO c hx, blk4 m hO c hx, blk5 m hO c hx, blk6 m hO c hx]
  · rw [if_neg hu, if_neg (fun h => hu ((used_iff m hO c t).mpr h))]
    exact MBlock.zero_apply _

set_option backward.isDefEq.respectTransparency.types false in
/-- What a point writes back is what it leaves. -/
theorem flushed_apply (t : Fin (cfgM m hO).N) (y : S512x1024.Idx) : (dats m hO 0 c).flushed 7 t y = left m hO c t y := by
  show ((cfgM m hO).win 7).cut (grid0.coords t) ((dats m hO 0 c).after 7 t) y = _
  rw [show (dats m hO 0 c).after 7 t = left m hO c t from by dsimp only [dats]; generalize left m hO c = L; generalize iblk m hO c = B; rfl]
  generalize left m hO c t = X
  rfl

include hx in
theorem flushed_eq (t : Fin (cfgM m hO).N) :
    (dats m hO 0 c).flushed 7 t = (((cfgM m hO).win 7).blk t).view.read (Elt Ideal) (G m c) := by
  have ht : t.val < 288 := t.isLt
  suffices H : ∀ r d, left m hO c t (ix2 r d) = (((cfgM m hO).win 7).blk t).view.read (Elt Ideal) (G m c) (ix2 r d) by
    refine funext fun y : S512x1024.Idx => ?_
    refine (flushed_apply m hO c t y).trans ?_
    have e : y = ix2 (n0 := 512) (n1 := 1024) (y 0) (y 1) := eq_ix2 y
    rw [e]
    exact H (y 0) (y 1)
  intro r d
  refine (left_blk m hO c hx t r d).trans ?_
  have hi : ∀ i : S147456x1024.Idx, (i 0).val = t.val * 512 + r.val → (i 1).val = d.val → outM m c (bOf m hO t) r d = G m c i := by
    intro i h0 h1
    unfold G
    have e0 : (⟨(i 0).val / 512, by have h : (i 0).val < 147456 := (i 0).isLt; omega⟩ : Fin 288) = bOf m hO t := Fin.ext (by show (i 0).val / 512 = t.val; omega)
    have e1 : (⟨(i 0).val % 512, by omega⟩ : Fin 512) = r := Fin.ext (by show (i 0).val % 512 = r.val; omega)
    have e2 : i 1 = d := Fin.ext h1
    rw [e0, e1, e2]
  refine hi _ ?_ ?_
  · show (BitVec.ofNat 32 ((grid0.coords t) 0).val).toNat * 512 + 1 * r.val = t.val * 512 + r.val
    rw [coord, BitVec.toNat_ofNat]
    omega
  · show 0 * 1024 + 1 * d.val = d.val
    omega

/-- Every point writes its output block back. -/
theorem flushes (t : Fin (cfgM m hO).N) : ((cfgM m hO).win 7).flush t = true :=
  (Pipeline.Window.flushOf_reads cc0_transform_7 reads0_7 hreads0_7 0 (by decide) (by decide)
    (Pipeline.Window.sep_of_coord cc0_transform_7 0 0 (fun _ => rfl) (by decide)) (P := 1) (m := 0) (by decide) rfl t).mpr (Nat.mod_one _)

/-- The output blocks tile the array. -/
theorem cover (i : S147456x1024.Idx) : ∃ t : Fin (cfgM m hO).N, ((cfgM m hO).win 7).flush t = true ∧ i ∈ (((cfgM m hO).win 7).blk t).view.set := by
  have h0 : (i 0).val < 147456 := (i 0).isLt
  have h1 : (i 1).val < 1024 := (i 1).isLt
  refine ⟨⟨(i 0).val / 512, by show _ < 288; omega⟩, flushes m hO _, ?_⟩
  generalize ht : (⟨(i 0).val / 512, _⟩ : Fin (cfgM m hO).N) = t
  have hv : t.val = (i 0).val / 512 := by rw [← ht]
  have e : (BitVec.ofNat 32 ((grid0.coords t) 0).val).toNat = t.val := by
    rw [coord, BitVec.toNat_ofNat]; omega
  show i ∈ ((View.whole main_v12).slice (((cfgM m hO).win 7).rect t)).set
  refine (Finset.ext_iff.mp (View.set_slice_whole main_v12 (((cfgM m hO).win 7).rect t)) i).mpr ?_
  refine Rect.mem_set_unit.mpr ?_
  intro a
  fin_cases a
  · show (BitVec.ofNat 32 ((grid0.coords t) 0).val).toNat * 512 ≤ (i 0).val ∧ (i 0).val < (BitVec.ofNat 32 ((grid0.coords t) 0).val).toNat * 512 + 512
    omega
  · show 0 * 1024 ≤ (i 1).val ∧ (i 1).val < 0 * 1024 + 1024
    omega

include hx in
/-- After the run the result array holds the experts' value of the arguments. -/
theorem final : (dats m hO 0 c).arrAt 7 (cfgM m hO).N = G m c :=
  (dats m hO 0 c).arrAt_eq_of_cover 7 (G m c) (fun t _ => flushed_eq m hO c hx t) (cover m hO)

end Cert.MArr
end
-- ==== Proof.MGather.lean ====
/-
  Reading the experts' matrices and biases by a column of expert words that all lie in range.
-/
module

public import proofs.«01_k».proof.Proof.Gen.ReferenceMIdeal
public import Idealize.ShloMosaic.Lib.ValueIdx
public import Idealize.ShloMosaic.Lib.WordCmp

@[expose] public section

noncomputable section

namespace Cert.MGather

open Cert.ReferenceMIdeal Cert.ReferenceMIdeal.Gen Idealize.ShloMosaic Idealize.ShloMosaic.ValueIdx

variable {α : Type} (idx : IVec S288x1 32) (b : Fin 288) (e : Fin 32)

/-- A word below 32 read as a signed number is itself. -/
theorem signed {w : BitVec 32} (h : w.toNat = e.val) : min w.toInt.toNat (32 - 1) = e.val := by
  rw [BitVec.toInt_eq_toNat_of_lt (by omega)]
  show min w.toNat 31 = e.val
  omega

/-- Of a stack of 32 matrices, the one the word at row `b` names. -/
theorem mats (x : S32x1024x1024.Idx → α) (k j : Fin 1024) (he : (idx (ix2 b 0)).toNat = e.val) :
    Host.gather gather_S32x1024x1024_S288x1_S288x1024x1024_12_0_n_n_0_1_110241024 x idx (ix3 b k j) = x (ix3 e k j) := by
  unfold Host.gather
  generalize hd : gather_S32x1024x1024_S288x1_S288x1024x1024_12_0_n_n_0_1_110241024 = d
  refine congrArg x (funext fun a => Fin.ext ?_)
  show d.start (ix3 b k j) idx a + d.batchCoord (ix3 b k j) a + d.offCoord (ix3 b k j) a = (ix3 e k j a).val
  subst hd
  rw [GatherDims.batchCoord_eq_zero _ _ _ List.not_mem_nil]
  have hsi (h) : GatherDims.siIdx gather_S32x1024x1024_S288x1_S288x1024x1024_12_0_n_n_0_1_110241024 (ix3 b k j) ⟨0, h⟩ = ix2 b 0 :=
    funext fun q => Fin.ext (by fin_cases q <;> rfl)
  fin_cases a
  · rw [GatherDims.offCoord_eq_zero _ _ _ (by decide)]
    unfold GatherDims.start
    rw [dif_pos (by decide)]
    refine (congrArg (fun i => min (idx i).toInt.toNat (32 - 1)) (hsi _)).trans (signed e he)
  · unfold GatherDims.start GatherDims.offCoord
    rw [dif_neg (by decide), dif_pos (by decide)]
    exact Nat.zero_add _
  · unfold GatherDims.start GatherDims.offCoord
    rw [dif_neg (by decide), dif_pos (by decide)]
    exact Nat.zero_add _

/-- Of 32 biases, the one the word at row `b` names. -/
theorem vecs (x : S32x1024.Idx → α) (j : Fin 1024) (he : (idx (ix2 b 0)).toNat = e.val) :
    Host.gather gather_S32x1024_S288x1_S288x1024_1_0_n_n_0_1_11024 x idx (ix2 b j) = x (ix2 e j) := by
  unfold Host.gather
  generalize hd : gather_S32x1024_S288x1_S288x1024_1_0_n_n_0_1_11024 = d
  refine congrArg x (funext fun a => Fin.ext ?_)
  show d.start (ix2 b j) idx a + d.batchCoord (ix2 b j) a + d.offCoord (ix2 b j) a = (ix2 e j a).val
  subst hd
  rw [GatherDims.batchCoord_eq_zero _ _ _ List.not_mem_nil]
  have hsi (h) : GatherDims.siIdx gather_S32x1024_S288x1_S288x1024_1_0_n_n_0_1_11024 (ix2 b j) ⟨0, h⟩ = ix2 b 0 :=
    funext fun q => Fin.ext (by fin_cases q <;> rfl)
  fin_cases a
  · rw [GatherDims.offCoord_eq_zero _ _ _ (by decide)]
    unfold GatherDims.start
    rw [dif_pos (by decide)]
    refine (congrArg (fun i => min (idx i).toInt.toNat (32 - 1)) (hsi _)).trans (signed e he)
  · unfold GatherDims.start GatherDims.offCoord
    rw [dif_neg (by decide), dif_pos (by decide)]
    exact Nat.zero_add _

end Cert.MGather
end
-- ==== Proof.MRef.lean ====
/-
  The experts' reference, read element by element.
-/
module

public import proofs.«01_k».proof.Proof.MVal
public import proofs.«01_k».proof.Proof.MGather
public import proofs.«01_k».proof.Proof.Gen.ReferenceMIdeal.Read
public import Idealize.ShloMosaic.Lib.ValueLayout
public import Idealize.ShloMosaic.Lib.ValueLayoutCasts

@[expose] public section

noncomputable section

namespace Cert.MRef

open Cert.ReferenceMIdeal Cert.ReferenceMIdeal.Gen Cert.ReferenceMIdeal.Read Idealize.ShloMosaic Idealize.ShloMosaic.TcCoe Idealize.ShloMosaic.ValueIdx
open Cert.MVal
open scoped BigOperators

variable (x0 : (⟨S288, .i32⟩ : BufTy).Contents (Elt Ideal)) (x1 : (⟨S1, .i32⟩ : BufTy).Contents (Elt Ideal))
  (x2 : (⟨S147456x1024, .f32⟩ : BufTy).Contents (Elt Ideal)) (x3 x5 x7 : (⟨S1x32x1024x1024, .f32⟩ : BufTy).Contents (Elt Ideal))
  (x4 x6 x8 : (⟨S1x32x1024, .f32⟩ : BufTy).Contents (Elt Ideal)) (hx : ∀ i, (x0 i : BitVec 32).toNat < 32)

include hx in
/-- The word a block reads its expert by is the block's own: none is negative. -/
theorem word_apply (b : Fin 288) : (val_main_v7 (F := Ideal) x0 (ix2 b 0) : BitVec 32).toNat = (ex (x0 (ix1 b))).val := by
  rw [val_main_v7_apply, val_main_v6_apply, val_main_v3_apply, val_main_v2_apply, val_main_c_apply]
  have hi : idx_main_v7 (ix2 b 0) = ix1 b := by funext a; fin_cases a; rfl
  rw [hi]
  have h := hx (ix1 b)
  rw [show IntOp.cmpi .slt (x0 (ix1 b)) 0#32 = 0#1 from by
    rw [WordCmp.cmpi_slt_eq, BitVec.toInt_eq_toNat_of_lt (by omega)]
    rw [decide_eq_false (by show ¬ ((x0 (ix1 b) : BitVec 32).toNat : ℤ) < 0; omega)]
    rfl]
  rw [select_zero]
  exact (Nat.mod_eq_of_lt h).symm

include hx in
/-- The matrix a block multiplies by. -/
theorem mat_apply (b : Fin 288) (k j : Fin 1024) : val_main_v8 (F := Ideal) x0 x3 (ix3 b k j) = x3 (ix4 0 (ex (x0 (ix1 b))) k j) := by
  unfold val_main_v8
  rw [MGather.mats _ b (ex (x0 (ix1 b))) _ k j (word_apply x0 hx b), val_main_v1_apply]
  refine congrArg x3 (funext fun a => Fin.ext ?_)
  generalize ex (x0 (ix1 b)) = e
  fin_cases a
  · rfl
  · show ((e.val * 1024 + k.val) * 1024 + j.val) / 1048576 % 32 = e.val
    omega
  · show ((e.val * 1024 + k.val) * 1024 + j.val) / 1024 % 1024 = k.val
    omega
  · show ((e.val * 1024 + k.val) * 1024 + j.val) % 1024 = j.val
    omega

include hx in
/-- The bias a block adds. -/
theorem vec_apply (b : Fin 288) (r : Fin 512) (j : Fin 1024) :
    val_main_v19 (F := Ideal) x0 x4 (ix3 b r j) = x4 (ix3 0 (ex (x0 (ix1 b))) j) := by
  rw [val_main_v19_apply, val_main_v18_apply]
  have hi : idx_main_v18 (idx_main_v19 (ix3 b r j)) = ix2 b j := by funext a; fin_cases a <;> rfl
  rw [hi]
  unfold val_main_v17
  rw [show val_main_v16 (F := Ideal) x0 = val_main_v7 (F := Ideal) x0 from rfl, MGather.vecs _ b (ex (x0 (ix1 b))) _ j (word_apply x0 hx b), val_main_v10_apply]
  refine congrArg x4 (funext fun a => Fin.ext ?_)
  generalize ex (x0 (ix1 b)) = e
  fin_cases a
  · rfl
  · show (e.val * 1024 + j.val) / 1024 % 32 = e.val
    omega
  · show (e.val * 1024 + j.val) % 1024 = j.val
    omega

/-- The rows, block by block. -/
theorem row_apply (b : Fin 288) (r : Fin 512) (k : Fin 1024) : val_main_v0 (F := Ideal) x2 (ix3 b r k) = x2 (ix2 (row b r) k) := by
  rw [val_main_v0_apply]
  refine congrArg x2 (funext fun a => Fin.ext ?_)
  fin_cases a
  · show ((b.val * 512 + r.val) * 1024 + k.val) / 1024 = b.val * 512 + r.val
    omega
  · show ((b.val * 512 + r.val) * 1024 + k.val) % 1024 = k.val
    omega

include hx in
/-- The affine layer of the gate. -/
theorem gate_apply (b : Fin 288) (r : Fin 512) (j : Fin 1024) :
    val_main_v20 (F := Ideal) x0 x2 x3 x4 (ix3 b r j)
      = lin (fun k => x2 (ix2 (row b r) k)) (fun k j => x3 (ix4 0 (ex (x0 (ix1 b))) k j)) (fun j => x4 (ix3 0 (ex (x0 (ix1 b))) j)) j := by
  rw [val_main_v20_apply, vec_apply x0 x4 hx]
  refine congrArg (fun s : EReal => s + x4 (ix3 0 (ex (x0 (ix1 b))) j)) ?_
  rw [val_main_v9_apply]
  refine Finset.sum_congr rfl fun k _ => ?_
  have hl : lidx_main_v9 (ix3 b r j) k = ix3 b r k := by funext a; fin_cases a <;> rfl
  have hr : ridx_main_v9 (ix3 b r j) k = ix3 b k j := by funext a; fin_cases a <;> rfl
  rw [hl, hr, row_apply, mat_apply x0 x3 hx]

/-- The value's affine layer is the same text as the gate's. -/
theorem value_is_gate : val_main_v40 (F := Ideal) x0 x2 x5 x6 = val_main_v20 (F := Ideal) x0 x2 x5 x6 := rfl

include hx in
/-- The gated units. -/
theorem mid_apply (b : Fin 288) (r : Fin 512) (j : Fin 1024) :
    val_main_v55 (F := Ideal) x0 x2 x3 x4 x5 x6 (ix3 b r j)
      = act (lin (fun k => x2 (ix2 (row b r) k)) (fun k j => x3 (ix4 0 (ex (x0 (ix1 b))) k j)) (fun j => x4 (ix3 0 (ex (x0 (ix1 b))) j)) j)
          (lin (fun k => x2 (ix2 (row b r) k)) (fun k j => x5 (ix4 0 (ex (x0 (ix1 b))) k j)) (fun j => x6 (ix3 0 (ex (x0 (ix1 b))) j)) j) := by
  rw [← gate_apply x0 x2 x3 x4 hx, ← gate_apply x0 x2 x5 x6 hx]
  rw [val_main_v55_apply, val_main_v45_apply, val_main_v43_apply, val_main_call0_v2_apply, val_main_v54_apply, val_main_v53_apply,
    val_main_v51_apply, val_main_v49_apply, val_main_v48_apply, val_main_v47_apply, val_main_v42_apply, value_is_gate]
  rw [val_main_v41_apply, val_main_call0_v1_apply, val_main_call0_v4_apply, val_main_v44_apply, val_main_v46_apply, val_main_v50_apply, val_main_v52_apply]
  rfl

/-- The bound of the used blocks, as each block reads it. -/
theorem count_apply (i : S_.Idx) : val_main_v77 (F := Ideal) x1 i = x1 (ix1 0) := by
  unfold val_main_v77 shapeCast
  exact congrArg x1 (funext fun a => Fin.ext (by fin_cases a; show _ = 0; exact Nat.lt_one_iff.mp (Fin.isLt _)))

include hx in
/-- Lane `d` of row `r` of block `b` of the reference's result, before its blocks are joined. -/
theorem block_apply (b : Fin 288) (r : Fin 512) (d : Fin 1024) :
    val_main_v81 (F := Ideal) x0 x1 x2 x3 x4 x5 x6 x7 x8 (ix3 b r d) = val x0 x1 x2 x3 x4 x5 x6 x7 x8 b r d := by
  rw [val_main_v81_apply, val_main_call1_v1_apply, val_main_v80_apply, val_main_v79_apply, val_main_v76_apply, val_main_v78_apply, count_apply,
    WordCmp.cmpi_slt_eq]
  unfold val
  by_cases hu : (BitVec.ofNat 32 b.val).toInt < (x1 (ix1 0) : BitVec 32).toInt
  · rw [if_pos hu]
    refine (congrArg (fun w => Scalar.select w _ _) (show _ = 1#1 from by rw [decide_eq_true (by exact hu)]; rfl)).trans ?_
    rw [select_one, val_main_v75_apply]
    refine congrArg₂ (fun s t : EReal => s + t) ?_ (vec_apply x0 x8 hx b r d)
    rw [val_main_v64_apply]
    refine Finset.sum_congr rfl fun k _ => ?_
    have hl : lidx_main_v64 (ix3 b r d) k = ix3 b r k := by funext a; fin_cases a <;> rfl
    have hr : ridx_main_v64 (ix3 b r d) k = ix3 b k d := by funext a; fin_cases a <;> rfl
    rw [hl, hr, mid_apply x0 x2 x3 x5 x4 x6 hx]
    exact congrArg (fun w : EReal => _ * w) (mat_apply x0 x7 hx b k d)
  · rw [if_neg hu]
    refine (congrArg (fun w => Scalar.select w _ _) (show _ = 0#1 from by rw [decide_eq_false (by exact hu)]; rfl)).trans ?_
    rw [select_zero, val_main_call1_v2_apply]
    exact Ideal.ofBits_zero_f32

include hx in
/-- One element of the reference's result. -/
theorem out_apply (i : S147456x1024.Idx) :
    val_main_v82 (F := Ideal) x0 x1 x2 x3 x4 x5 x6 x7 x8 i
      = val x0 x1 x2 x3 x4 x5 x6 x7 x8 ⟨(i 0).val / 512, by have h : (i 0).val < 147456 := (i 0).isLt; omega⟩ ⟨(i 0).val % 512, by omega⟩ (i 1) := by
  rw [val_main_v82_apply]
  refine Eq.trans ?_ (block_apply x0 x1 x2 x3 x5 x7 x4 x6 x8 hx _ _ _)
  refine congrArg (val_main_v81 (F := Ideal) x0 x1 x2 x3 x4 x5 x6 x7 x8) (funext fun a => Fin.ext ?_)
  have h0 : (i 0).val < 147456 := (i 0).isLt
  have h1 : (i 1).val < 1024 := (i 1).isLt
  fin_cases a
  · show ((i 0).val * 1024 + (i 1).val) / 524288 = (i 0).val / 512
    omega
  · show ((i 0).val * 1024 + (i 1).val) / 1024 % 512 = (i 0).val % 512
    omega
  · show ((i 0).val * 1024 + (i 1).val) % 1024 = (i 1).val
    omega

end Cert.MRef
end
-- ==== Proof.MClaim.lean ====
/-
  The experts: the kernel and the reference, run from the same arguments whose blocks name experts that exist, leave equal results.
-/
module

public import proofs.«01_k».proof.Defs
public import proofs.«01_k».proof.Proof.MArr
public import proofs.«01_k».proof.Proof.MRef
public import proofs.«01_k».proof.Proof.Gen.ReferenceMIdeal.Run

@[expose] public section

set_option maxRecDepth 16384

noncomputable section

namespace Cert.MClaim

open Idealize.ShloMosaic Idealize.ShloMosaic.TcCoe Idealize.SL.Sem

/-- The experts' reference runs and leaves its arguments as they were, from any memory. -/
theorem reference_runs : quiescent_ReferenceMIdeal := fun m g _ =>
  (θ_run Cert.ReferenceMIdeal.defs _ _).mono
    (fun r h => ⟨fun c => (h c).2, sem_eq_zero_of_no_sems (by decide) r.2⟩) (Cert.ReferenceMIdeal.Value.run (F := Ideal) m g)

/-- From blocks that name experts, the kernel's result is the reference's. -/
theorem algebraic [Cert.Pre_named.Facts] : algebraic_KernelMIdeal_ReferenceMIdeal := by
  intro m g m' g' hp he
  have hO : MFrame.Ok m := MFrame.ok_of_named m _ _ _ _ _ _ _ _ (hp 0)
  have hx (c : Dev Cert.KernelMIdeal.nD) (i : Cert.KernelMIdeal.S288.Idx) :
      (m ((c : Thread Cert.KernelMIdeal.nD Cert.KernelMIdeal.τ).loc Cert.KernelMIdeal.main_arg0) i : BitVec 32).toNat < 32 :=
    MFrame.named_lt (F := Ideal) _ _ _ _ _ _ _ _ _ (hp c) i
  refine ⟨fun c => MArr.G m c, ?_, ?_⟩
  · exact (θ_run _ _ _).mono (fun r h c => ⟨(h.1.1 c).trans (MArr.final m hO c (hx c)), h.1.2 c⟩) (MFrame.ends m g hO)
  · refine (θ_run _ _ _).mono (fun r h c => ⟨(h c).1.trans ?_, (h c).2⟩) (Cert.ReferenceMIdeal.Value.run (F := Ideal) m' g')
    obtain ⟨e0, e1, e2, e3, e4, e5, e6, e7, e8⟩ := he c
    refine (Cert.ReferenceMIdeal.Read.val_main_v82_eq _ _).trans ?_
    rw [e0, e1, e2, e3, e4, e5, e6, e7, e8]
    exact funext fun i => MRef.out_apply _ _ _ _ _ _ _ _ _ (hx c) i

end Cert.MClaim
end
-- ==== Proof.IVal.lean ====
/-
  The input projection as mathematics over the extended reals: a token's row, normalized and multiplied by the weights; the
  projected row cut into heads of 64 lanes; and, for queries and keys, each head normalized and turned by the token's angles.
-/
module

public import Idealize.ShloMosaic.Lib.ValueIdx

@[expose] public section

noncomputable section

namespace Cert.IVal

open Idealize.ShloMosaic Idealize.ShloMosaic.ValueIdx
open scoped BigOperators

/-- A row divided by its root mean square (`d` its length, with the small constant under the root), times a gain. -/
def norm {n : ℕ} (d : EReal) (u g : Fin n → EReal) (k : Fin n) : EReal :=
  u k * Ideal.rsqrt (Ideal.div (∑ j, u j * u j) d + Ideal.ofBits .f32 0x358637BD#32) * g k

/-- A head of 64 lanes normalized. -/
abbrev head (u g : Fin 64 → EReal) : Fin 64 → EReal := norm (Ideal.ofBits .f32 0x42800000#32) u g

/-- The lane 32 further, around the end: the other one of a pair. -/
abbrev partner (j : Fin 64) : Fin 64 := ⟨(j.val + 32) % 64, by omega⟩
/-- The pair a lane belongs to. -/
abbrev pair (j : Fin 64) : Fin 32 := ⟨j.val % 32, by omega⟩

/-- A head turned pair by pair, by the angles whose cosines and sines are given. -/
def turn (h : Fin 64 → EReal) (cs sn : Fin 32 → EReal) (j : Fin 64) : EReal :=
  if j.val < 32 then h j * cs (pair j) - h (partner j) * sn (pair j) else h j * cs (pair j) + h (partner j) * sn (pair j)

/-- The same with the sines' signs put in the table: one sum for both halves. -/
theorem turn_eq (h : Fin 64 → EReal) (cs sn : Fin 32 → EReal) (j : Fin 64) :
    h j * cs (pair j) + h (partner j) * (if j.val < 32 then -sn (pair j) else sn (pair j)) = turn h cs sn j := by
  unfold turn
  split
  · rw [mul_neg, sub_eq_add_neg]
  · rfl

/-- Multiplying by the constant 1/64 is dividing by the constant 64. -/
theorem mul_inv64 (x : EReal) : x * Ideal.ofBits .f32 0x3C800000#32 = Ideal.div x (Ideal.ofBits .f32 0x42800000#32) := by
  have e1 : Ideal.ofBits .f32 0x3C800000#32 = ((1 / 64 : ℝ) : EReal) := by
    simp [Ideal.ofBits, Ideal.ieee, -EReal.coe_mul]; norm_num
  have e2 : Ideal.ofBits .f32 0x42800000#32 = ((64 : ℝ) : EReal) := by
    simp [Ideal.ofBits, Ideal.ieee, -EReal.coe_mul]; norm_num
  rw [e1, e2, Ideal.div_coe (by norm_num : (64 : ℝ) ≠ 0)]

theorem one_f32 : Ideal.ofBits .f32 0x3F800000#32 = 1 := by
  simp [Ideal.ofBits, Ideal.ieee, -EReal.coe_mul]; norm_num

/-! ## The projection -/

variable (x : (⟨3, ![8, 4096, 1024]⟩ : Shape).Idx → EReal) (g : (⟨2, ![1, 1024]⟩ : Shape).Idx → EReal)
  (w : (⟨3, ![1, 1024, 2304]⟩ : Shape).Idx → EReal)

/-- The normalized row of token `s` of batch entry `b`. -/
def hrow (b : Fin 8) (s : Fin 4096) : Fin 1024 → EReal :=
  norm (Ideal.ofBits .f32 0x44800000#32) (fun k => x (ix3 b s k)) (fun k => g (ix2 0 k))

/-- Lane `j` of the projected row. -/
def proj (b : Fin 8) (s : Fin 4096) (j : Fin 2304) : EReal := ∑ k, hrow x g b s k * w (ix3 0 k j)

/-- The head of 64 lanes of the projected row that begins at lane `o`. -/
abbrev lanes (b : Fin 8) (s : Fin 4096) (o : ℕ) (ho : o + 64 ≤ 2304) : Fin 64 → EReal :=
  fun k => proj x g w b s ⟨o + k.val, by omega⟩

/-- One element of the queries or keys: lane `j` of the head from lane `o` on, normalized with gain `q` and turned by the angles `a`. -/
def turned (q : (⟨2, ![1, 64]⟩ : Shape).Idx → EReal) (a : (⟨2, ![4096, 32]⟩ : Shape).Idx → EReal)
    (b : Fin 8) (s : Fin 4096) (o : ℕ) (ho : o + 64 ≤ 2304) (j : Fin 64) : EReal :=
  turn (head (lanes x g w b s o ho) (fun k => q (ix2 0 k))) (fun i => Ideal.cos (a (ix2 s i))) (fun i => Ideal.sin (a (ix2 s i))) j

/-- A result of queries or keys, `n` lanes wide, from the projection's lane `o` on: row `i` is token `i % 4096` of batch entry
    `i / 4096`, and the lanes are heads of 64. -/
def heads {n : ℕ} (q : (⟨2, ![1, 64]⟩ : Shape).Idx → EReal) (a : (⟨2, ![4096, 32]⟩ : Shape).Idx → EReal) (o : ℕ) (ho : o + n ≤ 2304)
    (hn : n % 64 = 0) (i : (⟨2, ![32768, n]⟩ : Shape).Idx) : EReal :=
  turned x g w q a ⟨(i 0).val / 4096, by have h : (i 0).val < 32768 := (i 0).isLt; omega⟩ ⟨(i 0).val % 4096, by omega⟩
    (o + (i 1).val / 64 * 64) (by have h : (i 1).val < n := (i 1).isLt; omega) ⟨(i 1).val % 64, by omega⟩

/-- A result of values: the projection's lanes from `o` on. -/
def cols {n : ℕ} (o : ℕ) (ho : o + n ≤ 2304) (i : (⟨2, ![32768, n]⟩ : Shape).Idx) : EReal :=
  proj x g w ⟨(i 0).val / 4096, by have h : (i 0).val < 32768 := (i 0).isLt; omega⟩ ⟨(i 0).val % 4096, by omega⟩
    ⟨o + (i 1).val, by have h : (i 1).val < n := (i 1).isLt; omega⟩

end Cert.IVal
end
-- ==== Proof.IChunk.lean ====
/-
  The step the input projection takes for every chunk of lanes of the queries and keys, for chunks of any number of heads:
  the squares are summed per head by a product with a matrix of zeros and ones, and each lane is turned with its partner.
-/
module

public import proofs.«01_k».proof.Proof.IVal
public import proofs.«01_k».proof.Proof.BBlock
public import Idealize.ShloMosaic.Lib.KernelVsHost

@[expose] public section

noncomputable section

namespace Cert.IChunk

open Idealize.ShloMosaic Idealize.ShloMosaic.ValueIdx
open Cert.IVal (norm head partner pair)
open scoped BigOperators

variable {w : ℕ}

/-- A matrix of `m` rows and `w` lanes. -/
abbrev Mat (m w : ℕ) : Shape := ⟨2, ![m, w]⟩

/-! ## The head of a lane and its place in the head -/

/-- The head of every entry of an array of lane numbers, rounded down. -/
def headOf (l : IVec (Mat w w) 32) (hlt : 1 < 32) : IVec (Mat w w) 32 :=
  select (andi (cmpi .ne (subi (extui 32 (cmpi .sgt l (broadcast (Mat w w) 0#32)) hlt) (extui 32 (cmpi .slt l (broadcast (Mat w w) 0#32)) hlt))
        (broadcast (Mat w w) (Scalar.subi (Scalar.extui (Scalar.cmpi .sgt 64#32 0#32)) (Scalar.extui (Scalar.cmpi .slt 64#32 0#32)))))
      (cmpi .ne (remsi l (broadcast (Mat w w) 64#32)) (broadcast (Mat w w) 0#32)))
    (subi (divsi l (broadcast (Mat w w) 64#32)) (broadcast (Mat w w) 1#32)) (divsi l (broadcast (Mat w w) 64#32))

theorem headOf_at (l : IVec (Mat w w) 32) (hlt : 1 < 32) (i : (Mat w w).Idx) : headOf l hlt i = BBlock.headWord (l i) := rfl

/-- The divisor 64, which the program guards against being zero. -/
abbrev width : BitVec 32 := Scalar.select (Scalar.cmpi .eq 64#32 0#32) 1#32 64#32

/-- Whether a lane lies in the first half of its head: its remainder by 64, made non-negative, is less than 32. -/
def inFirst (l : IVec (Mat 512 w) 32) (hb : (Mat 512 w).Broadcasts (Mat 512 w)) : IVec (Mat 512 w) 1 :=
  cmpi .slt (select (andi (xori (cmpi .slt (remsi l (broadcast (Mat 512 w) width)) (broadcast (Mat 512 w) 0#32))
        (broadcastTo (Mat 512 w) (broadcast (Mat 512 w) (Scalar.cmpi .slt width 0#32)) hb))
      (cmpi .ne (remsi l (broadcast (Mat 512 w) width)) (broadcast (Mat 512 w) 0#32)))
    (addi (remsi l (broadcast (Mat 512 w) width)) (broadcast (Mat 512 w) width)) (remsi l (broadcast (Mat 512 w) width)))
    (broadcast (Mat 512 w) 32#32)

/-- The same for one lane number. -/
def firstWord (l : BitVec 32) : BitVec 1 :=
  IntOp.cmpi .slt (Scalar.select (IntOp.andi (IntOp.xori (IntOp.cmpi .slt (IntOp.remsi .vector l width) 0#32) (Scalar.cmpi .slt width 0#32))
      (IntOp.cmpi .ne (IntOp.remsi .vector l width) 0#32))
    (IntOp.addi (IntOp.remsi .vector l width) width) (IntOp.remsi .vector l width)) 32#32

theorem first_lane : ∀ k : Fin 256, firstWord (BitVec.ofNat 32 k.val) = if k.val % 64 < 32 then 1#1 else 0#1 := by
  decide +kernel

theorem inFirst_at (l : IVec (Mat 512 w) 32) (hb : (Mat 512 w).Broadcasts (Mat 512 w)) (i : (Mat 512 w).Idx) :
    inFirst l hb i = firstWord (l i) := rfl

/-! ## The matrix that sums per head -/

/-- One where row and column belong to the same head, zero elsewhere. -/
def ones (l₀ l₁ : IVec (Mat w w) 32) (hlt : 1 < 32) (hbits : FTy.bits .bf16 < FTy.bits .f32) : FVec Ideal (Mat w w) .bf16 :=
  truncf .bf16 (select (cmpi .eq (headOf l₀ hlt) (headOf l₁ hlt)) (broadcast (Mat w w) (Scalar.ofBits (F := Ideal) .f32 0x3F800000#32))
    (broadcast (Mat w w) (Scalar.ofBits (F := Ideal) .f32 0x00000000#32))) hbits

theorem ones_apply (hw : w ≤ 256) (l₀ l₁ : IVec (Mat w w) 32) (hlt : 1 < 32) (hbits : FTy.bits .bf16 < FTy.bits .f32)
    (h₀ : ∀ k x : Fin w, l₀ (ix2 k x) = BitVec.ofNat 32 k.val) (h₁ : ∀ k x : Fin w, l₁ (ix2 k x) = BitVec.ofNat 32 x.val) (k x : Fin w) :
    ones l₀ l₁ hlt hbits (ix2 k x) = if k.val / 64 = x.val / 64 then 1 else 0 := by
  have e : cmpi .eq (headOf l₀ hlt) (headOf l₁ hlt) (ix2 k x) = if k.val / 64 = x.val / 64 then 1#1 else 0#1 := by
    show IntOp.cmpi .eq (BBlock.headWord (l₀ (ix2 k x))) (BBlock.headWord (l₁ (ix2 k x))) = _
    rw [h₀, h₁, BBlock.head_lane ⟨k.val, by omega⟩, BBlock.head_lane ⟨x.val, by omega⟩]
    have hh := BBlock.same_head ⟨x.val / 64, by omega⟩ ⟨k.val / 64, by omega⟩
    simpa [Fin.ext_iff] using hh
  show Scalar.select (cmpi .eq (headOf l₀ hlt) (headOf l₁ hlt) (ix2 k x)) (Ideal.ofBits .f32 0x3F800000#32) (Ideal.ofBits .f32 0x00000000#32) = _
  rw [e, IVal.one_f32, Ideal.ofBits_zero_f32]
  split
  · exact select_one _ _
  · exact select_zero _ _

/-- A sum over all lanes of a function that is zero outside one head is the sum over that head. -/
theorem sum_head {n : ℕ} (hw : w = n * 64) (f : Fin w → EReal) (h : Fin n) (j : Fin w) (hj : j.val / 64 = h.val) :
    ∑ k : Fin w, f k * (if k.val / 64 = j.val / 64 then 1 else 0) = ∑ k : Fin 64, f ⟨h.val * 64 + k.val, by subst hw; omega⟩ := by
  subst hw
  rw [hj]
  refine (Equiv.sum_comp (finProdFinEquiv (m := n) (n := 64)) (fun k : Fin (n * 64) => f k * (if k.val / 64 = h.val then 1 else 0))).symm.trans ?_
  rw [Fintype.sum_prod_type]
  have hv : ∀ (i : Fin n) (k : Fin 64), (finProdFinEquiv (i, k)).val = k.val + 64 * i.val := fun i k => rfl
  refine (Finset.sum_eq_single h (fun i _ hi => Finset.sum_eq_zero fun k _ => ?_) (fun hh => absurd (Finset.mem_univ h) hh)).trans ?_
  · have : ¬ (finProdFinEquiv (i, k)).val / 64 = h.val := by
      rw [hv]; intro hh; exact hi (Fin.ext (by omega))
    rw [if_neg this, mul_zero]
  · refine Finset.sum_congr rfl fun k _ => ?_
    have : (finProdFinEquiv (h, k)).val / 64 = h.val := by rw [hv]; omega
    rw [if_pos this, mul_one]
    exact congrArg f (Fin.ext (by rw [hv]; show _ = h.val * 64 + k.val; omega))

/-! ## The normalized chunk -/

variable (P : FVec Ideal (Mat 512 w) .f32) (E : FVec Ideal (Mat w w) .bf16) (G : FVec Ideal (Mat 1 w) .f32)
  (hbits : FTy.bits .bf16 < FTy.bits .f32) (hG : (Mat 1 w).Broadcasts (Mat 512 w))

/-- A chunk divided by the root of the mean square of each head, times the gain. -/
def normed : FVec Ideal (Mat 512 w) .f32 :=
  mulf (mulf P (rsqrt (addf (mulf (FloatOps.matmul (DotDims.plain 512 w w) none (truncf .bf16 (mulf P P) hbits) E (constant (Mat 512 w) .f32 0x00000000#32))
      (broadcast (Mat 512 w) (Scalar.ofBits (F := Ideal) .f32 0x3C800000#32))) (broadcast (Mat 512 w) (Scalar.ofBits (F := Ideal) .f32 0x358637BD#32)))))
    (broadcastTo (Mat 512 w) G hG)

theorem normed_apply {n : ℕ} (hw : w = n * 64) (hE : ∀ k x : Fin w, E (ix2 k x) = if k.val / 64 = x.val / 64 then 1 else 0)
    (r : Fin 512) (h : Fin n) (j : Fin 64) (x : Fin w) (hx : x.val = h.val * 64 + j.val) :
    normed P E G hbits hG (ix2 r x) = head (fun k => P (ix2 r ⟨h.val * 64 + k.val, by subst hw; omega⟩))
      (fun k => G (ix2 0 ⟨h.val * 64 + k.val, by subst hw; omega⟩)) j := by
  have hxe : x = ⟨h.val * 64 + j.val, by subst hw; omega⟩ := Fin.ext hx
  have hg : broadcastTo (Mat 512 w) G hG (ix2 r x) = G (ix2 0 x) := by
    refine broadcastTo_apply _ _ _ (ix2 0 x) (fun a => ?_)
    match a with
    | ⟨0, _⟩ => rfl
    | ⟨1, _⟩ =>
      show x.val = if w = 1 then 0 else x.val
      rw [if_neg (by omega)]
  have hm : FloatOps.matmul (DotDims.plain 512 w w) none (truncf .bf16 (mulf P P) hbits) E (constant (Mat 512 w) .f32 0x00000000#32) (ix2 r x)
      = ∑ k : Fin 64, P (ix2 r ⟨h.val * 64 + k.val, by subst hw; omega⟩) * P (ix2 r ⟨h.val * 64 + k.val, by subst hw; omega⟩) := by
    refine (Ideal.matmul_plain_apply none (mulf P P : FVec Ideal (Mat 512 w) .bf16) E (constant (Mat 512 w) .f32 0x00000000#32) r x).trans ?_
    rw [show constant (F := Ideal) (Mat 512 w) .f32 0x00000000#32 (ix2 r x) = 0 from Ideal.ofBits_zero_f32, zero_add]
    refine (Finset.sum_congr rfl fun k _ => congrArg (_ * ·) (hE k x)).trans ?_
    exact sum_head hw (fun k => P (ix2 r k) * P (ix2 r k)) h x (by omega)
  show P (ix2 r x) * Ideal.rsqrt (FloatOps.matmul (DotDims.plain 512 w w) none (truncf .bf16 (mulf P P) hbits) E (constant (Mat 512 w) .f32 0x00000000#32) (ix2 r x)
      * Ideal.ofBits .f32 0x3C800000#32 + Ideal.ofBits .f32 0x358637BD#32) * broadcastTo (Mat 512 w) G hG (ix2 r x) = _
  have e₁ : P (ix2 r x) = P (ix2 r ⟨h.val * 64 + j.val, by subst hw; omega⟩) := congrArg (fun y => P (ix2 r y)) hxe
  have e₂ : G (ix2 0 x) = G (ix2 0 ⟨h.val * 64 + j.val, by subst hw; omega⟩) := congrArg (fun y => G (ix2 0 y)) hxe
  rw [hm, hg, IVal.mul_inv64, e₁, e₂]
  rfl

/-! ## The turned chunk -/

/-- Each lane times its cosine plus its partner times its signed sine, the whole times a constant. -/
def turned (N C S : FVec Ideal (Mat 512 w) .f32) (l : IVec (Mat 512 w) 32) (hb : (Mat 512 w).Broadcasts (Mat 512 w)) (back : BitVec 32)
    (hr : (Mat 512 w).Rotates 1 none) (sc : BitVec 32) : FVec Ideal (Mat 512 w) .bf16 :=
  truncf .bf16 (mulf (addf (mulf N C) (mulf (select (inFirst l hb) (dynamicRotate 1 back none N hr) (dynamicRotate 1 32#32 none N hr)) S))
    (broadcast (Mat 512 w) (Scalar.ofBits (F := Ideal) .f32 sc))) hbits

theorem rotate_apply (N : FVec Ideal (Mat 512 w) .f32) (d : BitVec 32) (hr : (Mat 512 w).Rotates 1 none) (r : Fin 512) (x y : Fin w)
    (hy : y.val = (x.val + w - d.toNat % w) % w) : dynamicRotate 1 d none N hr (ix2 r x) = N (ix2 r y) := by
  refine dynamicRotate_apply 1 d N hr (ix2 r x) (ix2 r y) (fun b => ?_)
  match b with
  | ⟨0, _⟩ => rfl
  | ⟨1, _⟩ => exact hy

theorem turned_apply {n : ℕ} (hw : w = n * 64) (hle : w ≤ 256) (N C S : FVec Ideal (Mat 512 w) .f32) (l : IVec (Mat 512 w) 32)
    (hb : (Mat 512 w).Broadcasts (Mat 512 w)) (back : BitVec 32) (hback : back.toNat + 32 = w) (hr : (Mat 512 w).Rotates 1 none) (sc : BitVec 32)
    (hl : ∀ (r : Fin 512) (x : Fin w), l (ix2 r x) = BitVec.ofNat 32 x.val)
    (r : Fin 512) (h : Fin n) (j : Fin 64) (x y : Fin w) (hx : x.val = h.val * 64 + j.val) (hy : y.val = h.val * 64 + (partner j).val) :
    turned hbits N C S l hb back hr sc (ix2 r x)
      = (N (ix2 r x) * C (ix2 r x) + N (ix2 r y) * S (ix2 r x)) * Ideal.ofBits .f32 sc := by
  have hx' : x.val < w := x.isLt
  have hp : (partner j).val = (j.val + 32) % 64 := rfl
  have hs : Scalar.select (inFirst l hb (ix2 r x)) (dynamicRotate 1 back none N hr (ix2 r x)) (dynamicRotate 1 32#32 none N hr (ix2 r x)) = N (ix2 r y) := by
    rw [inFirst_at, hl, first_lane ⟨x.val, by omega⟩]
    have hm : x.val % 64 = j.val := by omega
    show Scalar.select (if x.val % 64 < 32 then 1#1 else 0#1) _ _ = _
    rw [hm]
    split
    · refine (select_one _ _).trans (rotate_apply N back hr r x y ?_)
      have hb2 : back.toNat % w = back.toNat := Nat.mod_eq_of_lt (by omega)
      rw [hb2, show x.val + w - back.toNat = x.val + 32 by omega, Nat.mod_eq_of_lt (by omega)]
      omega
    · refine (select_zero _ _).trans (rotate_apply N 32#32 hr r x y ?_)
      show _ = (x.val + w - 32 % w) % w
      have hb2 : 32 % w = 32 := Nat.mod_eq_of_lt (by omega)
      rw [hb2, show x.val + w - 32 = (x.val - 32) + w by omega, Nat.add_mod_right, Nat.mod_eq_of_lt (by omega)]
      omega
  show (N (ix2 r x) * C (ix2 r x) + Scalar.select (inFirst l hb (ix2 r x)) (dynamicRotate 1 back none N hr (ix2 r x)) (dynamicRotate 1 32#32 none N hr (ix2 r x))
    * S (ix2 r x)) * Ideal.ofBits .f32 sc = _
  rw [hs]

/-- The whole step, at one lane of one head. -/
theorem chunk_apply {n : ℕ} (hw : w = n * 64) (hle : w ≤ 256) (hE : ∀ k x : Fin w, E (ix2 k x) = if k.val / 64 = x.val / 64 then 1 else 0)
    (C S : FVec Ideal (Mat 512 w) .f32) (l : IVec (Mat 512 w) 32)
    (hb : (Mat 512 w).Broadcasts (Mat 512 w)) (back : BitVec 32) (hback : back.toNat + 32 = w) (hr : (Mat 512 w).Rotates 1 none) (sc : BitVec 32)
    (hl : ∀ (r : Fin 512) (x : Fin w), l (ix2 r x) = BitVec.ofNat 32 x.val)
    (r : Fin 512) (h : Fin n) (j : Fin 64) (x : Fin w) (hx : x.val = h.val * 64 + j.val) (cs sn : Fin 32 → EReal)
    (hC : C (ix2 r x) = cs (pair j)) (hS : S (ix2 r x) = if j.val < 32 then -sn (pair j) else sn (pair j)) :
    turned hbits (normed P E G hbits hG) C S l hb back hr sc (ix2 r x)
      = IVal.turn (head (fun k => P (ix2 r ⟨h.val * 64 + k.val, by subst hw; omega⟩)) (fun k => G (ix2 0 ⟨h.val * 64 + k.val, by subst hw; omega⟩))) cs sn j
        * Ideal.ofBits .f32 sc := by
  rw [turned_apply hbits hw hle _ C S l hb back hback hr sc hl r h j x ⟨h.val * 64 + (partner j).val, by subst hw; omega⟩ hx rfl,
    normed_apply P E G hbits hG hw hE r h j x hx, normed_apply P E G hbits hG hw hE r h (partner j) _ rfl, hC, hS, IVal.turn_eq]

end Cert.IChunk
end
-- ==== Proof.IBlock.lean ====
/-
  What one step of the input projection leaves in its six output blocks, from the blocks of the inputs: 512 projected rows,
  cut into the queries, keys and values of the two branches.
-/
module

public import proofs.«01_k».proof.Proof.IChunk
public import proofs.«01_k».proof.Proof.Gen.KernelIIdeal.Value

@[expose] public section

noncomputable section

namespace Cert.IBlock

open Idealize.ShloMosaic Idealize.ShloMosaic.ValueIdx
open Cert.KernelIIdeal Cert.KernelIIdeal.Gen
open Cert.IVal (norm head pair)
open Cert.IChunk (Mat)
open scoped BigOperators

/-! ## The projected rows -/

/-- A row sum of a block of rows. -/
theorem row_sum (S : FVec Ideal S512x1024 .f32) (r : Fin 512) :
    multiReduction .add [1] S512 S 0x00000000#32 reduces_S512x1024_S512 (.inl rfl) rfl (ix1 r) = ∑ k : Fin 1024, S (ix2 r k) := by
  refine (Ideal.multiReduction_add_single S _ _ _ rfl _).trans ?_
  refine Finset.sum_congr rfl fun k _ => congrArg S (funext fun a => ?_)
  fin_cases a <;> rfl

/-- The normalized rows. -/
def rows (X : FVec Ideal S512x1024 .f32) (g : FVec Ideal S1x1024 .f32) : FVec Ideal S512x1024 .f32 :=
  mulf (mulf X (broadcastTo S512x1024 (rsqrt (addf (divf (shapeCast S512x1 (multiReduction .add [1] S512 (mulf X X) 0x00000000#32 reduces_S512x1024_S512
      (.inl rfl) rfl) shapeCasts_S512_S512x1) (broadcast S512x1 (Scalar.ofBits (F := Ideal) .f32 0x44800000#32)))
      (broadcast S512x1 (Scalar.ofBits (F := Ideal) .f32 0x358637BD#32)))) broadcasts_S512x1_S512x1024))
    (broadcastTo S512x1024 g broadcasts_S1x1024_S512x1024)

theorem rows_apply (X : FVec Ideal S512x1024 .f32) (g : FVec Ideal S1x1024 .f32) (r : Fin 512) (k : Fin 1024) :
    rows X g (ix2 r k) = norm (Ideal.ofBits .f32 0x44800000#32) (fun k => X (ix2 r k)) (fun k => g (ix2 0 k)) k := by
  unfold rows
  show X (ix2 r k) * broadcastTo S512x1024 _ broadcasts_S512x1_S512x1024 (ix2 r k) * broadcastTo S512x1024 g broadcasts_S1x1024_S512x1024 (ix2 r k) = _
  rw [broadcastTo_apply _ _ (ix2 r k) (ix2 r 0) (fun a => by fin_cases a <;> rfl),
    broadcastTo_apply g _ (ix2 r k) (ix2 0 k) (fun a => by fin_cases a <;> rfl)]
  show X (ix2 r k) * Ideal.rsqrt (Ideal.div (shapeCast S512x1 (multiReduction .add [1] S512 (mulf X X) 0x00000000#32 reduces_S512x1024_S512
      (.inl rfl) rfl) shapeCasts_S512_S512x1 (ix2 r 0)) (Ideal.ofBits .f32 0x44800000#32) + Ideal.ofBits .f32 0x358637BD#32) * g (ix2 0 k) = _
  rw [shapeCast_a_a1_apply, row_sum]
  rfl

variable (X0 : Vec Ideal S512x1024 .f32) (X1 : Vec Ideal S1x1024 .f32) (X2 : Vec Ideal S1024x2304 .bf16)

/-- The projected rows of a block. -/
abbrev M : FVec Ideal S512x2304 .f32 := k0_pay3 (View.ld X0 r0_0) (View.ld X1 r0_1) (View.ld X2 r0_2)

theorem M_apply (r : Fin 512) (j : Fin 2304) :
    M X0 X1 X2 (ix2 r j) = ∑ k : Fin 1024, norm (Ideal.ofBits .f32 0x44800000#32) (fun k => X0 (ix2 r k)) (fun k => X1 (ix2 0 k)) k * X2 (ix2 k j) := by
  have e0 : View.ld X0 r0_0 = X0 := View.ld_unit_zero (S := S512x1024) (by funext a; fin_cases a <;> rfl) _ X0
  have e1 : View.ld X1 r0_1 = X1 := View.ld_unit_zero (S := S1x1024) (by funext a; fin_cases a <;> rfl) _ X1
  have e2 : View.ld X2 r0_2 = X2 := View.ld_unit_zero (S := S1024x2304) (by funext a; fin_cases a <;> rfl) _ X2
  unfold M
  rw [e0, e1, e2]
  unfold k0_pay3
  rw [shapeCast_self, shapeCast_self, shapeCast_self]
  refine (Ideal.matmul_plain_apply (φ₁ := .bf16) (φ₂ := .bf16) none (rows X0 X1) X2 (constant S512x2304 .f32 0x00000000#32) r j).trans ?_
  rw [show constant (F := Ideal) S512x2304 .f32 0x00000000#32 (ix2 r j) = 0 from Ideal.ofBits_zero_f32, zero_add]
  exact Finset.sum_congr rfl fun k _ => congrArg (· * X2 (ix2 k j)) (rows_apply X0 X1 r k)

/-! ## A chunk of lanes -/

/-- Element `x` of row `r` of the queries or keys cut from lane `o` on: its head normalized and turned. -/
def val {w : ℕ} (A : FVec Ideal S512x2304 .f32) (o : ℕ) (ho : o + w ≤ 2304) (hw : w % 64 = 0) (q : Fin 64 → EReal)
    (cs sn : Fin 512 → Fin 32 → EReal) (r : Fin 512) (x : Fin w) : EReal :=
  IVal.turn (head (fun k => A (ix2 r ⟨o + (x.val / 64 * 64 + k.val), by omega⟩)) q) (cs r) (sn r) ⟨x.val % 64, by omega⟩

/-- The gains and the tables, as a chunk holds them: the gain of each lane's place in its head, the cosine of its pair and the
    signed sine of its pair. -/
structure Tables {w : ℕ} (G : FVec Ideal (Mat 1 w) .f32) (C S : FVec Ideal (Mat 512 w) .f32) (q : Fin 64 → EReal)
    (cs sn : Fin 512 → Fin 32 → EReal) : Prop where
  gain : ∀ x : Fin w, G (ix2 0 x) = q ⟨x.val % 64, by omega⟩
  cosine : ∀ (r : Fin 512) (x : Fin w), C (ix2 r x) = cs r ⟨x.val % 32, by omega⟩
  sine : ∀ (r : Fin 512) (x : Fin w), S (ix2 r x) = if x.val % 64 < 32 then -sn r ⟨x.val % 32, by omega⟩ else sn r ⟨x.val % 32, by omega⟩

theorem chunk_val {w n : ℕ} (hw : w = n * 64) (hle : w ≤ 256) (A : FVec Ideal S512x2304 .f32) (o : ℕ) (ho : o + w ≤ 2304)
    (P : FVec Ideal (Mat 512 w) .f32) (hP : ∀ (r : Fin 512) (x : Fin w), P (ix2 r x) = A (ix2 r ⟨o + x.val, by omega⟩))
    (E : FVec Ideal (Mat w w) .bf16) (hE : ∀ k x : Fin w, E (ix2 k x) = if k.val / 64 = x.val / 64 then 1 else 0)
    (G : FVec Ideal (Mat 1 w) .f32) (C S : FVec Ideal (Mat 512 w) .f32) (q : Fin 64 → EReal) (cs sn : Fin 512 → Fin 32 → EReal)
    (T : Tables G C S q cs sn) (hbits : FTy.bits .bf16 < FTy.bits .f32) (hG : (Mat 1 w).Broadcasts (Mat 512 w)) (l : IVec (Mat 512 w) 32)
    (hl : ∀ (r : Fin 512) (x : Fin w), l (ix2 r x) = BitVec.ofNat 32 x.val)
    (hb : (Mat 512 w).Broadcasts (Mat 512 w)) (back : BitVec 32) (hback : back.toNat + 32 = w) (hr : (Mat 512 w).Rotates 1 none) (sc : BitVec 32)
    (r : Fin 512) (x : Fin w) :
    IChunk.turned hbits (IChunk.normed P E G hbits hG) C S l hb back hr sc (ix2 r x)
      = val A o ho (by omega) q cs sn r x * Ideal.ofBits .f32 sc := by
  refine (IChunk.chunk_apply P E G hbits hG hw hle hE C S l hb back hback hr sc hl r ⟨x.val / 64, by omega⟩ ⟨x.val % 64, by omega⟩ x
    (by show x.val = x.val / 64 * 64 + x.val % 64; omega) (cs r) (sn r) ?_ ?_).trans ?_
  · rw [T.cosine]
    exact congrArg (cs r) (Fin.ext (by show x.val % 32 = x.val % 64 % 32; omega))
  · rw [T.sine]
    have e : (⟨x.val % 32, by omega⟩ : Fin 32) = pair ⟨x.val % 64, by omega⟩ := Fin.ext (by show x.val % 32 = x.val % 64 % 32; omega)
    rw [e]
  · refine congrArg (· * Ideal.ofBits .f32 sc) ?_
    unfold val
    refine congrArg₂ (fun u v => IVal.turn (head u v) (cs r) (sn r) _) (funext fun k => hP r _) (funext fun k => ?_)
    rw [T.gain]
    exact congrArg q (Fin.ext (by show (x.val / 64 * 64 + k.val) % 64 = k.val; omega))

/-! ## Chunks of four heads, from tables of two -/

/-- Two copies of a row of 128 lanes side by side, and two copies of a table. -/
abbrev two₁ (g : FVec Ideal S1x128 .f32) : FVec Ideal S1x256 .f32 :=
  concatenate S1x256 1 [⟨S1x128, g⟩, ⟨S1x128, g⟩] concatenates_S1x128_S1x128_S1x256_d1
abbrev two (u : FVec Ideal S512x128 .f32) : FVec Ideal S512x256 .f32 :=
  concatenate S512x256 1 [⟨S512x128, u⟩, ⟨S512x128, u⟩] concatenates_S512x128_S512x128_S512x256_d1

theorem two₁_apply (g : FVec Ideal S1x128 .f32) (x : Fin 256) : two₁ g (ix2 0 x) = g (ix2 0 ⟨x.val % 128, by omega⟩) := by
  refine concatenate_replicate_apply (t := S1x256) (s₁ := S1x128) 1 2 g _ rfl _ _ rfl (fun a ha => ?_)
  match a with
  | ⟨0, _⟩ => rfl
  | ⟨1, _⟩ => exact absurd rfl ha
theorem two_apply (u : FVec Ideal S512x128 .f32) (r : Fin 512) (x : Fin 256) : two u (ix2 r x) = u (ix2 r ⟨x.val % 128, by omega⟩) := by
  refine concatenate_replicate_apply (t := S512x256) (s₁ := S512x128) 1 2 u _ rfl _ _ rfl (fun a ha => ?_)
  match a with
  | ⟨0, _⟩ => rfl
  | ⟨1, _⟩ => exact absurd rfl ha

theorem Tables.twice {g : FVec Ideal S1x128 .f32} {C S : FVec Ideal S512x128 .f32} {q : Fin 64 → EReal} {cs sn : Fin 512 → Fin 32 → EReal}
    (T : Tables g C S q cs sn) : Tables (two₁ g) (two C) (two S) q cs sn where
  gain x := by
    rw [two₁_apply, T.gain]
    exact congrArg q (Fin.ext (by show x.val % 128 % 64 = x.val % 64; omega))
  cosine r x := by
    rw [two_apply, T.cosine]
    exact congrArg (cs r) (Fin.ext (by show x.val % 128 % 32 = x.val % 32; omega))
  sine r x := by
    rw [two_apply, T.sine]
    have e : (⟨x.val % 128 % 32, by omega⟩ : Fin 32) = ⟨x.val % 32, by omega⟩ := Fin.ext (by show x.val % 128 % 32 = x.val % 32; omega)
    show (if x.val % 128 % 64 < 32 then -sn r ⟨x.val % 128 % 32, _⟩ else sn r ⟨x.val % 128 % 32, _⟩) = _
    rw [e, show x.val % 128 % 64 = x.val % 64 by omega]

/-- A row of gains and a table as the program reads them from a block. -/
abbrev gainOf (g : Vec Ideal S1x128 .f32) : FVec Ideal S1x128 .f32 := shapeCast S1x128 (View.ld g r0_3 : Vec Ideal S1x128 .f32) shapeCasts_S1x128_S1x128
abbrev tableOf (u : Vec Ideal S512x128 .f32) : FVec Ideal S512x128 .f32 := shapeCast S512x128 (View.ld u r0_4 : Vec Ideal S512x128 .f32) shapeCasts_S512x128_S512x128

theorem Tables.cast {g : Vec Ideal S1x128 .f32} {C S : Vec Ideal S512x128 .f32} {q : Fin 64 → EReal} {cs sn : Fin 512 → Fin 32 → EReal}
    (T : Tables (w := 128) g C S q cs sn) : Tables (w := 128) (gainOf g) (tableOf C) (tableOf S) q cs sn := by
  have e0 : View.ld g r0_3 = g := View.ld_unit_zero (S := S1x128) (by funext a; fin_cases a <;> rfl) _ g
  have e1 : ∀ u : Vec Ideal S512x128 .f32, View.ld u r0_4 = u := fun u => View.ld_unit_zero (S := S512x128) (by funext a; fin_cases a <;> rfl) _ u
  have h0 : gainOf g = g := (shapeCast_self _ _).trans e0
  have h1 : ∀ u, tableOf u = u := fun u => (shapeCast_self _ _).trans (e1 u)
  rw [h0, h1, h1]
  exact T

/-- The matrix that sums per head, for four heads and for two. -/
abbrev ones₄ : FVec Ideal S256x256 .bf16 :=
  IChunk.ones (w := 256) (iota .tc S256x256 32 [0] iota_S256x256_d0_w32) (iota .tc S256x256 32 [1] iota_S256x256_d1_w32) natLt_1_32 bitsLt_bf16_f32
abbrev ones₂ : FVec Ideal S128x128 .bf16 :=
  IChunk.ones (w := 128) (iota .tc S128x128 32 [0] iota_S128x128_d0_w32) (iota .tc S128x128 32 [1] iota_S128x128_d1_w32) natLt_1_32 bitsLt_bf16_f32

/-- The program's step for a chunk of four heads. -/
abbrev four (P : FVec Ideal S512x256 .f32) (g : FVec Ideal S1x128 .f32) (C S : FVec Ideal S512x128 .f32) (sc : BitVec 32) : FVec Ideal S512x256 .bf16 :=
  IChunk.turned (w := 256) bitsLt_bf16_f32 (IChunk.normed P ones₄ (two₁ g) bitsLt_bf16_f32 broadcasts_S1x256_S512x256) (two C) (two S)
    (iota .tc S512x256 32 [1] iota_S512x256_d1_w32) broadcasts_S512x256_S512x256 224#32 rotates_S512x256_d1 sc

theorem four_apply (A : FVec Ideal S512x2304 .f32) (o : ℕ) (ho : o + 256 ≤ 2304) (P : FVec Ideal S512x256 .f32)
    (hP : ∀ (r : Fin 512) (x : Fin 256), P (ix2 r x) = A (ix2 r ⟨o + x.val, by omega⟩))
    (g : FVec Ideal S1x128 .f32) (C S : FVec Ideal S512x128 .f32) (q : Fin 64 → EReal) (cs sn : Fin 512 → Fin 32 → EReal)
    (T : Tables g C S q cs sn) (sc : BitVec 32) (r : Fin 512) (x : Fin 256) :
    four P g C S sc (ix2 r x) = val A o ho (by omega) q cs sn r x * Ideal.ofBits .f32 sc :=
  chunk_val (n := 4) rfl (by omega) A o ho P hP ones₄ (IChunk.ones_apply (w := 256) (by omega) _ _ _ _ (fun k x => iota_single_apply ..) (fun k x => iota_single_apply ..))
    _ _ _ q cs sn T.twice _ _ _ (fun r x => iota_single_apply ..) _ 224#32 (by decide) _ sc r x

/-- The program's step for a chunk of two heads. -/
abbrev pairOf (P : FVec Ideal S512x128 .f32) (g : FVec Ideal S1x128 .f32) (C S : FVec Ideal S512x128 .f32) (sc : BitVec 32) : FVec Ideal S512x128 .bf16 :=
  IChunk.turned (w := 128) bitsLt_bf16_f32 (IChunk.normed P ones₂ g bitsLt_bf16_f32 broadcasts_S1x128_S512x128) C S
    (iota .tc S512x128 32 [1] iota_S512x128_d1_w32) broadcasts_S512x128_S512x128 96#32 rotates_S512x128_d1 sc

theorem pairOf_apply (A : FVec Ideal S512x2304 .f32) (o : ℕ) (ho : o + 128 ≤ 2304) (P : FVec Ideal S512x128 .f32)
    (hP : ∀ (r : Fin 512) (x : Fin 128), P (ix2 r x) = A (ix2 r ⟨o + x.val, by omega⟩))
    (g : FVec Ideal S1x128 .f32) (C S : FVec Ideal S512x128 .f32) (q : Fin 64 → EReal) (cs sn : Fin 512 → Fin 32 → EReal)
    (T : Tables g C S q cs sn) (sc : BitVec 32) (r : Fin 512) (x : Fin 128) :
    pairOf P g C S sc (ix2 r x) = val A o ho (by omega) q cs sn r x * Ideal.ofBits .f32 sc :=
  chunk_val (n := 2) rfl (by omega) A o ho P hP ones₂ (IChunk.ones_apply (w := 128) (by omega) _ _ _ _ (fun k x => iota_single_apply ..) (fun k x => iota_single_apply ..))
    _ _ _ q cs sn T _ _ _ (fun r x => iota_single_apply ..) _ 96#32 (by decide) _ sc r x

/-- The two halves of 512 lanes cut from lane `o` of the projection on: the slice of a slice. -/
theorem half_at (A : FVec Ideal S512x2304 .f32) (o d : ℕ) (ho : o + d + 256 ≤ 2304) (hd : d + 256 ≤ 512) (h₁ : S512x2304.Slices ![0, o] S512x512)
    (h₂ : S512x512.Slices ![0, d] S512x256) (r : Fin 512) (x : Fin 256) :
    extractStridedSlice S512x256 ![0, d] (extractStridedSlice S512x512 ![0, o] A h₁) h₂ (ix2 r x) = A (ix2 r ⟨o + d + x.val, by omega⟩) := by
  refine (extractStridedSlice_apply _ _ h₂ (ix2 r x) (ix2 r ⟨d + x.val, by omega⟩) (fun a => ?_)).trans
    (extractStridedSlice_apply _ _ h₁ (ix2 r ⟨d + x.val, _⟩) (ix2 r ⟨o + d + x.val, by omega⟩) (fun a => ?_))
  · fin_cases a
    · show r.val = 0 + r.val; omega
    · rfl
  · fin_cases a
    · show r.val = 0 + r.val; omega
    · show o + d + x.val = o + (d + x.val); omega

/-- One half of a block of 512 lanes at its place among them. -/
theorem half_val (A : FVec Ideal S512x2304 .f32) (o d : ℕ) (ho : o + 512 ≤ 2304) (hd : d + 256 ≤ 512) (hdw : d % 64 = 0)
    (h₁ : S512x2304.Slices ![0, o] S512x512) (h₂ : S512x512.Slices ![0, d] S512x256)
    (g : FVec Ideal S1x128 .f32) (C S : FVec Ideal S512x128 .f32) (q : Fin 64 → EReal) (cs sn : Fin 512 → Fin 32 → EReal)
    (T : Tables g C S q cs sn) (sc : BitVec 32) (z : S512x256.Idx) (y : S512x512.Idx) (hy₀ : (y 0).val = (z 0).val) (hy₁ : (y 1).val = d + (z 1).val) :
    four (extractStridedSlice S512x256 ![0, d] (extractStridedSlice S512x512 ![0, o] A h₁) h₂) g C S sc z
      = val (w := 512) A o ho (by omega) q cs sn (y 0) (y 1) * Ideal.ofBits .f32 sc := by
  have hz : z = ix2 (z 0) (z 1) := by funext a; fin_cases a <;> rfl
  have hr : y 0 = z 0 := Fin.ext hy₀
  have hx : (z 1).val < 256 := (z 1).isLt
  have hx' : y 1 = (⟨d + (z 1).val, by omega⟩ : Fin 512) := Fin.ext hy₁
  rw [hz]
  refine (four_apply A (o + d) (by omega) _ (half_at A o d (by omega) hd h₁ h₂) g C S q cs sn T sc (z 0) (z 1)).trans ?_
  refine congrArg (· * Ideal.ofBits .f32 sc) ?_
  rw [hr, hx']
  unfold val
  have e : (⟨(z 1).val % 64, by omega⟩ : Fin 64) = ⟨(d + (z 1).val) % 64, by omega⟩ := Fin.ext (by show (z 1).val % 64 = _ % 64; omega)
  refine congrArg₂ (fun u j => IVal.turn (head u q) (cs (z 0)) (sn (z 0)) j) (funext fun k => congrArg (fun j => A (ix2 (z 0) j)) (Fin.ext ?_)) e
  show o + d + ((z 1).val / 64 * 64 + k.val) = o + ((d + (z 1).val) / 64 * 64 + k.val)
  omega

/-- A block of 512 lanes put together from its two halves. -/
theorem halves_val (A : FVec Ideal S512x2304 .f32) (o : ℕ) (ho : o + 512 ≤ 2304) (h : S512x2304.Slices ![0, o] S512x512)
    (g : FVec Ideal S1x128 .f32) (C S : FVec Ideal S512x128 .f32) (q : Fin 64 → EReal) (cs sn : Fin 512 → Fin 32 → EReal)
    (T : Tables g C S q cs sn) (sc : BitVec 32) (y : S512x512.Idx) :
    View.canon (Val := Elt Ideal) (s := S512x512) (e := .bf16)
      [⟨r0_6, four (extractStridedSlice S512x256 ![0, 256] (extractStridedSlice S512x512 ![0, o] A h) slices_S512x512_o0_256_S512x256) g C S sc⟩,
       ⟨r0_5, four (extractStridedSlice S512x256 ![0, 0] (extractStridedSlice S512x512 ![0, o] A h) slices_S512x512_o0_0_S512x256) g C S sc⟩] y
      = val (w := 512) A o ho (by omega) q cs sn (y 0) (y 1) * Ideal.ofBits .f32 sc := by
  refine View.canon_apply_of_pieces (Val := Elt Ideal)
    (fun y => val (w := 512) A o ho (by omega) q cs sn (y 0) (y 1) * Ideal.ofBits .f32 sc) _ ?_ y (cover0_11 _ _ y)
  intro p hp z
  rcases List.mem_cons.mp hp with rfl | hp
  · exact half_val A o 256 ho (by omega) (by omega) h slices_S512x512_o0_256_S512x256 g C S q cs sn T sc z (r0_6.emb z)
      (by show 0 + 1 * (z 0).val = _; omega) (by show 256 + 1 * (z 1).val = _; omega)
  rcases List.mem_cons.mp hp with rfl | hp
  · exact half_val A o 0 ho (by omega) (by omega) h slices_S512x512_o0_0_S512x256 g C S q cs sn T sc z (r0_5.emb z)
      (by show 0 + 1 * (z 0).val = _; omega) (by show 0 + 1 * (z 1).val = _; omega)
  · exact absurd hp (List.not_mem_nil)

/-! ## The six blocks -/

variable (X3 X4 X5 X6 : Vec Ideal S1x128 .f32) (X7 X8 X9 X10 : Vec Ideal S512x128 .f32) {q : Fin 64 → EReal} {cs sn : Fin 512 → Fin 32 → EReal}

/-- The first branch's queries: their place among the projected lanes begins at 0, and they are multiplied by an eighth. -/
theorem qa_apply (T : Tables (w := 128) X3 X7 X8 q cs sn) (y : S512x512.Idx) :
    out0_11 X0 X1 X2 X3 X4 X5 X6 X7 X8 X9 X10 y
      = val (w := 512) (M X0 X1 X2) 0 (by omega) (by omega) q cs sn (y 0) (y 1) * Ideal.ofBits .f32 0x3E000000#32 :=
  halves_val (M X0 X1 X2) 0 (by omega) slices_S512x2304_o0_0_S512x512 (gainOf X3) (tableOf X7) (tableOf X8) q cs sn T.cast _ y

/-- The first branch's keys, from lane 512 on. -/
theorem ka_apply (T : Tables (w := 128) X4 X7 X8 q cs sn) (y : S512x512.Idx) :
    out0_12 X0 X1 X2 X3 X4 X5 X6 X7 X8 X9 X10 y = val (w := 512) (M X0 X1 X2) 512 (by omega) (by omega) q cs sn (y 0) (y 1) :=
  (halves_val (M X0 X1 X2) 512 (by omega) slices_S512x2304_o0_512_S512x512 (gainOf X4) (tableOf X7) (tableOf X8) q cs sn T.cast
    0x3F800000#32 y).trans (by rw [IVal.one_f32, mul_one])

/-- The second branch's queries, from lane 1536 on, multiplied by an eighth. -/
theorem qb_apply (T : Tables (w := 128) X5 X9 X10 q cs sn) (y : S512x512.Idx) :
    out0_14 X0 X1 X2 X3 X4 X5 X6 X7 X8 X9 X10 y
      = val (w := 512) (M X0 X1 X2) 1536 (by omega) (by omega) q cs sn (y 0) (y 1) * Ideal.ofBits .f32 0x3E000000#32 :=
  halves_val (M X0 X1 X2) 1536 (by omega) slices_S512x2304_o0_1536_S512x512 (gainOf X5) (tableOf X9) (tableOf X10) q cs sn T.cast _ y

/-- The second branch's keys, two heads from lane 2048 on. -/
theorem kb_apply (T : Tables (w := 128) X6 X9 X10 q cs sn) (y : S512x128.Idx) :
    out0_15 X0 X1 X2 X3 X4 X5 X6 X7 X8 X9 X10 y = val (w := 128) (M X0 X1 X2) 2048 (by omega) (by omega) q cs sn (y 0) (y 1) := by
  unfold out0_15
  refine View.canon_apply_of_pieces (Val := Elt Ideal)
    (fun y => val (w := 128) (M X0 X1 X2) 2048 (by omega) (by omega) q cs sn (y 0) (y 1)) _ ?_ y (cover0_15 _ y)
  intro p hp z
  rcases List.mem_cons.mp hp with rfl | hp
  · have hz : r0_4.emb z = z := by
      funext a; refine Fin.ext ?_
      match a with
      | ⟨0, _⟩ => show 0 + 1 * (z 0).val = (z 0).val; omega
      | ⟨1, _⟩ => show 0 + 1 * (z 1).val = (z 1).val; omega
    have hz' : (z : S512x128.Idx) = ix2 (z 0) (z 1) := by funext a; fin_cases a <;> rfl
    rw [hz]
    refine (congrArg _ hz').trans ((pairOf_apply (M X0 X1 X2) 2048 (by omega)
      (extractStridedSlice S512x128 ![0, 2048] (M X0 X1 X2) slices_S512x2304_o0_2048_S512x128)
      (fun r x => extractStridedSlice_apply _ _ _ (ix2 r x) (ix2 r ⟨2048 + x.val, by omega⟩) (fun a => ?_)) (gainOf X6) (tableOf X9) (tableOf X10) q cs sn T.cast
      0x3F800000#32 (z 0) (z 1)).trans (by rw [IVal.one_f32, mul_one]))
    match a with
    | ⟨0, _⟩ => show r.val = 0 + r.val; omega
    | ⟨1, _⟩ => rfl
  · exact absurd hp (List.not_mem_nil)

/-- The first branch's values: lanes 1024 to 1535 as they are. -/
theorem va_apply (y : S512x512.Idx) :
    out0_13 X0 X1 X2 X3 X4 X5 X6 X7 X8 X9 X10 y
      = M X0 X1 X2 (ix2 (y 0) ⟨1024 + (y 1).val, by have h : (y 1).val < 512 := (y 1).isLt; omega⟩) := by
  unfold out0_13
  refine View.canon_apply_of_pieces (Val := Elt Ideal)
    (fun y : S512x512.Idx => M X0 X1 X2 (ix2 (y 0) ⟨1024 + (y 1).val, by have h : (y 1).val < 512 := (y 1).isLt; omega⟩)) _ ?_ y (cover0_13 _ y)
  intro p hp z
  rcases List.mem_cons.mp hp with rfl | hp
  · refine extractStridedSlice_apply (s := S512x2304) (t := S512x512) _ (M X0 X1 X2) slices_S512x2304_o0_1024_S512x512 z _ (fun a => ?_)
    match a with
    | ⟨0, _⟩ => show 0 + 1 * (z 0).val = 0 + (z 0).val; omega
    | ⟨1, _⟩ => show 1024 + (0 + 1 * (z 1).val) = 1024 + (z 1).val; omega
  · exact absurd hp (List.not_mem_nil)

/-- The second branch's values: lanes 2176 to 2303 as they are. -/
theorem vb_apply (y : S512x128.Idx) :
    out0_16 X0 X1 X2 X3 X4 X5 X6 X7 X8 X9 X10 y
      = M X0 X1 X2 (ix2 (y 0) ⟨2176 + (y 1).val, by have h : (y 1).val < 128 := (y 1).isLt; omega⟩) := by
  unfold out0_16
  refine View.canon_apply_of_pieces (Val := Elt Ideal)
    (fun y : S512x128.Idx => M X0 X1 X2 (ix2 (y 0) ⟨2176 + (y 1).val, by have h : (y 1).val < 128 := (y 1).isLt; omega⟩)) _ ?_ y (cover0_16 _ y)
  intro p hp z
  rcases List.mem_cons.mp hp with rfl | hp
  · refine extractStridedSlice_apply (s := S512x2304) (t := S512x128) _ (M X0 X1 X2) slices_S512x2304_o0_2176_S512x128 z _ (fun a => ?_)
    match a with
    | ⟨0, _⟩ => show 0 + 1 * (z 0).val = 0 + (z 0).val; omega
    | ⟨1, _⟩ => show 2176 + (0 + 1 * (z 1).val) = 2176 + (z 1).val; omega
  · exact absurd hp (List.not_mem_nil)

end Cert.IBlock
end
-- ==== Proof.ITab.lean ====
/-
  The arrays the input projection's grid reads, in terms of the arguments: the rows, the gains laid out twice, the weights, and
  the tables of cosines and signed sines of each token's angles.
-/
module

public import proofs.«01_k».proof.Proof.IBlock

@[expose] public section

set_option maxRecDepth 16384

noncomputable section

namespace Cert.ITab

open Cert.KernelIIdeal Cert.KernelIIdeal.Gen Idealize.ShloMosaic Idealize.ShloMosaic.TcCoe Idealize.ShloMosaic.ValueIdx
open Cert.AVal (row)
open scoped BigOperators

variable (m : (ℓ : Loc nD τ sig) → Buf (Elt Ideal) ℓ) (c : Dev nD)

/-- Token `s` of batch entry `b` is array row `4096 b + s`. -/
theorem tok_apply (u : Vec Ideal S8x4096x1024 .f32) (b : Fin 8) (s : Fin 4096) (k : Fin 1024) :
    shapeCast S32768x1024 u shapeCasts_S8x4096x1024_S32768x1024 (ix2 (row b s) k) = u (ix3 b s k) := by
  refine shapeCast_apply _ _ _ _ ?_
  rw [Shape.rowMajor_val_two, Shape.rowMajor_val_three]; simp [ix3, ix2]

theorem gain_apply (u : Vec Ideal S1x1024 .f32) (k : Fin 1024) :
    broadcastInDim S1x1024 ![1] bcast_S1024_S1x1024_1 (shapeCast S1024 u shapeCasts_S1x1024_S1024) (ix2 0 k) = u (ix2 0 k) := by
  refine shapeCast_apply u shapeCasts_S1x1024_S1024 (ix1 k) (ix2 0 k) ?_
  rw [Shape.rowMajor_val_two, Shape.rowMajor_val_one]; simp [ix2, ix1]

theorem weight_apply (u : Vec Ideal S1x1024x2304 .f32) (k : Fin 1024) (j : Fin 2304) :
    shapeCast S1024x2304 u shapeCasts_S1x1024x2304_S1024x2304 (ix2 k j) = u (ix3 0 k j) := by
  refine shapeCast_apply _ _ _ _ ?_
  rw [Shape.rowMajor_val_two, Shape.rowMajor_val_three]; simp [ix3, ix2]

/-- A row of 64 laid out twice. -/
theorem twice_apply (u : Vec Ideal S1x64 .f32) (x : Fin 128) :
    broadcastInDim S1x128 ![1] bcast_S128_S1x128_1 (shapeCast S128 (broadcastInDim S2x64 ![0, 1] bcast_S1x64_S2x64_0_1
      (shapeCast S1x64 (shapeCast S64 u shapeCasts_S1x64_S64) shapeCasts_S64_S1x64)) shapeCasts_S2x64_S128) (ix2 0 x)
      = u (ix2 0 ⟨x.val % 64, by omega⟩) := by
  refine (shapeCast_apply (broadcastInDim S2x64 ![0, 1] bcast_S1x64_S2x64_0_1
      (shapeCast S1x64 (shapeCast S64 u shapeCasts_S1x64_S64) shapeCasts_S64_S1x64)) shapeCasts_S2x64_S128 (ix1 x)
      (ix2 ⟨x.val / 64, by omega⟩ ⟨x.val % 64, by omega⟩) ?_).trans ?_
  · rw [Shape.rowMajor_val_two, Shape.rowMajor_val_one]; simp [ix2, ix1]; omega
  refine Eq.trans (b := shapeCast S1x64 (shapeCast S64 u shapeCasts_S1x64_S64) shapeCasts_S64_S1x64 (ix2 0 ⟨x.val % 64, by omega⟩)) ?_ ?_
  · exact congrArg (shapeCast S1x64 (shapeCast S64 u shapeCasts_S1x64_S64) shapeCasts_S64_S1x64) (funext fun a => by fin_cases a <;> rfl)
  refine (shapeCast_apply _ _ _ (ix1 ⟨x.val % 64, by omega⟩) ?_).trans (shapeCast_apply _ _ _ (ix2 0 ⟨x.val % 64, by omega⟩) ?_)
  · rw [Shape.rowMajor_val_two, Shape.rowMajor_val_one]; simp [ix2, ix1]
  · rw [Shape.rowMajor_val_two, Shape.rowMajor_val_one]; simp [ix2, ix1]

/-- A table of 64 lanes, put together from two of 32 and laid out twice. -/
theorem table_apply (u v : Vec Ideal S4096x32 .f32) (s : Fin 4096) (x : Fin 128) :
    shapeCast S4096x128 (broadcastInDim S1x4096x2x64 ![0, 1, 2, 3] bcast_S1x4096x1x64_S1x4096x2x64_0_1_2_3
      (shapeCast S1x4096x1x64 (concatenate S4096x64 1 [⟨S4096x32, u⟩, ⟨S4096x32, v⟩] concatenates_S4096x32_S4096x32_S4096x64_d1)
        shapeCasts_S4096x64_S1x4096x1x64)) shapeCasts_S1x4096x2x64_S4096x128 (ix2 s x)
      = if x.val % 64 < 32 then u (ix2 s ⟨x.val % 32, by omega⟩) else v (ix2 s ⟨x.val % 32, by omega⟩) := by
  refine (shapeCast_apply _ _ (ix2 s x) (ix4 0 s ⟨x.val / 64, by omega⟩ ⟨x.val % 64, by omega⟩) ?_).trans ?_
  · rw [Shape.rowMajor_val_two, Shape.rowMajor_val_four]; simp [ix2, ix4]; omega
  refine Eq.trans (b := shapeCast S1x4096x1x64 (concatenate S4096x64 1 [⟨S4096x32, u⟩, ⟨S4096x32, v⟩] concatenates_S4096x32_S4096x32_S4096x64_d1)
    shapeCasts_S4096x64_S1x4096x1x64 (ix4 0 s 0 ⟨x.val % 64, by omega⟩)) ?_ ?_
  · exact congrArg (shapeCast S1x4096x1x64 _ shapeCasts_S4096x64_S1x4096x1x64) (funext fun a => by fin_cases a <;> rfl)
  refine (shapeCast_apply _ _ _ (ix2 s ⟨x.val % 64, by omega⟩) ?_).trans ?_
  · rw [Shape.rowMajor_val_two, Shape.rowMajor_val_four]; simp [ix2, ix4]
  split
  · rename_i h
    refine concatenate_pair_apply_left (t := S4096x64) (s₁ := S4096x32) (s₂ := S4096x32) 1 u v _ _ rfl _ (fun a => ?_)
    match a with
    | ⟨0, _⟩ => rfl
    | ⟨1, _⟩ => show x.val % 32 = x.val % 64; omega
  · rename_i h
    refine concatenate_pair_apply_right (t := S4096x64) (s₁ := S4096x32) (s₂ := S4096x32) 1 u v _ _ rfl rfl _ (fun a ha => ?_) ?_
    · match a with
      | ⟨0, _⟩ => rfl
      | ⟨1, _⟩ => exact absurd rfl ha
    · show x.val % 32 + 32 = x.val % 64; omega

/-! ## The arrays the host makes -/

/-- The buffers once the angles are made, before the tables are. -/
def mid : Valuation τ sig (Elt Ideal) := StableHlo.after (List.take 53 hostOps0) (fun b => m (c, b))

/-- The angles of each token: by its place in the sequence, and by its row and column in the image. -/
def line : Vec Ideal S4096x32 .f32 := mid m c main_v16
def grid : Vec Ideal S4096x32 .f32 := mid m c main_v44

theorem after_split (n : ℕ) : ∀ (l : List (HloOp τ sig (Elt Ideal))) (W : Valuation τ sig (Elt Ideal)),
    StableHlo.after l W = StableHlo.after (l.drop n) (StableHlo.after (l.take n) W) := by
  induction n with
  | zero => intro l W; rfl
  | succ n ih => intro l W; cases l with
    | nil => rfl
    | cons o l => exact ih l _

theorem V_mid (b : Ref sig .tc) : V m c b = StableHlo.after (List.drop 53 hostOps0) (mid m c) b :=
  congrFun (after_split 53 hostOps0 (fun b => m (c, b))) (Proc.devRef .tc b)

theorem same_branch (t : EReal) (p : Prop) [Decidable p] : (if p then t else t) = t := by split <;> rfl

/-- The tables, from the buffers that hold the angles. -/
theorem cos_table (W : Valuation τ sig (Elt Ideal)) (s : Fin 4096) (x : Fin 128) :
    (StableHlo.after (List.drop 53 hostOps0) W main_v52 : Vec Ideal S4096x128 .f32) (ix2 s x)
      = Ideal.cos ((W main_v16 : Vec Ideal S4096x32 .f32) (ix2 s ⟨x.val % 32, by omega⟩)) :=
  (table_apply (fun i => Ideal.cos ((W main_v16 : Vec Ideal S4096x32 .f32) i)) (fun i => Ideal.cos ((W main_v16 : Vec Ideal S4096x32 .f32) i)) s x).trans (same_branch _ _)
theorem sin_table (W : Valuation τ sig (Elt Ideal)) (s : Fin 4096) (x : Fin 128) :
    (StableHlo.after (List.drop 53 hostOps0) W main_v55 : Vec Ideal S4096x128 .f32) (ix2 s x)
      = if x.val % 64 < 32 then -Ideal.sin ((W main_v16 : Vec Ideal S4096x32 .f32) (ix2 s ⟨x.val % 32, by omega⟩))
        else Ideal.sin ((W main_v16 : Vec Ideal S4096x32 .f32) (ix2 s ⟨x.val % 32, by omega⟩)) :=
  table_apply (fun i => -Ideal.sin ((W main_v16 : Vec Ideal S4096x32 .f32) i)) (fun i => Ideal.sin ((W main_v16 : Vec Ideal S4096x32 .f32) i)) s x
theorem cos_table' (W : Valuation τ sig (Elt Ideal)) (s : Fin 4096) (x : Fin 128) :
    (StableHlo.after (List.drop 53 hostOps0) W main_v63 : Vec Ideal S4096x128 .f32) (ix2 s x)
      = Ideal.cos ((W main_v44 : Vec Ideal S4096x32 .f32) (ix2 s ⟨x.val % 32, by omega⟩)) :=
  (table_apply (fun i => Ideal.cos ((W main_v44 : Vec Ideal S4096x32 .f32) i)) (fun i => Ideal.cos ((W main_v44 : Vec Ideal S4096x32 .f32) i)) s x).trans (same_branch _ _)
theorem sin_table' (W : Valuation τ sig (Elt Ideal)) (s : Fin 4096) (x : Fin 128) :
    (StableHlo.after (List.drop 53 hostOps0) W main_v66 : Vec Ideal S4096x128 .f32) (ix2 s x)
      = if x.val % 64 < 32 then -Ideal.sin ((W main_v44 : Vec Ideal S4096x32 .f32) (ix2 s ⟨x.val % 32, by omega⟩))
        else Ideal.sin ((W main_v44 : Vec Ideal S4096x32 .f32) (ix2 s ⟨x.val % 32, by omega⟩)) :=
  table_apply (fun i => -Ideal.sin ((W main_v44 : Vec Ideal S4096x32 .f32) i)) (fun i => Ideal.sin ((W main_v44 : Vec Ideal S4096x32 .f32) i)) s x

/-- The cosines of both branches' angles, and the signed sines. -/
theorem V52_apply (s : Fin 4096) (x : Fin 128) : V m c main_v52 (ix2 s x) = Ideal.cos (line m c (ix2 s ⟨x.val % 32, by omega⟩)) := by
  rw [V_mid]; exact cos_table (mid m c) s x
theorem V55_apply (s : Fin 4096) (x : Fin 128) : V m c main_v55 (ix2 s x)
    = if x.val % 64 < 32 then -Ideal.sin (line m c (ix2 s ⟨x.val % 32, by omega⟩)) else Ideal.sin (line m c (ix2 s ⟨x.val % 32, by omega⟩)) := by
  rw [V_mid]; exact sin_table (mid m c) s x
theorem V63_apply (s : Fin 4096) (x : Fin 128) : V m c main_v63 (ix2 s x) = Ideal.cos (grid m c (ix2 s ⟨x.val % 32, by omega⟩)) := by
  rw [V_mid]; exact cos_table' (mid m c) s x
theorem V66_apply (s : Fin 4096) (x : Fin 128) : V m c main_v66 (ix2 s x)
    = if x.val % 64 < 32 then -Ideal.sin (grid m c (ix2 s ⟨x.val % 32, by omega⟩)) else Ideal.sin (grid m c (ix2 s ⟨x.val % 32, by omega⟩)) := by
  rw [V_mid]; exact sin_table' (mid m c) s x

theorem V0_apply (b : Fin 8) (s : Fin 4096) (k : Fin 1024) :
    V m c main_v0 (ix2 (row b s) k) = m ((c : Thread nD τ).loc main_arg0) (ix3 b s k) :=
  tok_apply (m ((c : Thread nD τ).loc main_arg0)) b s k
theorem V68_apply (k : Fin 1024) : V m c main_v68 (ix2 0 k) = m ((c : Thread nD τ).loc main_arg1) (ix2 0 k) :=
  gain_apply (m ((c : Thread nD τ).loc main_arg1)) k
theorem V70_apply (k : Fin 1024) (j : Fin 2304) : V m c main_v70 (ix2 k j) = m ((c : Thread nD τ).loc main_arg2) (ix3 0 k j) :=
  weight_apply (m ((c : Thread nD τ).loc main_arg2)) k j
theorem V75_apply (x : Fin 128) : V m c main_v75 (ix2 0 x) = m ((c : Thread nD τ).loc main_arg3) (ix2 0 ⟨x.val % 64, by omega⟩) :=
  twice_apply (m ((c : Thread nD τ).loc main_arg3)) x
theorem V80_apply (x : Fin 128) : V m c main_v80 (ix2 0 x) = m ((c : Thread nD τ).loc main_arg4) (ix2 0 ⟨x.val % 64, by omega⟩) :=
  twice_apply (m ((c : Thread nD τ).loc main_arg4)) x
theorem V85_apply (x : Fin 128) : V m c main_v85 (ix2 0 x) = m ((c : Thread nD τ).loc main_arg5) (ix2 0 ⟨x.val % 64, by omega⟩) :=
  twice_apply (m ((c : Thread nD τ).loc main_arg5)) x
theorem V90_apply (x : Fin 128) : V m c main_v90 (ix2 0 x) = m ((c : Thread nD τ).loc main_arg6) (ix2 0 ⟨x.val % 64, by omega⟩) :=
  twice_apply (m ((c : Thread nD τ).loc main_arg6)) x

end Cert.ITab
end
-- ==== Proof.IArr.lean ====
/-
  The six arrays the input projection leaves: every element is the projection's value of the arguments.
-/
module

public import proofs.«01_k».proof.Proof.ITab

@[expose] public section

noncomputable section

namespace Cert.IArr

open Cert.KernelIIdeal Cert.KernelIIdeal.Gen Idealize.ShloMosaic Idealize.ShloMosaic.TcCoe Idealize.ShloMosaic.ValueIdx
open Cert.ITab Cert.IBlock
open Cert.AVal (row)
open scoped BigOperators

variable (m : (ℓ : Loc nD τ sig) → Buf (Elt Ideal) ℓ) (c : Dev nD)

/-! ## The blocks at a grid point -/

/-- A grid point holds 512 tokens of one batch entry. -/
abbrev bOf (t : Fin cfg0.N) : Fin 8 := ⟨t.val / 8, by have h : t.val < 64 := t.isLt; omega⟩
abbrev sOf (t : Fin cfg0.N) (r : Fin 512) : Fin 4096 := ⟨t.val % 8 * 512 + r.val, by omega⟩

theorem ind0 : ∀ t : Fin cfg0.N, (cfg0.win 0).index t 0 = t.val ∧ (cfg0.win 0).index t 1 = 0 := by decide +kernel
theorem ind1 : ∀ t : Fin cfg0.N, (cfg0.win 1).index t 0 = 0 ∧ (cfg0.win 1).index t 1 = 0 := by decide +kernel
theorem ind2 : ∀ t : Fin cfg0.N, (cfg0.win 2).index t 0 = 0 ∧ (cfg0.win 2).index t 1 = 0 := by decide +kernel
theorem ind3 : ∀ t : Fin cfg0.N, (cfg0.win 3).index t 0 = 0 ∧ (cfg0.win 3).index t 1 = 0 := by decide +kernel
theorem ind4 : ∀ t : Fin cfg0.N, (cfg0.win 4).index t 0 = 0 ∧ (cfg0.win 4).index t 1 = 0 := by decide +kernel
theorem ind5 : ∀ t : Fin cfg0.N, (cfg0.win 5).index t 0 = 0 ∧ (cfg0.win 5).index t 1 = 0 := by decide +kernel
theorem ind6 : ∀ t : Fin cfg0.N, (cfg0.win 6).index t 0 = 0 ∧ (cfg0.win 6).index t 1 = 0 := by decide +kernel
theorem ind7 : ∀ t : Fin cfg0.N, (cfg0.win 7).index t 0 = t.val % 8 ∧ (cfg0.win 7).index t 1 = 0 := by decide +kernel
theorem ind8 : ∀ t : Fin cfg0.N, (cfg0.win 8).index t 0 = t.val % 8 ∧ (cfg0.win 8).index t 1 = 0 := by decide +kernel
theorem ind9 : ∀ t : Fin cfg0.N, (cfg0.win 9).index t 0 = t.val % 8 ∧ (cfg0.win 9).index t 1 = 0 := by decide +kernel
theorem ind10 : ∀ t : Fin cfg0.N, (cfg0.win 10).index t 0 = t.val % 8 ∧ (cfg0.win 10).index t 1 = 0 := by decide +kernel
theorem ind11 : ∀ t : Fin cfg0.N, (cfg0.win 11).index t 0 = t.val ∧ (cfg0.win 11).index t 1 = 0 := by decide +kernel
theorem ind12 : ∀ t : Fin cfg0.N, (cfg0.win 12).index t 0 = t.val ∧ (cfg0.win 12).index t 1 = 0 := by decide +kernel
theorem ind13 : ∀ t : Fin cfg0.N, (cfg0.win 13).index t 0 = t.val ∧ (cfg0.win 13).index t 1 = 0 := by decide +kernel
theorem ind14 : ∀ t : Fin cfg0.N, (cfg0.win 14).index t 0 = t.val ∧ (cfg0.win 14).index t 1 = 0 := by decide +kernel
theorem ind15 : ∀ t : Fin cfg0.N, (cfg0.win 15).index t 0 = t.val ∧ (cfg0.win 15).index t 1 = 0 := by decide +kernel
theorem ind16 : ∀ t : Fin cfg0.N, (cfg0.win 16).index t 0 = t.val ∧ (cfg0.win 16).index t 1 = 0 := by decide +kernel

/-- An index into a block of `n` by `k`, in the whole array. -/
theorem at_block {a b n k : ℕ} {i : (⟨2, ![a, b]⟩ : Shape).Idx} (i0 i1 : ℕ) (r : Fin n) (x : Fin k) (h0 : (i 0).val = i0 * n + 1 * r.val)
    (h1 : (i 1).val = i1 * k + 1 * x.val) (p : Fin a) (q : Fin b) (e0 : i0 * n + r.val = p.val) (e1 : i1 * k + x.val = q.val) : i = ix2 p q := by
  funext z
  fin_cases z
  · exact Fin.ext (by show (i 0).val = p.val; omega)
  · exact Fin.ext (by show (i 1).val = q.val; omega)

theorem blk0 (t : Fin cfg0.N) (r : Fin 512) (k : Fin 1024) :
    iblk m c 0 t (ix2 r k) = m ((c : Thread nD τ).loc main_arg0) (ix3 (bOf t) (sOf t r) k) := by
  show V m c main_v0 _ = _
  exact (congrArg (V m c main_v0) (at_block ((cfg0.win 0).index t 0) ((cfg0.win 0).index t 1) r k rfl rfl (row (bOf t) (sOf t r)) k
    (by rw [(ind0 t).1]; show t.val * 512 + r.val = t.val / 8 * 4096 + (t.val % 8 * 512 + r.val); omega) (by rw [(ind0 t).2]; omega))).trans (V0_apply m c (bOf t) (sOf t r) k)
theorem blk1 (t : Fin cfg0.N) (k : Fin 1024) : iblk m c 1 t (ix2 0 k) = m ((c : Thread nD τ).loc main_arg1) (ix2 0 k) := by
  show V m c main_v68 _ = _
  exact (congrArg (V m c main_v68) (at_block (n := 1) (k := 1024) ((cfg0.win 1).index t 0) ((cfg0.win 1).index t 1) 0 k rfl rfl 0 k
    (by rw [(ind1 t).1]; rfl) (by rw [(ind1 t).2]; omega))).trans (V68_apply m c k)
theorem blk2 (t : Fin cfg0.N) (k : Fin 1024) (j : Fin 2304) : iblk m c 2 t (ix2 k j) = m ((c : Thread nD τ).loc main_arg2) (ix3 0 k j) := by
  show V m c main_v70 _ = _
  exact (congrArg (V m c main_v70) (at_block ((cfg0.win 2).index t 0) ((cfg0.win 2).index t 1) k j rfl rfl k j
    (by rw [(ind2 t).1]; omega) (by rw [(ind2 t).2]; omega))).trans (V70_apply m c k j)
theorem blk3 (t : Fin cfg0.N) (x : Fin 128) : iblk m c 3 t (ix2 0 x) = m ((c : Thread nD τ).loc main_arg3) (ix2 0 ⟨x.val % 64, by omega⟩) := by
  show V m c main_v75 _ = _
  exact (congrArg (V m c main_v75) (at_block (n := 1) (k := 128) ((cfg0.win 3).index t 0) ((cfg0.win 3).index t 1) 0 x rfl rfl 0 x
    (by rw [(ind3 t).1]; rfl) (by rw [(ind3 t).2]; omega))).trans (V75_apply m c x)
theorem blk4 (t : Fin cfg0.N) (x : Fin 128) : iblk m c 4 t (ix2 0 x) = m ((c : Thread nD τ).loc main_arg4) (ix2 0 ⟨x.val % 64, by omega⟩) := by
  show V m c main_v80 _ = _
  exact (congrArg (V m c main_v80) (at_block (n := 1) (k := 128) ((cfg0.win 4).index t 0) ((cfg0.win 4).index t 1) 0 x rfl rfl 0 x
    (by rw [(ind4 t).1]; rfl) (by rw [(ind4 t).2]; omega))).trans (V80_apply m c x)
theorem blk5 (t : Fin cfg0.N) (x : Fin 128) : iblk m c 5 t (ix2 0 x) = m ((c : Thread nD τ).loc main_arg5) (ix2 0 ⟨x.val % 64, by omega⟩) := by
  show V m c main_v85 _ = _
  exact (congrArg (V m c main_v85) (at_block (n := 1) (k := 128) ((cfg0.win 5).index t 0) ((cfg0.win 5).index t 1) 0 x rfl rfl 0 x
    (by rw [(ind5 t).1]; rfl) (by rw [(ind5 t).2]; omega))).trans (V85_apply m c x)
theorem blk6 (t : Fin cfg0.N) (x : Fin 128) : iblk m c 6 t (ix2 0 x) = m ((c : Thread nD τ).loc main_arg6) (ix2 0 ⟨x.val % 64, by omega⟩) := by
  show V m c main_v90 _ = _
  exact (congrArg (V m c main_v90) (at_block (n := 1) (k := 128) ((cfg0.win 6).index t 0) ((cfg0.win 6).index t 1) 0 x rfl rfl 0 x
    (by rw [(ind6 t).1]; rfl) (by rw [(ind6 t).2]; omega))).trans (V90_apply m c x)
theorem blk7 (t : Fin cfg0.N) (r : Fin 512) (x : Fin 128) : iblk m c 7 t (ix2 r x) = Ideal.cos (line m c (ix2 (sOf t r) ⟨x.val % 32, by omega⟩)) := by
  show V m c main_v52 _ = _
  exact (congrArg (V m c main_v52) (at_block ((cfg0.win 7).index t 0) ((cfg0.win 7).index t 1) r x rfl rfl (sOf t r) x
    (by rw [(ind7 t).1]) (by rw [(ind7 t).2]; omega))).trans (V52_apply m c (sOf t r) x)
theorem blk8 (t : Fin cfg0.N) (r : Fin 512) (x : Fin 128) : iblk m c 8 t (ix2 r x) = if x.val % 64 < 32 then -Ideal.sin (line m c (ix2 (sOf t r) ⟨x.val % 32, by omega⟩))
      else Ideal.sin (line m c (ix2 (sOf t r) ⟨x.val % 32, by omega⟩)) := by
  show V m c main_v55 _ = _
  exact (congrArg (V m c main_v55) (at_block ((cfg0.win 8).index t 0) ((cfg0.win 8).index t 1) r x rfl rfl (sOf t r) x
    (by rw [(ind8 t).1]) (by rw [(ind8 t).2]; omega))).trans (V55_apply m c (sOf t r) x)
theorem blk9 (t : Fin cfg0.N) (r : Fin 512) (x : Fin 128) : iblk m c 9 t (ix2 r x) = Ideal.cos (grid m c (ix2 (sOf t r) ⟨x.val % 32, by omega⟩)) := by
  show V m c main_v63 _ = _
  exact (congrArg (V m c main_v63) (at_block ((cfg0.win 9).index t 0) ((cfg0.win 9).index t 1) r x rfl rfl (sOf t r) x
    (by rw [(ind9 t).1]) (by rw [(ind9 t).2]; omega))).trans (V63_apply m c (sOf t r) x)
theorem blk10 (t : Fin cfg0.N) (r : Fin 512) (x : Fin 128) : iblk m c 10 t (ix2 r x) = if x.val % 64 < 32 then -Ideal.sin (grid m c (ix2 (sOf t r) ⟨x.val % 32, by omega⟩))
      else Ideal.sin (grid m c (ix2 (sOf t r) ⟨x.val % 32, by omega⟩)) := by
  show V m c main_v66 _ = _
  exact (congrArg (V m c main_v66) (at_block ((cfg0.win 10).index t 0) ((cfg0.win 10).index t 1) r x rfl rfl (sOf t r) x
    (by rw [(ind10 t).1]) (by rw [(ind10 t).2]; omega))).trans (V66_apply m c (sOf t r) x)

/-- The cosines and sines of the angles `a` of a grid point's tokens. -/
abbrev cosAt (a : Vec Ideal S4096x32 .f32) (t : Fin cfg0.N) : Fin 512 → Fin 32 → EReal := fun r i => Ideal.cos (a (ix2 (sOf t r) i))
abbrev sinAt (a : Vec Ideal S4096x32 .f32) (t : Fin cfg0.N) : Fin 512 → Fin 32 → EReal := fun r i => Ideal.sin (a (ix2 (sOf t r) i))
/-- A head's gain, from its argument. -/
abbrev gainAt (q : Vec Ideal S1x64 .f32) : Fin 64 → EReal := fun k => q (ix2 0 k)

theorem tab_qa (t : Fin cfg0.N) : Tables (w := 128) (iblk m c 3 t) (iblk m c 7 t) (iblk m c 8 t)
    (gainAt (m ((c : Thread nD τ).loc main_arg3))) (cosAt (line m c) t) (sinAt (line m c) t) := ⟨blk3 m c t, blk7 m c t, blk8 m c t⟩
theorem tab_ka (t : Fin cfg0.N) : Tables (w := 128) (iblk m c 4 t) (iblk m c 7 t) (iblk m c 8 t)
    (gainAt (m ((c : Thread nD τ).loc main_arg4))) (cosAt (line m c) t) (sinAt (line m c) t) := ⟨blk4 m c t, blk7 m c t, blk8 m c t⟩
theorem tab_qb (t : Fin cfg0.N) : Tables (w := 128) (iblk m c 5 t) (iblk m c 9 t) (iblk m c 10 t)
    (gainAt (m ((c : Thread nD τ).loc main_arg5))) (cosAt (grid m c) t) (sinAt (grid m c) t) := ⟨blk5 m c t, blk9 m c t, blk10 m c t⟩
theorem tab_kb (t : Fin cfg0.N) : Tables (w := 128) (iblk m c 6 t) (iblk m c 9 t) (iblk m c 10 t)
    (gainAt (m ((c : Thread nD τ).loc main_arg6))) (cosAt (grid m c) t) (sinAt (grid m c) t) := ⟨blk6 m c t, blk9 m c t, blk10 m c t⟩

/-! ## What the blocks hold, in terms of the arguments -/

/-- The projected rows of a grid point. -/
abbrev MM (t : Fin cfg0.N) : FVec Ideal S512x2304 .f32 := M (iblk m c 0 t) (iblk m c 1 t) (iblk m c 2 t)
abbrev projM (b : Fin 8) (s : Fin 4096) (j : Fin 2304) : EReal :=
  IVal.proj (m ((c : Thread nD τ).loc main_arg0)) (m ((c : Thread nD τ).loc main_arg1)) (m ((c : Thread nD τ).loc main_arg2)) b s j
abbrev headsM {n : ℕ} (q : Vec Ideal S1x64 .f32) (a : Vec Ideal S4096x32 .f32) (o : ℕ) (ho : o + n ≤ 2304) (hn : n % 64 = 0)
    (i : (⟨2, ![32768, n]⟩ : Shape).Idx) : EReal :=
  IVal.heads (m ((c : Thread nD τ).loc main_arg0)) (m ((c : Thread nD τ).loc main_arg1)) (m ((c : Thread nD τ).loc main_arg2)) q a o ho hn i
abbrev colsM {n : ℕ} (o : ℕ) (ho : o + n ≤ 2304) (i : (⟨2, ![32768, n]⟩ : Shape).Idx) : EReal :=
  IVal.cols (m ((c : Thread nD τ).loc main_arg0)) (m ((c : Thread nD τ).loc main_arg1)) (m ((c : Thread nD τ).loc main_arg2)) o ho i

theorem M_blk (t : Fin cfg0.N) (r : Fin 512) (j : Fin 2304) : MM m c t (ix2 r j) = projM m c (bOf t) (sOf t r) j := by
  refine (M_apply _ _ _ r j).trans (Finset.sum_congr rfl fun k _ => ?_)
  have e0 : (fun k => iblk m c 0 t (ix2 r k)) = fun k => m ((c : Thread nD τ).loc main_arg0) (ix3 (bOf t) (sOf t r) k) := funext fun k => blk0 m c t r k
  have e1 : (fun k => iblk m c 1 t (ix2 0 k)) = fun k => m ((c : Thread nD τ).loc main_arg1) (ix2 0 k) := funext fun k => blk1 m c t k
  exact congrArg₂ (· * ·) (congrFun (congrArg₂ (IVal.norm (Ideal.ofBits .f32 0x44800000#32)) e0 e1) k) (blk2 m c t k j)

/-- A row of the arrays is a token of a batch entry. -/
theorem of_row {i : ℕ} {t : Fin cfg0.N} {r : Fin 512} (h : i = t.val * 512 + r.val) : i / 4096 = t.val / 8 ∧ i % 4096 = t.val % 8 * 512 + r.val := by
  omega

theorem heads_blk {n : ℕ} (q : Vec Ideal S1x64 .f32) (a : Vec Ideal S4096x32 .f32) (o : ℕ) (ho : o + n ≤ 2304) (hn : n % 64 = 0)
    (t : Fin cfg0.N) (r : Fin 512) (x : Fin n) (i : (⟨2, ![32768, n]⟩ : Shape).Idx) (h0 : (i 0).val = t.val * 512 + r.val) (h1 : (i 1).val = x.val) :
    val (w := n) (MM m c t) o ho hn (gainAt q) (cosAt a t) (sinAt a t) r x = headsM m c q a o ho hn i := by
  have e0 : (⟨(i 0).val / 4096, by have h : (i 0).val < 32768 := (i 0).isLt; omega⟩ : Fin 8) = bOf t := Fin.ext (of_row h0).1
  have e1 : (⟨(i 0).val % 4096, by omega⟩ : Fin 4096) = sOf t r := Fin.ext (of_row h0).2
  unfold val headsM IVal.heads
  rw [e0, e1]
  simp only [h1]
  unfold IVal.turned
  refine congrArg (fun u => IVal.turn (IVal.head u (gainAt q)) (cosAt a t r) (sinAt a t r) ⟨x.val % 64, by omega⟩) (funext fun k => ?_)
  exact (M_blk m c t r _).trans (congrArg (projM m c (bOf t) (sOf t r)) (Fin.ext (Nat.add_assoc _ _ _).symm))

theorem cols_blk {n : ℕ} (o : ℕ) (ho : o + n ≤ 2304) (t : Fin cfg0.N) (r : Fin 512) (x : Fin n) (i : (⟨2, ![32768, n]⟩ : Shape).Idx)
    (h0 : (i 0).val = t.val * 512 + r.val) (h1 : (i 1).val = x.val) :
    MM m c t (ix2 r ⟨o + x.val, by omega⟩) = colsM m c o ho i := by
  have e0 : (⟨(i 0).val / 4096, by have h : (i 0).val < 32768 := (i 0).isLt; omega⟩ : Fin 8) = bOf t := Fin.ext (of_row h0).1
  have e1 : (⟨(i 0).val % 4096, by omega⟩ : Fin 4096) = sOf t r := Fin.ext (of_row h0).2
  unfold colsM IVal.cols
  rw [e0, e1]
  simp only [h1]
  exact M_blk m c t r _

/-! ## The arrays after the run -/

/-- The grid point whose blocks hold a row. -/
abbrev tOf {n : ℕ} (i : (⟨2, ![32768, n]⟩ : Shape).Idx) : Fin cfg0.N :=
  ⟨(i 0).val / 512, by have h : (i 0).val < 32768 := (i 0).isLt; show _ < 64; omega⟩
theorem row_in {n : ℕ} (i : (⟨2, ![32768, n]⟩ : Shape).Idx) (j : ℕ) (e : j = (tOf i).val) : j * 512 ≤ (i 0).val ∧ (i 0).val < j * 512 + 512 := by
  have e' : j = (i 0).val / 512 := e
  omega
theorem col_in {n : ℕ} (i : (⟨2, ![32768, n]⟩ : Shape).Idx) (j : ℕ) (e : j = 0) : j * n ≤ (i 1).val ∧ (i 1).val < j * n + n := by
  have h : (i 1).val < n := (i 1).isLt
  subst e
  omega
theorem row_at {t : Fin cfg0.N} {j : ℕ} (r : Fin 512) (e : j = t.val) : j * 512 + 1 * r.val = t.val * 512 + r.val := by omega
theorem col_at {j n : ℕ} (x : Fin n) (e : j = 0) : j * n + 1 * x.val = x.val := by subst e; omega

/-- The first branch's queries, scaled by 1/8. -/
def G_qa : Buf (Elt Ideal) ((c : Thread nD τ).loc main_v91_0) := fun i : S32768x512.Idx =>
  headsM m c (m ((c : Thread nD τ).loc main_arg3)) (line m c) 0 (by omega) (by omega) i * Ideal.ofBits .f32 0x3E000000#32
/-- The first branch's keys. -/
def G_ka : Buf (Elt Ideal) ((c : Thread nD τ).loc main_v91_1) := fun i : S32768x512.Idx =>
  headsM m c (m ((c : Thread nD τ).loc main_arg4)) (line m c) 512 (by omega) (by omega) i
/-- The first branch's values. -/
def G_va : Buf (Elt Ideal) ((c : Thread nD τ).loc main_v91_2) := fun i : S32768x512.Idx =>
  colsM m c 1024 (by omega) i
/-- The second branch's queries, scaled by 1/8. -/
def G_qb : Buf (Elt Ideal) ((c : Thread nD τ).loc main_v91_3) := fun i : S32768x512.Idx =>
  headsM m c (m ((c : Thread nD τ).loc main_arg5)) (grid m c) 1536 (by omega) (by omega) i * Ideal.ofBits .f32 0x3E000000#32
/-- The second branch's keys. -/
def G_kb : Buf (Elt Ideal) ((c : Thread nD τ).loc main_v91_4) := fun i : S32768x128.Idx =>
  headsM m c (m ((c : Thread nD τ).loc main_arg6)) (grid m c) 2048 (by omega) (by omega) i
/-- The second branch's values. -/
def G_vb : Buf (Elt Ideal) ((c : Thread nD τ).loc main_v91_5) := fun i : S32768x128.Idx =>
  colsM m c 2176 (by omega) i

theorem flushed_qa (t : Fin cfg0.N) : (dats m 0 c).flushed 11 t = ((cfg0.win 11).blk t).view.read (Elt Ideal) (G_qa m c) := by
  rw [Value.flushed11]
  suffices H : ∀ y : S512x512.Idx, out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) y = ((cfg0.win 11).blk t).view.read (Elt Ideal) (G_qa m c) y from funext H
  intro y
  refine (qa_apply _ _ _ _ _ _ _ _ _ _ _ (tab_qa m c t) y).trans ?_
  exact congrArg (· * Ideal.ofBits .f32 0x3E000000#32) (heads_blk (n := 512) m c (m ((c : Thread nD τ).loc main_arg3)) (line m c) 0 (by omega) (by omega) t (y 0) (y 1) _ (row_at (y 0) (ind11 t).1) (col_at (y 1) (ind11 t).2))
theorem cover_qa (i : S32768x512.Idx) : ∃ t : Fin cfg0.N, (cfg0.win 11).flush t = true ∧ i ∈ ((cfg0.win 11).blk t).view.set := by
  refine ⟨tOf i, flush0_11 _, ?_⟩
  show i ∈ ((View.whole main_v91_0).slice (win0_11.rect (tOf i))).set
  rw [View.set_slice_whole, Rect.mem_set_unit]
  intro a
  fin_cases a
  exacts [row_in i _ (ind11 (tOf i)).1, col_in i _ (ind11 (tOf i)).2]
/-- After the run this array holds them. -/
theorem final_qa : (dats m 0 c).arrAt 11 cfg0.N = G_qa m c :=
  (dats m 0 c).arrAt_eq_of_cover 11 (G_qa m c) (fun t _ => flushed_qa m c t) cover_qa

theorem flushed_ka (t : Fin cfg0.N) : (dats m 0 c).flushed 12 t = ((cfg0.win 12).blk t).view.read (Elt Ideal) (G_ka m c) := by
  rw [Value.flushed12]
  suffices H : ∀ y : S512x512.Idx, out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) y = ((cfg0.win 12).blk t).view.read (Elt Ideal) (G_ka m c) y from funext H
  intro y
  refine (ka_apply _ _ _ _ _ _ _ _ _ _ _ (tab_ka m c t) y).trans ?_
  exact heads_blk (n := 512) m c (m ((c : Thread nD τ).loc main_arg4)) (line m c) 512 (by omega) (by omega) t (y 0) (y 1) _ (row_at (y 0) (ind12 t).1) (col_at (y 1) (ind12 t).2)
theorem cover_ka (i : S32768x512.Idx) : ∃ t : Fin cfg0.N, (cfg0.win 12).flush t = true ∧ i ∈ ((cfg0.win 12).blk t).view.set := by
  refine ⟨tOf i, flush0_12 _, ?_⟩
  show i ∈ ((View.whole main_v91_1).slice (win0_12.rect (tOf i))).set
  rw [View.set_slice_whole, Rect.mem_set_unit]
  intro a
  fin_cases a
  exacts [row_in i _ (ind12 (tOf i)).1, col_in i _ (ind12 (tOf i)).2]
/-- After the run this array holds them. -/
theorem final_ka : (dats m 0 c).arrAt 12 cfg0.N = G_ka m c :=
  (dats m 0 c).arrAt_eq_of_cover 12 (G_ka m c) (fun t _ => flushed_ka m c t) cover_ka

theorem flushed_va (t : Fin cfg0.N) : (dats m 0 c).flushed 13 t = ((cfg0.win 13).blk t).view.read (Elt Ideal) (G_va m c) := by
  rw [Value.flushed13]
  suffices H : ∀ y : S512x512.Idx, out0_13 (iblk m c 0 t) (iblk m c 1 t) (iblk m c 2 t) (iblk m c 3 t) (iblk m c 4 t) (iblk m c 5 t) (iblk m c 6 t)
      (iblk m c 7 t) (iblk m c 8 t) (iblk m c 9 t) (iblk m c 10 t) y = ((cfg0.win 13).blk t).view.read (Elt Ideal) (G_va m c) y from funext H
  intro y
  refine (va_apply _ _ _ _ _ _ _ _ _ _ _ y).trans ?_
  exact cols_blk (n := 512) m c 1024 (by omega) t (y 0) (y 1) _ (row_at (y 0) (ind13 t).1) (col_at (y 1) (ind13 t).2)
theorem cover_va (i : S32768x512.Idx) : ∃ t : Fin cfg0.N, (cfg0.win 13).flush t = true ∧ i ∈ ((cfg0.win 13).blk t).view.set := by
  refine ⟨tOf i, flush0_13 _, ?_⟩
  show i ∈ ((View.whole main_v91_2).slice (win0_13.rect (tOf i))).set
  rw [View.set_slice_whole, Rect.mem_set_unit]
  intro a
  fin_cases a
  exacts [row_in i _ (ind13 (tOf i)).1, col_in i _ (ind13 (tOf i)).2]
/-- After the run this array holds them. -/
theorem final_va : (dats m 0 c).arrAt 13 cfg0.N = G_va m c :=
  (dats m 0 c).arrAt_eq_of_cover 13 (G_va m c) (fun t _ => flushed_va m c t) cover_va

theorem flushed_qb (t : Fin cfg0.N) : (dats m 0 c).flushed 14 t = ((cfg0.win 14).blk t).view.read (Elt Ideal) (G_qb m c) := by
  rw [Value.flushed14]
  suffices H : ∀ y : S512x512.Idx, out0_14 (iblk m c 0 t) (iblk m c 1 t) (iblk m c 2 t) (iblk m c 3 t) (iblk m c 4 t) (iblk m c 5 t) (iblk m c 6 t)
      (iblk m c 7 t) (iblk m c 8 t) (iblk m c 9 t) (iblk m c 10 t) y = ((cfg0.win 14).blk t).view.read (Elt Ideal) (G_qb m c) y from funext H
  intro y
  refine (qb_apply _ _ _ _ _ _ _ _ _ _ _ (tab_qb m c t) y).trans ?_
  exact congrArg (· * Ideal.ofBits .f32 0x3E000000#32) (heads_blk (n := 512) m c (m ((c : Thread nD τ).loc main_arg5)) (grid m c) 1536 (by omega) (by omega) t (y 0) (y 1) _ (row_at (y 0) (ind14 t).1) (col_at (y 1) (ind14 t).2))
theorem cover_qb (i : S32768x512.Idx) : ∃ t : Fin cfg0.N, (cfg0.win 14).flush t = true ∧ i ∈ ((cfg0.win 14).blk t).view.set := by
  refine ⟨tOf i, flush0_14 _, ?_⟩
  show i ∈ ((View.whole main_v91_3).slice (win0_14.rect (tOf i))).set
  rw [View.set_slice_whole, Rect.mem_set_unit]
  intro a
  fin_cases a
  exacts [row_in i _ (ind14 (tOf i)).1, col_in i _ (ind14 (tOf i)).2]
/-- After the run this array holds them. -/
theorem final_qb : (dats m 0 c).arrAt 14 cfg0.N = G_qb m c :=
  (dats m 0 c).arrAt_eq_of_cover 14 (G_qb m c) (fun t _ => flushed_qb m c t) cover_qb

theorem flushed_kb (t : Fin cfg0.N) : (dats m 0 c).flushed 15 t = ((cfg0.win 15).blk t).view.read (Elt Ideal) (G_kb m c) := by
  rw [Value.flushed15]
  suffices H : ∀ y : S512x128.Idx, out0_15 (iblk m c 0 t) (iblk m c 1 t) (iblk m c 2 t) (iblk m c 3 t) (iblk m c 4 t) (iblk m c 5 t) (iblk m c 6 t)
      (iblk m c 7 t) (iblk m c 8 t) (iblk m c 9 t) (iblk m c 10 t) y = ((cfg0.win 15).blk t).view.read (Elt Ideal) (G_kb m c) y from funext H
  intro y
  refine (kb_apply _ _ _ _ _ _ _ _ _ _ _ (tab_kb m c t) y).trans ?_
  exact heads_blk (n := 128) m c (m ((c : Thread nD τ).loc main_arg6)) (grid m c) 2048 (by omega) (by omega) t (y 0) (y 1) _ (row_at (y 0) (ind15 t).1) (col_at (y 1) (ind15 t).2)
theorem cover_kb (i : S32768x128.Idx) : ∃ t : Fin cfg0.N, (cfg0.win 15).flush t = true ∧ i ∈ ((cfg0.win 15).blk t).view.set := by
  refine ⟨tOf i, flush0_15 _, ?_⟩
  show i ∈ ((View.whole main_v91_4).slice (win0_15.rect (tOf i))).set
  rw [View.set_slice_whole, Rect.mem_set_unit]
  intro a
  fin_cases a
  exacts [row_in i _ (ind15 (tOf i)).1, col_in i _ (ind15 (tOf i)).2]
/-- After the run this array holds them. -/
theorem final_kb : (dats m 0 c).arrAt 15 cfg0.N = G_kb m c :=
  (dats m 0 c).arrAt_eq_of_cover 15 (G_kb m c) (fun t _ => flushed_kb m c t) cover_kb

theorem flushed_vb (t : Fin cfg0.N) : (dats m 0 c).flushed 16 t = ((cfg0.win 16).blk t).view.read (Elt Ideal) (G_vb m c) := by
  rw [Value.flushed16]
  suffices H : ∀ y : S512x128.Idx, out0_16 (iblk m c 0 t) (iblk m c 1 t) (iblk m c 2 t) (iblk m c 3 t) (iblk m c 4 t) (iblk m c 5 t) (iblk m c 6 t)
      (iblk m c 7 t) (iblk m c 8 t) (iblk m c 9 t) (iblk m c 10 t) y = ((cfg0.win 16).blk t).view.read (Elt Ideal) (G_vb m c) y from funext H
  intro y
  refine (vb_apply _ _ _ _ _ _ _ _ _ _ _ y).trans ?_
  exact cols_blk (n := 128) m c 2176 (by omega) t (y 0) (y 1) _ (row_at (y 0) (ind16 t).1) (col_at (y 1) (ind16 t).2)
theorem cover_vb (i : S32768x128.Idx) : ∃ t : Fin cfg0.N, (cfg0.win 16).flush t = true ∧ i ∈ ((cfg0.win 16).blk t).view.set := by
  refine ⟨tOf i, flush0_16 _, ?_⟩
  show i ∈ ((View.whole main_v91_5).slice (win0_16.rect (tOf i))).set
  rw [View.set_slice_whole, Rect.mem_set_unit]
  intro a
  fin_cases a
  exacts [row_in i _ (ind16 (tOf i)).1, col_in i _ (ind16 (tOf i)).2]
/-- After the run this array holds them. -/
theorem final_vb : (dats m 0 c).arrAt 16 cfg0.N = G_vb m c :=
  (dats m 0 c).arrAt_eq_of_cover 16 (G_vb m c) (fun t _ => flushed_vb m c t) cover_vb

end Cert.IArr
end
-- ==== Proof.IHead.lean ====
/-
  The reference's path from the projected rows to a result, for any number of heads: the lanes cut into heads of 64, each head
  normalized, turned by its token's angles, and the heads laid side by side again.
-/
module

public import proofs.«01_k».proof.Proof.IVal
public import proofs.«01_k».proof.Proof.ARef
public import Idealize.ShloMosaic.Lib.KernelVsHost

@[expose] public section

noncomputable section

namespace Cert.IHead

open Idealize.ShloMosaic Idealize.ShloMosaic.ValueIdx
open Cert.ARef (zero_sum)
open scoped BigOperators

/-- Per batch entry, token and head: a row of `k` lanes. -/
abbrev H (n k : ℕ) : Shape := ⟨4, ![8, 4096, n, k]⟩
/-- Per batch entry, token and head: one number. -/
abbrev R (n : ℕ) : Shape := ⟨3, ![8, 4096, n]⟩
abbrev One : Shape := ⟨0, ![]⟩
abbrev Wide (w : ℕ) : Shape := ⟨3, ![8, 4096, w]⟩
abbrev Rows (w : ℕ) : Shape := ⟨2, ![32768, w]⟩
abbrev Gain : Shape := ⟨4, ![1, 1, 1, 64]⟩
abbrev Ang : Shape := ⟨4, ![1, 4096, 1, 32]⟩

/-- The shapes of the operations fit, for `n` heads in `w` lanes. -/
structure Fits (n w : ℕ) : Prop where
  size : w = n * 64
  split : (Wide w).ShapeCasts (H n 64)
  sum : (H n 64).ReducesTo [3] (R n)
  sumAt : (H n 64).Reduces [3] (R n)
  col : (R n).BroadcastsInDim (H n 1) (![0, 1, 2] : Fin 3 → Fin 4)
  const : One.BroadcastsInDim (H n 1) (![] : Fin 0 → Fin 4)
  lanes : (H n 1).BroadcastsInDim (H n 64) (![0, 1, 2, 3] : Fin 4 → Fin 4)
  gain1 : (⟨2, ![1, 64]⟩ : Shape).ShapeCasts ⟨1, ![64]⟩
  gain2 : (⟨1, ![64]⟩ : Shape).BroadcastsInDim Gain (![3] : Fin 1 → Fin 4)
  gain3 : Gain.BroadcastsInDim (H n 64) (![0, 1, 2, 3] : Fin 4 → Fin 4)
  lo : (H n 64).Slices ![0, 0, 0, 0] (H n 32)
  hi : (H n 64).Slices ![0, 0, 0, 32] (H n 32)
  ang1 : (⟨2, ![4096, 32]⟩ : Shape).BroadcastsInDim Ang (![1, 3] : Fin 2 → Fin 4)
  ang2 : Ang.BroadcastsInDim (H n 32) (![0, 1, 2, 3] : Fin 4 → Fin 4)
  cat : Shape.Concatenates [H n 32, H n 32] (H n 64) 3
  join : (H n 64).ShapeCasts (Rows w)
  one : 0 < One.numel

variable {n w : ℕ} (f : Fits n w)

/-- A coordinate of an axis of any size, read where an axis of size one is read at zero. -/
theorem coord (h : Fin n) : h.val = if n = 1 then 0 else h.val := by split <;> omega

/-! ## A head normalized -/

def squares (u : FVec Ideal (H n 64) .f32) : FVec Ideal (H n 1) .f32 :=
  broadcastInDim (H n 1) ![0, 1, 2] f.col (Host.reduceAdd (mulf u u) (constant One .f32 0x00000000#32) f.sum f.one)

theorem squares_apply (u : FVec Ideal (H n 64) .f32) (b : Fin 8) (s : Fin 4096) (h : Fin n) :
    squares f u (ix4 b s h 0) = ∑ k : Fin 64, u (ix4 b s h k) * u (ix4 b s h k) := by
  refine (broadcastInDim_apply _ f.col _ (ix4 b s h 0) (ix3 b s h) fun a => ?_).trans ?_
  · match a with
    | ⟨0, _⟩ => rfl
    | ⟨1, _⟩ => rfl
    | ⟨2, _⟩ => exact coord h
  simp only [Host.reduceAdd, Ideal.hostReduceAdd_def]
  rw [Ideal.hostReduceAdd_single f.sum f.sumAt]
  refine (zero_sum _ rfl _).trans (Finset.sum_congr rfl fun k _ => ?_)
  have e : f.sumAt.lift (ix3 b s h) k = ix4 b s h k := funext fun a => Fin.ext (by match a with | ⟨0, _⟩ => rfl | ⟨1, _⟩ => rfl | ⟨2, _⟩ => rfl | ⟨3, _⟩ => rfl)
  rw [e]
  rfl

def gains (g : FVec Ideal ⟨2, ![1, 64]⟩ .f32) : FVec Ideal (H n 64) .f32 :=
  broadcastInDim (H n 64) ![0, 1, 2, 3] f.gain3 (broadcastInDim Gain ![3] f.gain2 (shapeCast ⟨1, ![64]⟩ g f.gain1))

theorem gains_apply (g : FVec Ideal ⟨2, ![1, 64]⟩ .f32) (b : Fin 8) (s : Fin 4096) (h : Fin n) (k : Fin 64) :
    gains f g (ix4 b s h k) = g (ix2 0 k) := by
  refine (broadcastInDim_apply _ f.gain3 _ (ix4 b s h k) (ix4 0 0 0 k) fun a => ?_).trans ?_
  · match a with
    | ⟨0, _⟩ => rfl
    | ⟨1, _⟩ => rfl
    | ⟨2, _⟩ => rfl
    | ⟨3, _⟩ => rfl
  refine (broadcastInDim_apply _ f.gain2 _ (ix4 0 0 0 k) (ix1 k) fun a => ?_).trans ?_
  · match a with
    | ⟨0, _⟩ => rfl
  refine shapeCast_apply _ _ (ix1 k) (ix2 0 k) ?_
  rw [Shape.rowMajor_val_two, Shape.rowMajor_val_one]; simp [ix2, ix1]

def normed (u : FVec Ideal (H n 64) .f32) (g : FVec Ideal ⟨2, ![1, 64]⟩ .f32) : FVec Ideal (H n 64) .f32 :=
  mulf (mulf u (broadcastInDim (H n 64) ![0, 1, 2, 3] f.lanes (Host.rsqrt (addf
    (Host.divf (squares f u) (broadcastInDim (H n 1) ![] f.const (constant One .f32 0x42800000#32)))
    (broadcastInDim (H n 1) ![] f.const (constant One .f32 0x358637BD#32)))))) (gains f g)

theorem normed_apply (u : FVec Ideal (H n 64) .f32) (g : FVec Ideal ⟨2, ![1, 64]⟩ .f32) (b : Fin 8) (s : Fin 4096) (h : Fin n) (j : Fin 64) :
    normed f u g (ix4 b s h j) = IVal.head (fun k => u (ix4 b s h k)) (fun k => g (ix2 0 k)) j := by
  refine congrArg₂ (· * ·) (congrArg (u (ix4 b s h j) * ·) ?_) (gains_apply f g b s h j)
  refine (broadcastInDim_apply _ f.lanes _ (ix4 b s h j) (ix4 b s h 0) fun a => ?_).trans ?_
  · match a with
    | ⟨0, _⟩ => rfl
    | ⟨1, _⟩ => rfl
    | ⟨2, _⟩ => exact coord h
    | ⟨3, _⟩ => rfl
  exact congrArg (fun z => Ideal.rsqrt (Ideal.div z (Ideal.ofBits .f32 0x42800000#32) + Ideal.ofBits .f32 0x358637BD#32)) (squares_apply f u b s h)

/-! ## A head turned -/

def angles (a : FVec Ideal ⟨2, ![4096, 32]⟩ .f32) : FVec Ideal (H n 32) .f32 :=
  broadcastInDim (H n 32) ![0, 1, 2, 3] f.ang2 (broadcastInDim Ang ![1, 3] f.ang1 a)

theorem angles_apply (a : FVec Ideal ⟨2, ![4096, 32]⟩ .f32) (b : Fin 8) (s : Fin 4096) (h : Fin n) (k : Fin 32) :
    angles f a (ix4 b s h k) = a (ix2 s k) := by
  refine (broadcastInDim_apply _ f.ang2 _ (ix4 b s h k) (ix4 0 s 0 k) fun a => ?_).trans ?_
  · match a with
    | ⟨0, _⟩ => rfl
    | ⟨1, _⟩ => rfl
    | ⟨2, _⟩ => rfl
    | ⟨3, _⟩ => rfl
  refine broadcastInDim_apply _ f.ang1 _ (ix4 0 s 0 k) (ix2 s k) fun a => ?_
  match a with
  | ⟨0, _⟩ => rfl
  | ⟨1, _⟩ => rfl

abbrev low (v : FVec Ideal (H n 64) .f32) : FVec Ideal (H n 32) .f32 := extractStridedSlice (H n 32) ![0, 0, 0, 0] v f.lo
abbrev high (v : FVec Ideal (H n 64) .f32) : FVec Ideal (H n 32) .f32 := extractStridedSlice (H n 32) ![0, 0, 0, 32] v f.hi

theorem low_apply (v : FVec Ideal (H n 64) .f32) (b : Fin 8) (s : Fin 4096) (h : Fin n) (k : Fin 32) :
    low f v (ix4 b s h k) = v (ix4 b s h ⟨k.val, by omega⟩) := by
  refine extractStridedSlice_apply _ v f.lo (ix4 b s h k) _ fun a => ?_
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm
theorem high_apply (v : FVec Ideal (H n 64) .f32) (b : Fin 8) (s : Fin 4096) (h : Fin n) (k : Fin 32) :
    high f v (ix4 b s h k) = v (ix4 b s h ⟨32 + k.val, by omega⟩) := by
  refine extractStridedSlice_apply _ v f.hi (ix4 b s h k) _ fun a => ?_
  match a with
  | ⟨0, _⟩ => exact (Nat.zero_add _).symm
  | ⟨1, _⟩ => exact (Nat.zero_add _).symm
  | ⟨2, _⟩ => exact (Nat.zero_add _).symm
  | ⟨3, _⟩ => rfl

def turned (v : FVec Ideal (H n 64) .f32) (a : FVec Ideal ⟨2, ![4096, 32]⟩ .f32) : FVec Ideal (H n 64) .f32 :=
  concatenate (H n 64) 3
    [⟨H n 32, subf (mulf (low f v) (angles f (Host.cos a))) (mulf (high f v) (angles f (Host.sin a)))⟩,
     ⟨H n 32, addf (mulf (high f v) (angles f (Host.cos a))) (mulf (low f v) (angles f (Host.sin a)))⟩] f.cat

theorem turned_apply (v : FVec Ideal (H n 64) .f32) (a : FVec Ideal ⟨2, ![4096, 32]⟩ .f32) (b : Fin 8) (s : Fin 4096) (h : Fin n) (j : Fin 64) :
    turned f v a (ix4 b s h j)
      = IVal.turn (fun k => v (ix4 b s h k)) (fun i => Ideal.cos (a (ix2 s i))) (fun i => Ideal.sin (a (ix2 s i))) j := by
  have ec : angles f (Host.cos a) (ix4 b s h (IVal.pair j)) = Ideal.cos (a (ix2 s (IVal.pair j))) := angles_apply f _ b s h _
  have es : angles f (Host.sin a) (ix4 b s h (IVal.pair j)) = Ideal.sin (a (ix2 s (IVal.pair j))) := angles_apply f _ b s h _
  have el := low_apply f v b s h (IVal.pair j)
  have eh := high_apply f v b s h (IVal.pair j)
  have at_eq : ∀ {p q : Fin 64}, p.val = q.val → v (ix4 b s h p) = v (ix4 b s h q) := fun e => congrArg (fun z => v (ix4 b s h z)) (Fin.ext e)
  unfold IVal.turn
  split
  · rename_i hj
    refine (concatenate_pair_apply_left (t := H n 64) (s₁ := H n 32) (s₂ := H n 32) 3 _ _ f.cat (ix4 b s h j) rfl (ix4 b s h (IVal.pair j)) (fun a => ?_)).trans ?_
    · match a with
      | ⟨0, _⟩ => rfl
      | ⟨1, _⟩ => rfl
      | ⟨2, _⟩ => rfl
      | ⟨3, _⟩ => show j.val % 32 = j.val; omega
    refine congrArg₂ (· - ·) (congrArg₂ (· * ·) (el.trans (at_eq ?_)) ec) (congrArg₂ (· * ·) (eh.trans (at_eq ?_)) es)
    · show j.val % 32 = j.val; omega
    · show 32 + j.val % 32 = (j.val + 32) % 64; omega
  · rename_i hj
    refine (concatenate_pair_apply_right (t := H n 64) (s₁ := H n 32) (s₂ := H n 32) 3 _ _ f.cat (ix4 b s h j) rfl rfl (ix4 b s h (IVal.pair j)) (fun a ha => ?_) ?_).trans ?_
    · match a with
      | ⟨0, _⟩ => rfl
      | ⟨1, _⟩ => rfl
      | ⟨2, _⟩ => rfl
      | ⟨3, _⟩ => exact absurd rfl ha
    · show j.val % 32 + 32 = j.val; omega
    refine congrArg₂ (· + ·) (congrArg₂ (· * ·) (eh.trans (at_eq ?_)) ec) (congrArg₂ (· * ·) (el.trans (at_eq ?_)) es)
    · show 32 + j.val % 32 = j.val; omega
    · show j.val % 32 = (j.val + 32) % 64; omega

/-! ## From the projected rows to a result -/

/-- The lanes from `o` on, cut into heads. -/
def cut (P : FVec Ideal (Wide 2304) .f32) (o : ℕ) (hs : (Wide 2304).Slices ![0, 0, o] (Wide w)) : FVec Ideal (H n 64) .f32 :=
  shapeCast (H n 64) (extractStridedSlice (Wide w) ![0, 0, o] P hs) f.split

theorem lane_apply (P : FVec Ideal (Wide 2304) .f32) (o : ℕ) (ho : o + w ≤ 2304) (hs : (Wide 2304).Slices ![0, 0, o] (Wide w))
    (b : Fin 8) (s : Fin 4096) (j : Fin w) :
    extractStridedSlice (Wide w) ![0, 0, o] P hs (ix3 b s j) = P (ix3 b s ⟨o + j.val, by omega⟩) := by
  refine extractStridedSlice_apply _ P hs (ix3 b s j) _ fun a => ?_
  match a with
  | ⟨0, _⟩ => exact (Nat.zero_add _).symm
  | ⟨1, _⟩ => exact (Nat.zero_add _).symm
  | ⟨2, _⟩ => rfl

include f in
/-- A head's lane lies within the result. -/
theorem lane_lt (h : Fin n) (k : Fin 64) : h.val * 64 + k.val < w := by have := f.size; omega

theorem cut_apply (P : FVec Ideal (Wide 2304) .f32) (o : ℕ) (ho : o + w ≤ 2304) (hs : (Wide 2304).Slices ![0, 0, o] (Wide w))
    (b : Fin 8) (s : Fin 4096) (h : Fin n) (k : Fin 64) :
    cut f P o hs (ix4 b s h k) = P (ix3 b s ⟨o + (h.val * 64 + k.val), by have := lane_lt f h k; omega⟩) := by
  refine (shapeCast_apply _ f.split (ix4 b s h k) (ix3 b s ⟨h.val * 64 + k.val, lane_lt f h k⟩) ?_).trans (lane_apply P o ho hs b s _)
  rw [Shape.rowMajor_val_three, Shape.rowMajor_val_four]
  have e := f.size
  subst e
  simp only [ix3, ix4]
  show (b.val * 4096 + s.val) * (n * 64) + (h.val * 64 + k.val) = ((b.val * 4096 + s.val) * n + h.val) * 64 + k.val
  ring

/-- The operations of one result of queries or keys. -/
def result (P : FVec Ideal (Wide 2304) .f32) (o : ℕ) (hs : (Wide 2304).Slices ![0, 0, o] (Wide w)) (q : FVec Ideal ⟨2, ![1, 64]⟩ .f32)
    (a : FVec Ideal ⟨2, ![4096, 32]⟩ .f32) : FVec Ideal (Rows w) .f32 :=
  shapeCast (Rows w) (turned f (normed f (cut f P o hs) q) a) f.join

variable (x : (⟨3, ![8, 4096, 1024]⟩ : Shape).Idx → EReal) (g : (⟨2, ![1, 1024]⟩ : Shape).Idx → EReal)
  (W : (⟨3, ![1, 1024, 2304]⟩ : Shape).Idx → EReal)

theorem result_apply (P : FVec Ideal (Wide 2304) .f32) (hP : ∀ b s j, P (ix3 b s j) = IVal.proj x g W b s j) (o : ℕ) (ho : o + w ≤ 2304)
    (hw : w % 64 = 0) (hs : (Wide 2304).Slices ![0, 0, o] (Wide w)) (q : FVec Ideal ⟨2, ![1, 64]⟩ .f32)
    (a : FVec Ideal ⟨2, ![4096, 32]⟩ .f32) (i : (Rows w).Idx) :
    result f P o hs q a i = IVal.heads x g W q a o ho hw i := by
  have h0 : (i 0).val < 32768 := (i 0).isLt
  have h1 : (i 1).val < w := (i 1).isLt
  have e := f.size
  refine (shapeCast_apply _ f.join i (ix4 ⟨(i 0).val / 4096, by omega⟩ ⟨(i 0).val % 4096, by omega⟩ ⟨(i 1).val / 64, by omega⟩ ⟨(i 1).val % 64, by omega⟩) ?_).trans ?_
  · rw [Shape.rowMajor_val_four, Shape.rowMajor_val_two]
    subst e
    simp only [ix4]
    show (((i 0).val / 4096 * 4096 + (i 0).val % 4096) * n + (i 1).val / 64) * 64 + (i 1).val % 64 = (i 0).val * (n * 64) + (i 1).val
    rw [Nat.div_add_mod' (i 0).val 4096, Nat.add_mul, Nat.mul_assoc, Nat.add_assoc, Nat.div_add_mod' (i 1).val 64]
  rw [turned_apply]
  unfold IVal.heads IVal.turned
  refine congrArg (fun u => IVal.turn u _ _ _) (funext fun j => ?_)
  rw [normed_apply]
  refine congrArg (fun u => IVal.head u _ j) (funext fun k => ?_)
  rw [cut_apply f P o ho, hP]
  exact congrArg (IVal.proj x g W _ _) (Fin.ext (Nat.add_assoc _ _ _).symm)

/-- The values are the lanes themselves. -/
theorem cols_apply (P : FVec Ideal (Wide 2304) .f32) (hP : ∀ b s j, P (ix3 b s j) = IVal.proj x g W b s j) (o : ℕ) (ho : o + w ≤ 2304)
    (hs : (Wide 2304).Slices ![0, 0, o] (Wide w)) (hj : (Wide w).ShapeCasts (Rows w)) (i : (Rows w).Idx) :
    shapeCast (Rows w) (extractStridedSlice (Wide w) ![0, 0, o] P hs) hj i = IVal.cols x g W o ho i := by
  have h0 : (i 0).val < 32768 := (i 0).isLt
  refine (shapeCast_apply _ hj i (ix3 ⟨(i 0).val / 4096, by omega⟩ ⟨(i 0).val % 4096, by omega⟩ (i 1)) ?_).trans ?_
  · rw [Shape.rowMajor_val_three, Shape.rowMajor_val_two]
    simp only [ix3]
    show ((i 0).val / 4096 * 4096 + (i 0).val % 4096) * w + (i 1).val = (i 0).val * w + (i 1).val
    rw [Nat.div_add_mod' (i 0).val 4096]
  · exact (lane_apply P o ho hs _ _ (i 1)).trans (hP _ _ _)

end Cert.IHead
end
-- ==== Proof.IRef.lean ====
/-
  The input projection's reference, read element by element.
-/
module

public import proofs.«01_k».proof.Proof.IHead
public import proofs.«01_k».proof.Proof.Gen.ReferenceIIdeal.Read

@[expose] public section

noncomputable section

namespace Cert.IRef

open Cert.ReferenceIIdeal Cert.ReferenceIIdeal.Gen Cert.ReferenceIIdeal.Read Idealize.ShloMosaic Idealize.ShloMosaic.TcCoe Idealize.ShloMosaic.ValueIdx
open Cert.ARef (zero_sum)
open Cert.IHead (Fits)
open scoped BigOperators

variable (x : (⟨S8x4096x1024, .f32⟩ : BufTy).Contents (Elt Ideal)) (g : (⟨S1x1024, .f32⟩ : BufTy).Contents (Elt Ideal))
  (w : (⟨S1x1024x2304, .f32⟩ : BufTy).Contents (Elt Ideal)) (q : (⟨S1x64, .f32⟩ : BufTy).Contents (Elt Ideal))

/-- The mean square of a token's row. -/
theorem mean_square (b : Fin 8) (s : Fin 4096) :
    val_main_v49 (F := Ideal) x (ix3 b s 0)
      = Ideal.div (∑ k : Fin 1024, x (ix3 b s k) * x (ix3 b s k)) (Ideal.ofBits .f32 0x44800000#32) := by
  rw [val_main_v49_apply, val_main_v47_apply, val_main_v46_apply, val_main_v48_apply]
  refine congrArg (Ideal.div · (Ideal.ofBits .f32 0x44800000#32)) ((zero_sum _ (by rfl) _).trans (Finset.sum_congr rfl fun k _ => ?_))
  have hi : idx_main_v46 (idx_main_v47 (ix3 b s 0)) k = ix3 b s k := by funext a; fin_cases a <;> rfl
  rw [hi]
  rfl

/-- The normalized row. -/
theorem norm_apply (b : Fin 8) (s : Fin 4096) (k : Fin 1024) :
    val_main_v57 (F := Ideal) x g (ix3 b s k) = IVal.hrow x g b s k := by
  rw [val_main_v57_apply, val_main_v54_apply, val_main_v53_apply, val_main_v52_apply, val_main_v51_apply, val_main_v56_apply, val_main_v55_apply,
    val_main_v44_apply, val_main_v50_apply]
  have h1 : idx_main_v53 (ix3 b s k) = ix3 b s 0 := by funext a; fin_cases a <;> rfl
  have h2 : idx_main_v44 (idx_main_v55 (idx_main_v56 (ix3 b s k))) = ix2 0 k := by
    funext a
    fin_cases a
    · rfl
    · exact Fin.ext (Nat.mod_eq_of_lt k.isLt)
  rw [h1, h2, mean_square]
  rfl

/-- The projected rows. -/
theorem proj_apply (b : Fin 8) (s : Fin 4096) (j : Fin 2304) :
    val_main_v59 (F := Ideal) x g w (ix3 b s j) = IVal.proj x g w b s j := by
  rw [val_main_v59_apply]
  refine Finset.sum_congr rfl fun k _ => ?_
  have hl : lidx_main_v59 (ix3 b s j) k = ix3 b s k := by funext a; fin_cases a <;> rfl
  have hr : idx_main_v58 (ridx_main_v59 (ix3 b s j) k) = ix3 0 k j := by
    funext a
    apply Fin.ext
    fin_cases a
    · rfl
    · show (k.val * 2304 + j.val) / 2304 % 1024 = k.val
      omega
    · show (k.val * 2304 + j.val) % 2304 = j.val
      omega
  rw [hl, norm_apply, val_main_v58_apply, hr]

theorem eight : Fits 8 512 where
  size := rfl
  split := shapeCasts_S8x4096x512_S8x4096x8x64
  sum := reducesTo_S8x4096x8x64_S8x4096x8_d3
  sumAt := by decide
  col := bcast_S8x4096x8_S8x4096x8x1_0_1_2
  const := bcast_S_S8x4096x8x1
  lanes := bcast_S8x4096x8x1_S8x4096x8x64_0_1_2_3
  gain1 := shapeCasts_S1x64_S64
  gain2 := bcast_S64_S1x1x1x64_3
  gain3 := bcast_S1x1x1x64_S8x4096x8x64_0_1_2_3
  lo := slices_S8x4096x8x64_S8x4096x8x32_0_0_0_0
  hi := slices_S8x4096x8x64_S8x4096x8x32_0_0_0_32
  ang1 := bcast_S4096x32_S1x4096x1x32_1_3
  ang2 := bcast_S1x4096x1x32_S8x4096x8x32_0_1_2_3
  cat := concatenates_S8x4096x8x32_S8x4096x8x32_S8x4096x8x64_d3
  join := shapeCasts_S8x4096x8x64_S32768x512
  one := h_S_

theorem two : Fits 2 128 where
  size := rfl
  split := shapeCasts_S8x4096x128_S8x4096x2x64
  sum := reducesTo_S8x4096x2x64_S8x4096x2_d3
  sumAt := by decide
  col := bcast_S8x4096x2_S8x4096x2x1_0_1_2
  const := bcast_S_S8x4096x2x1
  lanes := bcast_S8x4096x2x1_S8x4096x2x64_0_1_2_3
  gain1 := shapeCasts_S1x64_S64
  gain2 := bcast_S64_S1x1x1x64_3
  gain3 := bcast_S1x1x1x64_S8x4096x2x64_0_1_2_3
  lo := slices_S8x4096x2x64_S8x4096x2x32_0_0_0_0
  hi := slices_S8x4096x2x64_S8x4096x2x32_0_0_0_32
  ang1 := bcast_S4096x32_S1x4096x1x32_1_3
  ang2 := bcast_S1x4096x1x32_S8x4096x2x32_0_1_2_3
  cat := concatenates_S8x4096x2x32_S8x4096x2x32_S8x4096x2x64_d3
  join := shapeCasts_S8x4096x2x64_S32768x128
  one := h_S_

/-! ## The six results -/

/-- The angles of each token, as the reference makes them. -/
abbrev line : (⟨S4096x32, .f32⟩ : BufTy).Contents (Elt Ideal) := val_main_v15 (F := Ideal)
abbrev grid : (⟨S4096x32, .f32⟩ : BufTy).Contents (Elt Ideal) := val_main_v43 (F := Ideal)

/-- The first branch's queries. -/
theorem qa (i : S32768x512.Idx) :
    val_main_v204 (F := Ideal) x g w q i = IVal.heads x g w q line 0 (by omega) (by omega) i * Ideal.ofBits .f32 0x3E000000#32 :=
  congrArg (· * Ideal.ofBits .f32 0x3E000000#32)
    (IHead.result_apply eight x g w (val_main_v59 (F := Ideal) x g w) (proj_apply x g w) 0 (by omega) (by omega) slices_S8x4096x2304_S8x4096x512_0_0_0 q line i)
/-- The first branch's keys. -/
theorem ka (i : S32768x512.Idx) : val_main_v205 (F := Ideal) x g w q i = IVal.heads x g w q line 512 (by omega) (by omega) i :=
  IHead.result_apply eight x g w (val_main_v59 (F := Ideal) x g w) (proj_apply x g w) 512 (by omega) (by omega) slices_S8x4096x2304_S8x4096x512_0_0_512 q line i
/-- The first branch's values. -/
theorem va (i : S32768x512.Idx) : val_main_v206 (F := Ideal) x g w i = IVal.cols x g w 1024 (by omega) i :=
  IHead.cols_apply x g w (val_main_v59 (F := Ideal) x g w) (proj_apply x g w) 1024 (by omega) slices_S8x4096x2304_S8x4096x512_0_0_1024 shapeCasts_S8x4096x512_S32768x512 i
/-- The second branch's queries. -/
theorem qb (i : S32768x512.Idx) :
    val_main_v207 (F := Ideal) x g w q i = IVal.heads x g w q grid 1536 (by omega) (by omega) i * Ideal.ofBits .f32 0x3E000000#32 :=
  congrArg (· * Ideal.ofBits .f32 0x3E000000#32)
    (IHead.result_apply eight x g w (val_main_v59 (F := Ideal) x g w) (proj_apply x g w) 1536 (by omega) (by omega) slices_S8x4096x2304_S8x4096x512_0_0_1536 q grid i)
/-- The second branch's keys. -/
theorem kb (i : S32768x128.Idx) : val_main_v208 (F := Ideal) x g w q i = IVal.heads x g w q grid 2048 (by omega) (by omega) i :=
  IHead.result_apply two x g w (val_main_v59 (F := Ideal) x g w) (proj_apply x g w) 2048 (by omega) (by omega) slices_S8x4096x2304_S8x4096x128_0_0_2048 q grid i
/-- The second branch's values. -/
theorem vb (i : S32768x128.Idx) : val_main_v209 (F := Ideal) x g w i = IVal.cols x g w 2176 (by omega) i :=
  IHead.cols_apply x g w (val_main_v59 (F := Ideal) x g w) (proj_apply x g w) 2176 (by omega) slices_S8x4096x2304_S8x4096x128_0_0_2176 shapeCasts_S8x4096x128_S32768x128 i

end Cert.IRef
end
-- ==== Proof.IClaim.lean ====
/-
  The input projection: the kernel and the reference, run from the same arguments, leave six equal results.
-/
module

public import proofs.«01_k».proof.Proof.IArr
public import proofs.«01_k».proof.Proof.IRef
public import proofs.«01_k».proof.Proof.Gen.ReferenceIIdeal.Run
public import proofs.«01_k».proof.Defs

@[expose] public section

set_option maxRecDepth 16384

noncomputable section

namespace Cert.IClaim

open Idealize.ShloMosaic Idealize.ShloMosaic.TcCoe Idealize.SL.Sem

/-- The reference runs and leaves its arguments as they were, from any memory. -/
theorem reference_runs : quiescent_ReferenceIIdeal := fun m g _ =>
  (θ_run Cert.ReferenceIIdeal.defs _ _).mono
    (fun r h => ⟨fun c => (h c).2.2.2.2.2.2, sem_eq_zero_of_no_sems (by decide) r.2⟩) (Cert.ReferenceIIdeal.Value.run (F := Ideal) m g)

section Angles
variable (m : (ℓ : Loc Cert.KernelIIdeal.nD Cert.KernelIIdeal.τ Cert.KernelIIdeal.sig) → Buf (Elt Ideal) ℓ) (c : Dev Cert.KernelIIdeal.nD)

/-- The kernel's host and the reference make the same angles. -/
theorem line_eq : IRef.line = ITab.line m c := rfl
theorem grid_eq : IRef.grid = ITab.grid m c := rfl

open Cert.KernelIIdeal in
section
variable {m c} {x : (⟨S8x4096x1024, .f32⟩ : BufTy).Contents (Elt Ideal)} {g : (⟨S1x1024, .f32⟩ : BufTy).Contents (Elt Ideal)}
  {w : (⟨S1x1024x2304, .f32⟩ : BufTy).Contents (Elt Ideal)} {q : (⟨S1x64, .f32⟩ : BufTy).Contents (Elt Ideal)}
  (e0 : x = m ((c : Thread nD τ).loc main_arg0)) (e1 : g = m ((c : Thread nD τ).loc main_arg1)) (e2 : w = m ((c : Thread nD τ).loc main_arg2))
include e0 e1 e2

theorem same_qa (e : q = m ((c : Thread nD τ).loc main_arg3)) : Cert.ReferenceIIdeal.Read.val_main_v204 (F := Ideal) x g w q = IArr.G_qa m c := by
  subst e0 e1 e2 e
  funext i
  rw [IRef.qa, line_eq m c]
  rfl
theorem same_ka (e : q = m ((c : Thread nD τ).loc main_arg4)) : Cert.ReferenceIIdeal.Read.val_main_v205 (F := Ideal) x g w q = IArr.G_ka m c := by
  subst e0 e1 e2 e
  funext i
  rw [IRef.ka, line_eq m c]
  rfl
theorem same_va : Cert.ReferenceIIdeal.Read.val_main_v206 (F := Ideal) x g w = IArr.G_va m c := by
  subst e0 e1 e2
  exact funext (IRef.va _ _ _)
theorem same_qb (e : q = m ((c : Thread nD τ).loc main_arg5)) : Cert.ReferenceIIdeal.Read.val_main_v207 (F := Ideal) x g w q = IArr.G_qb m c := by
  subst e0 e1 e2 e
  funext i
  rw [IRef.qb, grid_eq m c]
  rfl
theorem same_kb (e : q = m ((c : Thread nD τ).loc main_arg6)) : Cert.ReferenceIIdeal.Read.val_main_v208 (F := Ideal) x g w q = IArr.G_kb m c := by
  subst e0 e1 e2 e
  funext i
  rw [IRef.kb, grid_eq m c]
  rfl
theorem same_vb : Cert.ReferenceIIdeal.Read.val_main_v209 (F := Ideal) x g w = IArr.G_vb m c := by
  subst e0 e1 e2
  exact funext (IRef.vb _ _ _)
end
end Angles

/-- The kernel's six results are the reference's. -/
theorem algebraic : algebraic_KernelIIdeal_ReferenceIIdeal := by
  intro m g m' g' hp he
  refine ⟨fun c => IArr.G_qa m c, fun c => IArr.G_ka m c, fun c => IArr.G_va m c, fun c => IArr.G_qb m c, fun c => IArr.G_kb m c,
    fun c => IArr.G_vb m c, ?_, ?_⟩
  · exact (θ_run _ _ _).mono (fun r h c => ⟨(h c).1.trans (IArr.final_qa m c), (h c).2.1.trans (IArr.final_ka m c),
      (h c).2.2.1.trans (IArr.final_va m c), (h c).2.2.2.1.trans (IArr.final_qb m c), (h c).2.2.2.2.1.trans (IArr.final_kb m c),
      (h c).2.2.2.2.2.1.trans (IArr.final_vb m c), (h c).2.2.2.2.2.2⟩) (Cert.KernelIIdeal.Value.run_blocks m g)
  · refine (θ_run _ _ _).mono (fun r h c => ?_) (Cert.ReferenceIIdeal.Value.run (F := Ideal) m' g')
    obtain ⟨e0, e1, e2, e3, e4, e5, e6⟩ := he c
    exact ⟨(h c).1.trans ((Cert.ReferenceIIdeal.Read.val_main_v204_eq _).trans (same_qa e0 e1 e2 e3)),
      (h c).2.1.trans ((Cert.ReferenceIIdeal.Read.val_main_v205_eq _).trans (same_ka e0 e1 e2 e4)),
      (h c).2.2.1.trans ((Cert.ReferenceIIdeal.Read.val_main_v206_eq _).trans (same_va e0 e1 e2)),
      (h c).2.2.2.1.trans ((Cert.ReferenceIIdeal.Read.val_main_v207_eq _).trans (same_qb e0 e1 e2 e5)),
      (h c).2.2.2.2.1.trans ((Cert.ReferenceIIdeal.Read.val_main_v208_eq _).trans (same_kb e0 e1 e2 e6)),
      (h c).2.2.2.2.2.1.trans ((Cert.ReferenceIIdeal.Read.val_main_v209_eq _).trans (same_vb e0 e1 e2)), (h c).2.2.2.2.2.2⟩

end Cert.IClaim
end
-- ==== Proof.OVal.lean ====
/-
  The output projection as mathematics over the extended reals: each token's two rows of attention results, multiplied by the
  weights' two halves, added to the token's own row; and that sum normalized.
-/
module

public import proofs.«01_k».proof.Proof.IVal

@[expose] public section

noncomputable section

namespace Cert.OVal

open Idealize.ShloMosaic Idealize.ShloMosaic.ValueIdx
open scoped BigOperators

/-- A row of 512 lanes is the upper or the lower half of one of 1024. -/
abbrev lo (k : Fin 512) : Fin 1024 := ⟨k.val, by omega⟩
abbrev hi (k : Fin 512) : Fin 1024 := ⟨k.val + 512, by omega⟩

/-- A sum over 1024 terms, cut in the middle. -/
theorem sum_halves (f : Fin 1024 → EReal) : ∑ k, f k = (∑ k, f (lo k)) + ∑ k, f (hi k) := by
  refine (Fin.sum_univ_add (a := 512) (b := 512) f).trans (congrArg₂ (· + ·) rfl ?_)
  exact Finset.sum_congr rfl fun k _ => congrArg f (Fin.ext (Nat.add_comm _ _))

variable (a b : (⟨3, ![8, 4096, 512]⟩ : Shape).Idx → EReal) (x : (⟨3, ![8, 4096, 1024]⟩ : Shape).Idx → EReal)
  (w : (⟨3, ![1, 1024, 1024]⟩ : Shape).Idx → EReal) (g : (⟨2, ![1, 1024]⟩ : Shape).Idx → EReal)

/-- Lane `j` of the sum of token `s` of batch entry `i`. -/
def out (i : Fin 8) (s : Fin 4096) (j : Fin 1024) : EReal :=
  x (ix3 i s j) + ((∑ k : Fin 512, a (ix3 i s k) * w (ix3 0 (lo k) j)) + ∑ k : Fin 512, b (ix3 i s k) * w (ix3 0 (hi k) j))

/-- Lane `j` of the normalized sum. -/
def normed (i : Fin 8) (s : Fin 4096) (j : Fin 1024) : EReal :=
  IVal.norm (Ideal.ofBits .f32 0x44800000#32) (out a b x w i s) (fun k => g (ix2 0 k)) j

/-- The two results: row `i` of an array is token `i % 4096` of batch entry `i / 4096`. -/
def sums (i : (⟨2, ![32768, 1024]⟩ : Shape).Idx) : EReal :=
  out a b x w ⟨(i 0).val / 4096, by have h : (i 0).val < 32768 := (i 0).isLt; omega⟩ ⟨(i 0).val % 4096, by omega⟩ (i 1)
def norms (i : (⟨2, ![32768, 1024]⟩ : Shape).Idx) : EReal :=
  normed a b x w g ⟨(i 0).val / 4096, by have h : (i 0).val < 32768 := (i 0).isLt; omega⟩ ⟨(i 0).val % 4096, by omega⟩ (i 1)

end Cert.OVal
end
-- ==== Proof.OBlock.lean ====
/-
  What one step of the output projection leaves in its first two output blocks, from the blocks of the inputs: 512 rows of the
  residual sum, and the same rows normalized. The other outputs, and the counts carried from step to step, don't enter.
-/
module

public import proofs.«01_k».proof.Proof.IBlock
public import proofs.«01_k».proof.Proof.OVal
public import proofs.«01_k».proof.Proof.Gen.KernelOIdeal.Value

@[expose] public section

noncomputable section

namespace Cert.OBlock

open Cert.KernelOIdeal Cert.KernelOIdeal.Gen Idealize.ShloMosaic Idealize.ShloMosaic.TcCoe Idealize.ShloMosaic.ValueIdx
open scoped BigOperators

/-- The upper and the lower half of the weights. -/
abbrev upper (W : Vec Ideal S1024x1024 .bf16) : Vec Ideal S512x1024 .bf16 :=
  View.ld W (Rect.unit (s := S1024x1024) ![0, 0] S512x1024.size inb_S1024x1024_S512x1024_0_0)
abbrev lower (W : Vec Ideal S1024x1024 .bf16) : Vec Ideal S512x1024 .bf16 :=
  View.ld W (Rect.unit (s := S1024x1024) ![512, 0] S512x1024.size inb_S1024x1024_S512x1024_512_0)

theorem upper_apply (W : Vec Ideal S1024x1024 .bf16) (k : Fin 512) (j : Fin 1024) : upper W (ix2 k j) = W (ix2 (OVal.lo k) j) := by
  refine congrArg W (funext fun z => Fin.ext ?_)
  fin_cases z
  · show 0 + 1 * k.val = k.val; omega
  · show 0 + 1 * j.val = j.val; omega
theorem lower_apply (W : Vec Ideal S1024x1024 .bf16) (k : Fin 512) (j : Fin 1024) : lower W (ix2 k j) = W (ix2 (OVal.hi k) j) := by
  refine congrArg W (funext fun z => Fin.ext ?_)
  fin_cases z
  · show 512 + 1 * k.val = k.val + 512; omega
  · show 0 + 1 * j.val = j.val; omega

/-- The rows of the sum. -/
abbrev X (X0 X1 : Vec Ideal S512x512 .bf16) (X2 : Vec Ideal S512x1024 .f32) (X3 : Vec Ideal S1024x1024 .bf16) : FVec Ideal S512x1024 .f32 :=
  k0_pay5 X0 (upper X3) X1 (lower X3) X2

theorem half_apply (A : Vec Ideal S512x512 .bf16) (W : Vec Ideal S512x1024 .bf16) (r : Fin 512) (j : Fin 1024) :
    matmul (φ₁ := .bf16) (φ₂ := .bf16) dot_S512x512_S512x1024_S512x1024_1_0_0_1_n_n none A W (constant (F := Ideal) S512x1024 .f32 0x00000000#32) (ix2 r j)
      = ∑ k : Fin 512, A (ix2 r k) * W (ix2 k j) := by
  refine (Ideal.matmul_plain_apply (φ₁ := .bf16) (φ₂ := .bf16) none A W (constant S512x1024 .f32 0x00000000#32) r j).trans ?_
  rw [show constant (F := Ideal) S512x1024 .f32 0x00000000#32 (ix2 r j) = 0 from Ideal.ofBits_zero_f32, zero_add]

/-- One element of a row of the sum. -/
theorem X_apply (X0 X1 : Vec Ideal S512x512 .bf16) (X2 : Vec Ideal S512x1024 .f32) (X3 : Vec Ideal S1024x1024 .bf16) (r : Fin 512) (j : Fin 1024) :
    X X0 X1 X2 X3 (ix2 r j) = X2 (ix2 r j)
      + ((∑ k : Fin 512, X0 (ix2 r k) * X3 (ix2 (OVal.lo k) j)) + ∑ k : Fin 512, X1 (ix2 r k) * X3 (ix2 (OVal.hi k) j)) := by
  unfold X k0_pay5
  rw [shapeCast_self, shapeCast_self, shapeCast_self, shapeCast_self, shapeCast_self]
  refine congrArg (X2 (ix2 r j) + ·) (congrArg₂ (· + ·) ((half_apply X0 _ r j).trans ?_) ((half_apply X1 _ r j).trans ?_))
  · exact Finset.sum_congr rfl fun k _ => congrArg (X0 (ix2 r k) * ·) (upper_apply X3 k j)
  · exact Finset.sum_congr rfl fun k _ => congrArg (X1 (ix2 r k) * ·) (lower_apply X3 k j)

/-- One element of a normalized row. -/
theorem normed_apply (X0 X1 : Vec Ideal S512x512 .bf16) (X2 : Vec Ideal S512x1024 .f32) (X3 : Vec Ideal S1024x1024 .bf16)
    (X4 : Vec Ideal S1x1024 .f32) (r : Fin 512) (j : Fin 1024) :
    k0_pay6 X0 (upper X3) X1 (lower X3) X2 X4 (ix2 r j)
      = IVal.norm (Ideal.ofBits .f32 0x44800000#32) (fun k => X X0 X1 X2 X3 (ix2 r k)) (fun k => X4 (ix2 0 k)) j := by
  refine Eq.trans ?_ (IBlock.rows_apply (X X0 X1 X2 X3) X4 r j)
  unfold X k0_pay6 k0_pay5
  simp only [shapeCast_self]
  rfl

/-! ## The blocks a step leaves -/

section Steps
variable (c : Dev nD) (i : grid0.Coords) (a1 : Memref sig .tc .vmem S512x512 .bf16) (h1 : a1.IsWhole) (a2 : Memref sig .tc .vmem S512x512 .bf16)
  (h2 : a2.IsWhole) (a3 : Memref sig .tc .vmem S512x1024 .f32) (h3 : a3.IsWhole) (a4 : Memref sig .tc .vmem S1024x1024 .bf16)
  (h4 : a4.IsWhole) (a5 : Memref sig .tc .vmem S1x1024 .f32) (h5 : a5.IsWhole) (a6 : Memref sig .tc .vmem S32x1024 .bf16)
  (h6 : a6.IsWhole) (a7 : Memref sig .tc .vmem S32x1024 .bf16) (h7 : a7.IsWhole) (a8 : Memref sig .tc .vmem S32x1 .f32) (h8 : a8.IsWhole)
  (a9 : Memref sig .tc .vmem S512x1024 .f32) (h9 : a9.IsWhole) (a10 : Memref sig .tc .vmem S512x1024 .f32) (h10 : a10.IsWhole)
  (a11 : Memref sig .tc .vmem S4x512 .i32) (h11 : a11.IsWhole) (a12 : Memref sig .tc .vmem S4x512 .f32) (h12 : a12.IsWhole)
  (a13 : Memref sig .tc .vmem S4x512 .i32) (h13 : a13.IsWhole) (a14 : Memref sig .tc .vmem S32x1 .i32) (h14 : a14.IsWhole)
  (a15 : Memref sig .tc .vmem S32x1 .f32) (h15 : a15.IsWhole)
  (X0 X1 : Vec Ideal S512x512 .bf16) (X2 : Vec Ideal S512x1024 .f32) (X3 : Vec Ideal S1024x1024 .bf16) (X4 : Vec Ideal S1x1024 .f32)
  (X5 X6 : Vec Ideal S32x1024 .bf16) (X7 : Vec Ideal S32x1 .f32) (xs : Vec Ideal S32x1 .f32)

theorem at_zero : (![0, 0] : Fin 2 → Nat) = fun _ => 0 := by funext a; fin_cases a <;> rfl

/-- The first step, which clears the counts. -/
theorem first_sum (hc : cond0_0 i) : out0_A_8 (F := Ideal) c i a1 h1 a2 h2 a3 h3 a4 h4 a5 h5 a6 h6 a7 h7 a8 h8 a9 h9 a10 h10 a11 h11 a12 h12 a13 h13 a14 h14 a15 h15 hc X0 X1 X2 X3 X4 X5 X6 X7 = X X0 X1 X2 X3 := by
  unfold out0_A_8
  refine (View.read_writes_eq_canon _ _ _ (fun y => cover0_A_8 (y := y) ..)).trans ?_
  unfold kernelRun0_A
  dsimp only
  refine (View.canon_unit_zero (S := S512x1024) at_zero _ _).trans ?_
  simp only [View.readAt_eq_ld, h1.read_unread, h2.read_unread, h3.read_unread, h4.read_unread,
    View.ld_unit_zero (S := S512x512) at_zero, View.ld_unit_zero (S := S512x1024) at_zero]
theorem first_norm (hc : cond0_0 i) : out0_A_9 (F := Ideal) c i a1 h1 a2 h2 a3 h3 a4 h4 a5 h5 a6 h6 a7 h7 a8 h8 a9 h9 a10 h10 a11 h11 a12 h12 a13 h13 a14 h14 a15 h15 hc X0 X1 X2 X3 X4 X5 X6 X7 = k0_pay6 X0 (upper X3) X1 (lower X3) X2 X4 := by
  unfold out0_A_9
  refine (View.read_writes_eq_canon _ _ _ (fun y => cover0_A_9 (y := y) ..)).trans ?_
  unfold kernelRun0_A
  dsimp only
  refine (View.canon_unit_zero (S := S512x1024) at_zero _ _).trans ?_
  simp only [View.readAt_eq_ld, h1.read_unread, h2.read_unread, h3.read_unread, h4.read_unread, h5.read_unread,
    View.ld_unit_zero (S := S512x512) at_zero, View.ld_unit_zero (S := S512x1024) at_zero, View.ld_unit_zero (S := S1x1024) at_zero]

/-- Every later step. -/
theorem later_sum (hc : ¬cond0_0 i) : out0_B_8 (F := Ideal) c i a1 h1 a2 h2 a3 h3 a4 h4 a5 h5 a6 h6 a7 h7 a8 h8 a9 h9 a10 h10 a11 h11 a12 h12 a13 h13 a14 h14 a15 h15 hc X0 X1 X2 X3 X4 X5 X6 X7 xs = X X0 X1 X2 X3 := by
  unfold out0_B_8
  refine (View.read_writes_eq_canon _ _ _ (fun y => cover0_B_8 (y := y) ..)).trans ?_
  unfold kernelRun0_B
  dsimp only
  refine (View.canon_unit_zero (S := S512x1024) at_zero _ _).trans ?_
  simp only [View.readAt_eq_ld, h1.read_unread, h2.read_unread, h3.read_unread, h4.read_unread,
    View.ld_unit_zero (S := S512x512) at_zero, View.ld_unit_zero (S := S512x1024) at_zero]
theorem later_norm (hc : ¬cond0_0 i) : out0_B_9 (F := Ideal) c i a1 h1 a2 h2 a3 h3 a4 h4 a5 h5 a6 h6 a7 h7 a8 h8 a9 h9 a10 h10 a11 h11 a12 h12 a13 h13 a14 h14 a15 h15 hc X0 X1 X2 X3 X4 X5 X6 X7 xs = k0_pay6 X0 (upper X3) X1 (lower X3) X2 X4 := by
  unfold out0_B_9
  refine (View.read_writes_eq_canon _ _ _ (fun y => cover0_B_9 (y := y) ..)).trans ?_
  unfold kernelRun0_B
  dsimp only
  refine (View.canon_unit_zero (S := S512x1024) at_zero _ _).trans ?_
  simp only [View.readAt_eq_ld, h1.read_unread, h2.read_unread, h3.read_unread, h4.read_unread, h5.read_unread,
    View.ld_unit_zero (S := S512x512) at_zero, View.ld_unit_zero (S := S512x1024) at_zero, View.ld_unit_zero (S := S1x1024) at_zero]

end Steps
end Cert.OBlock
end
-- ==== Proof.OArr.lean ====
/-
  The first two arrays the output projection leaves: every element is the sum, or the normalized sum, of the arguments.
-/
module

public import proofs.«01_k».proof.Proof.OBlock
public import proofs.«01_k».proof.Proof.IArr

@[expose] public section

set_option maxRecDepth 16384

noncomputable section

namespace Cert.OArr

open Cert.KernelOIdeal Cert.KernelOIdeal.Gen Idealize.ShloMosaic Idealize.ShloMosaic.TcCoe Idealize.ShloMosaic.ValueIdx
open Cert.OBlock
open Cert.AVal (row)
open Cert.IArr (at_block of_row row_at col_at)
open scoped BigOperators

variable (m : (ℓ : Loc nD τ sig) → Buf (Elt Ideal) ℓ) (c : Dev nD)

/-! ## The arrays the grid reads -/

/-- Token `s` of batch entry `b` is array row `4096 b + s`. -/
theorem half_row (u : Vec Ideal S8x4096x512 .bf16) (b : Fin 8) (s : Fin 4096) (k : Fin 512) :
    shapeCast S32768x512 u shapeCasts_S8x4096x512_S32768x512 (ix2 (row b s) k) = u (ix3 b s k) := by
  refine shapeCast_apply _ _ _ _ ?_
  rw [Shape.rowMajor_val_two, Shape.rowMajor_val_three]; simp [ix3, ix2]
theorem full_row (u : Vec Ideal S8x4096x1024 .f32) (b : Fin 8) (s : Fin 4096) (k : Fin 1024) :
    shapeCast S32768x1024 u shapeCasts_S8x4096x1024_S32768x1024 (ix2 (row b s) k) = u (ix3 b s k) := by
  refine shapeCast_apply _ _ _ _ ?_
  rw [Shape.rowMajor_val_two, Shape.rowMajor_val_three]; simp [ix3, ix2]
theorem weight_at (u : Vec Ideal S1x1024x1024 .f32) (k j : Fin 1024) :
    shapeCast S1024x1024 u shapeCasts_S1x1024x1024_S1024x1024 (ix2 k j) = u (ix3 0 k j) := by
  refine shapeCast_apply _ _ _ _ ?_
  rw [Shape.rowMajor_val_two, Shape.rowMajor_val_three]; simp [ix3, ix2]
theorem gain_at (u : Vec Ideal S1x1024 .f32) (k : Fin 1024) :
    broadcastInDim S1x1024 ![1] bcast_S1024_S1x1024_1 (shapeCast S1024 u shapeCasts_S1x1024_S1024) (ix2 0 k) = u (ix2 0 k) := by
  refine shapeCast_apply u shapeCasts_S1x1024_S1024 (ix1 k) (ix2 0 k) ?_
  rw [Shape.rowMajor_val_two, Shape.rowMajor_val_one]; simp [ix2, ix1]

/-! ## The blocks at a grid point -/

/-- A grid point holds 512 tokens of one batch entry. -/
abbrev bOf (t : Fin cfg0.N) : Fin 8 := ⟨t.val / 8, by have h : t.val < 64 := t.isLt; omega⟩
abbrev sOf (t : Fin cfg0.N) (r : Fin 512) : Fin 4096 := ⟨t.val % 8 * 512 + r.val, by omega⟩

theorem row_of (t : Fin cfg0.N) (r : Fin 512) : t.val * 512 + r.val = (row (bOf t) (sOf t r)).val := by
  show t.val * 512 + r.val = t.val / 8 * 4096 + (t.val % 8 * 512 + r.val)
  omega

theorem ind0 : ∀ t : Fin cfg0.N, (cfg0.win 0).index t 0 = t.val ∧ (cfg0.win 0).index t 1 = 0 := by decide +kernel
theorem ind1 : ∀ t : Fin cfg0.N, (cfg0.win 1).index t 0 = t.val ∧ (cfg0.win 1).index t 1 = 0 := by decide +kernel
theorem ind2 : ∀ t : Fin cfg0.N, (cfg0.win 2).index t 0 = t.val ∧ (cfg0.win 2).index t 1 = 0 := by decide +kernel
theorem ind3 : ∀ t : Fin cfg0.N, (cfg0.win 3).index t 0 = 0 ∧ (cfg0.win 3).index t 1 = 0 := by decide +kernel
theorem ind4 : ∀ t : Fin cfg0.N, (cfg0.win 4).index t 0 = 0 ∧ (cfg0.win 4).index t 1 = 0 := by decide +kernel
theorem ind8 : ∀ t : Fin cfg0.N, (cfg0.win 8).index t 0 = t.val ∧ (cfg0.win 8).index t 1 = 0 := by decide +kernel
theorem ind9 : ∀ t : Fin cfg0.N, (cfg0.win 9).index t 0 = t.val ∧ (cfg0.win 9).index t 1 = 0 := by decide +kernel

/-- The two branches' rows. -/
theorem blk0 (t : Fin cfg0.N) (r k : Fin 512) : iblk m c 0 t (ix2 r k) = m ((c : Thread nD τ).loc main_arg0) (ix3 (bOf t) (sOf t r) k) := by
  show V m c main_v7 _ = _
  exact (congrArg (V m c main_v7) (at_block ((cfg0.win 0).index t 0) ((cfg0.win 0).index t 1) r k rfl rfl (row (bOf t) (sOf t r)) k
    (by rw [(ind0 t).1]; exact row_of t r) (by rw [(ind0 t).2]; omega))).trans (half_row (m ((c : Thread nD τ).loc main_arg0)) (bOf t) (sOf t r) k)
theorem blk1 (t : Fin cfg0.N) (r k : Fin 512) : iblk m c 1 t (ix2 r k) = m ((c : Thread nD τ).loc main_arg1) (ix3 (bOf t) (sOf t r) k) := by
  show V m c main_v8 _ = _
  exact (congrArg (V m c main_v8) (at_block ((cfg0.win 1).index t 0) ((cfg0.win 1).index t 1) r k rfl rfl (row (bOf t) (sOf t r)) k
    (by rw [(ind1 t).1]; exact row_of t r) (by rw [(ind1 t).2]; omega))).trans (half_row (m ((c : Thread nD τ).loc main_arg1)) (bOf t) (sOf t r) k)
/-- The tokens' own rows. -/
theorem blk2 (t : Fin cfg0.N) (r : Fin 512) (k : Fin 1024) :
    iblk m c 2 t (ix2 r k) = m ((c : Thread nD τ).loc main_arg2) (ix3 (bOf t) (sOf t r) k) := by
  show V m c main_v0 _ = _
  exact (congrArg (V m c main_v0) (at_block ((cfg0.win 2).index t 0) ((cfg0.win 2).index t 1) r k rfl rfl (row (bOf t) (sOf t r)) k
    (by rw [(ind2 t).1]; exact row_of t r) (by rw [(ind2 t).2]; omega))).trans (full_row (m ((c : Thread nD τ).loc main_arg2)) (bOf t) (sOf t r) k)
/-- The weights and the gain. -/
theorem blk3 (t : Fin cfg0.N) (k j : Fin 1024) : iblk m c 3 t (ix2 k j) = m ((c : Thread nD τ).loc main_arg3) (ix3 0 k j) := by
  show V m c main_v10 _ = _
  exact (congrArg (V m c main_v10) (at_block ((cfg0.win 3).index t 0) ((cfg0.win 3).index t 1) k j rfl rfl k j
    (by rw [(ind3 t).1]; omega) (by rw [(ind3 t).2]; omega))).trans (weight_at (m ((c : Thread nD τ).loc main_arg3)) k j)
theorem blk4 (t : Fin cfg0.N) (k : Fin 1024) : iblk m c 4 t (ix2 0 k) = m ((c : Thread nD τ).loc main_arg4) (ix2 0 k) := by
  show V m c main_v12 _ = _
  exact (congrArg (V m c main_v12) (at_block (n := 1) (k := 1024) ((cfg0.win 4).index t 0) ((cfg0.win 4).index t 1) 0 k rfl rfl 0 k
    (by rw [(ind4 t).1]; rfl) (by rw [(ind4 t).2]; omega))).trans (gain_at (m ((c : Thread nD τ).loc main_arg4)) k)

/-! ## What the blocks hold, in terms of the arguments -/

abbrev outM (b : Fin 8) (s : Fin 4096) : Fin 1024 → EReal :=
  OVal.out (m ((c : Thread nD τ).loc main_arg0)) (m ((c : Thread nD τ).loc main_arg1)) (m ((c : Thread nD τ).loc main_arg2))
    (m ((c : Thread nD τ).loc main_arg3)) b s
/-- The rows of a grid point. -/
abbrev XM (t : Fin cfg0.N) : FVec Ideal S512x1024 .f32 := X (iblk m c 0 t) (iblk m c 1 t) (iblk m c 2 t) (iblk m c 3 t)

theorem XM_apply (t : Fin cfg0.N) (r : Fin 512) (j : Fin 1024) : XM m c t (ix2 r j) = outM m c (bOf t) (sOf t r) j := by
  refine (X_apply _ _ _ _ r j).trans (congrArg₂ (· + ·) (blk2 m c t r j) (congrArg₂ (· + ·) ?_ ?_))
  · exact Finset.sum_congr rfl fun k _ => congrArg₂ (· * ·) (blk0 m c t r k) (blk3 m c t _ j)
  · exact Finset.sum_congr rfl fun k _ => congrArg₂ (· * ·) (blk1 m c t r k) (blk3 m c t _ j)

theorem sums_blk (t : Fin cfg0.N) (r : Fin 512) (j : Fin 1024) (i : S32768x1024.Idx) (h0 : (i 0).val = t.val * 512 + r.val) (h1 : (i 1).val = j.val) :
    XM m c t (ix2 r j) = OVal.sums (m ((c : Thread nD τ).loc main_arg0)) (m ((c : Thread nD τ).loc main_arg1))
      (m ((c : Thread nD τ).loc main_arg2)) (m ((c : Thread nD τ).loc main_arg3)) i := by
  have e0 : (⟨(i 0).val / 4096, by have h : (i 0).val < 32768 := (i 0).isLt; omega⟩ : Fin 8) = bOf t := Fin.ext (of_row (t := t) h0).1
  have e1 : (⟨(i 0).val % 4096, by omega⟩ : Fin 4096) = sOf t r := Fin.ext (of_row (t := t) h0).2
  have e2 : (i 1 : Fin 1024) = j := Fin.ext h1
  unfold OVal.sums
  rw [e0, e1, e2]
  exact XM_apply m c t r j

theorem norms_blk (t : Fin cfg0.N) (r : Fin 512) (j : Fin 1024) (i : S32768x1024.Idx) (h0 : (i 0).val = t.val * 512 + r.val) (h1 : (i 1).val = j.val) :
    k0_pay6 (iblk m c 0 t) (upper (iblk m c 3 t)) (iblk m c 1 t) (lower (iblk m c 3 t)) (iblk m c 2 t) (iblk m c 4 t) (ix2 r j)
      = OVal.norms (m ((c : Thread nD τ).loc main_arg0)) (m ((c : Thread nD τ).loc main_arg1)) (m ((c : Thread nD τ).loc main_arg2))
          (m ((c : Thread nD τ).loc main_arg3)) (m ((c : Thread nD τ).loc main_arg4)) i := by
  have e0 : (⟨(i 0).val / 4096, by have h : (i 0).val < 32768 := (i 0).isLt; omega⟩ : Fin 8) = bOf t := Fin.ext (of_row (t := t) h0).1
  have e1 : (⟨(i 0).val % 4096, by omega⟩ : Fin 4096) = sOf t r := Fin.ext (of_row (t := t) h0).2
  have e2 : (i 1 : Fin 1024) = j := Fin.ext h1
  unfold OVal.norms OVal.normed
  rw [e0, e1, e2]
  refine (normed_apply _ _ _ _ _ r j).trans ?_
  exact congrArg₂ (fun u v => IVal.norm (Ideal.ofBits .f32 0x44800000#32) u v j) (funext fun k => XM_apply m c t r k) (funext fun k => blk4 m c t k)

/-! ## The arrays after the run -/

theorem split (y : S512x1024.Idx) : y = ix2 (y 0) (y 1) := by funext a; fin_cases a <;> rfl

/-- The grid point whose blocks hold a row. -/
abbrev tOf (i : S32768x1024.Idx) : Fin cfg0.N := ⟨(i 0).val / 512, by have h : (i 0).val < 32768 := (i 0).isLt; show _ < 64; omega⟩
theorem row_in (i : S32768x1024.Idx) (j : ℕ) (e : j = (tOf i).val) : j * 512 ≤ (i 0).val ∧ (i 0).val < j * 512 + 512 := by
  have e' : j = (i 0).val / 512 := e
  omega
theorem col_in (i : S32768x1024.Idx) (j : ℕ) (e : j = 0) : j * 1024 ≤ (i 1).val ∧ (i 1).val < j * 1024 + 1024 := by
  have h : (i 1).val < 1024 := (i 1).isLt
  subst e
  omega

/-- The residual sum. -/
def G_sum : Buf (Elt Ideal) ((c : Thread nD τ).loc main_v15_0) := fun i : S32768x1024.Idx =>
  OVal.sums (m ((c : Thread nD τ).loc main_arg0)) (m ((c : Thread nD τ).loc main_arg1)) (m ((c : Thread nD τ).loc main_arg2))
    (m ((c : Thread nD τ).loc main_arg3)) i
/-- The residual sum, normalized. -/
def G_norm : Buf (Elt Ideal) ((c : Thread nD τ).loc main_v15_1) := fun i : S32768x1024.Idx =>
  OVal.norms (m ((c : Thread nD τ).loc main_arg0)) (m ((c : Thread nD τ).loc main_arg1)) (m ((c : Thread nD τ).loc main_arg2))
    (m ((c : Thread nD τ).loc main_arg3)) (m ((c : Thread nD τ).loc main_arg4)) i

/-- A step's block is the same whichever of the two cases the step is. -/
theorem step_sum (t : Fin cfg0.N) : (dats m 0 c).flushed 8 t = (cfg0.win 8).cut (grid0.coords t) (XM m c t) := by
  by_cases h : t.val % 64 = 0
  · rw [Value.flushed8_A m c t h, first_sum]
  · rw [Value.flushed8_B m c t h, later_sum]
theorem step_norm (t : Fin cfg0.N) : (dats m 0 c).flushed 9 t = (cfg0.win 9).cut (grid0.coords t)
    (k0_pay6 (iblk m c 0 t) (upper (iblk m c 3 t)) (iblk m c 1 t) (lower (iblk m c 3 t)) (iblk m c 2 t) (iblk m c 4 t)) := by
  by_cases h : t.val % 64 = 0
  · rw [Value.flushed9_A m c t h, first_norm]
  · rw [Value.flushed9_B m c t h, later_norm]

theorem flushed_sum (t : Fin cfg0.N) : (dats m 0 c).flushed 8 t = ((cfg0.win 8).blk t).view.read (Elt Ideal) (G_sum m c) := by
  rw [step_sum]
  suffices H : ∀ y : S512x1024.Idx, XM m c t y = ((cfg0.win 8).blk t).view.read (Elt Ideal) (G_sum m c) y from funext H
  intro y
  refine (congrArg (XM m c t) (split y)).trans ?_
  exact sums_blk m c t (y 0) (y 1) _ (row_at (t := t) (y 0) (ind8 t).1) (col_at (y 1) (ind8 t).2)
theorem cover_sum (i : S32768x1024.Idx) : ∃ t : Fin cfg0.N, (cfg0.win 8).flush t = true ∧ i ∈ ((cfg0.win 8).blk t).view.set := by
  refine ⟨tOf i, flush0_8 _, ?_⟩
  show i ∈ ((View.whole main_v15_0).slice (win0_8.rect (tOf i))).set
  rw [View.set_slice_whole, Rect.mem_set_unit]
  intro a
  fin_cases a
  exacts [row_in i _ (ind8 (tOf i)).1, col_in i _ (ind8 (tOf i)).2]
/-- After the run this array holds it. -/
theorem final_sum : (dats m 0 c).arrAt 8 cfg0.N = G_sum m c :=
  (dats m 0 c).arrAt_eq_of_cover 8 (G_sum m c) (fun t _ => flushed_sum m c t) cover_sum

theorem flushed_norm (t : Fin cfg0.N) : (dats m 0 c).flushed 9 t = ((cfg0.win 9).blk t).view.read (Elt Ideal) (G_norm m c) := by
  rw [step_norm]
  suffices H : ∀ y : S512x1024.Idx, k0_pay6 (iblk m c 0 t) (upper (iblk m c 3 t)) (iblk m c 1 t) (lower (iblk m c 3 t)) (iblk m c 2 t) (iblk m c 4 t) y
      = ((cfg0.win 9).blk t).view.read (Elt Ideal) (G_norm m c) y from funext H
  intro y
  refine (congrArg (k0_pay6 (iblk m c 0 t) (upper (iblk m c 3 t)) (iblk m c 1 t) (lower (iblk m c 3 t)) (iblk m c 2 t) (iblk m c 4 t)) (split y)).trans ?_
  exact norms_blk m c t (y 0) (y 1) _ (row_at (t := t) (y 0) (ind9 t).1) (col_at (y 1) (ind9 t).2)
theorem cover_norm (i : S32768x1024.Idx) : ∃ t : Fin cfg0.N, (cfg0.win 9).flush t = true ∧ i ∈ ((cfg0.win 9).blk t).view.set := by
  refine ⟨tOf i, flush0_9 _, ?_⟩
  show i ∈ ((View.whole main_v15_1).slice (win0_9.rect (tOf i))).set
  rw [View.set_slice_whole, Rect.mem_set_unit]
  intro a
  fin_cases a
  exacts [row_in i _ (ind9 (tOf i)).1, col_in i _ (ind9 (tOf i)).2]
/-- After the run this array holds it. -/
theorem final_norm : (dats m 0 c).arrAt 9 cfg0.N = G_norm m c :=
  (dats m 0 c).arrAt_eq_of_cover 9 (G_norm m c) (fun t _ => flushed_norm m c t) cover_norm

end Cert.OArr
end
-- ==== Proof.ORef.lean ====
/-
  The output projection's reference, read element by element.
-/
module

public import proofs.«01_k».proof.Proof.ARef
public import proofs.«01_k».proof.Proof.OVal
public import proofs.«01_k».proof.Proof.Gen.ReferenceOIdeal.Read

@[expose] public section

noncomputable section

namespace Cert.ORef

open Cert.ReferenceOIdeal Cert.ReferenceOIdeal.Gen Cert.ReferenceOIdeal.Read Idealize.ShloMosaic Idealize.ShloMosaic.TcCoe Idealize.ShloMosaic.ValueIdx
open Cert.ARef (zero_sum)
open scoped BigOperators

variable (a b : (⟨S8x4096x512, .bf16⟩ : BufTy).Contents (Elt Ideal)) (x : (⟨S8x4096x1024, .f32⟩ : BufTy).Contents (Elt Ideal))
  (w : (⟨S1x1024x1024, .f32⟩ : BufTy).Contents (Elt Ideal)) (g : (⟨S1x1024, .f32⟩ : BufTy).Contents (Elt Ideal))

/-- The joined rows: the first branch's lanes, then the second's. -/
theorem joined_lo (i : Fin 8) (s : Fin 4096) (k : Fin 512) : val_main_v2 (F := Ideal) a b (ix3 i s (OVal.lo k)) = a (ix3 i s k) := by
  unfold val_main_v2
  refine (concatenate_pair_apply_left (t := S8x4096x1024) (s₁ := S8x4096x512) (s₂ := S8x4096x512) 2 _ _ _ (ix3 i s (OVal.lo k)) rfl (ix3 i s k) (fun z => ?_)).trans ?_
  · match z with
    | ⟨0, _⟩ => rfl
    | ⟨1, _⟩ => rfl
    | ⟨2, _⟩ => rfl
  · rfl
theorem joined_hi (i : Fin 8) (s : Fin 4096) (k : Fin 512) : val_main_v2 (F := Ideal) a b (ix3 i s (OVal.hi k)) = b (ix3 i s k) := by
  unfold val_main_v2
  refine (concatenate_pair_apply_right (t := S8x4096x1024) (s₁ := S8x4096x512) (s₂ := S8x4096x512) 2 _ _ _ (ix3 i s (OVal.hi k)) rfl rfl (ix3 i s k) (fun z hz => ?_) ?_).trans ?_
  · match z with
    | ⟨0, _⟩ => rfl
    | ⟨1, _⟩ => rfl
    | ⟨2, _⟩ => exact absurd rfl hz
  · rfl
  · rfl

theorem weight_at (k j : Fin 1024) : val_main_v3 (F := Ideal) w (ix2 k j) = w (ix3 0 k j) := by
  rw [val_main_v3_apply]
  refine congrArg w (funext fun z => Fin.ext ?_)
  fin_cases z
  · rfl
  · show (k.val * 1024 + j.val) / 1024 % 1024 = k.val
    omega
  · show (k.val * 1024 + j.val) % 1024 = j.val
    omega

/-- The projected rows: one product of the joined rows is two of the halves. -/
theorem product_apply (i : Fin 8) (s : Fin 4096) (j : Fin 1024) :
    val_main_v4 (F := Ideal) a b w (ix3 i s j)
      = (∑ k : Fin 512, a (ix3 i s k) * w (ix3 0 (OVal.lo k) j)) + ∑ k : Fin 512, b (ix3 i s k) * w (ix3 0 (OVal.hi k) j) := by
  have hl : ∀ k : Fin 1024, lidx_main_v4 (ix3 i s j) k = ix3 i s k := fun k => by funext z; fin_cases z <;> rfl
  have hr : ∀ k : Fin 1024, ridx_main_v4 (ix3 i s j) k = ix2 k j := fun k => by funext z; fin_cases z <;> rfl
  refine (val_main_v4_apply a b w (ix3 i s j)).trans ((OVal.sum_halves _).trans (congrArg₂ (· + ·) ?_ ?_))
  · refine Finset.sum_congr rfl fun k _ => ?_
    rw [hl, hr, joined_lo, weight_at]
  · refine Finset.sum_congr rfl fun k _ => ?_
    rw [hl, hr, joined_hi, weight_at]

theorem out_apply (i : Fin 8) (s : Fin 4096) (j : Fin 1024) : val_main_v5 (F := Ideal) a b x w (ix3 i s j) = OVal.out a b x w i s j := by
  rw [val_main_v5_apply, product_apply]
  rfl

/-- The mean square of a row of the sum. -/
theorem mean_square (i : Fin 8) (s : Fin 4096) :
    val_main_v11 (F := Ideal) a b x w (ix3 i s 0)
      = Ideal.div (∑ k : Fin 1024, OVal.out a b x w i s k * OVal.out a b x w i s k) (Ideal.ofBits .f32 0x44800000#32) := by
  rw [val_main_v11_apply, val_main_v9_apply, val_main_v8_apply, val_main_v10_apply]
  refine congrArg (Ideal.div · (Ideal.ofBits .f32 0x44800000#32)) ((zero_sum _ (by rfl) _).trans (Finset.sum_congr rfl fun k _ => ?_))
  have hi : idx_main_v8 (idx_main_v9 (ix3 i s 0)) k = ix3 i s k := by funext z; fin_cases z <;> rfl
  rw [hi, val_main_v7_apply, out_apply]
  rfl

/-- The normalized row. -/
theorem normed_apply (i : Fin 8) (s : Fin 4096) (j : Fin 1024) :
    val_main_v19 (F := Ideal) a b x w g (ix3 i s j) = OVal.normed a b x w g i s j := by
  rw [val_main_v19_apply, val_main_v16_apply, val_main_v15_apply, val_main_v14_apply, val_main_v13_apply, val_main_v18_apply, val_main_v17_apply,
    val_main_v6_apply, val_main_v12_apply]
  have h1 : idx_main_v15 (ix3 i s j) = ix3 i s 0 := by funext z; fin_cases z <;> rfl
  have h2 : idx_main_v6 (idx_main_v17 (idx_main_v18 (ix3 i s j))) = ix2 0 j := by
    funext z
    fin_cases z
    · rfl
    · exact Fin.ext (Nat.mod_eq_of_lt j.isLt)
  rw [h1, h2, mean_square, out_apply]
  rfl

/-! ## The two results -/

theorem of_flat (i : S32768x1024.Idx) (p : S8x4096x1024.Idx)
    (h0 : (p 0).val = ((i 0).val * 1024 + (i 1).val) / 4194304) (h1 : (p 1).val = ((i 0).val * 1024 + (i 1).val) / 1024 % 4096)
    (h2 : (p 2).val = ((i 0).val * 1024 + (i 1).val) % 1024) :
    p = ix3 ⟨(i 0).val / 4096, by have h : (i 0).val < 32768 := (i 0).isLt; omega⟩ ⟨(i 0).val % 4096, by omega⟩ (i 1) := by
  have b0 : (i 0).val < 32768 := (i 0).isLt
  have b1 : (i 1).val < 1024 := (i 1).isLt
  funext z
  apply Fin.ext
  fin_cases z
  · show (p 0).val = (i 0).val / 4096
    omega
  · show (p 1).val = (i 0).val % 4096
    omega
  · show (p 2).val = (i 1).val
    omega

/-- The sum of the token's row and the projected row. -/
theorem sums (i : S32768x1024.Idx) : val_main_v20 (F := Ideal) a b x w i = OVal.sums a b x w i := by
  rw [val_main_v20_apply, of_flat i (idx_main_v20 i) rfl rfl rfl]
  exact out_apply a b x w _ _ _
/-- The same, normalized. -/
theorem norms (i : S32768x1024.Idx) : val_main_v21 (F := Ideal) a b x w g i = OVal.norms a b x w g i := by
  rw [val_main_v21_apply, of_flat i (idx_main_v21 i) rfl rfl rfl]
  exact normed_apply a b x w g _ _ _

end Cert.ORef
end
-- ==== Proof.OClaim.lean ====
/-
  The output projection: the kernel and the reference, run from the same arguments, leave two equal results.
-/
module

public import proofs.«01_k».proof.Proof.OArr
public import proofs.«01_k».proof.Proof.ORef
public import proofs.«01_k».proof.Proof.Gen.ReferenceOIdeal.Run
public import proofs.«01_k».proof.Defs

@[expose] public section

set_option maxRecDepth 16384

noncomputable section

namespace Cert.OClaim

open Idealize.ShloMosaic Idealize.ShloMosaic.TcCoe Idealize.SL.Sem

/-- The reference runs and leaves its arguments as they were, from any memory. -/
theorem reference_runs : quiescent_ReferenceOIdeal := fun m g _ =>
  (θ_run Cert.ReferenceOIdeal.defs _ _).mono
    (fun r h => ⟨fun c => (h c).2.2, sem_eq_zero_of_no_sems (by decide) r.2⟩) (Cert.ReferenceOIdeal.Value.run (F := Ideal) m g)

open Cert.KernelOIdeal in
section
variable {m : (ℓ : Loc nD τ sig) → Buf (Elt Ideal) ℓ} {c : Dev nD}
  {a b : (⟨S8x4096x512, .bf16⟩ : BufTy).Contents (Elt Ideal)} {x : (⟨S8x4096x1024, .f32⟩ : BufTy).Contents (Elt Ideal)}
  {w : (⟨S1x1024x1024, .f32⟩ : BufTy).Contents (Elt Ideal)} {g : (⟨S1x1024, .f32⟩ : BufTy).Contents (Elt Ideal)}
  (e0 : a = m ((c : Thread nD τ).loc main_arg0)) (e1 : b = m ((c : Thread nD τ).loc main_arg1)) (e2 : x = m ((c : Thread nD τ).loc main_arg2))
  (e3 : w = m ((c : Thread nD τ).loc main_arg3))
include e0 e1 e2 e3

theorem same_sum : Cert.ReferenceOIdeal.Read.val_main_v20 (F := Ideal) a b x w = OArr.G_sum m c := by
  subst e0 e1 e2 e3
  exact funext (ORef.sums _ _ _ _)
theorem same_norm (e4 : g = m ((c : Thread nD τ).loc main_arg4)) :
    Cert.ReferenceOIdeal.Read.val_main_v21 (F := Ideal) a b x w g = OArr.G_norm m c := by
  subst e0 e1 e2 e3 e4
  exact funext (ORef.norms _ _ _ _ _)
end

/-- The kernel's two results are the reference's. -/
theorem algebraic : algebraic_KernelOIdeal_ReferenceOIdeal := by
  intro m g m' g' hp he
  refine ⟨fun c => OArr.G_sum m c, fun c => OArr.G_norm m c, ?_, ?_⟩
  · exact (θ_run _ _ _).mono (fun r h c => ⟨(h c).1.trans (OArr.final_sum m c), (h c).2.1.trans (OArr.final_norm m c),
      (h c).2.2.2.2.2.2⟩) (Cert.KernelOIdeal.Value.run_blocks m g)
  · refine (θ_run _ _ _).mono (fun r h c => ?_) (Cert.ReferenceOIdeal.Value.run (F := Ideal) m' g')
    obtain ⟨e0, e1, e2, e3, e4, -, -⟩ := he c
    exact ⟨(h c).1.trans ((Cert.ReferenceOIdeal.Read.val_main_v20_eq _ _ _ _).trans (same_sum e0 e1 e2 e3)),
      (h c).2.1.trans ((Cert.ReferenceOIdeal.Read.val_main_v21_eq _ _ _ _ _).trans (same_norm e0 e1 e2 e3 e4)), (h c).2.2⟩

end Cert.OClaim
end
-- ==== Proof.RVal.lean ====
/-
  The router as mathematics over the extended reals: 32 scores of a token, the four greatest of them in order, the earlier one
  first where two are equal, and the softmax of those four. Taking the greatest score four times, each time leaving out the
  ones already taken, finds the same four in the same order.
-/
module

public import proofs.«01_k».proof.Proof.Soft
public import proofs.«01_k».proof.Proof.OVal
public import Idealize.ShloMosaic.Lib.SortFacts

@[expose] public section

noncomputable section

namespace Cert.RVal

open Idealize.ShloMosaic Idealize.ShloMosaic.ValueIdx
open Cert.Soft (Fin')
open scoped BigOperators

/-! ## The order of the scores -/

section Order
variable (f : Fin 32 → EReal)

/-- The greater score goes first. -/
abbrev first (a b : Fin 32) : Bool := decide (f b < f a)
/-- The greater score goes first, and of two equal scores the earlier one. -/
abbrev lex (a b : Fin 32) : Bool := decide (f b < f a ∨ (f a = f b ∧ a < b))

/-- The score that a stable sort by the first order puts at a place. -/
def at' : Fin 32 → Fin 32 := sortedFrom (first f)

theorem sort_lex : ∀ l : List (Fin 32), l.Pairwise (· < ·) → stableSort (first f) l = stableSort (lex f) l
  | [], _ => rfl
  | a :: l, h => by
    obtain ⟨h1, h2⟩ := List.pairwise_cons.mp h
    unfold stableSort
    rw [sort_lex l h2]
    refine insertBefore_congr _ _ a _ fun b hb => ?_
    have hab : a < b := h1 b ((perm_stableSort _ l).mem_iff.mp hb)
    have : ¬ b < a := not_lt.mpr hab.le
    simp [first, lex, this]

/-- Two orders that sort the places alike put the same one at every place. -/
theorem sorted_congr {n : ℕ} (R R' : Fin n → Fin n → Bool) (e : sortPositions n R = sortPositions n R') : sortedFrom R = sortedFrom R' := by
  funext k
  unfold sortedFrom
  rw [List.get_eq_getElem, List.get_eq_getElem]
  exact List.getElem_of_eq e _

theorem at_eq : at' f = sortedFrom (lex f) := by
  unfold at'
  refine sorted_congr (first f) (lex f) ?_
  unfold sortPositions
  exact sort_lex f (List.finRange 32) (List.pairwise_lt_finRange 32)

theorem at_surjective : Function.Surjective (at' f) := sortedFrom_surjective _
theorem at_injective : Function.Injective (at' f) := sortedFrom_injective _

/-- A later place holds a smaller score, or an equal one further on. -/
theorem at_le (i j : Fin 32) (h : i < j) : f (at' f j) ≤ f (at' f i) ∧ (f (at' f j) = f (at' f i) → at' f i ≤ at' f j) := by
  have e := sortedFrom_noInversion (lex f) (lex f) (fun a b hab => ?_) (fun a b h => h) (fun a b c h1 h2 => ?_) i j h
  · rw [← at_eq] at e
    have e' := of_decide_eq_false e
    rw [not_or, not_and] at e'
    exact ⟨not_lt.mp e'.1, fun q => not_lt.mp (e'.2 q)⟩
  · have h1 := of_decide_eq_true hab
    refine decide_eq_false ?_
    rintro (h2 | ⟨h2, h3⟩) <;> rcases h1 with h1 | ⟨h1, h4⟩
    · exact lt_asymm h1 h2
    · exact absurd h1 h2.ne
    · exact absurd h2 h1.ne
    · exact lt_asymm h3 h4
  · have h1 := of_decide_eq_false h1
    have h2 := of_decide_eq_false h2
    rw [not_or, not_and, not_lt] at h1 h2
    refine decide_eq_false ?_
    rw [not_or, not_and, not_lt]
    refine ⟨h1.1.trans h2.1, fun q => ?_⟩
    have q1 : f a = f b := le_antisymm h1.1 (by rw [q]; exact h2.1)
    have q2 : f b = f c := q1.symm.trans q
    exact not_lt.mpr ((not_lt.mp (h2.2 q2)).trans (not_lt.mp (h1.2 q1)))

theorem at_top (i j : Fin 32) (h : i ≤ j) : f (at' f j) ≤ f (at' f i) := by
  rcases h.eq_or_lt with rfl | h
  · exact le_rfl
  · exact (at_le f i j h).1

/-! ## Taking the greatest again and again -/

/-- The scores not yet taken, after `k` rounds; those taken are set to the least value. -/
def left (k : Fin 32) (e : Fin 32) : EReal := if ∃ j < k, at' f j = e then ⊥ else f e

theorem left_zero : left f 0 = f := by
  funext e
  unfold left
  rw [if_neg]
  rintro ⟨j, hj, -⟩
  exact absurd hj (Fin.not_lt_zero j)

/-- One round more leaves out one score more. -/
theorem left_next (k l : Fin 32) (h : l.val = k.val + 1) (e : Fin 32) : left f l e = if e = at' f k then ⊥ else left f k e := by
  unfold left
  by_cases he : e = at' f k
  · rw [if_pos he, if_pos ⟨k, by rw [Fin.lt_def]; omega, he.symm⟩]
  · rw [if_neg he]
    refine if_congr ⟨?_, ?_⟩ rfl rfl
    · rintro ⟨j, hj, rfl⟩
      rw [Fin.lt_def] at hj
      refine ⟨j, ?_, rfl⟩
      rw [Fin.lt_def]
      have : j.val ≠ k.val := fun q => he (congrArg (at' f) (Fin.ext q))
      omega
    · rintro ⟨j, hj, rfl⟩
      rw [Fin.lt_def] at hj
      exact ⟨j, by rw [Fin.lt_def]; omega, rfl⟩

variable (hf : ∀ e, f e ≠ ⊥) (k : Fin 32)

theorem left_at : left f k (at' f k) = f (at' f k) := by
  unfold left
  rw [if_neg]
  rintro ⟨j, hj, e⟩
  exact absurd (at_injective f e) hj.ne

theorem left_le (e : Fin 32) : left f k e ≤ f (at' f k) := by
  obtain ⟨j, rfl⟩ := at_surjective f e
  unfold left
  split
  · exact bot_le
  · next h => exact at_top f k j (not_lt.mp fun q => h ⟨j, q, rfl⟩)

include hf in
theorem left_first (e : Fin 32) (h : left f k e = f (at' f k)) : at' f k ≤ e := by
  obtain ⟨j, rfl⟩ := at_surjective f e
  unfold left at h
  split at h
  · exact absurd h.symm (hf _)
  · next q =>
    have hk : k ≤ j := not_lt.mp fun q' => q ⟨j, q', rfl⟩
    rcases hk.eq_or_lt with rfl | hk
    · exact le_rfl
    · exact (at_le f k j hk).2 h

/-- The greatest score left is the one at this place. -/
theorem left_top : Soft.top (left f k) = f (at' f k) :=
  le_antisymm ((Finset.fold_max_le _).2 ⟨bot_le, fun e _ => left_le f k e⟩)
    ((Finset.le_fold_max _).2 (Or.inr ⟨at' f k, Finset.mem_univ _, (left_at f k).ge⟩))

/-! ## The first index that reaches the greatest score -/

/-- The least of some words, none below `v`, one of them `v`. -/
theorem fold_min (g : Fin 32 → BitVec 32) (v z : BitVec 32) (hz : v.toInt ≤ z.toInt) (hg : ∀ e, v.toInt ≤ (g e).toInt)
    (a : Fin 32) (ha : g a = v) : Finset.univ.fold IntOp.minsi z g = v := by
  have key : ∀ s : Finset (Fin 32), v.toInt ≤ (s.fold IntOp.minsi z g).toInt ∧ (a ∈ s → s.fold IntOp.minsi z g = v) := by
    intro s
    induction s using Finset.induction_on with
    | empty => exact ⟨by rwa [Finset.fold_empty], fun h => absurd h (Finset.notMem_empty a)⟩
    | insert b s hb ih =>
      rw [Finset.fold_insert hb]
      have hm : ∀ x y : BitVec 32, IntOp.minsi x y = if x.toInt < y.toInt then x else y := fun x y => by
        unfold IntOp.minsi
        simp only [BitVec.slt, decide_eq_true_eq]
      rw [hm]
      refine ⟨?_, fun h => ?_⟩
      · split
        · exact hg b
        · exact ih.1
      · rcases Finset.mem_insert.mp h with rfl | h
        · split
          · exact ha
          · next q =>
            rw [ha] at q
            exact BitVec.eq_of_toInt_eq (le_antisymm (not_lt.mp q) ih.1)
        · rw [ih.2 h]
          rw [if_neg (not_lt.mpr (hg b))]
  exact (key Finset.univ).2 (Finset.mem_univ a)

theorem word_int (e : ℕ) (h : e ≤ 32) : (BitVec.ofNat 32 e).toInt = e := by
  rw [BitVec.toInt_eq_toNat_cond, BitVec.toNat_ofNat]
  omega

include hf in
/-- The least index among those that hold the greatest score left is the one at this place. -/
theorem left_index :
    Finset.univ.fold IntOp.minsi 2147483647#32 (fun e : Fin 32 => if left f k e = f (at' f k) then BitVec.ofNat 32 e.val else 32#32)
      = BitVec.ofNat 32 (at' f k).val := by
  have hb : (at' f k).val ≤ 32 := by omega
  refine fold_min _ _ _ ?_ (fun e => ?_) (at' f k) (if_pos (left_at f k))
  · rw [word_int _ hb]
    show _ ≤ (2147483647 : Int)
    omega
  · rw [word_int _ hb]
    split
    · next h =>
      rw [word_int _ (by omega)]
      have := left_first f hf k e h
      rw [Fin.le_def] at this
      omega
    · show _ ≤ (32 : Int)
      omega

/-! ## The softmax of the four -/

/-- The place of one of the four among the 32. -/
abbrev place (k : Fin 4) : Fin 32 := ⟨k.val, by omega⟩

/-- The weight of one of the four. -/
def weight (k : Fin 4) : EReal := Ideal.exp (f (at' f (place k)) - f (at' f 0))
def gate (k : Fin 4) : EReal := Ideal.div (weight f k) (∑ j, weight f j)

/-- The greatest of the four is the first. -/
theorem four_top : Soft.top (fun k : Fin 4 => f (at' f (place k))) = f (at' f 0) :=
  le_antisymm ((Finset.fold_max_le _).2 ⟨bot_le, fun k _ => at_top f 0 (place k) (Fin.zero_le _)⟩)
    ((Finset.le_fold_max _).2 (Or.inr ⟨0, Finset.mem_univ _, le_rfl⟩))

end Order

/-! ## The scores -/

/-- A token's score of one expert: its row times the expert's weights, and a bias. -/
def score (h : Fin 1024 → EReal) (w : (⟨3, ![1, 1024, 32]⟩ : Shape).Idx → EReal) (b : (⟨2, ![1, 32]⟩ : Shape).Idx → EReal) (e : Fin 32) : EReal :=
  (∑ k : Fin 1024, h k * w (ix3 0 k e)) + b (ix2 0 e)

theorem score_fin {h : Fin 1024 → EReal} {w : (⟨3, ![1, 1024, 32]⟩ : Shape).Idx → EReal} {b : (⟨2, ![1, 32]⟩ : Shape).Idx → EReal}
    (hh : ∀ k, Fin' (h k)) (hw : ∀ i, Fin' (w i)) (hb : ∀ i, Fin' (b i)) (e : Fin 32) : Fin' (score h w b e) :=
  (Fin'.sum _ fun _ => (hh _).mul (hw _)).add (hb _)

/-- A square is zero or more, whatever is squared. -/
theorem square_nonneg (x : EReal) : 0 ≤ x * x := by
  induction x using EReal.rec with
  | bot => simp
  | top => simp
  | coe r => exact_mod_cast mul_self_nonneg r

/-- A row, normalized, is finite where the gains are: with an infinite lane the mean square is infinite, and its root's inverse zero. -/
theorem norm_fin (u : Fin 1024 → EReal) {g : Fin 1024 → EReal} (hg : ∀ k, Fin' (g k)) (k : Fin 1024) :
    Fin' (IVal.norm (Ideal.ofBits .f32 0x44800000#32) u g k) := by
  have e1 : Ideal.ofBits .f32 0x44800000#32 = ((1024 : ℝ) : EReal) := by
    simp [Ideal.ofBits, Ideal.ieee, -EReal.coe_mul]; norm_num
  obtain ⟨c, hc, e2⟩ : ∃ c : ℝ, 0 < c ∧ Ideal.ofBits .f32 0x358637BD#32 = (c : EReal) := by
    refine ⟨_, ?_, by simp [Ideal.ofBits, Ideal.ieee, -EReal.coe_mul]; rfl⟩
    norm_num
  have hs : 0 ≤ ∑ j, u j * u j := Finset.sum_nonneg fun j _ => square_nonneg _
  have le : u k * u k ≤ ∑ j, u j * u j := Finset.single_le_sum (fun j _ => square_nonneg (u j)) (Finset.mem_univ k)
  unfold IVal.norm
  rw [e1, e2, Ideal.div_coe (by norm_num : (1024 : ℝ) ≠ 0)]
  generalize ∑ j, u j * u j = s at hs le
  induction s using EReal.rec with
  | bot => simp at hs
  | top =>
    rw [EReal.top_mul_coe_of_pos (by norm_num : (0 : ℝ) < 1 / 1024), EReal.top_add_coe, Ideal.rsqrt_top, mul_zero, zero_mul]
    exact Fin'.coe 0
  | coe s =>
    have hu : Fin' (u k) := by
      refine ⟨fun e => ?_, fun e => ?_⟩
      all_goals rw [e] at le; simp at le
    have hs' : 0 ≤ s := by exact_mod_cast hs
    have hp : 0 < s * (1 / 1024) + c := by positivity
    rw [← EReal.coe_mul, ← EReal.coe_add, Ideal.rsqrt_coe, if_neg (not_lt.mpr hp.le), if_neg hp.ne']
    exact (hu.mul (Fin'.coe _)).mul (hg k)

/-! ## The two results -/

section Results
variable (a b : (⟨3, ![8, 4096, 512]⟩ : Shape).Idx → EReal) (x : (⟨3, ![8, 4096, 1024]⟩ : Shape).Idx → EReal)
  (w : (⟨3, ![1, 1024, 1024]⟩ : Shape).Idx → EReal) (g : (⟨2, ![1, 1024]⟩ : Shape).Idx → EReal)
  (rw' : (⟨3, ![1, 1024, 32]⟩ : Shape).Idx → EReal) (rb : (⟨2, ![1, 32]⟩ : Shape).Idx → EReal)

/-- The 32 scores of a token. -/
def scores (s : Fin 32768) (e : Fin 32) : EReal := score (fun k => OVal.norms a b x w g (ix2 s k)) rw' rb e
/-- The numbers of the four experts, and their weights. -/
def ids (i : (⟨2, ![4, 32768]⟩ : Shape).Idx) : BitVec 32 := BitVec.ofNat 32 (at' (scores a b x w g rw' rb (i 1)) (place (i 0))).val
def gates (i : (⟨2, ![4, 32768]⟩ : Shape).Idx) : EReal := gate (scores a b x w g rw' rb (i 1)) (i 0)

variable {g rw' rb} (hg : ∀ i, Fin' (g i)) (hrw : ∀ i, Fin' (rw' i)) (hrb : ∀ i, Fin' (rb i))

include hg in
theorem norms_fin (i : (⟨2, ![32768, 1024]⟩ : Shape).Idx) : Fin' (OVal.norms a b x w g i) := by
  unfold OVal.norms OVal.normed
  exact norm_fin _ (fun _ => hg _) _

include hg hrw hrb in
theorem scores_fin (s : Fin 32768) (e : Fin 32) : Fin' (scores a b x w g rw' rb s e) :=
  score_fin (fun _ => norms_fin a b x w hg _) hrw hrb e

end Results

end Cert.RVal
end
-- ==== Proof.RBlock.lean ====
/-
  What one step of the output projection leaves in the two blocks of the router, from the blocks of the inputs: for each of 512
  tokens the four experts with the greatest scores, and the weights of these four.
-/
module

public import proofs.«01_k».proof.Proof.OBlock
public import proofs.«01_k».proof.Proof.RVal
public import proofs.«01_k».proof.Proof.Gen.KernelRIdeal.Value

@[expose] public section

set_option maxRecDepth 16384

noncomputable section

namespace Cert.RBlock

open Cert.KernelRIdeal Cert.KernelRIdeal.Gen Idealize.ShloMosaic Idealize.ShloMosaic.TcCoe Idealize.ShloMosaic.ValueIdx
open Cert.Soft (Fin')
open scoped BigOperators

/-! ## One round of taking the greatest -/

/-- The experts' numbers, the same in every column. -/
def number : IVec S32x512 32 := iota .tc S32x512 32 [0] iota_S32x512_d0_w32
/-- The greatest of every column, and the first number that reaches it. -/
def most (M : FVec Ideal S32x512 .f32) : FVec Ideal S1x512 .f32 :=
  shapeCast S1x512 (multiReduction .maximumf [0] S512 M 0xFF800000#32 reduces_S32x512_S512 (.inl rfl) rfl) shapeCasts_S512_S1x512
def who (M : FVec Ideal S32x512 .f32) : IVec S1x512 32 :=
  shapeCast S1x512 (multiReductionI .minsi [0] S512
    (select (cmpf .oeq M (broadcastTo S32x512 (most M) broadcasts_S1x512_S32x512)) number (broadcast S32x512 32#32))
    2147483647#32 reduces_S32x512_S512 rfl) shapeCasts_S512_S1x512
/-- The scores without the one taken. -/
def rest (M : FVec Ideal S32x512 .f32) : FVec Ideal S32x512 .f32 :=
  select (cmpi .eq number (broadcastTo S32x512 (who M) broadcasts_S1x512_S32x512))
    (broadcast S32x512 (Scalar.ofBits (F := Ideal) .f32 0xFF800000#32)) M

theorem least : Ideal.ofBits .f32 0xFF800000#32 = (⊥ : EReal) := by simp [Ideal.ofBits, Ideal.ieee]

theorem number_apply (e : Fin 32) (r : Fin 512) : number (ix2 e r) = BitVec.ofNat 32 e.val := by
  unfold number
  rw [iota_single_apply]

theorem most_apply (M : FVec Ideal S32x512 .f32) (r : Fin 512) : most M (ix2 0 r) = Soft.top (fun e => M (ix2 e r)) := by
  unfold most
  rw [shapeCast_a_1a_apply]
  refine (Ideal.multiReduction_maximumf_single M _ _ _ rfl _).trans ?_
  unfold Soft.top
  refine (congrArg₂ (fun b f => Finset.fold max b f Finset.univ) least (funext fun k => ?_))
  refine congrArg M (funext fun a => ?_)
  fin_cases a <;> rfl

theorem who_apply (M : FVec Ideal S32x512 .f32) (r : Fin 512) :
    who M (ix2 0 r) = Finset.univ.fold IntOp.minsi 2147483647#32
      (fun e : Fin 32 => if M (ix2 e r) = Soft.top (fun e => M (ix2 e r)) then BitVec.ofNat 32 e.val else 32#32) := by
  unfold who
  rw [shapeCast_a_1a_apply]
  refine (multiReductionI_eq_fold _ _ _ _ _ _).trans ?_
  refine (Shape.Reduces.fold_filter_drop_single reduces_S32x512_S512 IntOp.minsi _ _ _).trans ?_
  refine congrArg (fun f => Finset.fold IntOp.minsi 2147483647#32 f Finset.univ) (funext fun (e : Fin 32) => ?_)
  have hi : reduces_S32x512_S512.lift (ix1 r) e = (ix2 e r : S32x512.Idx) := funext fun a => by fin_cases a <;> rfl
  refine (congrArg (select (cmpf .oeq M (broadcastTo S32x512 (most M) broadcasts_S1x512_S32x512)) number (broadcast S32x512 32#32)) hi).trans ?_
  refine (select_apply _ _ _ _).trans ?_
  rw [number_apply]
  have hc : cmpf .oeq M (broadcastTo S32x512 (most M) broadcasts_S1x512_S32x512) (ix2 e r)
      = BitVec.ofBool (decide (M (ix2 e r) = Soft.top (fun e => M (ix2 e r)))) := by
    rw [← most_apply]
    refine congrArg (fun x => Ideal.cmp .oeq (M (ix2 e r)) x) ?_
    exact broadcastTo_apply _ _ _ (ix2 0 r) (fun a => by fin_cases a <;> rfl)
  rw [hc]
  by_cases h : M (ix2 e r) = Soft.top (fun e => M (ix2 e r))
  · rw [if_pos h, decide_eq_true h]; rfl
  · rw [if_neg h, decide_eq_false h]; rfl

section Round
variable (f : Fin 32 → EReal) (hf : ∀ e, f e ≠ ⊥) (k l : Fin 32) (M : FVec Ideal S32x512 .f32) (r : Fin 512)
  (hM : ∀ e, M (ix2 e r) = RVal.left f k e)

include hM in
theorem round_most : most M (ix2 0 r) = f (RVal.at' f k) := by
  rw [most_apply, ← RVal.left_top f k]
  exact congrArg Soft.top (funext hM)

include hM hf in
theorem round_who : who M (ix2 0 r) = BitVec.ofNat 32 (RVal.at' f k).val := by
  rw [who_apply, ← RVal.left_index f hf k, show (fun e => M (ix2 e r)) = RVal.left f k from funext hM, RVal.left_top]
  exact congrArg (fun g => Finset.fold IntOp.minsi 2147483647#32 g Finset.univ) (funext fun e => by rw [hM e])

include hM hf in
theorem round_rest (h : l.val = k.val + 1) (e : Fin 32) : rest M (ix2 e r) = RVal.left f l e := by
  unfold rest
  rw [select_apply, RVal.left_next f k l h, ← hM e]
  have hc : cmpi .eq number (broadcastTo S32x512 (who M) broadcasts_S1x512_S32x512) (ix2 e r)
      = BitVec.ofBool (BitVec.ofNat 32 e.val == BitVec.ofNat 32 (RVal.at' f k).val) := by
    have hb : broadcastTo S32x512 (who M) broadcasts_S1x512_S32x512 (ix2 e r) = BitVec.ofNat 32 (RVal.at' f k).val :=
      (broadcastTo_apply (who M) _ _ (ix2 0 r) (fun a => by fin_cases a <;> rfl)).trans (round_who f hf k M r hM)
    unfold cmpi
    rw [hb, number_apply e r]
    rfl
  rw [hc]
  by_cases h : e = RVal.at' f k
  · have hy : (BitVec.ofNat 32 e.val == BitVec.ofNat 32 (RVal.at' f k).val) = true := by
      rw [h]
      exact beq_self_eq_true _
    rw [if_pos h, hy]
    exact least
  · have hn : (BitVec.ofNat 32 e.val == BitVec.ofNat 32 (RVal.at' f k).val) = false := by
      refine beq_eq_false_iff_ne.mpr fun q => h (Fin.ext ?_)
      have := congrArg BitVec.toNat q
      rw [BitVec.toNat_ofNat, BitVec.toNat_ofNat] at this
      omega
    rw [if_neg h, hn]
    rfl

end Round

/-! ## The scores -/

/-- The scores of a block: three products of halves, of which only one isn't nothing. -/
theorem scores_apply (H : FVec Ideal S512x1024 .f32) (W Wl : Vec Ideal S32x1024 .bf16) (b : Vec Ideal S32x1 .f32) (e : Fin 32) (r : Fin 512)
    (hH : ∀ k, Fin' (H (ix2 r k))) (hl : ∀ k, Wl (ix2 e k) = 0) :
    k0_pay7 H W Wl b (ix2 e r) = (∑ k : Fin 1024, H (ix2 r k) * W (ix2 e k)) + b (ix2 e 0) := by
  have prod : ∀ (A : Vec Ideal S32x1024 .bf16) (B : Vec Ideal S512x1024 .bf16),
      matmul (φ₁ := .bf16) (φ₂ := .bf16) dot_S32x1024_S512x1024_S32x512_1_1_0_0_n_n none A B (constant (F := Ideal) S32x512 .f32 0x00000000#32) (ix2 e r)
        = ∑ k : Fin 1024, A (ix2 e k) * B (ix2 r k) := fun A B => by
    refine (Ideal.matmul_transposedRhs_apply (φ₁ := .bf16) (φ₂ := .bf16) none A B (constant S32x512 .f32 0x00000000#32) e r).trans ?_
    rw [show constant (F := Ideal) S32x512 .f32 0x00000000#32 (ix2 e r) = 0 from Ideal.ofBits_zero_f32, zero_add]
  unfold k0_pay7
  simp only [shapeCast_self]
  have e1 := prod W (truncf .bf16 H bitsLt_bf16_f32)
  have e2 : matmul (φ₁ := .bf16) (φ₂ := .bf16) dot_S32x1024_S512x1024_S32x512_1_1_0_0_n_n none W
      (truncf .bf16 (subf H (extf .f32 (truncf .bf16 H bitsLt_bf16_f32) bitsLt_bf16_f32)) bitsLt_bf16_f32)
      (constant (F := Ideal) S32x512 .f32 0x00000000#32) (ix2 e r) = 0 := by
    refine (prod W _).trans (Finset.sum_eq_zero fun k _ => ?_)
    have : H (ix2 r k) - H (ix2 r k) = 0 := EReal.sub_self (hH k).2 (hH k).1
    exact (congrArg (W (ix2 e k) * ·) this).trans (mul_zero _)
  have e3 : matmul (φ₁ := .bf16) (φ₂ := .bf16) dot_S32x1024_S512x1024_S32x512_1_1_0_0_n_n none Wl (truncf .bf16 H bitsLt_bf16_f32)
      (constant (F := Ideal) S32x512 .f32 0x00000000#32) (ix2 e r) = 0 := by
    refine (prod Wl _).trans (Finset.sum_eq_zero fun k _ => ?_)
    rw [hl, zero_mul]
  refine (congrArg₂ (· + ·) (congrArg₂ (· + ·) (congrArg₂ (· + ·) e1 e2) e3)
    (broadcastTo_apply b _ _ (ix2 e 0) (fun a => by fin_cases a <;> rfl))).trans ?_
  rw [add_zero, add_zero]
  exact congrArg (· + b (ix2 e 0)) (Finset.sum_congr rfl fun k _ => mul_comm _ _)

/-! ## The four rounds -/

/-- The scores after some rounds. -/
def taken (L : FVec Ideal S32x512 .f32) : ℕ → FVec Ideal S32x512 .f32
  | 0 => L
  | n + 1 => rest (taken L n)
/-- The weight of one of the four, and the weights' sum. -/
def heavy (L : FVec Ideal S32x512 .f32) (n : ℕ) : FVec Ideal S1x512 .f32 := exp (subf (most (taken L n)) (most L))
def heavies (L : FVec Ideal S32x512 .f32) : FVec Ideal S1x512 .f32 := addf (addf (addf (heavy L 0) (heavy L 1)) (heavy L 2)) (heavy L 3)

theorem exp_at (A B : FVec Ideal S1x512 .f32) (i : S1x512.Idx) : exp (subf A B) i = Ideal.exp (A i - B i) := rfl
theorem part_at (A B C D E : FVec Ideal S1x512 .f32) (i : S1x512.Idx) :
    divf A (addf (addf (addf B C) D) E) i = Ideal.div (A i) (((B i + C i) + D i) + E i) := rfl

section Four
variable (f : Fin 32 → EReal) (hf : ∀ e, f e ≠ ⊥) (L : FVec Ideal S32x512 .f32) (r : Fin 512) (hL : ∀ e, L (ix2 e r) = f e)

include hL hf in
theorem taken_apply (n : ℕ) (h : n < 32) (e : Fin 32) : taken L n (ix2 e r) = RVal.left f ⟨n, h⟩ e := by
  induction n generalizing e with
  | zero => exact (hL e).trans (congrFun (RVal.left_zero f).symm e)
  | succ n ih => exact round_rest f hf ⟨n, by omega⟩ ⟨n + 1, h⟩ (taken L n) r (ih (by omega)) rfl e

include hL hf in
theorem four_who (k : Fin 4) : who (taken L k.val) (ix2 0 r) = BitVec.ofNat 32 (RVal.at' f (RVal.place k)).val :=
  round_who f hf (RVal.place k) _ r (taken_apply f hf L r hL _ _)

include hL hf in
theorem four_weight (k : Fin 4) : heavy L k.val (ix2 0 r) = RVal.weight f k := by
  have e1 := round_most f (RVal.place k) (taken L k.val) r (taken_apply f hf L r hL _ _)
  have e2 := round_most f 0 L r (taken_apply f hf L r hL 0 (by omega))
  refine (exp_at _ _ _).trans ?_
  rw [e1, e2]
  unfold RVal.weight
  rfl

include hL hf in
theorem four_gate (k : Fin 4) : divf (heavy L k.val) (heavies L) (ix2 0 r) = RVal.gate f k := by
  have e := four_weight f hf L r hL
  refine (part_at _ _ _ _ _ _).trans ?_
  unfold RVal.gate
  rw [Fin.sum_univ_four, e k]
  exact congrArg (Ideal.div (RVal.weight f k))
    (congrArg₂ (· + ·) (congrArg₂ (· + ·) (congrArg₂ (· + ·) (e 0) (e 1)) (e 2)) (e 3))

end Four

/-! ## The rows a step stores -/

section Rows
variable (H : FVec Ideal S512x1024 .f32) (W Wl : Vec Ideal S32x1024 .bf16) (b : Vec Ideal S32x1 .f32)

theorem who0 : k0_pay9 H W Wl b = who (taken (k0_pay7 H W Wl b) 0) := rfl
theorem who1 : k0_pay12 H W Wl b = who (taken (k0_pay7 H W Wl b) 1) := rfl
theorem who2 : k0_pay15 number (k0_pay13 H W Wl b) = who (taken (k0_pay7 H W Wl b) 2) := rfl
theorem who3 : k0_pay18 number (k0_pay13 H W Wl b) = who (taken (k0_pay7 H W Wl b) 3) := rfl

/-- The sum the kernel divides by. -/
abbrev total : FVec Ideal S1x512 .f32 := k0_pay23 number (k0_pay8 H W Wl b) (k0_pay11 H W Wl b) (k0_pay13 H W Wl b)
theorem gate0 : k0_pay29 (k0_pay19 (k0_pay8 H W Wl b)) (total H W Wl b) = divf (heavy (k0_pay7 H W Wl b) 0) (heavies (k0_pay7 H W Wl b)) := rfl
theorem gate1 : k0_pay31 (k0_pay20 (k0_pay8 H W Wl b) (k0_pay11 H W Wl b)) (total H W Wl b)
    = divf (heavy (k0_pay7 H W Wl b) 1) (heavies (k0_pay7 H W Wl b)) := rfl
theorem gate2 : k0_pay34 (k0_pay21 (k0_pay8 H W Wl b) (k0_pay13 H W Wl b)) (total H W Wl b)
    = divf (heavy (k0_pay7 H W Wl b) 2) (heavies (k0_pay7 H W Wl b)) := rfl
theorem gate3 : k0_pay36 (k0_pay22 number (k0_pay8 H W Wl b) (k0_pay13 H W Wl b)) (total H W Wl b)
    = divf (heavy (k0_pay7 H W Wl b) 3) (heavies (k0_pay7 H W Wl b)) := rfl

end Rows

theorem row_elem {α : Type} (V : ℕ → S1x512.Idx → α) (o : ℕ) (x : S1x512.Idx) (y : S4x512.Idx) (h0 : (y 0).val = o + 1 * (x 0).val)
    (h1 : (y 1).val = 0 + 1 * (x 1).val) : V o x = V (y 0).val (ix2 0 (y 1)) := by
  have hx : (x 0).val < 1 := (x 0).isLt
  have e0 : (y 0).val = o := by omega
  rw [e0]
  refine congrArg (V o) (funext fun a => Fin.ext ?_)
  fin_cases a
  · show (x 0).val = 0
    omega
  · show (x 1).val = (y 1).val
    omega

/-- Four rows stored one after the other are a block of four rows. -/
theorem stack {e : EltTy} (V : ℕ → Vec Ideal S1x512 e) (v0 v1 v2 v3 : Vec Ideal S1x512 e) (q0 : v0 = V 0) (q1 : v1 = V 1) (q2 : v2 = V 2)
    (q3 : v3 = V 3) (y : S4x512.Idx)
    (hy : ∃ p ∈ ([⟨Rect.unit ![3, 0] ![1, 512] inb_S4x512_S1x512_3_0, v3⟩, ⟨Rect.unit ![2, 0] ![1, 512] inb_S4x512_S1x512_2_0, v2⟩,
      ⟨Rect.unit ![1, 0] ![1, 512] inb_S4x512_S1x512_1_0, v1⟩, ⟨Rect.unit ![0, 0] ![1, 512] inb_S4x512_S1x512_0_0, v0⟩] :
        List (View.Piece (Elt Ideal) S4x512 e)), y ∈ p.1.set) :
    View.canon ([⟨Rect.unit ![3, 0] ![1, 512] inb_S4x512_S1x512_3_0, v3⟩, ⟨Rect.unit ![2, 0] ![1, 512] inb_S4x512_S1x512_2_0, v2⟩,
      ⟨Rect.unit ![1, 0] ![1, 512] inb_S4x512_S1x512_1_0, v1⟩, ⟨Rect.unit ![0, 0] ![1, 512] inb_S4x512_S1x512_0_0, v0⟩] :
        List (View.Piece (Elt Ideal) S4x512 e)) y = V (y 0).val (ix2 0 (y 1)) := by
  subst q0 q1 q2 q3
  refine View.canon_apply_of_pieces (Val := Elt Ideal) (fun y : S4x512.Idx => V (y 0).val (ix2 0 (y 1))) _ ?_ y hy
  intro p hp x
  rcases List.mem_cons.mp hp with rfl | hp
  · exact row_elem V 3 x ((Rect.unit (s := S4x512) ![3, 0] ![1, 512] inb_S4x512_S1x512_3_0).emb x) rfl rfl
  rcases List.mem_cons.mp hp with rfl | hp
  · exact row_elem V 2 x ((Rect.unit (s := S4x512) ![2, 0] ![1, 512] inb_S4x512_S1x512_2_0).emb x) rfl rfl
  rcases List.mem_cons.mp hp with rfl | hp
  · exact row_elem V 1 x ((Rect.unit (s := S4x512) ![1, 0] ![1, 512] inb_S4x512_S1x512_1_0).emb x) rfl rfl
  rcases List.mem_cons.mp hp with rfl | hp
  · exact row_elem V 0 x ((Rect.unit (s := S4x512) ![0, 0] ![1, 512] inb_S4x512_S1x512_0_0).emb x) rfl rfl
  · exact absurd hp (List.not_mem_nil)

/-! ## The blocks a step leaves -/

/-- The scores of a step's tokens. -/
abbrev S (X0 X1 : Vec Ideal S512x512 .bf16) (X2 : Vec Ideal S512x1024 .f32) (X3 : Vec Ideal S1024x1024 .bf16) (X4 : Vec Ideal S1x1024 .f32)
    (X5 X6 : Vec Ideal S32x1024 .bf16) (X7 : Vec Ideal S32x1 .f32) : FVec Ideal S32x512 .f32 :=
  k0_pay7 (k0_pay6 X0 (OBlock.upper X3) X1 (OBlock.lower X3) X2 X4) X5 X6 X7

section Steps
variable (c : Dev nD) (i : grid0.Coords) (a1 : Memref sig .tc .vmem S512x512 .bf16) (h1 : a1.IsWhole) (a2 : Memref sig .tc .vmem S512x512 .bf16)
  (h2 : a2.IsWhole) (a3 : Memref sig .tc .vmem S512x1024 .f32) (h3 : a3.IsWhole) (a4 : Memref sig .tc .vmem S1024x1024 .bf16)
  (h4 : a4.IsWhole) (a5 : Memref sig .tc .vmem S1x1024 .f32) (h5 : a5.IsWhole) (a6 : Memref sig .tc .vmem S32x1024 .bf16)
  (h6 : a6.IsWhole) (a7 : Memref sig .tc .vmem S32x1024 .bf16) (h7 : a7.IsWhole) (a8 : Memref sig .tc .vmem S32x1 .f32) (h8 : a8.IsWhole)
  (a9 : Memref sig .tc .vmem S512x1024 .f32) (h9 : a9.IsWhole) (a10 : Memref sig .tc .vmem S512x1024 .f32) (h10 : a10.IsWhole)
  (a11 : Memref sig .tc .vmem S4x512 .i32) (h11 : a11.IsWhole) (a12 : Memref sig .tc .vmem S4x512 .f32) (h12 : a12.IsWhole)
  (a13 : Memref sig .tc .vmem S4x512 .i32) (h13 : a13.IsWhole) (a14 : Memref sig .tc .vmem S32x1 .i32) (h14 : a14.IsWhole)
  (a15 : Memref sig .tc .vmem S32x1 .f32) (h15 : a15.IsWhole)
  (X0 X1 : Vec Ideal S512x512 .bf16) (X2 : Vec Ideal S512x1024 .f32) (X3 : Vec Ideal S1024x1024 .bf16) (X4 : Vec Ideal S1x1024 .f32)
  (X5 X6 : Vec Ideal S32x1024 .bf16) (X7 : Vec Ideal S32x1 .f32) (xs : Vec Ideal S32x1 .f32)

/-- The first step, which clears the counts. -/
theorem first_ids (hc : cond0_0 i) (y : S4x512.Idx) : out0_A_10 (F := Ideal) c i a1 h1 a2 h2 a3 h3 a4 h4 a5 h5 a6 h6 a7 h7 a8 h8 a9 h9 a10 h10 a11 h11 a12 h12 a13 h13 a14 h14 a15 h15 hc X0 X1 X2 X3 X4 X5 X6 X7 y
    = who (taken (S X0 X1 X2 X3 X4 X5 X6 X7) (y 0).val) (ix2 0 (y 1)) := by
  unfold out0_A_10
  refine (congrFun (View.read_writes_eq_canon _ _ _ (fun y => cover0_A_10 (y := y) ..)) y).trans ?_
  have hy := cover0_A_10 (F := Ideal) c i a1 h1 a2 h2 a3 h3 a4 h4 a5 h5 a6 h6 a7 h7 a8 h8 a9 h9 a10 h10 a11 h11 a12 h12 a13 h13 a14 h14 a15 h15 hc X0 X1 X2 X3 X4 X5 X6 X7 y
  revert hy
  unfold kernelRun0_A
  dsimp only
  simp only [kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.v50, View.readAt_eq_ld, h1.read_unread, h2.read_unread, h3.read_unread, h4.read_unread, h5.read_unread,
    h6.read_unread, h7.read_unread, h8.read_unread, View.ld_unit_zero (S := S512x512) OBlock.at_zero,
    View.ld_unit_zero (S := S512x1024) OBlock.at_zero, View.ld_unit_zero (S := S1x1024) OBlock.at_zero,
    View.ld_unit_zero (S := S32x1024) OBlock.at_zero, View.ld_unit_zero (S := S32x1) OBlock.at_zero]
  intro hy
  exact stack (fun n => who (taken (S X0 X1 X2 X3 X4 X5 X6 X7) n)) _ _ _ _ (who0 ..) (who1 ..) (who2 ..) (who3 ..) y hy
theorem first_gates (hc : cond0_0 i) (y : S4x512.Idx) : out0_A_11 (F := Ideal) c i a1 h1 a2 h2 a3 h3 a4 h4 a5 h5 a6 h6 a7 h7 a8 h8 a9 h9 a10 h10 a11 h11 a12 h12 a13 h13 a14 h14 a15 h15 hc X0 X1 X2 X3 X4 X5 X6 X7 y
    = divf (heavy (S X0 X1 X2 X3 X4 X5 X6 X7) (y 0).val) (heavies (S X0 X1 X2 X3 X4 X5 X6 X7)) (ix2 0 (y 1)) := by
  unfold out0_A_11
  refine (congrFun (View.read_writes_eq_canon _ _ _ (fun y => cover0_A_11 (y := y) ..)) y).trans ?_
  have hy := cover0_A_11 (F := Ideal) c i a1 h1 a2 h2 a3 h3 a4 h4 a5 h5 a6 h6 a7 h7 a8 h8 a9 h9 a10 h10 a11 h11 a12 h12 a13 h13 a14 h14 a15 h15 hc X0 X1 X2 X3 X4 X5 X6 X7 y
  revert hy
  unfold kernelRun0_A
  dsimp only
  simp only [kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.v50, View.readAt_eq_ld, h1.read_unread, h2.read_unread, h3.read_unread, h4.read_unread, h5.read_unread,
    h6.read_unread, h7.read_unread, h8.read_unread, View.ld_unit_zero (S := S512x512) OBlock.at_zero,
    View.ld_unit_zero (S := S512x1024) OBlock.at_zero, View.ld_unit_zero (S := S1x1024) OBlock.at_zero,
    View.ld_unit_zero (S := S32x1024) OBlock.at_zero, View.ld_unit_zero (S := S32x1) OBlock.at_zero]
  intro hy
  exact stack (fun n => divf (heavy (S X0 X1 X2 X3 X4 X5 X6 X7) n) (heavies (S X0 X1 X2 X3 X4 X5 X6 X7))) _ _ _ _ (gate0 ..) (gate1 ..) (gate2 ..) (gate3 ..) y hy

/-- Every later step. -/
theorem later_ids (hc : ¬cond0_0 i) (y : S4x512.Idx) : out0_B_10 (F := Ideal) c i a1 h1 a2 h2 a3 h3 a4 h4 a5 h5 a6 h6 a7 h7 a8 h8 a9 h9 a10 h10 a11 h11 a12 h12 a13 h13 a14 h14 a15 h15 hc X0 X1 X2 X3 X4 X5 X6 X7 xs y
    = who (taken (S X0 X1 X2 X3 X4 X5 X6 X7) (y 0).val) (ix2 0 (y 1)) := by
  unfold out0_B_10
  refine (congrFun (View.read_writes_eq_canon _ _ _ (fun y => cover0_B_10 (y := y) ..)) y).trans ?_
  have hy := cover0_B_10 (F := Ideal) c i a1 h1 a2 h2 a3 h3 a4 h4 a5 h5 a6 h6 a7 h7 a8 h8 a9 h9 a10 h10 a11 h11 a12 h12 a13 h13 a14 h14 a15 h15 hc X0 X1 X2 X3 X4 X5 X6 X7 xs y
  revert hy
  unfold kernelRun0_B
  dsimp only
  simp only [kernelRun0_B.sl.r_12, kernelRun0_B.sl.r_11, kernelRun0_B.sl.r_10, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.v50, View.readAt_eq_ld, h1.read_unread, h2.read_unread, h3.read_unread, h4.read_unread, h5.read_unread,
    h6.read_unread, h7.read_unread, h8.read_unread, View.ld_unit_zero (S := S512x512) OBlock.at_zero,
    View.ld_unit_zero (S := S512x1024) OBlock.at_zero, View.ld_unit_zero (S := S1x1024) OBlock.at_zero,
    View.ld_unit_zero (S := S32x1024) OBlock.at_zero, View.ld_unit_zero (S := S32x1) OBlock.at_zero]
  intro hy
  exact stack (fun n => who (taken (S X0 X1 X2 X3 X4 X5 X6 X7) n)) _ _ _ _ (who0 ..) (who1 ..) (who2 ..) (who3 ..) y hy
theorem later_gates (hc : ¬cond0_0 i) (y : S4x512.Idx) : out0_B_11 (F := Ideal) c i a1 h1 a2 h2 a3 h3 a4 h4 a5 h5 a6 h6 a7 h7 a8 h8 a9 h9 a10 h10 a11 h11 a12 h12 a13 h13 a14 h14 a15 h15 hc X0 X1 X2 X3 X4 X5 X6 X7 xs y
    = divf (heavy (S X0 X1 X2 X3 X4 X5 X6 X7) (y 0).val) (heavies (S X0 X1 X2 X3 X4 X5 X6 X7)) (ix2 0 (y 1)) := by
  unfold out0_B_11
  refine (congrFun (View.read_writes_eq_canon _ _ _ (fun y => cover0_B_11 (y := y) ..)) y).trans ?_
  have hy := cover0_B_11 (F := Ideal) c i a1 h1 a2 h2 a3 h3 a4 h4 a5 h5 a6 h6 a7 h7 a8 h8 a9 h9 a10 h10 a11 h11 a12 h12 a13 h13 a14 h14 a15 h15 hc X0 X1 X2 X3 X4 X5 X6 X7 xs y
  revert hy
  unfold kernelRun0_B
  dsimp only
  simp only [kernelRun0_B.sl.r_12, kernelRun0_B.sl.r_11, kernelRun0_B.sl.r_10, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.v50, View.readAt_eq_ld, h1.read_unread, h2.read_unread, h3.read_unread, h4.read_unread, h5.read_unread,
    h6.read_unread, h7.read_unread, h8.read_unread, View.ld_unit_zero (S := S512x512) OBlock.at_zero,
    View.ld_unit_zero (S := S512x1024) OBlock.at_zero, View.ld_unit_zero (S := S1x1024) OBlock.at_zero,
    View.ld_unit_zero (S := S32x1024) OBlock.at_zero, View.ld_unit_zero (S := S32x1) OBlock.at_zero]
  intro hy
  exact stack (fun n => divf (heavy (S X0 X1 X2 X3 X4 X5 X6 X7) n) (heavies (S X0 X1 X2 X3 X4 X5 X6 X7))) _ _ _ _ (gate0 ..) (gate1 ..) (gate2 ..) (gate3 ..) y hy

end Steps

end Cert.RBlock
end
-- ==== Proof.RArr.lean ====
/-
  The router's two arrays after the run: every column holds the four experts of a token, and their weights. The scores are those
  of the arguments where gains, weights and bias are finite: the kernel splits rows and weights in two parts, and the second is then zero.
-/
module

public import proofs.«01_k».proof.Proof.RBlock
public import proofs.«01_k».proof.Proof.OArr

@[expose] public section

set_option maxRecDepth 16384

noncomputable section

namespace Cert.RArr

open Cert.KernelRIdeal Cert.KernelRIdeal.Gen Idealize.ShloMosaic Idealize.ShloMosaic.TcCoe Idealize.ShloMosaic.ValueIdx
open Cert.RBlock
open Cert.Soft (Fin')
open Cert.IArr (at_block)
open scoped BigOperators

variable (m : (ℓ : Loc nD τ sig) → Buf (Elt Ideal) ℓ) (c : Dev nD)

/-- The gains, the router's weights and its bias are finite. -/
structure FinArgs : Prop where
  h4 : ∀ i, Fin' (m ((c : Thread nD τ).loc main_arg4) i)
  h5 : ∀ i, Fin' (m ((c : Thread nD τ).loc main_arg5) i)
  h6 : ∀ i, Fin' (m ((c : Thread nD τ).loc main_arg6) i)

/-! ## The arrays the grid reads -/

/-- The router's weights, one row per expert. -/
abbrev turned (u : Vec Ideal S1x1024x32 .f32) : FVec Ideal S32x1024 .f32 :=
  transpose S32x1024 [1, 0] (shapeCast S1024x32 u shapeCasts_S1x1024x32_S1024x32) transposes_S1024x32_S32x1024_1_0
theorem turned_at (u : Vec Ideal S1x1024x32 .f32) (e : Fin 32) (k : Fin 1024) : turned u (ix2 e k) = u (ix3 0 k e) := by
  refine (transpose_apply [1, 0] _ transposes_S1024x32_S32x1024_1_0 (ix2 e k) (ix2 k e) (fun b => by fin_cases b <;> rfl)).trans ?_
  refine shapeCast_apply _ _ _ _ ?_
  rw [Shape.rowMajor_val_two, Shape.rowMajor_val_three]; simp [ix3, ix2]
theorem bias_at (u : Vec Ideal S1x32 .f32) (e : Fin 32) :
    broadcastInDim S32x1 ![0] bcast_S32_S32x1_0 (shapeCast S32 u shapeCasts_S1x32_S32) (ix2 e 0) = u (ix2 0 e) := by
  refine shapeCast_apply u shapeCasts_S1x32_S32 (ix1 e) (ix2 0 e) ?_
  rw [Shape.rowMajor_val_two, Shape.rowMajor_val_one]; simp [ix2, ix1]

/-! ## The blocks at a grid point -/

/-- A grid point holds 512 tokens. -/
abbrev tok (t : Fin cfg0.N) (r : Fin 512) : Fin 32768 := ⟨t.val * 512 + r.val, by have h : t.val < 64 := t.isLt; omega⟩

theorem ind5 : ∀ t : Fin cfg0.N, (cfg0.win 5).index t 0 = 0 ∧ (cfg0.win 5).index t 1 = 0 := by decide +kernel
theorem ind6 : ∀ t : Fin cfg0.N, (cfg0.win 6).index t 0 = 0 ∧ (cfg0.win 6).index t 1 = 0 := by decide +kernel
theorem ind7 : ∀ t : Fin cfg0.N, (cfg0.win 7).index t 0 = 0 ∧ (cfg0.win 7).index t 1 = 0 := by decide +kernel
theorem ind10 : ∀ t : Fin cfg0.N, (cfg0.win 10).index t 0 = 0 ∧ (cfg0.win 10).index t 1 = t.val := by decide +kernel
theorem ind11 : ∀ t : Fin cfg0.N, (cfg0.win 11).index t 0 = 0 ∧ (cfg0.win 11).index t 1 = t.val := by decide +kernel

theorem blk5 (t : Fin cfg0.N) (e : Fin 32) (k : Fin 1024) : iblk m c 5 t (ix2 e k) = m ((c : Thread nD τ).loc main_arg5) (ix3 0 k e) := by
  show V m c main_v3 _ = _
  exact (congrArg (V m c main_v3) (at_block ((cfg0.win 5).index t 0) ((cfg0.win 5).index t 1) e k rfl rfl e k
    (by rw [(ind5 t).1]; omega) (by rw [(ind5 t).2]; omega))).trans (turned_at (m ((c : Thread nD τ).loc main_arg5)) e k)
theorem blk6 (h : ∀ i, Fin' (m ((c : Thread nD τ).loc main_arg5) i)) (t : Fin cfg0.N) (e : Fin 32) (k : Fin 1024) : iblk m c 6 t (ix2 e k) = (0 : EReal) := by
  show V m c main_v6 _ = _
  have hT : turned (m ((c : Thread nD τ).loc main_arg5)) (ix2 e k) - turned (m ((c : Thread nD τ).loc main_arg5)) (ix2 e k) = (0 : EReal) := by
    rw [turned_at]
    exact EReal.sub_self (h _).2 (h _).1
  exact (congrArg (V m c main_v6) (at_block ((cfg0.win 6).index t 0) ((cfg0.win 6).index t 1) e k rfl rfl e k
    (by rw [(ind6 t).1]; omega) (by rw [(ind6 t).2]; omega))).trans hT
theorem blk7 (t : Fin cfg0.N) (e : Fin 32) : iblk m c 7 t (ix2 e 0) = m ((c : Thread nD τ).loc main_arg6) (ix2 0 e) := by
  show V m c main_v14 _ = _
  exact (congrArg (V m c main_v14) (at_block (n := 32) (k := 1) ((cfg0.win 7).index t 0) ((cfg0.win 7).index t 1) e 0 rfl rfl e 0
    (by rw [(ind7 t).1]; omega) (by rw [(ind7 t).2]; rfl))).trans (bias_at (m ((c : Thread nD τ).loc main_arg6)) e)

/-- The normalized rows: what the output projection's own proof finds. -/
theorem rows_blk (t : Fin cfg0.N) (r : Fin 512) (k : Fin 1024) :
    k0_pay6 (iblk m c 0 t) (OBlock.upper (iblk m c 3 t)) (iblk m c 1 t) (OBlock.lower (iblk m c 3 t)) (iblk m c 2 t) (iblk m c 4 t) (ix2 r k)
      = OVal.norms (m ((c : Thread nD τ).loc main_arg0)) (m ((c : Thread nD τ).loc main_arg1)) (m ((c : Thread nD τ).loc main_arg2))
          (m ((c : Thread nD τ).loc main_arg3)) (m ((c : Thread nD τ).loc main_arg4)) (ix2 (tok t r) k) :=
  OArr.norms_blk m c t r k (ix2 (tok t r) k) rfl rfl

/-! ## The scores of a block -/

section Finite
variable {m c} (h : FinArgs m c)

/-- The arguments' scores of a token. -/
abbrev scoresM (m : (ℓ : Loc nD τ sig) → Buf (Elt Ideal) ℓ) (c : Dev nD) (s : Fin 32768) : Fin 32 → EReal :=
  RVal.scores (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) s

/-- The block's scores, as the kernel finds them. -/
abbrev SM (m : (ℓ : Loc nD τ sig) → Buf (Elt Ideal) ℓ) (c : Dev nD) (t : Fin cfg0.N) : FVec Ideal S32x512 .f32 :=
  S (iblk m c 0 t) (iblk m c 1 t) (iblk m c 2 t) (iblk m c 3 t) (iblk m c 4 t) (iblk m c 5 t) (iblk m c 6 t) (iblk m c 7 t)

include h in
theorem norms_fin (i : S32768x1024.Idx) : Fin' (OVal.norms (m ((c : Thread nD τ).loc main_arg0)) (m ((c : Thread nD τ).loc main_arg1))
    (m ((c : Thread nD τ).loc main_arg2)) (m ((c : Thread nD τ).loc main_arg3)) (m ((c : Thread nD τ).loc main_arg4)) i) :=
  RVal.norms_fin _ _ _ _ h.h4 i
include h in
theorem scores_fin (s : Fin 32768) (e : Fin 32) : scoresM m c s e ≠ ⊥ :=
  (RVal.scores_fin _ _ _ _ h.h4 h.h5 h.h6 s e).1

include h in
theorem scores_blk (t : Fin cfg0.N) (r : Fin 512) (e : Fin 32) : SM m c t (ix2 e r) = scoresM m c (tok t r) e := by
  refine (scores_apply _ _ _ _ e r (fun k => ?_) (blk6 m c h.h5 t e)).trans ?_
  · rw [rows_blk]
    exact norms_fin h _
  · refine congrArg₂ (· + ·) (Finset.sum_congr rfl fun k _ => ?_) (blk7 m c t e)
    exact congrArg₂ (· * ·) (rows_blk m c t r k) (blk5 m c t e k)

end Finite

/-! ## The arrays after the run -/

theorem split (y : S4x512.Idx) : y = ix2 (y 0) (y 1) := by funext a; fin_cases a <;> rfl

/-- The grid point whose blocks hold a token's column. -/
abbrev tOf (i : S4x32768.Idx) : Fin cfg0.N := ⟨(i 1).val / 512, by have h : (i 1).val < 32768 := (i 1).isLt; show _ < 64; omega⟩
theorem row_in (i : S4x32768.Idx) (j : ℕ) (e : j = 0) : j * 4 ≤ (i 0).val ∧ (i 0).val < j * 4 + 4 := by
  have h : (i 0).val < 4 := (i 0).isLt
  subst e
  omega
theorem col_in (i : S4x32768.Idx) (j : ℕ) (e : j = (tOf i).val) : j * 512 ≤ (i 1).val ∧ (i 1).val < j * 512 + 512 := by
  have e' : j = (i 1).val / 512 := e
  omega

/-- The experts of every token. -/
def G_ids : Buf (Elt Ideal) ((c : Thread nD τ).loc main_v15_2) := fun i : S4x32768.Idx =>
  RVal.ids (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) i
/-- Their weights. -/
def G_gates : Buf (Elt Ideal) ((c : Thread nD τ).loc main_v15_3) := fun i : S4x32768.Idx =>
  RVal.gates (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) i

/-- The block of experts a step leaves. -/
def idsB (t : Fin cfg0.N) : Vec Ideal S4x512 .i32 := fun y => who (taken (SM m c t) (y 0).val) (ix2 0 (y 1))
/-- The block of weights a step leaves. -/
def gatesB (t : Fin cfg0.N) : FVec Ideal S4x512 .f32 := fun y => divf (heavy (SM m c t) (y 0).val) (heavies (SM m c t)) (ix2 0 (y 1))

/-- A step's blocks are the same whichever of the two cases the step is. -/
theorem step_ids (t : Fin cfg0.N) : (dats m 0 c).flushed 10 t = (cfg0.win 10).cut (grid0.coords t) (idsB m c t) := by
  by_cases h : t.val % 64 = 0
  · exact (Value.flushed10_A m c t h).trans (congrArg ((cfg0.win 10).cut (grid0.coords t)) (funext fun y => first_ids ..))
  · exact (Value.flushed10_B m c t h).trans (congrArg ((cfg0.win 10).cut (grid0.coords t)) (funext fun y => later_ids ..))
theorem step_gates (t : Fin cfg0.N) : (dats m 0 c).flushed 11 t = (cfg0.win 11).cut (grid0.coords t) (gatesB m c t) := by
  by_cases h : t.val % 64 = 0
  · exact (Value.flushed11_A m c t h).trans (congrArg ((cfg0.win 11).cut (grid0.coords t)) (funext fun y => first_gates ..))
  · exact (Value.flushed11_B m c t h).trans (congrArg ((cfg0.win 11).cut (grid0.coords t)) (funext fun y => later_gates ..))

section Finite
variable {m c} (h : FinArgs m c)

include h in
theorem ids_blk (t : Fin cfg0.N) (k : Fin 4) (r : Fin 512) (i : S4x32768.Idx) (h0 : (i 0).val = k.val) (h1 : (i 1).val = t.val * 512 + r.val) :
    idsB m c t (ix2 k r) = G_ids m c i := by
  have e0 : (i 0 : Fin 4) = k := Fin.ext h0
  have e1 : (i 1 : Fin 32768) = tok t r := Fin.ext h1
  unfold G_ids RVal.ids
  rw [e0, e1]
  exact four_who (scoresM m c (tok t r)) (scores_fin h _) (SM m c t) r (scores_blk h t r) k
include h in
theorem gates_blk (t : Fin cfg0.N) (k : Fin 4) (r : Fin 512) (i : S4x32768.Idx) (h0 : (i 0).val = k.val) (h1 : (i 1).val = t.val * 512 + r.val) :
    gatesB m c t (ix2 k r) = G_gates m c i := by
  have e0 : (i 0 : Fin 4) = k := Fin.ext h0
  have e1 : (i 1 : Fin 32768) = tok t r := Fin.ext h1
  unfold G_gates RVal.gates
  rw [e0, e1]
  exact four_gate (scoresM m c (tok t r)) (scores_fin h _) (SM m c t) r (scores_blk h t r) k

include h in
theorem flushed_ids (t : Fin cfg0.N) : (dats m 0 c).flushed 10 t = ((cfg0.win 10).blk t).view.read (Elt Ideal) (G_ids m c) := by
  rw [step_ids]
  suffices H : ∀ y : S4x512.Idx, idsB m c t y = ((cfg0.win 10).blk t).view.read (Elt Ideal) (G_ids m c) y from funext H
  intro y
  refine (congrArg (idsB m c t) (split y)).trans ?_
  refine ids_blk h t (y 0) (y 1) _ ?_ ?_
  · show (cfg0.win 10).index t 0 * 4 + 1 * (y 0).val = _
    rw [(ind10 t).1]; omega
  · show (cfg0.win 10).index t 1 * 512 + 1 * (y 1).val = _
    rw [(ind10 t).2]; omega
include h in
theorem flushed_gates (t : Fin cfg0.N) : (dats m 0 c).flushed 11 t = ((cfg0.win 11).blk t).view.read (Elt Ideal) (G_gates m c) := by
  rw [step_gates]
  suffices H : ∀ y : S4x512.Idx, gatesB m c t y = ((cfg0.win 11).blk t).view.read (Elt Ideal) (G_gates m c) y from funext H
  intro y
  refine (congrArg (gatesB m c t) (split y)).trans ?_
  refine gates_blk h t (y 0) (y 1) _ ?_ ?_
  · show (cfg0.win 11).index t 0 * 4 + 1 * (y 0).val = _
    rw [(ind11 t).1]; omega
  · show (cfg0.win 11).index t 1 * 512 + 1 * (y 1).val = _
    rw [(ind11 t).2]; omega

end Finite

theorem cover_ids (i : S4x32768.Idx) : ∃ t : Fin cfg0.N, (cfg0.win 10).flush t = true ∧ i ∈ ((cfg0.win 10).blk t).view.set := by
  refine ⟨tOf i, flush0_10 _, ?_⟩
  show i ∈ ((View.whole main_v15_2).slice (win0_10.rect (tOf i))).set
  rw [View.set_slice_whole, Rect.mem_set_unit]
  intro a
  fin_cases a
  exacts [row_in i _ (ind10 (tOf i)).1, col_in i _ (ind10 (tOf i)).2]
theorem cover_gates (i : S4x32768.Idx) : ∃ t : Fin cfg0.N, (cfg0.win 11).flush t = true ∧ i ∈ ((cfg0.win 11).blk t).view.set := by
  refine ⟨tOf i, flush0_11 _, ?_⟩
  show i ∈ ((View.whole main_v15_3).slice (win0_11.rect (tOf i))).set
  rw [View.set_slice_whole, Rect.mem_set_unit]
  intro a
  fin_cases a
  exacts [row_in i _ (ind11 (tOf i)).1, col_in i _ (ind11 (tOf i)).2]

/-- After the run this array holds the experts. -/
theorem final_ids {m c} (h : FinArgs m c) : (dats m 0 c).arrAt 10 cfg0.N = G_ids m c :=
  (dats m 0 c).arrAt_eq_of_cover 10 (G_ids m c) (fun t _ => flushed_ids h t) cover_ids
/-- After the run this array holds the weights. -/
theorem final_gates {m c} (h : FinArgs m c) : (dats m 0 c).arrAt 11 cfg0.N = G_gates m c :=
  (dats m 0 c).arrAt_eq_of_cover 11 (G_gates m c) (fun t _ => flushed_gates h t) cover_gates

end Cert.RArr
end
-- ==== Proof.RRef.lean ====
/-
  The router's reference, read element by element.
-/
module

public import proofs.«01_k».proof.Proof.ORef
public import proofs.«01_k».proof.Proof.RVal
public import proofs.«01_k».proof.Proof.Gen.ReferenceRIdeal.Read

@[expose] public section

set_option maxRecDepth 16384

noncomputable section

namespace Cert.RRef

open Cert.ReferenceRIdeal Cert.ReferenceRIdeal.Gen Cert.ReferenceRIdeal.Read Idealize.ShloMosaic Idealize.ShloMosaic.TcCoe Idealize.ShloMosaic.ValueIdx
open Cert.ARef (zero_sum neg_inf)
open scoped BigOperators

/-! ## The four greatest of a row -/

section Top
variable (X : S32768x32.Idx → EReal) (s : Fin 32768)

/-- The row that a token's scores are. -/
abbrev line (e : Fin 32) : EReal := X (ix2 s e)

theorem along_row (k e : Fin 32) : (ix2 s k : S32768x32.Idx).along 1 e = ix2 s e := by
  funext a
  fin_cases a <;> rfl

/-- The reference's order of a row's places. -/
theorem order (k : Fin 32) : sortedFrom (fun e e' : Fin 32 =>
      Ideal.cmpTotal .gt (X ((ix2 s k : S32768x32.Idx).along 1 e)) (X ((ix2 s k : S32768x32.Idx).along 1 e')) == 1#1) k
    = RVal.at' (line X s) k := by
  unfold RVal.at'
  refine congrFun (congrArg sortedFrom (funext fun e => funext fun e' => ?_)) k
  rw [along_row, along_row]
  show (BitVec.ofBool (decide (X (ix2 s e') < X (ix2 s e))) == 1#1) = decide (X (ix2 s e') < X (ix2 s e))
  cases decide (X (ix2 s e') < X (ix2 s e)) <;> rfl

theorem four_value (k : Fin 4) :
    (Host.topK S32768x4 1 (FloatOps.cmpfTotal (F := Ideal) (φ := .f32) .gt) X sliceFits_S32768x32_S32768x4).1 (ix2 s k)
      = X (ix2 s (RVal.at' (line X s) (RVal.place k))) := by
  unfold Host.topK Host.sort2
  dsimp only
  simp only [dif_pos (show 1 < S32768x32.rank by decide)]
  refine (extractStridedSlice_apply (fun _ => 0) _ sliceFits_S32768x32_S32768x4 (ix2 s k) (ix2 s (RVal.place k)) (fun a => ?_)).trans ?_
  · fin_cases a <;> exact (Nat.zero_add _).symm
  · exact congrArg X ((along_row s _ _).trans (congrArg (ix2 s) (order X s (RVal.place k))))

theorem four_number (k : Fin 4) :
    (Host.topK S32768x4 1 (FloatOps.cmpfTotal (F := Ideal) (φ := .f32) .gt) X sliceFits_S32768x32_S32768x4).2 (ix2 s k)
      = BitVec.ofNat 32 (RVal.at' (line X s) (RVal.place k)).val := by
  unfold Host.topK Host.sort2
  dsimp only
  simp only [dif_pos (show 1 < S32768x32.rank by decide)]
  refine (extractStridedSlice_apply (fun _ => 0) _ sliceFits_S32768x32_S32768x4 (ix2 s k) (ix2 s (RVal.place k)) (fun a => ?_)).trans ?_
  · fin_cases a <;> exact (Nat.zero_add _).symm
  · refine (congrArg (iotaInDim S32768x32 32 1) ((along_row s _ _).trans (congrArg (ix2 s) (order X s (RVal.place k))))).trans ?_
    generalize RVal.at' (line X s) (RVal.place k) = e
    rfl

end Top

variable (a b : (⟨S8x4096x512, .bf16⟩ : BufTy).Contents (Elt Ideal)) (x : (⟨S8x4096x1024, .f32⟩ : BufTy).Contents (Elt Ideal))
  (w : (⟨S1x1024x1024, .f32⟩ : BufTy).Contents (Elt Ideal)) (g : (⟨S1x1024, .f32⟩ : BufTy).Contents (Elt Ideal))
  (rw' : (⟨S1x1024x32, .f32⟩ : BufTy).Contents (Elt Ideal)) (rb : (⟨S1x32, .f32⟩ : BufTy).Contents (Elt Ideal))

theorem norms (i : S32768x1024.Idx) : val_main_v21 (F := Ideal) a b x w g i = OVal.norms a b x w g i := ORef.norms a b x w g i

/-- A token's score of an expert. -/
theorem score_apply (s : Fin 32768) (e : Fin 32) : val_main_v27 (F := Ideal) a b x w g rw' rb (ix2 s e) = RVal.scores a b x w g rw' rb s e := by
  rw [val_main_v27_apply, val_main_v23_apply, val_main_v26_apply, val_main_v25_apply, val_main_v24_apply]
  have hb : idx_main_v24 (idx_main_v25 (idx_main_v26 (ix2 s e))) = ix2 0 e := by
    funext z
    fin_cases z
    · rfl
    · exact Fin.ext (Nat.mod_eq_of_lt e.isLt)
  rw [hb]
  refine congrArg (· + rb (ix2 0 e)) (Finset.sum_congr rfl fun k _ => ?_)
  have hl : lidx_main_v23 (ix2 s e) k = ix2 s k := by funext z; fin_cases z <;> rfl
  have hr : idx_main_v22 (ridx_main_v23 (ix2 s e) k) = ix3 0 k e := by
    funext z
    apply Fin.ext
    fin_cases z
    · rfl
    · show (k.val * 32 + e.val) / 32 % 1024 = k.val
      omega
    · show (k.val * 32 + e.val) % 32 = e.val
      omega
  rw [val_main_v22_apply, hl, hr, norms]

theorem line_eq (s : Fin 32768) : line (val_main_v27 (F := Ideal) a b x w g rw' rb) s = RVal.scores a b x w g rw' rb s :=
  funext (score_apply a b x w g rw' rb s)

theorem value_apply (s : Fin 32768) (k : Fin 4) : val_main_values (F := Ideal) a b x w g rw' rb (ix2 s k)
    = RVal.scores a b x w g rw' rb s (RVal.at' (RVal.scores a b x w g rw' rb s) (RVal.place k)) := by
  unfold val_main_values
  refine (four_value _ s k).trans ?_
  rw [line_eq, score_apply]

theorem number_apply (s : Fin 32768) (k : Fin 4) : val_main_indices (F := Ideal) a b x w g rw' rb (ix2 s k)
    = BitVec.ofNat 32 (RVal.at' (RVal.scores a b x w g rw' rb s) (RVal.place k)).val := by
  unfold val_main_indices
  refine (four_number _ s k).trans ?_
  rw [line_eq]

/-! ## The softmax of the four -/

/-- The greatest of a token's four. -/
theorem top_apply (s : Fin 32768) : val_main_v30 (F := Ideal) a b x w g rw' rb (ix1 s)
    = RVal.scores a b x w g rw' rb s (RVal.at' (RVal.scores a b x w g rw' rb s) 0) := by
  rw [val_main_v30_apply]
  have e1 : val_main_v28 (F := Ideal) a b x w g rw' rb (ix1 s)
      = RVal.scores a b x w g rw' rb s (RVal.at' (RVal.scores a b x w g rw' rb s) 0) := by
    rw [← RVal.four_top (RVal.scores a b x w g rw' rb s)]
    unfold val_main_v28
    refine (Host.reduce_eq_fold_single (FloatOps.maximumf (F := Ideal) (φ := .f32)) _ _ reducesTo_S32768x4_S32768_d1 (by decide) h_S_ (ix1 s)).trans ?_
    unfold Soft.top
    refine congrArg₂ (fun b f => Finset.fold max b f Finset.univ) neg_inf (funext fun k => ?_)
    refine Eq.trans (congrArg (val_main_values (F := Ideal) a b x w g rw' rb) (funext fun z => ?_)) (value_apply a b x w g rw' rb s k)
    fin_cases z <;> rfl
  have e2 : val_main_v29 (F := Ideal) (ix1 s) = (⊥ : EReal) := by
    rw [val_main_v29_apply]; exact neg_inf
  rw [e1, e2]
  exact max_eq_right bot_le

theorem weight_apply (s : Fin 32768) (k : Fin 4) : val_main_v34 (F := Ideal) a b x w g rw' rb (ix2 s k)
    = RVal.weight (RVal.scores a b x w g rw' rb s) k := by
  rw [val_main_v34_apply, val_main_v33_apply, val_main_v32_apply, val_main_v31_apply, value_apply]
  have hi : idx_main_v31 (idx_main_v32 (ix2 s k)) = ix1 s := by funext z; fin_cases z <;> rfl
  rw [hi, top_apply]
  rfl

theorem total_apply (s : Fin 32768) : val_main_v35 (F := Ideal) a b x w g rw' rb (ix1 s)
    = ∑ k, RVal.weight (RVal.scores a b x w g rw' rb s) k := by
  rw [val_main_v35_apply]
  refine (zero_sum _ (by rfl) _).trans (Finset.sum_congr rfl fun k _ => ?_)
  have hi : idx_main_v35 (ix1 s) k = ix2 s k := by funext z; fin_cases z <;> rfl
  rw [hi, weight_apply]

theorem gate_apply (s : Fin 32768) (k : Fin 4) : val_main_v38 (F := Ideal) a b x w g rw' rb (ix2 s k)
    = RVal.gate (RVal.scores a b x w g rw' rb s) k := by
  rw [val_main_v38_apply, val_main_v37_apply, val_main_v36_apply, weight_apply]
  have hi : idx_main_v36 (idx_main_v37 (ix2 s k)) = ix1 s := by funext z; fin_cases z <;> rfl
  rw [hi, total_apply]
  rfl

/-! ## The two results -/

theorem ids (i : S4x32768.Idx) : val_main_v39 (F := Ideal) a b x w g rw' rb i = RVal.ids a b x w g rw' rb i := by
  rw [val_main_v39_apply]
  have hi : idx_main_v39 i = ix2 (i 1) (i 0) := by funext z; fin_cases z <;> rfl
  rw [hi]
  exact number_apply a b x w g rw' rb (i 1) (i 0)
theorem gates (i : S4x32768.Idx) : val_main_v40 (F := Ideal) a b x w g rw' rb i = RVal.gates a b x w g rw' rb i := by
  rw [val_main_v40_apply]
  have hi : idx_main_v40 i = ix2 (i 1) (i 0) := by funext z; fin_cases z <;> rfl
  rw [hi]
  exact gate_apply a b x w g rw' rb (i 1) (i 0)

end Cert.RRef
end
-- ==== Proof.RClaim.lean ====
/-
  The router: the kernel and the reference, run from the same arguments, choose the same experts and weigh them alike, where the
  gains, the router's weights and its bias are finite.
-/
module

public import proofs.«01_k».proof.Proof.RArr
public import proofs.«01_k».proof.Proof.RRef
public import proofs.«01_k».proof.Proof.Finite
public import proofs.«01_k».proof.Proof.Gen.ReferenceRIdeal.Run
public import proofs.«01_k».proof.Defs

@[expose] public section

set_option maxRecDepth 16384

noncomputable section

namespace Cert.RClaim

open Idealize.ShloMosaic Idealize.ShloMosaic.TcCoe Idealize.ShloMosaic.ValueIdx Idealize.SL.Sem

/-- The reference runs and leaves its arguments as they were, from any memory. -/
theorem reference_runs : quiescent_ReferenceRIdeal := fun m g _ =>
  (θ_run Cert.ReferenceRIdeal.defs _ _).mono
    (fun r h => ⟨fun c => (h c).2.2, sem_eq_zero_of_no_sems (by decide) r.2⟩) (Cert.ReferenceRIdeal.Value.run (F := Ideal) m g)

instance : Subsingleton Cert.Pre_finite_r.S_.Idx := ⟨fun a b => funext fun i => i.elim0⟩

open Cert.KernelRIdeal in
/-- What the precondition says of each argument. -/
theorem finArgs [Cert.Pre_finite_r.Facts] {m : (ℓ : Loc nD τ sig) → Buf (Elt Ideal) ℓ} (h : Pre_KernelRIdeal_finite_r m) (c : Dev nD) : RArr.FinArgs m c := by
  have e := congrFun (h c) ix0
  obtain ⟨e, e6⟩ := Finite.andi_one _ _ _ e
  obtain ⟨e4, e5⟩ := Finite.andi_one _ _ _ e
  exact ⟨Finite.fin_of_all _ _ (fun _ => rfl) _ _ _ _ e4, Finite.fin_of_all _ _ (fun _ => rfl) _ _ _ _ e5,
    Finite.fin_of_all _ _ (fun _ => rfl) _ _ _ _ e6⟩

open Cert.KernelRIdeal in
section
variable {m : (ℓ : Loc nD τ sig) → Buf (Elt Ideal) ℓ} {c : Dev nD}
  {a b : (⟨S8x4096x512, .bf16⟩ : BufTy).Contents (Elt Ideal)} {x : (⟨S8x4096x1024, .f32⟩ : BufTy).Contents (Elt Ideal)}
  {w : (⟨S1x1024x1024, .f32⟩ : BufTy).Contents (Elt Ideal)} {g : (⟨S1x1024, .f32⟩ : BufTy).Contents (Elt Ideal)}
  {u : (⟨S1x1024x32, .f32⟩ : BufTy).Contents (Elt Ideal)} {v : (⟨S1x32, .f32⟩ : BufTy).Contents (Elt Ideal)}
  (e0 : a = m ((c : Thread nD τ).loc main_arg0)) (e1 : b = m ((c : Thread nD τ).loc main_arg1)) (e2 : x = m ((c : Thread nD τ).loc main_arg2))
  (e3 : w = m ((c : Thread nD τ).loc main_arg3)) (e4 : g = m ((c : Thread nD τ).loc main_arg4)) (e5 : u = m ((c : Thread nD τ).loc main_arg5))
  (e6 : v = m ((c : Thread nD τ).loc main_arg6))
include e0 e1 e2 e3 e4 e5 e6

theorem same_ids : Cert.ReferenceRIdeal.Read.val_main_v39 (F := Ideal) a b x w g u v = RArr.G_ids m c := by
  subst e0 e1 e2 e3 e4 e5 e6
  exact funext (RRef.ids _ _ _ _ _ _ _)
theorem same_gates : Cert.ReferenceRIdeal.Read.val_main_v40 (F := Ideal) a b x w g u v = RArr.G_gates m c := by
  subst e0 e1 e2 e3 e4 e5 e6
  exact funext (RRef.gates _ _ _ _ _ _ _)
end

/-- Where the precondition holds, the kernel's experts and weights are the reference's. -/
theorem algebraic [Cert.Pre_finite_r.Facts] : algebraic_KernelRIdeal_ReferenceRIdeal_pre_finite_r := by
  intro m g m' g' hp he
  refine ⟨fun c => RArr.G_ids m c, fun c => RArr.G_gates m c, ?_, ?_⟩
  · exact (θ_run _ _ _).mono (fun r h c => ⟨(h c).2.2.1.trans (RArr.final_ids (finArgs hp c)),
      (h c).2.2.2.1.trans (RArr.final_gates (finArgs hp c)), (h c).2.2.2.2.2.2⟩) (Cert.KernelRIdeal.Value.run_blocks m g)
  · refine (θ_run _ _ _).mono (fun r h c => ?_) (Cert.ReferenceRIdeal.Value.run (F := Ideal) m' g')
    obtain ⟨e0, e1, e2, e3, e4, e5, e6⟩ := he c
    exact ⟨(h c).1.trans ((Cert.ReferenceRIdeal.Read.val_main_v39_eq _ _ _ _ _ _ _).trans (same_ids e0 e1 e2 e3 e4 e5 e6)),
      (h c).2.1.trans ((Cert.ReferenceRIdeal.Read.val_main_v40_eq m' c).trans (same_gates e0 e1 e2 e3 e4 e5 e6)), (h c).2.2⟩

end Cert.RClaim
end
-- ==== Proof.lean ====
/-
  The claims about the input projection, the two attention calls, the output projection with its router and the experts' call, put together
  from the modules beside this file: the runs of the kernels and of the references, that the printed kernels lose nothing where they are read over the extended reals, and that each
  kernel's result is its reference's.
-/
module

public import proofs.«01_k».proof.Defs
public import proofs.«01_k».proof.Proof.Gen.KernelA
public import proofs.«01_k».proof.Proof.Gen.KernelA.Skeleton
public import proofs.«01_k».proof.Proof.Gen.KernelA.Launch
public import proofs.«01_k».proof.Proof.Gen.KernelA.Points
public import proofs.«01_k».proof.Proof.Gen.KernelA.Frame
public import proofs.«01_k».proof.Proof.Gen.KernelAIdeal
public import proofs.«01_k».proof.Proof.Gen.KernelAIdeal.Skeleton
public import proofs.«01_k».proof.Proof.Gen.KernelAIdeal.Launch
public import proofs.«01_k».proof.Proof.Gen.KernelAIdeal.Points
public import proofs.«01_k».proof.Proof.Gen.KernelAIdeal.Frame
public import proofs.«01_k».proof.Proof.Gen.ReferenceAIdeal
public import proofs.«01_k».proof.Proof.Gen.KernelB
public import proofs.«01_k».proof.Proof.Gen.KernelB.Skeleton
public import proofs.«01_k».proof.Proof.Gen.KernelB.Launch
public import proofs.«01_k».proof.Proof.Gen.KernelB.Points
public import proofs.«01_k».proof.Proof.Gen.KernelB.Frame
public import proofs.«01_k».proof.Proof.Gen.KernelBIdeal
public import proofs.«01_k».proof.Proof.Gen.KernelBIdeal.Skeleton
public import proofs.«01_k».proof.Proof.Gen.KernelBIdeal.Launch
public import proofs.«01_k».proof.Proof.Gen.KernelBIdeal.Points
public import proofs.«01_k».proof.Proof.Gen.KernelBIdeal.Frame
public import proofs.«01_k».proof.Proof.Gen.ReferenceBIdeal
public import proofs.«01_k».proof.Proof.Gen.Pre_finite_a
public import proofs.«01_k».proof.Proof.Gen.Pre_finite_b
public import proofs.«01_k».proof.Proof.Gen.KernelAIdeal.Value
public import proofs.«01_k».proof.Proof.Gen.KernelBIdeal.Value
public import proofs.«01_k».proof.Proof.Gen.ReferenceAIdeal.Run
public import proofs.«01_k».proof.Proof.Gen.ReferenceAIdeal.Read
public import proofs.«01_k».proof.Proof.Gen.ReferenceBIdeal.Run
public import proofs.«01_k».proof.Proof.Gen.ReferenceBIdeal.Read
public import proofs.«01_k».proof.Proof.AClaim
public import proofs.«01_k».proof.Proof.BClaim
public import proofs.«01_k».proof.Proof.Gen.KernelM
public import proofs.«01_k».proof.Proof.Gen.KernelM.Skeleton
public import proofs.«01_k».proof.Proof.Gen.KernelM.Launch
public import proofs.«01_k».proof.Proof.Gen.KernelMIdeal
public import proofs.«01_k».proof.Proof.Gen.KernelMIdeal.Skeleton
public import proofs.«01_k».proof.Proof.Gen.KernelMIdeal.Launch
public import proofs.«01_k».proof.Proof.Gen.ReferenceMIdeal
public import proofs.«01_k».proof.Proof.Gen.ReferenceMIdeal.Run
public import proofs.«01_k».proof.Proof.Gen.ReferenceMIdeal.Read
public import proofs.«01_k».proof.Proof.Gen.Pre_named
public import proofs.«01_k».proof.Proof.MQuiet
public import proofs.«01_k».proof.Proof.MClaim
public import proofs.«01_k».proof.Proof.Gen.KernelI
public import proofs.«01_k».proof.Proof.Gen.KernelI.Skeleton
public import proofs.«01_k».proof.Proof.Gen.KernelI.Launch
public import proofs.«01_k».proof.Proof.Gen.KernelI.Points
public import proofs.«01_k».proof.Proof.Gen.KernelI.Frame
public import proofs.«01_k».proof.Proof.Gen.KernelIIdeal
public import proofs.«01_k».proof.Proof.Gen.KernelIIdeal.Skeleton
public import proofs.«01_k».proof.Proof.Gen.KernelIIdeal.Launch
public import proofs.«01_k».proof.Proof.Gen.KernelIIdeal.Points
public import proofs.«01_k».proof.Proof.Gen.KernelIIdeal.Frame
public import proofs.«01_k».proof.Proof.Gen.KernelIIdeal.Value
public import proofs.«01_k».proof.Proof.Gen.ReferenceIIdeal
public import proofs.«01_k».proof.Proof.Gen.ReferenceIIdeal.Run
public import proofs.«01_k».proof.Proof.Gen.ReferenceIIdeal.Read
public import proofs.«01_k».proof.Proof.IClaim
public import proofs.«01_k».proof.Proof.Gen.KernelO
public import proofs.«01_k».proof.Proof.Gen.KernelO.Skeleton
public import proofs.«01_k».proof.Proof.Gen.KernelO.Launch
public import proofs.«01_k».proof.Proof.Gen.KernelO.Points
public import proofs.«01_k».proof.Proof.Gen.KernelO.Frame
public import proofs.«01_k».proof.Proof.Gen.KernelOIdeal
public import proofs.«01_k».proof.Proof.Gen.KernelOIdeal.Skeleton
public import proofs.«01_k».proof.Proof.Gen.KernelOIdeal.Launch
public import proofs.«01_k».proof.Proof.Gen.KernelOIdeal.Points
public import proofs.«01_k».proof.Proof.Gen.KernelOIdeal.Frame
public import proofs.«01_k».proof.Proof.Gen.KernelOIdeal.Value
public import proofs.«01_k».proof.Proof.Gen.ReferenceOIdeal
public import proofs.«01_k».proof.Proof.Gen.ReferenceOIdeal.Run
public import proofs.«01_k».proof.Proof.Gen.ReferenceOIdeal.Read
public import proofs.«01_k».proof.Proof.OClaim
public import proofs.«01_k».proof.Proof.Gen.KernelR
public import proofs.«01_k».proof.Proof.Gen.KernelR.Skeleton
public import proofs.«01_k».proof.Proof.Gen.KernelR.Launch
public import proofs.«01_k».proof.Proof.Gen.KernelR.Points
public import proofs.«01_k».proof.Proof.Gen.KernelR.Frame
public import proofs.«01_k».proof.Proof.Gen.KernelRIdeal
public import proofs.«01_k».proof.Proof.Gen.KernelRIdeal.Skeleton
public import proofs.«01_k».proof.Proof.Gen.KernelRIdeal.Launch
public import proofs.«01_k».proof.Proof.Gen.KernelRIdeal.Points
public import proofs.«01_k».proof.Proof.Gen.KernelRIdeal.Frame
public import proofs.«01_k».proof.Proof.Gen.KernelRIdeal.Value
public import proofs.«01_k».proof.Proof.Gen.ReferenceRIdeal
public import proofs.«01_k».proof.Proof.Gen.ReferenceRIdeal.Run
public import proofs.«01_k».proof.Proof.Gen.ReferenceRIdeal.Read
public import proofs.«01_k».proof.Proof.Gen.Pre_finite_r
public import proofs.«01_k».proof.Proof.RClaim
public import Idealize.ShloMosaic.Adequacy
public import Idealize.ShloMosaic.Init

@[expose] public section

noncomputable section

namespace Cert.Proof

open Idealize.ShloMosaic Idealize.SL.Sem Cert.KernelA

/-- Every claim of the input projection, of the two attention calls, of the output projection with its router and of the experts' call. -/
theorem claim : Cert.Claim := ⟨Cert.KernelA.Gen.facts, Cert.KernelAIdeal.Gen.facts, Cert.ReferenceAIdeal.Gen.facts, Cert.KernelB.Gen.facts, Cert.KernelBIdeal.Gen.facts, Cert.ReferenceBIdeal.Gen.facts, Cert.KernelM.Gen.facts, Cert.KernelMIdeal.Gen.facts, Cert.ReferenceMIdeal.Gen.facts, Cert.KernelI.Gen.facts, Cert.KernelIIdeal.Gen.facts, Cert.ReferenceIIdeal.Gen.facts, Cert.KernelO.Gen.facts, Cert.KernelOIdeal.Gen.facts, Cert.ReferenceOIdeal.Gen.facts, Cert.KernelR.Gen.facts, Cert.KernelRIdeal.Gen.facts, Cert.ReferenceRIdeal.Gen.facts, Cert.Pre_finite_a.Gen.facts, Cert.Pre_finite_b.Gen.facts, Cert.Pre_named.Gen.facts, Cert.Pre_finite_r.Gen.facts,
  fun m ρ _ => Cert.KernelA.Gen.frame m ρ, fun m ρ _ => Cert.KernelAIdeal.Gen.frame m ρ, fun m ρ _ => Cert.KernelAIdeal.Gen.frame m ρ,
  AClaim.reference_runs, fun m ρ _ => AClaim.reference_runs m ρ trivial,
  fun m ρ _ => Cert.KernelB.Gen.frame m ρ, fun m ρ _ => Cert.KernelBIdeal.Gen.frame m ρ, fun m ρ _ => Cert.KernelBIdeal.Gen.frame m ρ,
  BClaim.reference_runs, fun m ρ _ => BClaim.reference_runs m ρ trivial,
  MFrame.quiet_bits, MFrame.quiet_ideal, MClaim.reference_runs, fun m ρ _ => MClaim.reference_runs m ρ trivial,
  fun m ρ _ => Cert.KernelI.Gen.frame m ρ, fun m ρ _ => Cert.KernelIIdeal.Gen.frame m ρ, IClaim.reference_runs,
  fun m ρ _ => Cert.KernelO.Gen.frame m ρ, fun m ρ _ => Cert.KernelOIdeal.Gen.frame m ρ, OClaim.reference_runs,
  fun m ρ _ => Cert.KernelR.Gen.frame m ρ, fun m ρ _ => Cert.KernelRIdeal.Gen.frame m ρ, fun m ρ _ => Cert.KernelRIdeal.Gen.frame m ρ,
  RClaim.reference_runs, fun m ρ _ => RClaim.reference_runs m ρ trivial,
  trivial, AClaim.algebraic, trivial, BClaim.algebraic, trivial, MClaim.algebraic, trivial, IClaim.algebraic,
  trivial, OClaim.algebraic, trivial, RClaim.algebraic⟩

end Cert.Proof

end
